-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_memb_sorted [hPre_memb_sorted : Cert.Pre_memb_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_memb_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_memb_sorted [hPre_memb_sorted : Cert.Pre_memb_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_memb_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_memb_sorted [hKernelIdeal : Cert.KernelIdeal.Facts] [hPre_memb_sorted : Cert.Pre_memb_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_memb_sorted m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_memb_sorted [hReferenceIdeal : Cert.ReferenceIdeal.Facts] [hPre_memb_sorted : Cert.Pre_memb_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_memb_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_memb_sorted [hKernelIdeal : Cert.KernelIdeal.Facts] [hReferenceIdeal : Cert.ReferenceIdeal.Facts] [hPre_memb_sorted : Cert.Pre_memb_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_memb_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_memb_sorted : Cert.Pre_memb_sorted.Facts),
    quiescent_Kernel (hKernel := hKernel)
    ∧ quiescent_KernelIdeal (hKernelIdeal := hKernelIdeal)
    ∧ quiescent_KernelIdeal_pre_memb_sorted (hKernelIdeal := hKernelIdeal) (hPre_memb_sorted := hPre_memb_sorted)
    ∧ quiescent_ReferenceIdeal (hReferenceIdeal := hReferenceIdeal)
    ∧ quiescent_ReferenceIdeal_pre_memb_sorted (hReferenceIdeal := hReferenceIdeal) (hPre_memb_sorted := hPre_memb_sorted)
    ∧ preserves_Kernel_KernelIdeal
    ∧ algebraic_KernelIdeal_ReferenceIdeal_pre_memb_sorted (hKernelIdeal := hKernelIdeal) (hReferenceIdeal := hReferenceIdeal) (hPre_memb_sorted := hPre_memb_sorted)
-- ==== Pre_memb_sorted.lean ====
abbrev S50000x256 : Shape := ⟨2, ![50000, 256]⟩
abbrev S50000 : Shape := ⟨1, ![50000]⟩
abbrev S256x512 : Shape := ⟨2, ![256, 512]⟩
abbrev S256 : Shape := ⟨1, ![256]⟩
abbrev S49999 : Shape := ⟨1, ![49999]⟩
abbrev S_ : Shape := ⟨0, ![]⟩

class Facts : Prop where
  slices_S50000_S49999_1 : S50000.Slices ![1] S49999
  slices_S50000_S49999_0 : S50000.Slices ![0] S49999
  reducesTo_S49999_S_d0 : S49999.ReducesTo [0] S_
  h_S_ : 0 < S_.numel

variable [Facts]

def fn {F : FTy → Type} [FloatOps F] (main_arg0 : FVec F S50000x256 .f32) (main_arg1 : IVec S50000 32) (main_arg2 : FVec F S256x512 .f32) (main_arg3 : FVec F S256 .f32) : IVec S_ 1 :=
  let main_v0 : IVec S49999 32 := (extractStridedSlice S49999 ![1] · slices_S50000_S49999_1) main_arg1
  let main_v1 : IVec S49999 32 := (extractStridedSlice S49999 ![0] · slices_S50000_S49999_0) main_arg1
  let main_v2 : IVec S49999 1 := cmpi .sge main_v0 main_v1
  let main_c : IVec S_ 1 := constantI S_ 1 1#1
  let main_v3 : IVec S_ 1 := (fun x v => Host.reduce IntOp.andi x v reducesTo_S49999_S_d0 h_S_) main_v2 main_c
  main_v3
-- ==== Kernel.lean ====
abbrev S50000x256 : Shape := ⟨2, ![50000, 256]⟩
abbrev S50000 : Shape := ⟨1, ![50000]⟩
abbrev S256x512 : Shape := ⟨2, ![256, 512]⟩
abbrev S256 : Shape := ⟨1, ![256]⟩
abbrev S512x256 : Shape := ⟨2, ![512, 256]⟩
abbrev S8x256 : Shape := ⟨2, ![8, 256]⟩
abbrev S32x256 : Shape := ⟨2, ![32, 256]⟩
abbrev S16x256 : Shape := ⟨2, ![16, 256]⟩
abbrev S_ : Shape := ⟨0, ![]⟩
abbrev S16 : Shape := ⟨1, ![16]⟩
abbrev S1x16 : Shape := ⟨2, ![1, 16]⟩
abbrev S256x256 : Shape := ⟨2, ![256, 256]⟩
abbrev S1x256 : Shape := ⟨2, ![1, 256]⟩

abbrev nBuf : Table → Nat
  | .hbm => 10
  | .local .tc .vmem => 6
  | .local .scVector .vmem => 11
  | _ => 0

abbrev bufTy : (tb : Table) → Fin (nBuf tb) → BufTy
  | .hbm, ⟨0, _⟩ => ⟨S50000x256, .f32⟩
  | .hbm, ⟨1, _⟩ => ⟨S50000, .i32⟩
  | .hbm, ⟨2, _⟩ => ⟨S256x512, .f32⟩
  | .hbm, ⟨3, _⟩ => ⟨S256, .f32⟩
  | .hbm, ⟨4, _⟩ => ⟨S512x256, .f32⟩
  | .hbm, ⟨5, _⟩ => ⟨S512x256, .f32⟩
  | .hbm, ⟨6, _⟩ => ⟨S256x256, .f32⟩
  | .hbm, ⟨7, _⟩ => ⟨S256x256, .f32⟩
  | .hbm, ⟨8, _⟩ => ⟨S1x256, .f32⟩
  | .hbm, ⟨9, _⟩ => ⟨S512x256, .f32⟩
  | .local .tc .vmem, ⟨0, _⟩ => ⟨S512x256, .f32⟩
  | .local .tc .vmem, ⟨1, _⟩ => ⟨S512x256, .f32⟩
  | .local .tc .vmem, ⟨2, _⟩ => ⟨S256x256, .f32⟩
  | .local .tc .vmem, ⟨3, _⟩ => ⟨S256x256, .f32⟩
  | .local .tc .vmem, ⟨4, _⟩ => ⟨S1x256, .f32⟩
  | .local .tc .vmem, ⟨5, _⟩ => ⟨S512x256, .f32⟩
  | .local .scVector .vmem, ⟨0, _⟩ => ⟨S50000, .i32⟩
  | .local .scVector .vmem, ⟨1, _⟩ => ⟨S8x256, .f32⟩
  | .local .scVector .vmem, ⟨2, _⟩ => ⟨S32x256, .f32⟩
  | .local .scVector .vmem, ⟨3, _⟩ => ⟨S32x256, .f32⟩
  | .local .scVector .vmem, ⟨4, _⟩ => ⟨S32x256, .f32⟩
  | .local .scVector .vmem, ⟨5, _⟩ => ⟨S32x256, .f32⟩
  | .local .scVector .vmem, ⟨6, _⟩ => ⟨S32x256, .f32⟩
  | .local .scVector .vmem, ⟨7, _⟩ => ⟨S32x256, .f32⟩
  | .local .scVector .vmem, ⟨8, _⟩ => ⟨S32x256, .f32⟩
  | .local .scVector .vmem, ⟨9, _⟩ => ⟨S16x256, .f32⟩
  | .local .scVector .vmem, ⟨10, _⟩ => ⟨S16x256, .f32⟩
  | _, _ => ⟨S50000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg1_scv : Ref sig .scVector := ⟨.hbm, 1, rfl⟩
abbrev main_arg0_scv : Ref sig .scVector := ⟨.hbm, 0, rfl⟩
abbrev main_v0_0_scv : Ref sig .scVector := ⟨.hbm, 4, rfl⟩
abbrev main_v0_1_scv : Ref sig .scVector := ⟨.hbm, 5, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c17_i32 : BitVec 32 := 17#32
  let v8 : BitVec 32 := Scalar.addi c0_i32_1 c17_i32
  let c1_i32 : BitVec 32 := 1#32
  ⟨c0_i32_1, v8, c1_i32⟩

def k0_chk1 (v27 : IVec S16 32) : Prop :=
  (∀ a x, ((![v27] : Fin 1 → IVec S16 32) a x).toNat < S50000.size a)
theorem k0_idx1_inb : ∀ (v27 : IVec S16 32) (k0_hw1 : k0_chk1 v27), ∀ a x, ((![v27] : Fin 1 → IVec S16 32) a x).toNat < S50000.size a := fun v27 k0_hw1 => k0_hw1
@[reducible] def k0_t2_loop : Scf.Loop 32 :=
  let c0_i32_7 : BitVec 32 := 0#32
  let c17_i32_8 : BitVec 32 := 17#32
  let v16 : BitVec 32 := Scalar.addi c0_i32_7 c17_i32_8
  let c1_i32_9 : BitVec 32 := 1#32
  ⟨c0_i32_7, v16, c1_i32_9⟩

def k0_chk2 (v27 : IVec S16 32) : Prop :=
  (∀ a x, ((![v27] : Fin 1 → IVec S16 32) a x).toNat < S50000.size a)
theorem k0_idx2_inb : ∀ (v27 : IVec S16 32) (k0_hw2 : k0_chk2 v27), ∀ a x, ((![v27] : Fin 1 → IVec S16 32) a x).toNat < S50000.size a := fun v27 k0_hw2 => k0_hw2
@[reducible] def k0_t3_loop : Scf.Loop 32 :=
  let c0_i32_12 : BitVec 32 := 0#32
  let c16_i32_13 : BitVec 32 := 16#32
  let v21 : BitVec 32 := Scalar.addi c0_i32_12 c16_i32_13
  let c1_i32_14 : BitVec 32 := 1#32
  ⟨c0_i32_12, v21, c1_i32_14⟩
def k0_mult1 (v29 : BitVec 32) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c0_i32_70 : BitVec 32 := 0#32
  let v125 : BitVec 32 := Scalar.addi v39 c0_i32_70
  v125
def k0_cond1 (v29 : BitVec 32) (v36 : BitVec 32) : BitVec 1 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c0_i32_28 : BitVec 32 := 0#32
  let v56 : BitVec 1 := Scalar.cmpi .sgt v42 c0_i32_28
  let v57 : BitVec 32 := Scalar.extui v56
  let c0_i32_29 : BitVec 32 := 0#32
  let v58 : BitVec 1 := Scalar.cmpi .ne v57 c0_i32_29
  v58

def k0_off1 (v29 : BitVec 32) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c0_i32_70 : BitVec 32 := 0#32
  let v125 : BitVec 32 := Scalar.addi v39 c0_i32_70
  let v126 : BitVec 32 := v125
  let c0_i32_71 : BitVec 32 := 0#32
  ![v126.toNat, 0]
def k0_mult2 (v29 : BitVec 32) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c32_i32_70 : BitVec 32 := 32#32
  let v125 : BitVec 32 := Scalar.addi v39 c32_i32_70
  v125
def k0_cond2 (v29 : BitVec 32) (v36 : BitVec 32) : BitVec 1 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c1_i32_30 : BitVec 32 := 1#32
  let v59 : BitVec 1 := Scalar.cmpi .sgt v42 c1_i32_30
  let v60 : BitVec 32 := Scalar.extui v59
  let c0_i32_31 : BitVec 32 := 0#32
  let v61 : BitVec 1 := Scalar.cmpi .ne v60 c0_i32_31
  v61

def k0_off2 (v29 : BitVec 32) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c32_i32_70 : BitVec 32 := 32#32
  let v125 : BitVec 32 := Scalar.addi v39 c32_i32_70
  let v126 : BitVec 32 := v125
  let c0_i32_71 : BitVec 32 := 0#32
  ![v126.toNat, 0]
def k0_mult3 (v29 : BitVec 32) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c64_i32 : BitVec 32 := 64#32
  let v125 : BitVec 32 := Scalar.addi v39 c64_i32
  v125
def k0_cond3 (v29 : BitVec 32) (v36 : BitVec 32) : BitVec 1 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c2_i32 : BitVec 32 := 2#32
  let v62 : BitVec 1 := Scalar.cmpi .sgt v42 c2_i32
  let v63 : BitVec 32 := Scalar.extui v62
  let c0_i32_32 : BitVec 32 := 0#32
  let v64 : BitVec 1 := Scalar.cmpi .ne v63 c0_i32_32
  v64

def k0_off3 (v29 : BitVec 32) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c64_i32 : BitVec 32 := 64#32
  let v125 : BitVec 32 := Scalar.addi v39 c64_i32
  let v126 : BitVec 32 := v125
  let c0_i32_70 : BitVec 32 := 0#32
  ![v126.toNat, 0]
def k0_mult4 (v29 : BitVec 32) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c96_i32 : BitVec 32 := 96#32
  let v125 : BitVec 32 := Scalar.addi v39 c96_i32
  v125
def k0_cond4 (v29 : BitVec 32) (v36 : BitVec 32) : BitVec 1 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c3_i32 : BitVec 32 := 3#32
  let v65 : BitVec 1 := Scalar.cmpi .sgt v42 c3_i32
  let v66 : BitVec 32 := Scalar.extui v65
  let c0_i32_33 : BitVec 32 := 0#32
  let v67 : BitVec 1 := Scalar.cmpi .ne v66 c0_i32_33
  v67

def k0_off4 (v29 : BitVec 32) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c96_i32 : BitVec 32 := 96#32
  let v125 : BitVec 32 := Scalar.addi v39 c96_i32
  let v126 : BitVec 32 := v125
  let c0_i32_70 : BitVec 32 := 0#32
  ![v126.toNat, 0]
def k0_mult5 (v29 : BitVec 32) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c128_i32 : BitVec 32 := 128#32
  let v125 : BitVec 32 := Scalar.addi v39 c128_i32
  v125
def k0_cond5 (v29 : BitVec 32) (v36 : BitVec 32) : BitVec 1 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c4_i32 : BitVec 32 := 4#32
  let v68 : BitVec 1 := Scalar.cmpi .sgt v42 c4_i32
  let v69 : BitVec 32 := Scalar.extui v68
  let c0_i32_34 : BitVec 32 := 0#32
  let v70 : BitVec 1 := Scalar.cmpi .ne v69 c0_i32_34
  v70

def k0_off5 (v29 : BitVec 32) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c128_i32 : BitVec 32 := 128#32
  let v125 : BitVec 32 := Scalar.addi v39 c128_i32
  let v126 : BitVec 32 := v125
  let c0_i32_70 : BitVec 32 := 0#32
  ![v126.toNat, 0]
def k0_mult6 (v29 : BitVec 32) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c160_i32 : BitVec 32 := 160#32
  let v125 : BitVec 32 := Scalar.addi v39 c160_i32
  v125
def k0_cond6 (v29 : BitVec 32) (v36 : BitVec 32) : BitVec 1 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32 : BitVec 32 := 5#32
  let v71 : BitVec 1 := Scalar.cmpi .sgt v42 c5_i32
  let v72 : BitVec 32 := Scalar.extui v71
  let c0_i32_35 : BitVec 32 := 0#32
  let v73 : BitVec 1 := Scalar.cmpi .ne v72 c0_i32_35
  v73

def k0_off6 (v29 : BitVec 32) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c160_i32 : BitVec 32 := 160#32
  let v125 : BitVec 32 := Scalar.addi v39 c160_i32
  let v126 : BitVec 32 := v125
  let c0_i32_70 : BitVec 32 := 0#32
  ![v126.toNat, 0]
def k0_mult7 (v29 : BitVec 32) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c8_i32_21 : BitVec 32 := 8#32
  let v45 : BitVec 32 := Scalar.subi v39 c8_i32_21
  let c0_i32_22 : BitVec 32 := 0#32
  let v46 : BitVec 32 := Scalar.maxsi v45 c0_i32_22
  let c49992_i32 : BitVec 32 := 49992#32
  let v47 : BitVec 32 := Scalar.minsi v46 c49992_i32
  v47
def k0_cond7 (arg29 : BitVec 32) (v29 : BitVec 32) (v36 : BitVec 32) : BitVec 1 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v43 : BitVec 32 := Scalar.minsi v39 v36
  let v44 : BitVec 1 := Scalar.cmpi .slt v29 v43
  let c8_i32_21 : BitVec 32 := 8#32
  let v45 : BitVec 32 := Scalar.subi v39 c8_i32_21
  let c0_i32_22 : BitVec 32 := 0#32
  let v46 : BitVec 32 := Scalar.maxsi v45 c0_i32_22
  let c49992_i32 : BitVec 32 := 49992#32
  let v47 : BitVec 32 := Scalar.minsi v46 c49992_i32
  let v76 : BitVec 1 := Scalar.cmpi .ne arg29 v47
  let v77 : BitVec 1 := Scalar.andi v44 v76
  let v78 : BitVec 32 := Scalar.extui v77
  let c0_i32_36 : BitVec 32 := 0#32
  let v79 : BitVec 1 := Scalar.cmpi .ne v78 c0_i32_36
  v79

def k0_off7 (v29 : BitVec 32) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c8_i32_21 : BitVec 32 := 8#32
  let v45 : BitVec 32 := Scalar.subi v39 c8_i32_21
  let c0_i32_22 : BitVec 32 := 0#32
  let v46 : BitVec 32 := Scalar.maxsi v45 c0_i32_22
  let c49992_i32 : BitVec 32 := 49992#32
  let v47 : BitVec 32 := Scalar.minsi v46 c49992_i32
  let v125 : BitVec 32 := v47
  let c0_i32_70 : BitVec 32 := 0#32
  ![v125.toNat, 0]
@[reducible] def k0_t4_loop : Scf.Loop 32 :=
  let c0_i32_39 : BitVec 32 := 0#32
  let c16_i32_40 : BitVec 32 := 16#32
  let v82 : BitVec 32 := Scalar.addi c0_i32_39 c16_i32_40
  let c1_i32_41 : BitVec 32 := 1#32
  ⟨c0_i32_39, v82, c1_i32_41⟩
def k0_mult8 (k0_t4 : Fin k0_t4_loop.trips) : BitVec 32 :=
  let c0_i32_39 : BitVec 32 := 0#32
  let c1_i32_41 : BitVec 32 := 1#32
  let arg30 : BitVec 32 := Scf.iv c0_i32_39 c1_i32_41 k0_t4
  let c16_i32_70 : BitVec 32 := 16#32
  let v125 : BitVec 32 := Scalar.muli arg30 c16_i32_70
  v125
def k0_off8 (k0_t3 : Fin k0_t3_loop.trips) (k0_t4 : Fin k0_t4_loop.trips) : Fin 2 → Nat :=
  let c0_i32_12 : BitVec 32 := 0#32
  let c1_i32_14 : BitVec 32 := 1#32
  let arg28 : BitVec 32 := Scf.iv c0_i32_12 c1_i32_14 k0_t3
  let v127 : Index := Scalar.indexCast arg28
  let c0_i32_39 : BitVec 32 := 0#32
  let c1_i32_41 : BitVec 32 := 1#32
  let arg30 : BitVec 32 := Scf.iv c0_i32_39 c1_i32_41 k0_t4
  let c16_i32_70 : BitVec 32 := 16#32
  let v125 : BitVec 32 := Scalar.muli arg30 c16_i32_70
  let v126 : BitVec 32 := v125
  let v128 : Index := Scalar.indexCast v126
  ![v127.toNat, v128.toNat]
@[reducible] def k0_t5_loop : Scf.Loop 32 :=
  let c0_i32_75 : BitVec 32 := 0#32
  let c16_i32_76 : BitVec 32 := 16#32
  let v127 : BitVec 32 := Scalar.addi c0_i32_75 c16_i32_76
  let c1_i32_77 : BitVec 32 := 1#32
  ⟨c0_i32_75, v127, c1_i32_77⟩
def k0_mult9 (k0_t5 : Fin k0_t5_loop.trips) : BitVec 32 :=
  let c0_i32_75 : BitVec 32 := 0#32
  let c1_i32_77 : BitVec 32 := 1#32
  let arg30 : BitVec 32 := Scf.iv c0_i32_75 c1_i32_77 k0_t5
  let c16_i32_79 : BitVec 32 := 16#32
  let v129 : BitVec 32 := Scalar.muli arg30 c16_i32_79
  v129
def k0_off9 (k0_t5 : Fin k0_t5_loop.trips) : Fin 2 → Nat :=
  let c0_i32_88 : BitVec 32 := 0#32
  let v139 : Index := Scalar.indexCast c0_i32_88
  let c0_i32_75 : BitVec 32 := 0#32
  let c1_i32_77 : BitVec 32 := 1#32
  let arg30 : BitVec 32 := Scf.iv c0_i32_75 c1_i32_77 k0_t5
  let c16_i32_79 : BitVec 32 := 16#32
  let v129 : BitVec 32 := Scalar.muli arg30 c16_i32_79
  let v130 : BitVec 32 := v129
  let v140 : Index := Scalar.indexCast v130
  ![0, v140.toNat]
def k0_off10 (k0_t5 : Fin k0_t5_loop.trips) : Fin 2 → Nat :=
  let c1_i32_93 : BitVec 32 := 1#32
  let v153 : Index := Scalar.indexCast c1_i32_93
  let c0_i32_75 : BitVec 32 := 0#32
  let c1_i32_77 : BitVec 32 := 1#32
  let arg30 : BitVec 32 := Scf.iv c0_i32_75 c1_i32_77 k0_t5
  let c16_i32_79 : BitVec 32 := 16#32
  let v129 : BitVec 32 := Scalar.muli arg30 c16_i32_79
  let v130 : BitVec 32 := v129
  let v154 : Index := Scalar.indexCast v130
  ![1, v154.toNat]
def k0_off11 (k0_t5 : Fin k0_t5_loop.trips) : Fin 2 → Nat :=
  let c2_i32_98 : BitVec 32 := 2#32
  let v167 : Index := Scalar.indexCast c2_i32_98
  let c0_i32_75 : BitVec 32 := 0#32
  let c1_i32_77 : BitVec 32 := 1#32
  let arg30 : BitVec 32 := Scf.iv c0_i32_75 c1_i32_77 k0_t5
  let c16_i32_79 : BitVec 32 := 16#32
  let v129 : BitVec 32 := Scalar.muli arg30 c16_i32_79
  let v130 : BitVec 32 := v129
  let v168 : Index := Scalar.indexCast v130
  ![2, v168.toNat]
def k0_off12 (k0_t5 : Fin k0_t5_loop.trips) : Fin 2 → Nat :=
  let c3_i32_103 : BitVec 32 := 3#32
  let v181 : Index := Scalar.indexCast c3_i32_103
  let c0_i32_75 : BitVec 32 := 0#32
  let c1_i32_77 : BitVec 32 := 1#32
  let arg30 : BitVec 32 := Scf.iv c0_i32_75 c1_i32_77 k0_t5
  let c16_i32_79 : BitVec 32 := 16#32
  let v129 : BitVec 32 := Scalar.muli arg30 c16_i32_79
  let v130 : BitVec 32 := v129
  let v182 : Index := Scalar.indexCast v130
  ![3, v182.toNat]
def k0_off13 (k0_t5 : Fin k0_t5_loop.trips) : Fin 2 → Nat :=
  let c4_i32_108 : BitVec 32 := 4#32
  let v195 : Index := Scalar.indexCast c4_i32_108
  let c0_i32_75 : BitVec 32 := 0#32
  let c1_i32_77 : BitVec 32 := 1#32
  let arg30 : BitVec 32 := Scf.iv c0_i32_75 c1_i32_77 k0_t5
  let c16_i32_79 : BitVec 32 := 16#32
  let v129 : BitVec 32 := Scalar.muli arg30 c16_i32_79
  let v130 : BitVec 32 := v129
  let v196 : Index := Scalar.indexCast v130
  ![4, v196.toNat]
def k0_off14 (k0_t5 : Fin k0_t5_loop.trips) : Fin 2 → Nat :=
  let c5_i32_113 : BitVec 32 := 5#32
  let v209 : Index := Scalar.indexCast c5_i32_113
  let c0_i32_75 : BitVec 32 := 0#32
  let c1_i32_77 : BitVec 32 := 1#32
  let arg30 : BitVec 32 := Scf.iv c0_i32_75 c1_i32_77 k0_t5
  let c16_i32_79 : BitVec 32 := 16#32
  let v129 : BitVec 32 := Scalar.muli arg30 c16_i32_79
  let v130 : BitVec 32 := v129
  let v210 : Index := Scalar.indexCast v130
  ![5, v210.toNat]
def k0_off15 (k0_t5 : Fin k0_t5_loop.trips) : Fin 2 → Nat :=
  let c6_i32_118 : BitVec 32 := 6#32
  let v223 : Index := Scalar.indexCast c6_i32_118
  let c0_i32_75 : BitVec 32 := 0#32
  let c1_i32_77 : BitVec 32 := 1#32
  let arg30 : BitVec 32 := Scf.iv c0_i32_75 c1_i32_77 k0_t5
  let c16_i32_79 : BitVec 32 := 16#32
  let v129 : BitVec 32 := Scalar.muli arg30 c16_i32_79
  let v130 : BitVec 32 := v129
  let v224 : Index := Scalar.indexCast v130
  ![6, v224.toNat]
def k0_off16 (k0_t5 : Fin k0_t5_loop.trips) : Fin 2 → Nat :=
  let c7_i32_123 : BitVec 32 := 7#32
  let v237 : Index := Scalar.indexCast c7_i32_123
  let c0_i32_75 : BitVec 32 := 0#32
  let c1_i32_77 : BitVec 32 := 1#32
  let arg30 : BitVec 32 := Scf.iv c0_i32_75 c1_i32_77 k0_t5
  let c16_i32_79 : BitVec 32 := 16#32
  let v129 : BitVec 32 := Scalar.muli arg30 c16_i32_79
  let v130 : BitVec 32 := v129
  let v238 : Index := Scalar.indexCast v130
  ![7, v238.toNat]
def k0_off17 (k0_t3 : Fin k0_t3_loop.trips) (k0_t5 : Fin k0_t5_loop.trips) : Fin 2 → Nat :=
  let c0_i32_12 : BitVec 32 := 0#32
  let c1_i32_14 : BitVec 32 := 1#32
  let arg28 : BitVec 32 := Scf.iv c0_i32_12 c1_i32_14 k0_t3
  let v257 : Index := Scalar.indexCast arg28
  let c0_i32_75 : BitVec 32 := 0#32
  let c1_i32_77 : BitVec 32 := 1#32
  let arg30 : BitVec 32 := Scf.iv c0_i32_75 c1_i32_77 k0_t5
  let c16_i32_79 : BitVec 32 := 16#32
  let v129 : BitVec 32 := Scalar.muli arg30 c16_i32_79
  let v130 : BitVec 32 := v129
  let v258 : Index := Scalar.indexCast v130
  ![v257.toNat, v258.toNat]
@[reducible] def k0_t6_loop : Scf.Loop 32 :=
  let c0_i32_71 : BitVec 32 := 0#32
  let c16_i32_72 : BitVec 32 := 16#32
  let v125 : BitVec 32 := Scalar.addi c0_i32_71 c16_i32_72
  let c1_i32_73 : BitVec 32 := 1#32
  ⟨c0_i32_71, v125, c1_i32_73⟩
def k0_mult10 (k0_t6 : Fin k0_t6_loop.trips) : BitVec 32 :=
  let c0_i32_71 : BitVec 32 := 0#32
  let c1_i32_73 : BitVec 32 := 1#32
  let arg30 : BitVec 32 := Scf.iv c0_i32_71 c1_i32_73 k0_t6
  let c16_i32_75 : BitVec 32 := 16#32
  let v127 : BitVec 32 := Scalar.muli arg30 c16_i32_75
  v127
def k0_off18 (k0_t6 : Fin k0_t6_loop.trips) : Fin 2 → Nat :=
  let c24_i32 : BitVec 32 := 24#32
  let v137 : Index := Scalar.indexCast c24_i32
  let c0_i32_71 : BitVec 32 := 0#32
  let c1_i32_73 : BitVec 32 := 1#32
  let arg30 : BitVec 32 := Scf.iv c0_i32_71 c1_i32_73 k0_t6
  let c16_i32_75 : BitVec 32 := 16#32
  let v127 : BitVec 32 := Scalar.muli arg30 c16_i32_75
  let v128 : BitVec 32 := v127
  let v138 : Index := Scalar.indexCast v128
  ![24, v138.toNat]
def k0_off19 (k0_t6 : Fin k0_t6_loop.trips) : Fin 2 → Nat :=
  let c25_i32 : BitVec 32 := 25#32
  let v151 : Index := Scalar.indexCast c25_i32
  let c0_i32_71 : BitVec 32 := 0#32
  let c1_i32_73 : BitVec 32 := 1#32
  let arg30 : BitVec 32 := Scf.iv c0_i32_71 c1_i32_73 k0_t6
  let c16_i32_75 : BitVec 32 := 16#32
  let v127 : BitVec 32 := Scalar.muli arg30 c16_i32_75
  let v128 : BitVec 32 := v127
  let v152 : Index := Scalar.indexCast v128
  ![25, v152.toNat]
def k0_off20 (k0_t6 : Fin k0_t6_loop.trips) : Fin 2 → Nat :=
  let c26_i32 : BitVec 32 := 26#32
  let v165 : Index := Scalar.indexCast c26_i32
  let c0_i32_71 : BitVec 32 := 0#32
  let c1_i32_73 : BitVec 32 := 1#32
  let arg30 : BitVec 32 := Scf.iv c0_i32_71 c1_i32_73 k0_t6
  let c16_i32_75 : BitVec 32 := 16#32
  let v127 : BitVec 32 := Scalar.muli arg30 c16_i32_75
  let v128 : BitVec 32 := v127
  let v166 : Index := Scalar.indexCast v128
  ![26, v166.toNat]
def k0_off21 (k0_t6 : Fin k0_t6_loop.trips) : Fin 2 → Nat :=
  let c27_i32 : BitVec 32 := 27#32
  let v179 : Index := Scalar.indexCast c27_i32
  let c0_i32_71 : BitVec 32 := 0#32
  let c1_i32_73 : BitVec 32 := 1#32
  let arg30 : BitVec 32 := Scf.iv c0_i32_71 c1_i32_73 k0_t6
  let c16_i32_75 : BitVec 32 := 16#32
  let v127 : BitVec 32 := Scalar.muli arg30 c16_i32_75
  let v128 : BitVec 32 := v127
  let v180 : Index := Scalar.indexCast v128
  ![27, v180.toNat]
def k0_off22 (k0_t6 : Fin k0_t6_loop.trips) : Fin 2 → Nat :=
  let c28_i32 : BitVec 32 := 28#32
  let v193 : Index := Scalar.indexCast c28_i32
  let c0_i32_71 : BitVec 32 := 0#32
  let c1_i32_73 : BitVec 32 := 1#32
  let arg30 : BitVec 32 := Scf.iv c0_i32_71 c1_i32_73 k0_t6
  let c16_i32_75 : BitVec 32 := 16#32
  let v127 : BitVec 32 := Scalar.muli arg30 c16_i32_75
  let v128 : BitVec 32 := v127
  let v194 : Index := Scalar.indexCast v128
  ![28, v194.toNat]
def k0_off23 (k0_t6 : Fin k0_t6_loop.trips) : Fin 2 → Nat :=
  let c29_i32 : BitVec 32 := 29#32
  let v207 : Index := Scalar.indexCast c29_i32
  let c0_i32_71 : BitVec 32 := 0#32
  let c1_i32_73 : BitVec 32 := 1#32
  let arg30 : BitVec 32 := Scf.iv c0_i32_71 c1_i32_73 k0_t6
  let c16_i32_75 : BitVec 32 := 16#32
  let v127 : BitVec 32 := Scalar.muli arg30 c16_i32_75
  let v128 : BitVec 32 := v127
  let v208 : Index := Scalar.indexCast v128
  ![29, v208.toNat]
def k0_off24 (k0_t6 : Fin k0_t6_loop.trips) : Fin 2 → Nat :=
  let c30_i32 : BitVec 32 := 30#32
  let v221 : Index := Scalar.indexCast c30_i32
  let c0_i32_71 : BitVec 32 := 0#32
  let c1_i32_73 : BitVec 32 := 1#32
  let arg30 : BitVec 32 := Scf.iv c0_i32_71 c1_i32_73 k0_t6
  let c16_i32_75 : BitVec 32 := 16#32
  let v127 : BitVec 32 := Scalar.muli arg30 c16_i32_75
  let v128 : BitVec 32 := v127
  let v222 : Index := Scalar.indexCast v128
  ![30, v222.toNat]
def k0_off25 (k0_t6 : Fin k0_t6_loop.trips) : Fin 2 → Nat :=
  let c31_i32 : BitVec 32 := 31#32
  let v235 : Index := Scalar.indexCast c31_i32
  let c0_i32_71 : BitVec 32 := 0#32
  let c1_i32_73 : BitVec 32 := 1#32
  let arg30 : BitVec 32 := Scf.iv c0_i32_71 c1_i32_73 k0_t6
  let c16_i32_75 : BitVec 32 := 16#32
  let v127 : BitVec 32 := Scalar.muli arg30 c16_i32_75
  let v128 : BitVec 32 := v127
  let v236 : Index := Scalar.indexCast v128
  ![31, v236.toNat]
def k0_off26 (k0_t3 : Fin k0_t3_loop.trips) (k0_t6 : Fin k0_t6_loop.trips) : Fin 2 → Nat :=
  let c0_i32_12 : BitVec 32 := 0#32
  let c1_i32_14 : BitVec 32 := 1#32
  let arg28 : BitVec 32 := Scf.iv c0_i32_12 c1_i32_14 k0_t3
  let v255 : Index := Scalar.indexCast arg28
  let c0_i32_71 : BitVec 32 := 0#32
  let c1_i32_73 : BitVec 32 := 1#32
  let arg30 : BitVec 32 := Scf.iv c0_i32_71 c1_i32_73 k0_t6
  let c16_i32_75 : BitVec 32 := 16#32
  let v127 : BitVec 32 := Scalar.muli arg30 c16_i32_75
  let v128 : BitVec 32 := v127
  let v256 : Index := Scalar.indexCast v128
  ![v255.toNat, v256.toNat]
def k0_mult11 (v29 : BitVec 32) (v36 : BitVec 32) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c32_i32_23 : BitVec 32 := 32#32
  let v48 : BitVec 32 := Scalar.muli v42 c32_i32_23
  let v49 : BitVec 32 := Scalar.addi v39 v48
  let c0_i32_70 : BitVec 32 := 0#32
  let v125 : BitVec 32 := Scalar.addi v49 c0_i32_70
  v125
def k0_cond10 (v29 : BitVec 32) (v36 : BitVec 32) : BitVec 1 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c32_i32_23 : BitVec 32 := 32#32
  let v48 : BitVec 32 := Scalar.muli v42 c32_i32_23
  let v49 : BitVec 32 := Scalar.addi v39 v48
  let v50 : BitVec 32 := Scalar.subi v36 v49
  let c0_i32_24 : BitVec 32 := 0#32
  let v51 : BitVec 32 := Scalar.maxsi v50 c0_i32_24
  let c8_i32_25 : BitVec 32 := 8#32
  let v52 : BitVec 32 := Scalar.divsi v51 c8_i32_25
  let c0_i32_45 : BitVec 32 := 0#32
  let v88 : BitVec 1 := Scalar.cmpi .sgt v52 c0_i32_45
  let v89 : BitVec 32 := Scalar.extui v88
  let c0_i32_46 : BitVec 32 := 0#32
  let v90 : BitVec 1 := Scalar.cmpi .ne v89 c0_i32_46
  v90

def k0_off27 (v29 : BitVec 32) (v36 : BitVec 32) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c32_i32_23 : BitVec 32 := 32#32
  let v48 : BitVec 32 := Scalar.muli v42 c32_i32_23
  let v49 : BitVec 32 := Scalar.addi v39 v48
  let c0_i32_70 : BitVec 32 := 0#32
  let v125 : BitVec 32 := Scalar.addi v49 c0_i32_70
  let v126 : BitVec 32 := v125
  let c0_i32_73 : BitVec 32 := 0#32
  ![v126.toNat, 0]
def k0_mult12 (v29 : BitVec 32) (v36 : BitVec 32) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c32_i32_23 : BitVec 32 := 32#32
  let v48 : BitVec 32 := Scalar.muli v42 c32_i32_23
  let v49 : BitVec 32 := Scalar.addi v39 v48
  let c8_i32_70 : BitVec 32 := 8#32
  let v125 : BitVec 32 := Scalar.addi v49 c8_i32_70
  v125
def k0_cond11 (v29 : BitVec 32) (v36 : BitVec 32) : BitVec 1 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c32_i32_23 : BitVec 32 := 32#32
  let v48 : BitVec 32 := Scalar.muli v42 c32_i32_23
  let v49 : BitVec 32 := Scalar.addi v39 v48
  let v50 : BitVec 32 := Scalar.subi v36 v49
  let c0_i32_24 : BitVec 32 := 0#32
  let v51 : BitVec 32 := Scalar.maxsi v50 c0_i32_24
  let c8_i32_25 : BitVec 32 := 8#32
  let v52 : BitVec 32 := Scalar.divsi v51 c8_i32_25
  let c1_i32_47 : BitVec 32 := 1#32
  let v91 : BitVec 1 := Scalar.cmpi .sgt v52 c1_i32_47
  let v92 : BitVec 32 := Scalar.extui v91
  let c0_i32_48 : BitVec 32 := 0#32
  let v93 : BitVec 1 := Scalar.cmpi .ne v92 c0_i32_48
  v93

def k0_off28 (v29 : BitVec 32) (v36 : BitVec 32) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c32_i32_23 : BitVec 32 := 32#32
  let v48 : BitVec 32 := Scalar.muli v42 c32_i32_23
  let v49 : BitVec 32 := Scalar.addi v39 v48
  let c8_i32_70 : BitVec 32 := 8#32
  let v125 : BitVec 32 := Scalar.addi v49 c8_i32_70
  let v126 : BitVec 32 := v125
  let c0_i32_73 : BitVec 32 := 0#32
  ![v126.toNat, 0]
def k0_mult13 (v29 : BitVec 32) (v36 : BitVec 32) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c32_i32_23 : BitVec 32 := 32#32
  let v48 : BitVec 32 := Scalar.muli v42 c32_i32_23
  let v49 : BitVec 32 := Scalar.addi v39 v48
  let c16_i32_70 : BitVec 32 := 16#32
  let v125 : BitVec 32 := Scalar.addi v49 c16_i32_70
  v125
def k0_cond12 (v29 : BitVec 32) (v36 : BitVec 32) : BitVec 1 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c32_i32_23 : BitVec 32 := 32#32
  let v48 : BitVec 32 := Scalar.muli v42 c32_i32_23
  let v49 : BitVec 32 := Scalar.addi v39 v48
  let v50 : BitVec 32 := Scalar.subi v36 v49
  let c0_i32_24 : BitVec 32 := 0#32
  let v51 : BitVec 32 := Scalar.maxsi v50 c0_i32_24
  let c8_i32_25 : BitVec 32 := 8#32
  let v52 : BitVec 32 := Scalar.divsi v51 c8_i32_25
  let c2_i32_49 : BitVec 32 := 2#32
  let v94 : BitVec 1 := Scalar.cmpi .sgt v52 c2_i32_49
  let v95 : BitVec 32 := Scalar.extui v94
  let c0_i32_50 : BitVec 32 := 0#32
  let v96 : BitVec 1 := Scalar.cmpi .ne v95 c0_i32_50
  v96

def k0_off29 (v29 : BitVec 32) (v36 : BitVec 32) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c32_i32_23 : BitVec 32 := 32#32
  let v48 : BitVec 32 := Scalar.muli v42 c32_i32_23
  let v49 : BitVec 32 := Scalar.addi v39 v48
  let c16_i32_70 : BitVec 32 := 16#32
  let v125 : BitVec 32 := Scalar.addi v49 c16_i32_70
  let v126 : BitVec 32 := v125
  let c0_i32_73 : BitVec 32 := 0#32
  ![v126.toNat, 0]
def k0_mult14 (v29 : BitVec 32) (v36 : BitVec 32) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c32_i32_23 : BitVec 32 := 32#32
  let v48 : BitVec 32 := Scalar.muli v42 c32_i32_23
  let v49 : BitVec 32 := Scalar.addi v39 v48
  let v50 : BitVec 32 := Scalar.subi v36 v49
  let c0_i32_24 : BitVec 32 := 0#32
  let v51 : BitVec 32 := Scalar.maxsi v50 c0_i32_24
  let c8_i32_25 : BitVec 32 := 8#32
  let v52 : BitVec 32 := Scalar.divsi v51 c8_i32_25
  let c8_i32_26 : BitVec 32 := 8#32
  let v53 : BitVec 32 := Scalar.muli v52 c8_i32_26
  let v54 : BitVec 32 := Scalar.addi v49 v53
  let c49992_i32_27 : BitVec 32 := 49992#32
  let v55 : BitVec 32 := Scalar.minsi v54 c49992_i32_27
  v55
def k0_cond13 (v29 : BitVec 32) (v36 : BitVec 32) : BitVec 1 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c32_i32_23 : BitVec 32 := 32#32
  let v48 : BitVec 32 := Scalar.muli v42 c32_i32_23
  let v49 : BitVec 32 := Scalar.addi v39 v48
  let v50 : BitVec 32 := Scalar.subi v36 v49
  let c0_i32_24 : BitVec 32 := 0#32
  let v51 : BitVec 32 := Scalar.maxsi v50 c0_i32_24
  let c8_i32_25 : BitVec 32 := 8#32
  let v52 : BitVec 32 := Scalar.divsi v51 c8_i32_25
  let c8_i32_26 : BitVec 32 := 8#32
  let v53 : BitVec 32 := Scalar.muli v52 c8_i32_26
  let v54 : BitVec 32 := Scalar.addi v49 v53
  let v97 : BitVec 1 := Scalar.cmpi .slt v54 v36
  let v98 : BitVec 32 := Scalar.extui v97
  let c0_i32_51 : BitVec 32 := 0#32
  let v99 : BitVec 1 := Scalar.cmpi .ne v98 c0_i32_51
  v99

def k0_off30 (v29 : BitVec 32) (v36 : BitVec 32) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c32_i32_23 : BitVec 32 := 32#32
  let v48 : BitVec 32 := Scalar.muli v42 c32_i32_23
  let v49 : BitVec 32 := Scalar.addi v39 v48
  let v50 : BitVec 32 := Scalar.subi v36 v49
  let c0_i32_24 : BitVec 32 := 0#32
  let v51 : BitVec 32 := Scalar.maxsi v50 c0_i32_24
  let c8_i32_25 : BitVec 32 := 8#32
  let v52 : BitVec 32 := Scalar.divsi v51 c8_i32_25
  let c8_i32_26 : BitVec 32 := 8#32
  let v53 : BitVec 32 := Scalar.muli v52 c8_i32_26
  let v54 : BitVec 32 := Scalar.addi v49 v53
  let c49992_i32_27 : BitVec 32 := 49992#32
  let v55 : BitVec 32 := Scalar.minsi v54 c49992_i32_27
  let v125 : BitVec 32 := v55
  let c0_i32_71 : BitVec 32 := 0#32
  ![v125.toNat, 0]
@[reducible] def k0_t7_loop (v29 : BitVec 32) (v36 : BitVec 32) : Scf.Loop 32 :=
  let c0_i32_53 : BitVec 32 := 0#32
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_56 : BitVec 32 := 1#32
  ⟨c0_i32_53, v106, c1_i32_56⟩
@[reducible] def k0_t8_loop : Scf.Loop 32 :=
  let c0_i32_89 : BitVec 32 := 0#32
  let c16_i32_90 : BitVec 32 := 16#32
  let v152 : BitVec 32 := Scalar.addi c0_i32_89 c16_i32_90
  let c1_i32_91 : BitVec 32 := 1#32
  ⟨c0_i32_89, v152, c1_i32_91⟩
def k0_mult15 (k0_t8 : Fin k0_t8_loop.trips) : BitVec 32 :=
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  v159
def k0_off31 (k0_t8 : Fin k0_t8_loop.trips) : Fin 2 → Nat :=
  let c0_i32_105 : BitVec 32 := 0#32
  let v169 : Index := Scalar.indexCast c0_i32_105
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v170 : Index := Scalar.indexCast v160
  ![0, v170.toNat]
def k0_off32 (k0_t8 : Fin k0_t8_loop.trips) : Fin 2 → Nat :=
  let c1_i32_106 : BitVec 32 := 1#32
  let v174 : Index := Scalar.indexCast c1_i32_106
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v175 : Index := Scalar.indexCast v160
  ![1, v175.toNat]
def k0_off33 (k0_t8 : Fin k0_t8_loop.trips) : Fin 2 → Nat :=
  let c2_i32_107 : BitVec 32 := 2#32
  let v179 : Index := Scalar.indexCast c2_i32_107
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v180 : Index := Scalar.indexCast v160
  ![2, v180.toNat]
def k0_off34 (k0_t8 : Fin k0_t8_loop.trips) : Fin 2 → Nat :=
  let c3_i32_108 : BitVec 32 := 3#32
  let v184 : Index := Scalar.indexCast c3_i32_108
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v185 : Index := Scalar.indexCast v160
  ![3, v185.toNat]
def k0_off35 (k0_t8 : Fin k0_t8_loop.trips) : Fin 2 → Nat :=
  let c4_i32_109 : BitVec 32 := 4#32
  let v189 : Index := Scalar.indexCast c4_i32_109
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v190 : Index := Scalar.indexCast v160
  ![4, v190.toNat]
def k0_off36 (k0_t8 : Fin k0_t8_loop.trips) : Fin 2 → Nat :=
  let c5_i32_110 : BitVec 32 := 5#32
  let v194 : Index := Scalar.indexCast c5_i32_110
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v195 : Index := Scalar.indexCast v160
  ![5, v195.toNat]
def k0_off37 (k0_t8 : Fin k0_t8_loop.trips) : Fin 2 → Nat :=
  let c6_i32_111 : BitVec 32 := 6#32
  let v199 : Index := Scalar.indexCast c6_i32_111
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v200 : Index := Scalar.indexCast v160
  ![6, v200.toNat]
def k0_off38 (k0_t8 : Fin k0_t8_loop.trips) : Fin 2 → Nat :=
  let c7_i32_112 : BitVec 32 := 7#32
  let v204 : Index := Scalar.indexCast c7_i32_112
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v205 : Index := Scalar.indexCast v160
  ![7, v205.toNat]
def k0_off39 (k0_t8 : Fin k0_t8_loop.trips) : Fin 2 → Nat :=
  let c8_i32_113 : BitVec 32 := 8#32
  let v209 : Index := Scalar.indexCast c8_i32_113
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v210 : Index := Scalar.indexCast v160
  ![8, v210.toNat]
def k0_off40 (k0_t8 : Fin k0_t8_loop.trips) : Fin 2 → Nat :=
  let c9_i32 : BitVec 32 := 9#32
  let v214 : Index := Scalar.indexCast c9_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v215 : Index := Scalar.indexCast v160
  ![9, v215.toNat]
def k0_off41 (k0_t8 : Fin k0_t8_loop.trips) : Fin 2 → Nat :=
  let c10_i32 : BitVec 32 := 10#32
  let v219 : Index := Scalar.indexCast c10_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v220 : Index := Scalar.indexCast v160
  ![10, v220.toNat]
def k0_off42 (k0_t8 : Fin k0_t8_loop.trips) : Fin 2 → Nat :=
  let c11_i32 : BitVec 32 := 11#32
  let v224 : Index := Scalar.indexCast c11_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v225 : Index := Scalar.indexCast v160
  ![11, v225.toNat]
def k0_off43 (k0_t8 : Fin k0_t8_loop.trips) : Fin 2 → Nat :=
  let c12_i32 : BitVec 32 := 12#32
  let v229 : Index := Scalar.indexCast c12_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v230 : Index := Scalar.indexCast v160
  ![12, v230.toNat]
def k0_off44 (k0_t8 : Fin k0_t8_loop.trips) : Fin 2 → Nat :=
  let c13_i32 : BitVec 32 := 13#32
  let v234 : Index := Scalar.indexCast c13_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v235 : Index := Scalar.indexCast v160
  ![13, v235.toNat]
def k0_off45 (k0_t8 : Fin k0_t8_loop.trips) : Fin 2 → Nat :=
  let c14_i32 : BitVec 32 := 14#32
  let v239 : Index := Scalar.indexCast c14_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v240 : Index := Scalar.indexCast v160
  ![14, v240.toNat]
def k0_off46 (k0_t8 : Fin k0_t8_loop.trips) : Fin 2 → Nat :=
  let c15_i32 : BitVec 32 := 15#32
  let v244 : Index := Scalar.indexCast c15_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v245 : Index := Scalar.indexCast v160
  ![15, v245.toNat]
def k0_off47 (k0_t8 : Fin k0_t8_loop.trips) : Fin 2 → Nat :=
  let c16_i32_114 : BitVec 32 := 16#32
  let v249 : Index := Scalar.indexCast c16_i32_114
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v250 : Index := Scalar.indexCast v160
  ![16, v250.toNat]
def k0_off48 (k0_t8 : Fin k0_t8_loop.trips) : Fin 2 → Nat :=
  let c17_i32_115 : BitVec 32 := 17#32
  let v254 : Index := Scalar.indexCast c17_i32_115
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v255 : Index := Scalar.indexCast v160
  ![17, v255.toNat]
def k0_off49 (k0_t8 : Fin k0_t8_loop.trips) : Fin 2 → Nat :=
  let c18_i32 : BitVec 32 := 18#32
  let v259 : Index := Scalar.indexCast c18_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v260 : Index := Scalar.indexCast v160
  ![18, v260.toNat]
def k0_off50 (k0_t8 : Fin k0_t8_loop.trips) : Fin 2 → Nat :=
  let c19_i32 : BitVec 32 := 19#32
  let v264 : Index := Scalar.indexCast c19_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v265 : Index := Scalar.indexCast v160
  ![19, v265.toNat]
def k0_off51 (k0_t8 : Fin k0_t8_loop.trips) : Fin 2 → Nat :=
  let c20_i32 : BitVec 32 := 20#32
  let v269 : Index := Scalar.indexCast c20_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v270 : Index := Scalar.indexCast v160
  ![20, v270.toNat]
def k0_off52 (k0_t8 : Fin k0_t8_loop.trips) : Fin 2 → Nat :=
  let c21_i32 : BitVec 32 := 21#32
  let v274 : Index := Scalar.indexCast c21_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v275 : Index := Scalar.indexCast v160
  ![21, v275.toNat]
def k0_off53 (k0_t8 : Fin k0_t8_loop.trips) : Fin 2 → Nat :=
  let c22_i32 : BitVec 32 := 22#32
  let v279 : Index := Scalar.indexCast c22_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v280 : Index := Scalar.indexCast v160
  ![22, v280.toNat]
def k0_off54 (k0_t8 : Fin k0_t8_loop.trips) : Fin 2 → Nat :=
  let c23_i32 : BitVec 32 := 23#32
  let v284 : Index := Scalar.indexCast c23_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v285 : Index := Scalar.indexCast v160
  ![23, v285.toNat]
def k0_off55 (k0_t8 : Fin k0_t8_loop.trips) : Fin 2 → Nat :=
  let c24_i32 : BitVec 32 := 24#32
  let v289 : Index := Scalar.indexCast c24_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v290 : Index := Scalar.indexCast v160
  ![24, v290.toNat]
def k0_off56 (k0_t8 : Fin k0_t8_loop.trips) : Fin 2 → Nat :=
  let c25_i32 : BitVec 32 := 25#32
  let v294 : Index := Scalar.indexCast c25_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v295 : Index := Scalar.indexCast v160
  ![25, v295.toNat]
def k0_off57 (k0_t8 : Fin k0_t8_loop.trips) : Fin 2 → Nat :=
  let c26_i32 : BitVec 32 := 26#32
  let v299 : Index := Scalar.indexCast c26_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v300 : Index := Scalar.indexCast v160
  ![26, v300.toNat]
def k0_off58 (k0_t8 : Fin k0_t8_loop.trips) : Fin 2 → Nat :=
  let c27_i32 : BitVec 32 := 27#32
  let v304 : Index := Scalar.indexCast c27_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v305 : Index := Scalar.indexCast v160
  ![27, v305.toNat]
def k0_off59 (k0_t8 : Fin k0_t8_loop.trips) : Fin 2 → Nat :=
  let c28_i32 : BitVec 32 := 28#32
  let v309 : Index := Scalar.indexCast c28_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v310 : Index := Scalar.indexCast v160
  ![28, v310.toNat]
def k0_off60 (k0_t8 : Fin k0_t8_loop.trips) : Fin 2 → Nat :=
  let c29_i32 : BitVec 32 := 29#32
  let v314 : Index := Scalar.indexCast c29_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v315 : Index := Scalar.indexCast v160
  ![29, v315.toNat]
def k0_off61 (k0_t8 : Fin k0_t8_loop.trips) : Fin 2 → Nat :=
  let c30_i32 : BitVec 32 := 30#32
  let v319 : Index := Scalar.indexCast c30_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v320 : Index := Scalar.indexCast v160
  ![30, v320.toNat]
def k0_off62 (k0_t8 : Fin k0_t8_loop.trips) : Fin 2 → Nat :=
  let c31_i32 : BitVec 32 := 31#32
  let v324 : Index := Scalar.indexCast c31_i32
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v325 : Index := Scalar.indexCast v160
  ![31, v325.toNat]
def k0_off63 (k0_t3 : Fin k0_t3_loop.trips) (k0_t8 : Fin k0_t8_loop.trips) : Fin 2 → Nat :=
  let c0_i32_12 : BitVec 32 := 0#32
  let c1_i32_14 : BitVec 32 := 1#32
  let arg28 : BitVec 32 := Scf.iv c0_i32_12 c1_i32_14 k0_t3
  let v335 : Index := Scalar.indexCast arg28
  let c0_i32_89 : BitVec 32 := 0#32
  let c1_i32_91 : BitVec 32 := 1#32
  let arg32 : BitVec 32 := Scf.iv c0_i32_89 c1_i32_91 k0_t8
  let c16_i32_96 : BitVec 32 := 16#32
  let v159 : BitVec 32 := Scalar.muli arg32 c16_i32_96
  let v160 : BitVec 32 := v159
  let v336 : Index := Scalar.indexCast v160
  ![v335.toNat, v336.toNat]
def k0_mult16 (v29 : BitVec 32) (v36 : BitVec 32) (k0_t7 : Fin (k0_t7_loop v29 v36).trips) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c0_i32_96 : BitVec 32 := 0#32
  let v159 : BitVec 32 := Scalar.addi v125 c0_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  v162
def k0_cond14 (v29 : BitVec 32) (v36 : BitVec 32) (k0_t7 : Fin (k0_t7_loop v29 v36).trips) : BitVec 1 :=
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c0_i32_71 : BitVec 32 := 0#32
  let v126 : BitVec 32 := Scalar.addi v125 c0_i32_71
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let v127 : BitVec 1 := Scalar.cmpi .slt v126 v42
  let v128 : BitVec 32 := Scalar.extui v127
  let c0_i32_72 : BitVec 32 := 0#32
  let v129 : BitVec 1 := Scalar.cmpi .ne v128 c0_i32_72
  v129

def k0_cond15 (v29 : BitVec 32) (v36 : BitVec 32) (k0_t7 : Fin (k0_t7_loop v29 v36).trips) : BitVec 1 :=
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c0_i32_93 : BitVec 32 := 0#32
  let v154 : BitVec 32 := Scalar.addi v125 c0_i32_93
  let c6_i32_94 : BitVec 32 := 6#32
  let v155 : BitVec 32 := Scalar.addi v154 c6_i32_94
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let v156 : BitVec 1 := Scalar.cmpi .slt v155 v42
  let v157 : BitVec 32 := Scalar.extui v156
  let c0_i32_95 : BitVec 32 := 0#32
  let v158 : BitVec 1 := Scalar.cmpi .ne v157 c0_i32_95
  v158

def k0_off64 (v29 : BitVec 32) (v36 : BitVec 32) (k0_t7 : Fin (k0_t7_loop v29 v36).trips) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c0_i32_96 : BitVec 32 := 0#32
  let v159 : BitVec 32 := Scalar.addi v125 c0_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  let v163 : BitVec 32 := v162
  let c0_i32_99 : BitVec 32 := 0#32
  ![v163.toNat, 0]
@[reducible] def k0_t9_loop : Scf.Loop 32 :=
  let c0_i32_89 : BitVec 32 := 0#32
  let c16_i32_90 : BitVec 32 := 16#32
  let v152 : BitVec 32 := Scalar.addi c0_i32_89 c16_i32_90
  let c1_i32_91 : BitVec 32 := 1#32
  ⟨c0_i32_89, v152, c1_i32_91⟩
def k0_mult17 (k0_t9 : Fin k0_t9_loop.trips) : BitVec 32 :=
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  v159
def k0_off65 (k0_t9 : Fin k0_t9_loop.trips) : Fin 2 → Nat :=
  let c0_i32_105 : BitVec 32 := 0#32
  let v169 : Index := Scalar.indexCast c0_i32_105
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v170 : Index := Scalar.indexCast v160
  ![0, v170.toNat]
def k0_off66 (k0_t9 : Fin k0_t9_loop.trips) : Fin 2 → Nat :=
  let c1_i32_106 : BitVec 32 := 1#32
  let v174 : Index := Scalar.indexCast c1_i32_106
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v175 : Index := Scalar.indexCast v160
  ![1, v175.toNat]
def k0_off67 (k0_t9 : Fin k0_t9_loop.trips) : Fin 2 → Nat :=
  let c2_i32_107 : BitVec 32 := 2#32
  let v179 : Index := Scalar.indexCast c2_i32_107
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v180 : Index := Scalar.indexCast v160
  ![2, v180.toNat]
def k0_off68 (k0_t9 : Fin k0_t9_loop.trips) : Fin 2 → Nat :=
  let c3_i32_108 : BitVec 32 := 3#32
  let v184 : Index := Scalar.indexCast c3_i32_108
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v185 : Index := Scalar.indexCast v160
  ![3, v185.toNat]
def k0_off69 (k0_t9 : Fin k0_t9_loop.trips) : Fin 2 → Nat :=
  let c4_i32_109 : BitVec 32 := 4#32
  let v189 : Index := Scalar.indexCast c4_i32_109
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v190 : Index := Scalar.indexCast v160
  ![4, v190.toNat]
def k0_off70 (k0_t9 : Fin k0_t9_loop.trips) : Fin 2 → Nat :=
  let c5_i32_110 : BitVec 32 := 5#32
  let v194 : Index := Scalar.indexCast c5_i32_110
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v195 : Index := Scalar.indexCast v160
  ![5, v195.toNat]
def k0_off71 (k0_t9 : Fin k0_t9_loop.trips) : Fin 2 → Nat :=
  let c6_i32_111 : BitVec 32 := 6#32
  let v199 : Index := Scalar.indexCast c6_i32_111
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v200 : Index := Scalar.indexCast v160
  ![6, v200.toNat]
def k0_off72 (k0_t9 : Fin k0_t9_loop.trips) : Fin 2 → Nat :=
  let c7_i32_112 : BitVec 32 := 7#32
  let v204 : Index := Scalar.indexCast c7_i32_112
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v205 : Index := Scalar.indexCast v160
  ![7, v205.toNat]
def k0_off73 (k0_t9 : Fin k0_t9_loop.trips) : Fin 2 → Nat :=
  let c8_i32_113 : BitVec 32 := 8#32
  let v209 : Index := Scalar.indexCast c8_i32_113
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v210 : Index := Scalar.indexCast v160
  ![8, v210.toNat]
def k0_off74 (k0_t9 : Fin k0_t9_loop.trips) : Fin 2 → Nat :=
  let c9_i32 : BitVec 32 := 9#32
  let v214 : Index := Scalar.indexCast c9_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v215 : Index := Scalar.indexCast v160
  ![9, v215.toNat]
def k0_off75 (k0_t9 : Fin k0_t9_loop.trips) : Fin 2 → Nat :=
  let c10_i32 : BitVec 32 := 10#32
  let v219 : Index := Scalar.indexCast c10_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v220 : Index := Scalar.indexCast v160
  ![10, v220.toNat]
def k0_off76 (k0_t9 : Fin k0_t9_loop.trips) : Fin 2 → Nat :=
  let c11_i32 : BitVec 32 := 11#32
  let v224 : Index := Scalar.indexCast c11_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v225 : Index := Scalar.indexCast v160
  ![11, v225.toNat]
def k0_off77 (k0_t9 : Fin k0_t9_loop.trips) : Fin 2 → Nat :=
  let c12_i32 : BitVec 32 := 12#32
  let v229 : Index := Scalar.indexCast c12_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v230 : Index := Scalar.indexCast v160
  ![12, v230.toNat]
def k0_off78 (k0_t9 : Fin k0_t9_loop.trips) : Fin 2 → Nat :=
  let c13_i32 : BitVec 32 := 13#32
  let v234 : Index := Scalar.indexCast c13_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v235 : Index := Scalar.indexCast v160
  ![13, v235.toNat]
def k0_off79 (k0_t9 : Fin k0_t9_loop.trips) : Fin 2 → Nat :=
  let c14_i32 : BitVec 32 := 14#32
  let v239 : Index := Scalar.indexCast c14_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v240 : Index := Scalar.indexCast v160
  ![14, v240.toNat]
def k0_off80 (k0_t9 : Fin k0_t9_loop.trips) : Fin 2 → Nat :=
  let c15_i32 : BitVec 32 := 15#32
  let v244 : Index := Scalar.indexCast c15_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v245 : Index := Scalar.indexCast v160
  ![15, v245.toNat]
def k0_off81 (k0_t9 : Fin k0_t9_loop.trips) : Fin 2 → Nat :=
  let c16_i32_114 : BitVec 32 := 16#32
  let v249 : Index := Scalar.indexCast c16_i32_114
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v250 : Index := Scalar.indexCast v160
  ![16, v250.toNat]
def k0_off82 (k0_t9 : Fin k0_t9_loop.trips) : Fin 2 → Nat :=
  let c17_i32_115 : BitVec 32 := 17#32
  let v254 : Index := Scalar.indexCast c17_i32_115
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v255 : Index := Scalar.indexCast v160
  ![17, v255.toNat]
def k0_off83 (k0_t9 : Fin k0_t9_loop.trips) : Fin 2 → Nat :=
  let c18_i32 : BitVec 32 := 18#32
  let v259 : Index := Scalar.indexCast c18_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v260 : Index := Scalar.indexCast v160
  ![18, v260.toNat]
def k0_off84 (k0_t9 : Fin k0_t9_loop.trips) : Fin 2 → Nat :=
  let c19_i32 : BitVec 32 := 19#32
  let v264 : Index := Scalar.indexCast c19_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v265 : Index := Scalar.indexCast v160
  ![19, v265.toNat]
def k0_off85 (k0_t9 : Fin k0_t9_loop.trips) : Fin 2 → Nat :=
  let c20_i32 : BitVec 32 := 20#32
  let v269 : Index := Scalar.indexCast c20_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v270 : Index := Scalar.indexCast v160
  ![20, v270.toNat]
def k0_off86 (k0_t9 : Fin k0_t9_loop.trips) : Fin 2 → Nat :=
  let c21_i32 : BitVec 32 := 21#32
  let v274 : Index := Scalar.indexCast c21_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v275 : Index := Scalar.indexCast v160
  ![21, v275.toNat]
def k0_off87 (k0_t9 : Fin k0_t9_loop.trips) : Fin 2 → Nat :=
  let c22_i32 : BitVec 32 := 22#32
  let v279 : Index := Scalar.indexCast c22_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v280 : Index := Scalar.indexCast v160
  ![22, v280.toNat]
def k0_off88 (k0_t9 : Fin k0_t9_loop.trips) : Fin 2 → Nat :=
  let c23_i32 : BitVec 32 := 23#32
  let v284 : Index := Scalar.indexCast c23_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v285 : Index := Scalar.indexCast v160
  ![23, v285.toNat]
def k0_off89 (k0_t9 : Fin k0_t9_loop.trips) : Fin 2 → Nat :=
  let c24_i32 : BitVec 32 := 24#32
  let v289 : Index := Scalar.indexCast c24_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v290 : Index := Scalar.indexCast v160
  ![24, v290.toNat]
def k0_off90 (k0_t9 : Fin k0_t9_loop.trips) : Fin 2 → Nat :=
  let c25_i32 : BitVec 32 := 25#32
  let v294 : Index := Scalar.indexCast c25_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v295 : Index := Scalar.indexCast v160
  ![25, v295.toNat]
def k0_off91 (k0_t9 : Fin k0_t9_loop.trips) : Fin 2 → Nat :=
  let c26_i32 : BitVec 32 := 26#32
  let v299 : Index := Scalar.indexCast c26_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v300 : Index := Scalar.indexCast v160
  ![26, v300.toNat]
def k0_off92 (k0_t9 : Fin k0_t9_loop.trips) : Fin 2 → Nat :=
  let c27_i32 : BitVec 32 := 27#32
  let v304 : Index := Scalar.indexCast c27_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v305 : Index := Scalar.indexCast v160
  ![27, v305.toNat]
def k0_off93 (k0_t9 : Fin k0_t9_loop.trips) : Fin 2 → Nat :=
  let c28_i32 : BitVec 32 := 28#32
  let v309 : Index := Scalar.indexCast c28_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v310 : Index := Scalar.indexCast v160
  ![28, v310.toNat]
def k0_off94 (k0_t9 : Fin k0_t9_loop.trips) : Fin 2 → Nat :=
  let c29_i32 : BitVec 32 := 29#32
  let v314 : Index := Scalar.indexCast c29_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v315 : Index := Scalar.indexCast v160
  ![29, v315.toNat]
def k0_off95 (k0_t9 : Fin k0_t9_loop.trips) : Fin 2 → Nat :=
  let c30_i32 : BitVec 32 := 30#32
  let v319 : Index := Scalar.indexCast c30_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v320 : Index := Scalar.indexCast v160
  ![30, v320.toNat]
def k0_off96 (k0_t9 : Fin k0_t9_loop.trips) : Fin 2 → Nat :=
  let c31_i32 : BitVec 32 := 31#32
  let v324 : Index := Scalar.indexCast c31_i32
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v325 : Index := Scalar.indexCast v160
  ![31, v325.toNat]
def k0_off97 (k0_t3 : Fin k0_t3_loop.trips) (k0_t9 : Fin k0_t9_loop.trips) : Fin 2 → Nat :=
  let c0_i32_12 : BitVec 32 := 0#32
  let c1_i32_14 : BitVec 32 := 1#32
  let arg28 : BitVec 32 := Scf.iv c0_i32_12 c1_i32_14 k0_t3
  let v335 : Index := Scalar.indexCast arg28
  let c0_i32_89 : BitVec 32 := 0#32
  let c1_i32_91 : BitVec 32 := 1#32
  let arg32 : BitVec 32 := Scf.iv c0_i32_89 c1_i32_91 k0_t9
  let c16_i32_96 : BitVec 32 := 16#32
  let v159 : BitVec 32 := Scalar.muli arg32 c16_i32_96
  let v160 : BitVec 32 := v159
  let v336 : Index := Scalar.indexCast v160
  ![v335.toNat, v336.toNat]
def k0_mult18 (v29 : BitVec 32) (v36 : BitVec 32) (k0_t7 : Fin (k0_t7_loop v29 v36).trips) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c1_i32_96 : BitVec 32 := 1#32
  let v159 : BitVec 32 := Scalar.addi v125 c1_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  v162
def k0_cond16 (v29 : BitVec 32) (v36 : BitVec 32) (k0_t7 : Fin (k0_t7_loop v29 v36).trips) : BitVec 1 :=
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c1_i32_73 : BitVec 32 := 1#32
  let v130 : BitVec 32 := Scalar.addi v125 c1_i32_73
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let v131 : BitVec 1 := Scalar.cmpi .slt v130 v42
  let v132 : BitVec 32 := Scalar.extui v131
  let c0_i32_74 : BitVec 32 := 0#32
  let v133 : BitVec 1 := Scalar.cmpi .ne v132 c0_i32_74
  v133

def k0_cond17 (v29 : BitVec 32) (v36 : BitVec 32) (k0_t7 : Fin (k0_t7_loop v29 v36).trips) : BitVec 1 :=
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c1_i32_93 : BitVec 32 := 1#32
  let v154 : BitVec 32 := Scalar.addi v125 c1_i32_93
  let c6_i32_94 : BitVec 32 := 6#32
  let v155 : BitVec 32 := Scalar.addi v154 c6_i32_94
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let v156 : BitVec 1 := Scalar.cmpi .slt v155 v42
  let v157 : BitVec 32 := Scalar.extui v156
  let c0_i32_95 : BitVec 32 := 0#32
  let v158 : BitVec 1 := Scalar.cmpi .ne v157 c0_i32_95
  v158

def k0_off98 (v29 : BitVec 32) (v36 : BitVec 32) (k0_t7 : Fin (k0_t7_loop v29 v36).trips) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c1_i32_96 : BitVec 32 := 1#32
  let v159 : BitVec 32 := Scalar.addi v125 c1_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  let v163 : BitVec 32 := v162
  let c0_i32_99 : BitVec 32 := 0#32
  ![v163.toNat, 0]
@[reducible] def k0_t10_loop : Scf.Loop 32 :=
  let c0_i32_89 : BitVec 32 := 0#32
  let c16_i32_90 : BitVec 32 := 16#32
  let v152 : BitVec 32 := Scalar.addi c0_i32_89 c16_i32_90
  let c1_i32_91 : BitVec 32 := 1#32
  ⟨c0_i32_89, v152, c1_i32_91⟩
def k0_mult19 (k0_t10 : Fin k0_t10_loop.trips) : BitVec 32 :=
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  v159
def k0_off99 (k0_t10 : Fin k0_t10_loop.trips) : Fin 2 → Nat :=
  let c0_i32_105 : BitVec 32 := 0#32
  let v169 : Index := Scalar.indexCast c0_i32_105
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v170 : Index := Scalar.indexCast v160
  ![0, v170.toNat]
def k0_off100 (k0_t10 : Fin k0_t10_loop.trips) : Fin 2 → Nat :=
  let c1_i32_106 : BitVec 32 := 1#32
  let v174 : Index := Scalar.indexCast c1_i32_106
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v175 : Index := Scalar.indexCast v160
  ![1, v175.toNat]
def k0_off101 (k0_t10 : Fin k0_t10_loop.trips) : Fin 2 → Nat :=
  let c2_i32_107 : BitVec 32 := 2#32
  let v179 : Index := Scalar.indexCast c2_i32_107
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v180 : Index := Scalar.indexCast v160
  ![2, v180.toNat]
def k0_off102 (k0_t10 : Fin k0_t10_loop.trips) : Fin 2 → Nat :=
  let c3_i32_108 : BitVec 32 := 3#32
  let v184 : Index := Scalar.indexCast c3_i32_108
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v185 : Index := Scalar.indexCast v160
  ![3, v185.toNat]
def k0_off103 (k0_t10 : Fin k0_t10_loop.trips) : Fin 2 → Nat :=
  let c4_i32_109 : BitVec 32 := 4#32
  let v189 : Index := Scalar.indexCast c4_i32_109
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v190 : Index := Scalar.indexCast v160
  ![4, v190.toNat]
def k0_off104 (k0_t10 : Fin k0_t10_loop.trips) : Fin 2 → Nat :=
  let c5_i32_110 : BitVec 32 := 5#32
  let v194 : Index := Scalar.indexCast c5_i32_110
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v195 : Index := Scalar.indexCast v160
  ![5, v195.toNat]
def k0_off105 (k0_t10 : Fin k0_t10_loop.trips) : Fin 2 → Nat :=
  let c6_i32_111 : BitVec 32 := 6#32
  let v199 : Index := Scalar.indexCast c6_i32_111
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v200 : Index := Scalar.indexCast v160
  ![6, v200.toNat]
def k0_off106 (k0_t10 : Fin k0_t10_loop.trips) : Fin 2 → Nat :=
  let c7_i32_112 : BitVec 32 := 7#32
  let v204 : Index := Scalar.indexCast c7_i32_112
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v205 : Index := Scalar.indexCast v160
  ![7, v205.toNat]
def k0_off107 (k0_t10 : Fin k0_t10_loop.trips) : Fin 2 → Nat :=
  let c8_i32_113 : BitVec 32 := 8#32
  let v209 : Index := Scalar.indexCast c8_i32_113
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v210 : Index := Scalar.indexCast v160
  ![8, v210.toNat]
def k0_off108 (k0_t10 : Fin k0_t10_loop.trips) : Fin 2 → Nat :=
  let c9_i32 : BitVec 32 := 9#32
  let v214 : Index := Scalar.indexCast c9_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v215 : Index := Scalar.indexCast v160
  ![9, v215.toNat]
def k0_off109 (k0_t10 : Fin k0_t10_loop.trips) : Fin 2 → Nat :=
  let c10_i32 : BitVec 32 := 10#32
  let v219 : Index := Scalar.indexCast c10_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v220 : Index := Scalar.indexCast v160
  ![10, v220.toNat]
def k0_off110 (k0_t10 : Fin k0_t10_loop.trips) : Fin 2 → Nat :=
  let c11_i32 : BitVec 32 := 11#32
  let v224 : Index := Scalar.indexCast c11_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v225 : Index := Scalar.indexCast v160
  ![11, v225.toNat]
def k0_off111 (k0_t10 : Fin k0_t10_loop.trips) : Fin 2 → Nat :=
  let c12_i32 : BitVec 32 := 12#32
  let v229 : Index := Scalar.indexCast c12_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v230 : Index := Scalar.indexCast v160
  ![12, v230.toNat]
def k0_off112 (k0_t10 : Fin k0_t10_loop.trips) : Fin 2 → Nat :=
  let c13_i32 : BitVec 32 := 13#32
  let v234 : Index := Scalar.indexCast c13_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v235 : Index := Scalar.indexCast v160
  ![13, v235.toNat]
def k0_off113 (k0_t10 : Fin k0_t10_loop.trips) : Fin 2 → Nat :=
  let c14_i32 : BitVec 32 := 14#32
  let v239 : Index := Scalar.indexCast c14_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v240 : Index := Scalar.indexCast v160
  ![14, v240.toNat]
def k0_off114 (k0_t10 : Fin k0_t10_loop.trips) : Fin 2 → Nat :=
  let c15_i32 : BitVec 32 := 15#32
  let v244 : Index := Scalar.indexCast c15_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v245 : Index := Scalar.indexCast v160
  ![15, v245.toNat]
def k0_off115 (k0_t10 : Fin k0_t10_loop.trips) : Fin 2 → Nat :=
  let c16_i32_114 : BitVec 32 := 16#32
  let v249 : Index := Scalar.indexCast c16_i32_114
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v250 : Index := Scalar.indexCast v160
  ![16, v250.toNat]
def k0_off116 (k0_t10 : Fin k0_t10_loop.trips) : Fin 2 → Nat :=
  let c17_i32_115 : BitVec 32 := 17#32
  let v254 : Index := Scalar.indexCast c17_i32_115
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v255 : Index := Scalar.indexCast v160
  ![17, v255.toNat]
def k0_off117 (k0_t10 : Fin k0_t10_loop.trips) : Fin 2 → Nat :=
  let c18_i32 : BitVec 32 := 18#32
  let v259 : Index := Scalar.indexCast c18_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v260 : Index := Scalar.indexCast v160
  ![18, v260.toNat]
def k0_off118 (k0_t10 : Fin k0_t10_loop.trips) : Fin 2 → Nat :=
  let c19_i32 : BitVec 32 := 19#32
  let v264 : Index := Scalar.indexCast c19_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v265 : Index := Scalar.indexCast v160
  ![19, v265.toNat]
def k0_off119 (k0_t10 : Fin k0_t10_loop.trips) : Fin 2 → Nat :=
  let c20_i32 : BitVec 32 := 20#32
  let v269 : Index := Scalar.indexCast c20_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v270 : Index := Scalar.indexCast v160
  ![20, v270.toNat]
def k0_off120 (k0_t10 : Fin k0_t10_loop.trips) : Fin 2 → Nat :=
  let c21_i32 : BitVec 32 := 21#32
  let v274 : Index := Scalar.indexCast c21_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v275 : Index := Scalar.indexCast v160
  ![21, v275.toNat]
def k0_off121 (k0_t10 : Fin k0_t10_loop.trips) : Fin 2 → Nat :=
  let c22_i32 : BitVec 32 := 22#32
  let v279 : Index := Scalar.indexCast c22_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v280 : Index := Scalar.indexCast v160
  ![22, v280.toNat]
def k0_off122 (k0_t10 : Fin k0_t10_loop.trips) : Fin 2 → Nat :=
  let c23_i32 : BitVec 32 := 23#32
  let v284 : Index := Scalar.indexCast c23_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v285 : Index := Scalar.indexCast v160
  ![23, v285.toNat]
def k0_off123 (k0_t10 : Fin k0_t10_loop.trips) : Fin 2 → Nat :=
  let c24_i32 : BitVec 32 := 24#32
  let v289 : Index := Scalar.indexCast c24_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v290 : Index := Scalar.indexCast v160
  ![24, v290.toNat]
def k0_off124 (k0_t10 : Fin k0_t10_loop.trips) : Fin 2 → Nat :=
  let c25_i32 : BitVec 32 := 25#32
  let v294 : Index := Scalar.indexCast c25_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v295 : Index := Scalar.indexCast v160
  ![25, v295.toNat]
def k0_off125 (k0_t10 : Fin k0_t10_loop.trips) : Fin 2 → Nat :=
  let c26_i32 : BitVec 32 := 26#32
  let v299 : Index := Scalar.indexCast c26_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v300 : Index := Scalar.indexCast v160
  ![26, v300.toNat]
def k0_off126 (k0_t10 : Fin k0_t10_loop.trips) : Fin 2 → Nat :=
  let c27_i32 : BitVec 32 := 27#32
  let v304 : Index := Scalar.indexCast c27_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v305 : Index := Scalar.indexCast v160
  ![27, v305.toNat]
def k0_off127 (k0_t10 : Fin k0_t10_loop.trips) : Fin 2 → Nat :=
  let c28_i32 : BitVec 32 := 28#32
  let v309 : Index := Scalar.indexCast c28_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v310 : Index := Scalar.indexCast v160
  ![28, v310.toNat]
def k0_off128 (k0_t10 : Fin k0_t10_loop.trips) : Fin 2 → Nat :=
  let c29_i32 : BitVec 32 := 29#32
  let v314 : Index := Scalar.indexCast c29_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v315 : Index := Scalar.indexCast v160
  ![29, v315.toNat]
def k0_off129 (k0_t10 : Fin k0_t10_loop.trips) : Fin 2 → Nat :=
  let c30_i32 : BitVec 32 := 30#32
  let v319 : Index := Scalar.indexCast c30_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v320 : Index := Scalar.indexCast v160
  ![30, v320.toNat]
def k0_off130 (k0_t10 : Fin k0_t10_loop.trips) : Fin 2 → Nat :=
  let c31_i32 : BitVec 32 := 31#32
  let v324 : Index := Scalar.indexCast c31_i32
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v325 : Index := Scalar.indexCast v160
  ![31, v325.toNat]
def k0_off131 (k0_t3 : Fin k0_t3_loop.trips) (k0_t10 : Fin k0_t10_loop.trips) : Fin 2 → Nat :=
  let c0_i32_12 : BitVec 32 := 0#32
  let c1_i32_14 : BitVec 32 := 1#32
  let arg28 : BitVec 32 := Scf.iv c0_i32_12 c1_i32_14 k0_t3
  let v335 : Index := Scalar.indexCast arg28
  let c0_i32_89 : BitVec 32 := 0#32
  let c1_i32_91 : BitVec 32 := 1#32
  let arg32 : BitVec 32 := Scf.iv c0_i32_89 c1_i32_91 k0_t10
  let c16_i32_96 : BitVec 32 := 16#32
  let v159 : BitVec 32 := Scalar.muli arg32 c16_i32_96
  let v160 : BitVec 32 := v159
  let v336 : Index := Scalar.indexCast v160
  ![v335.toNat, v336.toNat]
def k0_mult20 (v29 : BitVec 32) (v36 : BitVec 32) (k0_t7 : Fin (k0_t7_loop v29 v36).trips) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c2_i32_96 : BitVec 32 := 2#32
  let v159 : BitVec 32 := Scalar.addi v125 c2_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  v162
def k0_cond18 (v29 : BitVec 32) (v36 : BitVec 32) (k0_t7 : Fin (k0_t7_loop v29 v36).trips) : BitVec 1 :=
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c2_i32_75 : BitVec 32 := 2#32
  let v134 : BitVec 32 := Scalar.addi v125 c2_i32_75
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let v135 : BitVec 1 := Scalar.cmpi .slt v134 v42
  let v136 : BitVec 32 := Scalar.extui v135
  let c0_i32_76 : BitVec 32 := 0#32
  let v137 : BitVec 1 := Scalar.cmpi .ne v136 c0_i32_76
  v137

def k0_cond19 (v29 : BitVec 32) (v36 : BitVec 32) (k0_t7 : Fin (k0_t7_loop v29 v36).trips) : BitVec 1 :=
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c2_i32_93 : BitVec 32 := 2#32
  let v154 : BitVec 32 := Scalar.addi v125 c2_i32_93
  let c6_i32_94 : BitVec 32 := 6#32
  let v155 : BitVec 32 := Scalar.addi v154 c6_i32_94
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let v156 : BitVec 1 := Scalar.cmpi .slt v155 v42
  let v157 : BitVec 32 := Scalar.extui v156
  let c0_i32_95 : BitVec 32 := 0#32
  let v158 : BitVec 1 := Scalar.cmpi .ne v157 c0_i32_95
  v158

def k0_off132 (v29 : BitVec 32) (v36 : BitVec 32) (k0_t7 : Fin (k0_t7_loop v29 v36).trips) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c2_i32_96 : BitVec 32 := 2#32
  let v159 : BitVec 32 := Scalar.addi v125 c2_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  let v163 : BitVec 32 := v162
  let c0_i32_99 : BitVec 32 := 0#32
  ![v163.toNat, 0]
@[reducible] def k0_t11_loop : Scf.Loop 32 :=
  let c0_i32_89 : BitVec 32 := 0#32
  let c16_i32_90 : BitVec 32 := 16#32
  let v152 : BitVec 32 := Scalar.addi c0_i32_89 c16_i32_90
  let c1_i32_91 : BitVec 32 := 1#32
  ⟨c0_i32_89, v152, c1_i32_91⟩
def k0_mult21 (k0_t11 : Fin k0_t11_loop.trips) : BitVec 32 :=
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  v159
def k0_off133 (k0_t11 : Fin k0_t11_loop.trips) : Fin 2 → Nat :=
  let c0_i32_105 : BitVec 32 := 0#32
  let v169 : Index := Scalar.indexCast c0_i32_105
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v170 : Index := Scalar.indexCast v160
  ![0, v170.toNat]
def k0_off134 (k0_t11 : Fin k0_t11_loop.trips) : Fin 2 → Nat :=
  let c1_i32_106 : BitVec 32 := 1#32
  let v174 : Index := Scalar.indexCast c1_i32_106
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v175 : Index := Scalar.indexCast v160
  ![1, v175.toNat]
def k0_off135 (k0_t11 : Fin k0_t11_loop.trips) : Fin 2 → Nat :=
  let c2_i32_107 : BitVec 32 := 2#32
  let v179 : Index := Scalar.indexCast c2_i32_107
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v180 : Index := Scalar.indexCast v160
  ![2, v180.toNat]
def k0_off136 (k0_t11 : Fin k0_t11_loop.trips) : Fin 2 → Nat :=
  let c3_i32_108 : BitVec 32 := 3#32
  let v184 : Index := Scalar.indexCast c3_i32_108
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v185 : Index := Scalar.indexCast v160
  ![3, v185.toNat]
def k0_off137 (k0_t11 : Fin k0_t11_loop.trips) : Fin 2 → Nat :=
  let c4_i32_109 : BitVec 32 := 4#32
  let v189 : Index := Scalar.indexCast c4_i32_109
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v190 : Index := Scalar.indexCast v160
  ![4, v190.toNat]
def k0_off138 (k0_t11 : Fin k0_t11_loop.trips) : Fin 2 → Nat :=
  let c5_i32_110 : BitVec 32 := 5#32
  let v194 : Index := Scalar.indexCast c5_i32_110
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v195 : Index := Scalar.indexCast v160
  ![5, v195.toNat]
def k0_off139 (k0_t11 : Fin k0_t11_loop.trips) : Fin 2 → Nat :=
  let c6_i32_111 : BitVec 32 := 6#32
  let v199 : Index := Scalar.indexCast c6_i32_111
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v200 : Index := Scalar.indexCast v160
  ![6, v200.toNat]
def k0_off140 (k0_t11 : Fin k0_t11_loop.trips) : Fin 2 → Nat :=
  let c7_i32_112 : BitVec 32 := 7#32
  let v204 : Index := Scalar.indexCast c7_i32_112
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v205 : Index := Scalar.indexCast v160
  ![7, v205.toNat]
def k0_off141 (k0_t11 : Fin k0_t11_loop.trips) : Fin 2 → Nat :=
  let c8_i32_113 : BitVec 32 := 8#32
  let v209 : Index := Scalar.indexCast c8_i32_113
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v210 : Index := Scalar.indexCast v160
  ![8, v210.toNat]
def k0_off142 (k0_t11 : Fin k0_t11_loop.trips) : Fin 2 → Nat :=
  let c9_i32 : BitVec 32 := 9#32
  let v214 : Index := Scalar.indexCast c9_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v215 : Index := Scalar.indexCast v160
  ![9, v215.toNat]
def k0_off143 (k0_t11 : Fin k0_t11_loop.trips) : Fin 2 → Nat :=
  let c10_i32 : BitVec 32 := 10#32
  let v219 : Index := Scalar.indexCast c10_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v220 : Index := Scalar.indexCast v160
  ![10, v220.toNat]
def k0_off144 (k0_t11 : Fin k0_t11_loop.trips) : Fin 2 → Nat :=
  let c11_i32 : BitVec 32 := 11#32
  let v224 : Index := Scalar.indexCast c11_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v225 : Index := Scalar.indexCast v160
  ![11, v225.toNat]
def k0_off145 (k0_t11 : Fin k0_t11_loop.trips) : Fin 2 → Nat :=
  let c12_i32 : BitVec 32 := 12#32
  let v229 : Index := Scalar.indexCast c12_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v230 : Index := Scalar.indexCast v160
  ![12, v230.toNat]
def k0_off146 (k0_t11 : Fin k0_t11_loop.trips) : Fin 2 → Nat :=
  let c13_i32 : BitVec 32 := 13#32
  let v234 : Index := Scalar.indexCast c13_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v235 : Index := Scalar.indexCast v160
  ![13, v235.toNat]
def k0_off147 (k0_t11 : Fin k0_t11_loop.trips) : Fin 2 → Nat :=
  let c14_i32 : BitVec 32 := 14#32
  let v239 : Index := Scalar.indexCast c14_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v240 : Index := Scalar.indexCast v160
  ![14, v240.toNat]
def k0_off148 (k0_t11 : Fin k0_t11_loop.trips) : Fin 2 → Nat :=
  let c15_i32 : BitVec 32 := 15#32
  let v244 : Index := Scalar.indexCast c15_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v245 : Index := Scalar.indexCast v160
  ![15, v245.toNat]
def k0_off149 (k0_t11 : Fin k0_t11_loop.trips) : Fin 2 → Nat :=
  let c16_i32_114 : BitVec 32 := 16#32
  let v249 : Index := Scalar.indexCast c16_i32_114
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v250 : Index := Scalar.indexCast v160
  ![16, v250.toNat]
def k0_off150 (k0_t11 : Fin k0_t11_loop.trips) : Fin 2 → Nat :=
  let c17_i32_115 : BitVec 32 := 17#32
  let v254 : Index := Scalar.indexCast c17_i32_115
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v255 : Index := Scalar.indexCast v160
  ![17, v255.toNat]
def k0_off151 (k0_t11 : Fin k0_t11_loop.trips) : Fin 2 → Nat :=
  let c18_i32 : BitVec 32 := 18#32
  let v259 : Index := Scalar.indexCast c18_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v260 : Index := Scalar.indexCast v160
  ![18, v260.toNat]
def k0_off152 (k0_t11 : Fin k0_t11_loop.trips) : Fin 2 → Nat :=
  let c19_i32 : BitVec 32 := 19#32
  let v264 : Index := Scalar.indexCast c19_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v265 : Index := Scalar.indexCast v160
  ![19, v265.toNat]
def k0_off153 (k0_t11 : Fin k0_t11_loop.trips) : Fin 2 → Nat :=
  let c20_i32 : BitVec 32 := 20#32
  let v269 : Index := Scalar.indexCast c20_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v270 : Index := Scalar.indexCast v160
  ![20, v270.toNat]
def k0_off154 (k0_t11 : Fin k0_t11_loop.trips) : Fin 2 → Nat :=
  let c21_i32 : BitVec 32 := 21#32
  let v274 : Index := Scalar.indexCast c21_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v275 : Index := Scalar.indexCast v160
  ![21, v275.toNat]
def k0_off155 (k0_t11 : Fin k0_t11_loop.trips) : Fin 2 → Nat :=
  let c22_i32 : BitVec 32 := 22#32
  let v279 : Index := Scalar.indexCast c22_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v280 : Index := Scalar.indexCast v160
  ![22, v280.toNat]
def k0_off156 (k0_t11 : Fin k0_t11_loop.trips) : Fin 2 → Nat :=
  let c23_i32 : BitVec 32 := 23#32
  let v284 : Index := Scalar.indexCast c23_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v285 : Index := Scalar.indexCast v160
  ![23, v285.toNat]
def k0_off157 (k0_t11 : Fin k0_t11_loop.trips) : Fin 2 → Nat :=
  let c24_i32 : BitVec 32 := 24#32
  let v289 : Index := Scalar.indexCast c24_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v290 : Index := Scalar.indexCast v160
  ![24, v290.toNat]
def k0_off158 (k0_t11 : Fin k0_t11_loop.trips) : Fin 2 → Nat :=
  let c25_i32 : BitVec 32 := 25#32
  let v294 : Index := Scalar.indexCast c25_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v295 : Index := Scalar.indexCast v160
  ![25, v295.toNat]
def k0_off159 (k0_t11 : Fin k0_t11_loop.trips) : Fin 2 → Nat :=
  let c26_i32 : BitVec 32 := 26#32
  let v299 : Index := Scalar.indexCast c26_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v300 : Index := Scalar.indexCast v160
  ![26, v300.toNat]
def k0_off160 (k0_t11 : Fin k0_t11_loop.trips) : Fin 2 → Nat :=
  let c27_i32 : BitVec 32 := 27#32
  let v304 : Index := Scalar.indexCast c27_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v305 : Index := Scalar.indexCast v160
  ![27, v305.toNat]
def k0_off161 (k0_t11 : Fin k0_t11_loop.trips) : Fin 2 → Nat :=
  let c28_i32 : BitVec 32 := 28#32
  let v309 : Index := Scalar.indexCast c28_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v310 : Index := Scalar.indexCast v160
  ![28, v310.toNat]
def k0_off162 (k0_t11 : Fin k0_t11_loop.trips) : Fin 2 → Nat :=
  let c29_i32 : BitVec 32 := 29#32
  let v314 : Index := Scalar.indexCast c29_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v315 : Index := Scalar.indexCast v160
  ![29, v315.toNat]
def k0_off163 (k0_t11 : Fin k0_t11_loop.trips) : Fin 2 → Nat :=
  let c30_i32 : BitVec 32 := 30#32
  let v319 : Index := Scalar.indexCast c30_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v320 : Index := Scalar.indexCast v160
  ![30, v320.toNat]
def k0_off164 (k0_t11 : Fin k0_t11_loop.trips) : Fin 2 → Nat :=
  let c31_i32 : BitVec 32 := 31#32
  let v324 : Index := Scalar.indexCast c31_i32
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v325 : Index := Scalar.indexCast v160
  ![31, v325.toNat]
def k0_off165 (k0_t3 : Fin k0_t3_loop.trips) (k0_t11 : Fin k0_t11_loop.trips) : Fin 2 → Nat :=
  let c0_i32_12 : BitVec 32 := 0#32
  let c1_i32_14 : BitVec 32 := 1#32
  let arg28 : BitVec 32 := Scf.iv c0_i32_12 c1_i32_14 k0_t3
  let v335 : Index := Scalar.indexCast arg28
  let c0_i32_89 : BitVec 32 := 0#32
  let c1_i32_91 : BitVec 32 := 1#32
  let arg32 : BitVec 32 := Scf.iv c0_i32_89 c1_i32_91 k0_t11
  let c16_i32_96 : BitVec 32 := 16#32
  let v159 : BitVec 32 := Scalar.muli arg32 c16_i32_96
  let v160 : BitVec 32 := v159
  let v336 : Index := Scalar.indexCast v160
  ![v335.toNat, v336.toNat]
def k0_mult22 (v29 : BitVec 32) (v36 : BitVec 32) (k0_t7 : Fin (k0_t7_loop v29 v36).trips) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c3_i32_96 : BitVec 32 := 3#32
  let v159 : BitVec 32 := Scalar.addi v125 c3_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  v162
def k0_cond20 (v29 : BitVec 32) (v36 : BitVec 32) (k0_t7 : Fin (k0_t7_loop v29 v36).trips) : BitVec 1 :=
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c3_i32_77 : BitVec 32 := 3#32
  let v138 : BitVec 32 := Scalar.addi v125 c3_i32_77
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let v139 : BitVec 1 := Scalar.cmpi .slt v138 v42
  let v140 : BitVec 32 := Scalar.extui v139
  let c0_i32_78 : BitVec 32 := 0#32
  let v141 : BitVec 1 := Scalar.cmpi .ne v140 c0_i32_78
  v141

def k0_cond21 (v29 : BitVec 32) (v36 : BitVec 32) (k0_t7 : Fin (k0_t7_loop v29 v36).trips) : BitVec 1 :=
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c3_i32_93 : BitVec 32 := 3#32
  let v154 : BitVec 32 := Scalar.addi v125 c3_i32_93
  let c6_i32_94 : BitVec 32 := 6#32
  let v155 : BitVec 32 := Scalar.addi v154 c6_i32_94
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let v156 : BitVec 1 := Scalar.cmpi .slt v155 v42
  let v157 : BitVec 32 := Scalar.extui v156
  let c0_i32_95 : BitVec 32 := 0#32
  let v158 : BitVec 1 := Scalar.cmpi .ne v157 c0_i32_95
  v158

def k0_off166 (v29 : BitVec 32) (v36 : BitVec 32) (k0_t7 : Fin (k0_t7_loop v29 v36).trips) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c3_i32_96 : BitVec 32 := 3#32
  let v159 : BitVec 32 := Scalar.addi v125 c3_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  let v163 : BitVec 32 := v162
  let c0_i32_99 : BitVec 32 := 0#32
  ![v163.toNat, 0]
@[reducible] def k0_t12_loop : Scf.Loop 32 :=
  let c0_i32_89 : BitVec 32 := 0#32
  let c16_i32_90 : BitVec 32 := 16#32
  let v152 : BitVec 32 := Scalar.addi c0_i32_89 c16_i32_90
  let c1_i32_91 : BitVec 32 := 1#32
  ⟨c0_i32_89, v152, c1_i32_91⟩
def k0_mult23 (k0_t12 : Fin k0_t12_loop.trips) : BitVec 32 :=
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  v159
def k0_off167 (k0_t12 : Fin k0_t12_loop.trips) : Fin 2 → Nat :=
  let c0_i32_105 : BitVec 32 := 0#32
  let v169 : Index := Scalar.indexCast c0_i32_105
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v170 : Index := Scalar.indexCast v160
  ![0, v170.toNat]
def k0_off168 (k0_t12 : Fin k0_t12_loop.trips) : Fin 2 → Nat :=
  let c1_i32_106 : BitVec 32 := 1#32
  let v174 : Index := Scalar.indexCast c1_i32_106
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v175 : Index := Scalar.indexCast v160
  ![1, v175.toNat]
def k0_off169 (k0_t12 : Fin k0_t12_loop.trips) : Fin 2 → Nat :=
  let c2_i32_107 : BitVec 32 := 2#32
  let v179 : Index := Scalar.indexCast c2_i32_107
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v180 : Index := Scalar.indexCast v160
  ![2, v180.toNat]
def k0_off170 (k0_t12 : Fin k0_t12_loop.trips) : Fin 2 → Nat :=
  let c3_i32_108 : BitVec 32 := 3#32
  let v184 : Index := Scalar.indexCast c3_i32_108
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v185 : Index := Scalar.indexCast v160
  ![3, v185.toNat]
def k0_off171 (k0_t12 : Fin k0_t12_loop.trips) : Fin 2 → Nat :=
  let c4_i32_109 : BitVec 32 := 4#32
  let v189 : Index := Scalar.indexCast c4_i32_109
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v190 : Index := Scalar.indexCast v160
  ![4, v190.toNat]
def k0_off172 (k0_t12 : Fin k0_t12_loop.trips) : Fin 2 → Nat :=
  let c5_i32_110 : BitVec 32 := 5#32
  let v194 : Index := Scalar.indexCast c5_i32_110
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v195 : Index := Scalar.indexCast v160
  ![5, v195.toNat]
def k0_off173 (k0_t12 : Fin k0_t12_loop.trips) : Fin 2 → Nat :=
  let c6_i32_111 : BitVec 32 := 6#32
  let v199 : Index := Scalar.indexCast c6_i32_111
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v200 : Index := Scalar.indexCast v160
  ![6, v200.toNat]
def k0_off174 (k0_t12 : Fin k0_t12_loop.trips) : Fin 2 → Nat :=
  let c7_i32_112 : BitVec 32 := 7#32
  let v204 : Index := Scalar.indexCast c7_i32_112
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v205 : Index := Scalar.indexCast v160
  ![7, v205.toNat]
def k0_off175 (k0_t12 : Fin k0_t12_loop.trips) : Fin 2 → Nat :=
  let c8_i32_113 : BitVec 32 := 8#32
  let v209 : Index := Scalar.indexCast c8_i32_113
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v210 : Index := Scalar.indexCast v160
  ![8, v210.toNat]
def k0_off176 (k0_t12 : Fin k0_t12_loop.trips) : Fin 2 → Nat :=
  let c9_i32 : BitVec 32 := 9#32
  let v214 : Index := Scalar.indexCast c9_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v215 : Index := Scalar.indexCast v160
  ![9, v215.toNat]
def k0_off177 (k0_t12 : Fin k0_t12_loop.trips) : Fin 2 → Nat :=
  let c10_i32 : BitVec 32 := 10#32
  let v219 : Index := Scalar.indexCast c10_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v220 : Index := Scalar.indexCast v160
  ![10, v220.toNat]
def k0_off178 (k0_t12 : Fin k0_t12_loop.trips) : Fin 2 → Nat :=
  let c11_i32 : BitVec 32 := 11#32
  let v224 : Index := Scalar.indexCast c11_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v225 : Index := Scalar.indexCast v160
  ![11, v225.toNat]
def k0_off179 (k0_t12 : Fin k0_t12_loop.trips) : Fin 2 → Nat :=
  let c12_i32 : BitVec 32 := 12#32
  let v229 : Index := Scalar.indexCast c12_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v230 : Index := Scalar.indexCast v160
  ![12, v230.toNat]
def k0_off180 (k0_t12 : Fin k0_t12_loop.trips) : Fin 2 → Nat :=
  let c13_i32 : BitVec 32 := 13#32
  let v234 : Index := Scalar.indexCast c13_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v235 : Index := Scalar.indexCast v160
  ![13, v235.toNat]
def k0_off181 (k0_t12 : Fin k0_t12_loop.trips) : Fin 2 → Nat :=
  let c14_i32 : BitVec 32 := 14#32
  let v239 : Index := Scalar.indexCast c14_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v240 : Index := Scalar.indexCast v160
  ![14, v240.toNat]
def k0_off182 (k0_t12 : Fin k0_t12_loop.trips) : Fin 2 → Nat :=
  let c15_i32 : BitVec 32 := 15#32
  let v244 : Index := Scalar.indexCast c15_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v245 : Index := Scalar.indexCast v160
  ![15, v245.toNat]
def k0_off183 (k0_t12 : Fin k0_t12_loop.trips) : Fin 2 → Nat :=
  let c16_i32_114 : BitVec 32 := 16#32
  let v249 : Index := Scalar.indexCast c16_i32_114
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v250 : Index := Scalar.indexCast v160
  ![16, v250.toNat]
def k0_off184 (k0_t12 : Fin k0_t12_loop.trips) : Fin 2 → Nat :=
  let c17_i32_115 : BitVec 32 := 17#32
  let v254 : Index := Scalar.indexCast c17_i32_115
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v255 : Index := Scalar.indexCast v160
  ![17, v255.toNat]
def k0_off185 (k0_t12 : Fin k0_t12_loop.trips) : Fin 2 → Nat :=
  let c18_i32 : BitVec 32 := 18#32
  let v259 : Index := Scalar.indexCast c18_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v260 : Index := Scalar.indexCast v160
  ![18, v260.toNat]
def k0_off186 (k0_t12 : Fin k0_t12_loop.trips) : Fin 2 → Nat :=
  let c19_i32 : BitVec 32 := 19#32
  let v264 : Index := Scalar.indexCast c19_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v265 : Index := Scalar.indexCast v160
  ![19, v265.toNat]
def k0_off187 (k0_t12 : Fin k0_t12_loop.trips) : Fin 2 → Nat :=
  let c20_i32 : BitVec 32 := 20#32
  let v269 : Index := Scalar.indexCast c20_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v270 : Index := Scalar.indexCast v160
  ![20, v270.toNat]
def k0_off188 (k0_t12 : Fin k0_t12_loop.trips) : Fin 2 → Nat :=
  let c21_i32 : BitVec 32 := 21#32
  let v274 : Index := Scalar.indexCast c21_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v275 : Index := Scalar.indexCast v160
  ![21, v275.toNat]
def k0_off189 (k0_t12 : Fin k0_t12_loop.trips) : Fin 2 → Nat :=
  let c22_i32 : BitVec 32 := 22#32
  let v279 : Index := Scalar.indexCast c22_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v280 : Index := Scalar.indexCast v160
  ![22, v280.toNat]
def k0_off190 (k0_t12 : Fin k0_t12_loop.trips) : Fin 2 → Nat :=
  let c23_i32 : BitVec 32 := 23#32
  let v284 : Index := Scalar.indexCast c23_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v285 : Index := Scalar.indexCast v160
  ![23, v285.toNat]
def k0_off191 (k0_t12 : Fin k0_t12_loop.trips) : Fin 2 → Nat :=
  let c24_i32 : BitVec 32 := 24#32
  let v289 : Index := Scalar.indexCast c24_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v290 : Index := Scalar.indexCast v160
  ![24, v290.toNat]
def k0_off192 (k0_t12 : Fin k0_t12_loop.trips) : Fin 2 → Nat :=
  let c25_i32 : BitVec 32 := 25#32
  let v294 : Index := Scalar.indexCast c25_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v295 : Index := Scalar.indexCast v160
  ![25, v295.toNat]
def k0_off193 (k0_t12 : Fin k0_t12_loop.trips) : Fin 2 → Nat :=
  let c26_i32 : BitVec 32 := 26#32
  let v299 : Index := Scalar.indexCast c26_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v300 : Index := Scalar.indexCast v160
  ![26, v300.toNat]
def k0_off194 (k0_t12 : Fin k0_t12_loop.trips) : Fin 2 → Nat :=
  let c27_i32 : BitVec 32 := 27#32
  let v304 : Index := Scalar.indexCast c27_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v305 : Index := Scalar.indexCast v160
  ![27, v305.toNat]
def k0_off195 (k0_t12 : Fin k0_t12_loop.trips) : Fin 2 → Nat :=
  let c28_i32 : BitVec 32 := 28#32
  let v309 : Index := Scalar.indexCast c28_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v310 : Index := Scalar.indexCast v160
  ![28, v310.toNat]
def k0_off196 (k0_t12 : Fin k0_t12_loop.trips) : Fin 2 → Nat :=
  let c29_i32 : BitVec 32 := 29#32
  let v314 : Index := Scalar.indexCast c29_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v315 : Index := Scalar.indexCast v160
  ![29, v315.toNat]
def k0_off197 (k0_t12 : Fin k0_t12_loop.trips) : Fin 2 → Nat :=
  let c30_i32 : BitVec 32 := 30#32
  let v319 : Index := Scalar.indexCast c30_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v320 : Index := Scalar.indexCast v160
  ![30, v320.toNat]
def k0_off198 (k0_t12 : Fin k0_t12_loop.trips) : Fin 2 → Nat :=
  let c31_i32 : BitVec 32 := 31#32
  let v324 : Index := Scalar.indexCast c31_i32
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v325 : Index := Scalar.indexCast v160
  ![31, v325.toNat]
def k0_off199 (k0_t3 : Fin k0_t3_loop.trips) (k0_t12 : Fin k0_t12_loop.trips) : Fin 2 → Nat :=
  let c0_i32_12 : BitVec 32 := 0#32
  let c1_i32_14 : BitVec 32 := 1#32
  let arg28 : BitVec 32 := Scf.iv c0_i32_12 c1_i32_14 k0_t3
  let v335 : Index := Scalar.indexCast arg28
  let c0_i32_89 : BitVec 32 := 0#32
  let c1_i32_91 : BitVec 32 := 1#32
  let arg32 : BitVec 32 := Scf.iv c0_i32_89 c1_i32_91 k0_t12
  let c16_i32_96 : BitVec 32 := 16#32
  let v159 : BitVec 32 := Scalar.muli arg32 c16_i32_96
  let v160 : BitVec 32 := v159
  let v336 : Index := Scalar.indexCast v160
  ![v335.toNat, v336.toNat]
def k0_mult24 (v29 : BitVec 32) (v36 : BitVec 32) (k0_t7 : Fin (k0_t7_loop v29 v36).trips) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c4_i32_96 : BitVec 32 := 4#32
  let v159 : BitVec 32 := Scalar.addi v125 c4_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  v162
def k0_cond22 (v29 : BitVec 32) (v36 : BitVec 32) (k0_t7 : Fin (k0_t7_loop v29 v36).trips) : BitVec 1 :=
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c4_i32_79 : BitVec 32 := 4#32
  let v142 : BitVec 32 := Scalar.addi v125 c4_i32_79
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let v143 : BitVec 1 := Scalar.cmpi .slt v142 v42
  let v144 : BitVec 32 := Scalar.extui v143
  let c0_i32_80 : BitVec 32 := 0#32
  let v145 : BitVec 1 := Scalar.cmpi .ne v144 c0_i32_80
  v145

def k0_cond23 (v29 : BitVec 32) (v36 : BitVec 32) (k0_t7 : Fin (k0_t7_loop v29 v36).trips) : BitVec 1 :=
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c4_i32_93 : BitVec 32 := 4#32
  let v154 : BitVec 32 := Scalar.addi v125 c4_i32_93
  let c6_i32_94 : BitVec 32 := 6#32
  let v155 : BitVec 32 := Scalar.addi v154 c6_i32_94
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let v156 : BitVec 1 := Scalar.cmpi .slt v155 v42
  let v157 : BitVec 32 := Scalar.extui v156
  let c0_i32_95 : BitVec 32 := 0#32
  let v158 : BitVec 1 := Scalar.cmpi .ne v157 c0_i32_95
  v158

def k0_off200 (v29 : BitVec 32) (v36 : BitVec 32) (k0_t7 : Fin (k0_t7_loop v29 v36).trips) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c4_i32_96 : BitVec 32 := 4#32
  let v159 : BitVec 32 := Scalar.addi v125 c4_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  let v163 : BitVec 32 := v162
  let c0_i32_99 : BitVec 32 := 0#32
  ![v163.toNat, 0]
@[reducible] def k0_t13_loop : Scf.Loop 32 :=
  let c0_i32_89 : BitVec 32 := 0#32
  let c16_i32_90 : BitVec 32 := 16#32
  let v152 : BitVec 32 := Scalar.addi c0_i32_89 c16_i32_90
  let c1_i32_91 : BitVec 32 := 1#32
  ⟨c0_i32_89, v152, c1_i32_91⟩
def k0_mult25 (k0_t13 : Fin k0_t13_loop.trips) : BitVec 32 :=
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  v159
def k0_off201 (k0_t13 : Fin k0_t13_loop.trips) : Fin 2 → Nat :=
  let c0_i32_105 : BitVec 32 := 0#32
  let v169 : Index := Scalar.indexCast c0_i32_105
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v170 : Index := Scalar.indexCast v160
  ![0, v170.toNat]
def k0_off202 (k0_t13 : Fin k0_t13_loop.trips) : Fin 2 → Nat :=
  let c1_i32_106 : BitVec 32 := 1#32
  let v174 : Index := Scalar.indexCast c1_i32_106
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v175 : Index := Scalar.indexCast v160
  ![1, v175.toNat]
def k0_off203 (k0_t13 : Fin k0_t13_loop.trips) : Fin 2 → Nat :=
  let c2_i32_107 : BitVec 32 := 2#32
  let v179 : Index := Scalar.indexCast c2_i32_107
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v180 : Index := Scalar.indexCast v160
  ![2, v180.toNat]
def k0_off204 (k0_t13 : Fin k0_t13_loop.trips) : Fin 2 → Nat :=
  let c3_i32_108 : BitVec 32 := 3#32
  let v184 : Index := Scalar.indexCast c3_i32_108
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v185 : Index := Scalar.indexCast v160
  ![3, v185.toNat]
def k0_off205 (k0_t13 : Fin k0_t13_loop.trips) : Fin 2 → Nat :=
  let c4_i32_109 : BitVec 32 := 4#32
  let v189 : Index := Scalar.indexCast c4_i32_109
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v190 : Index := Scalar.indexCast v160
  ![4, v190.toNat]
def k0_off206 (k0_t13 : Fin k0_t13_loop.trips) : Fin 2 → Nat :=
  let c5_i32_110 : BitVec 32 := 5#32
  let v194 : Index := Scalar.indexCast c5_i32_110
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v195 : Index := Scalar.indexCast v160
  ![5, v195.toNat]
def k0_off207 (k0_t13 : Fin k0_t13_loop.trips) : Fin 2 → Nat :=
  let c6_i32_111 : BitVec 32 := 6#32
  let v199 : Index := Scalar.indexCast c6_i32_111
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v200 : Index := Scalar.indexCast v160
  ![6, v200.toNat]
def k0_off208 (k0_t13 : Fin k0_t13_loop.trips) : Fin 2 → Nat :=
  let c7_i32_112 : BitVec 32 := 7#32
  let v204 : Index := Scalar.indexCast c7_i32_112
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v205 : Index := Scalar.indexCast v160
  ![7, v205.toNat]
def k0_off209 (k0_t13 : Fin k0_t13_loop.trips) : Fin 2 → Nat :=
  let c8_i32_113 : BitVec 32 := 8#32
  let v209 : Index := Scalar.indexCast c8_i32_113
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v210 : Index := Scalar.indexCast v160
  ![8, v210.toNat]
def k0_off210 (k0_t13 : Fin k0_t13_loop.trips) : Fin 2 → Nat :=
  let c9_i32 : BitVec 32 := 9#32
  let v214 : Index := Scalar.indexCast c9_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v215 : Index := Scalar.indexCast v160
  ![9, v215.toNat]
def k0_off211 (k0_t13 : Fin k0_t13_loop.trips) : Fin 2 → Nat :=
  let c10_i32 : BitVec 32 := 10#32
  let v219 : Index := Scalar.indexCast c10_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v220 : Index := Scalar.indexCast v160
  ![10, v220.toNat]
def k0_off212 (k0_t13 : Fin k0_t13_loop.trips) : Fin 2 → Nat :=
  let c11_i32 : BitVec 32 := 11#32
  let v224 : Index := Scalar.indexCast c11_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v225 : Index := Scalar.indexCast v160
  ![11, v225.toNat]
def k0_off213 (k0_t13 : Fin k0_t13_loop.trips) : Fin 2 → Nat :=
  let c12_i32 : BitVec 32 := 12#32
  let v229 : Index := Scalar.indexCast c12_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v230 : Index := Scalar.indexCast v160
  ![12, v230.toNat]
def k0_off214 (k0_t13 : Fin k0_t13_loop.trips) : Fin 2 → Nat :=
  let c13_i32 : BitVec 32 := 13#32
  let v234 : Index := Scalar.indexCast c13_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v235 : Index := Scalar.indexCast v160
  ![13, v235.toNat]
def k0_off215 (k0_t13 : Fin k0_t13_loop.trips) : Fin 2 → Nat :=
  let c14_i32 : BitVec 32 := 14#32
  let v239 : Index := Scalar.indexCast c14_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v240 : Index := Scalar.indexCast v160
  ![14, v240.toNat]
def k0_off216 (k0_t13 : Fin k0_t13_loop.trips) : Fin 2 → Nat :=
  let c15_i32 : BitVec 32 := 15#32
  let v244 : Index := Scalar.indexCast c15_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v245 : Index := Scalar.indexCast v160
  ![15, v245.toNat]
def k0_off217 (k0_t13 : Fin k0_t13_loop.trips) : Fin 2 → Nat :=
  let c16_i32_114 : BitVec 32 := 16#32
  let v249 : Index := Scalar.indexCast c16_i32_114
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v250 : Index := Scalar.indexCast v160
  ![16, v250.toNat]
def k0_off218 (k0_t13 : Fin k0_t13_loop.trips) : Fin 2 → Nat :=
  let c17_i32_115 : BitVec 32 := 17#32
  let v254 : Index := Scalar.indexCast c17_i32_115
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v255 : Index := Scalar.indexCast v160
  ![17, v255.toNat]
def k0_off219 (k0_t13 : Fin k0_t13_loop.trips) : Fin 2 → Nat :=
  let c18_i32 : BitVec 32 := 18#32
  let v259 : Index := Scalar.indexCast c18_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v260 : Index := Scalar.indexCast v160
  ![18, v260.toNat]
def k0_off220 (k0_t13 : Fin k0_t13_loop.trips) : Fin 2 → Nat :=
  let c19_i32 : BitVec 32 := 19#32
  let v264 : Index := Scalar.indexCast c19_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v265 : Index := Scalar.indexCast v160
  ![19, v265.toNat]
def k0_off221 (k0_t13 : Fin k0_t13_loop.trips) : Fin 2 → Nat :=
  let c20_i32 : BitVec 32 := 20#32
  let v269 : Index := Scalar.indexCast c20_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v270 : Index := Scalar.indexCast v160
  ![20, v270.toNat]
def k0_off222 (k0_t13 : Fin k0_t13_loop.trips) : Fin 2 → Nat :=
  let c21_i32 : BitVec 32 := 21#32
  let v274 : Index := Scalar.indexCast c21_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v275 : Index := Scalar.indexCast v160
  ![21, v275.toNat]
def k0_off223 (k0_t13 : Fin k0_t13_loop.trips) : Fin 2 → Nat :=
  let c22_i32 : BitVec 32 := 22#32
  let v279 : Index := Scalar.indexCast c22_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v280 : Index := Scalar.indexCast v160
  ![22, v280.toNat]
def k0_off224 (k0_t13 : Fin k0_t13_loop.trips) : Fin 2 → Nat :=
  let c23_i32 : BitVec 32 := 23#32
  let v284 : Index := Scalar.indexCast c23_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v285 : Index := Scalar.indexCast v160
  ![23, v285.toNat]
def k0_off225 (k0_t13 : Fin k0_t13_loop.trips) : Fin 2 → Nat :=
  let c24_i32 : BitVec 32 := 24#32
  let v289 : Index := Scalar.indexCast c24_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v290 : Index := Scalar.indexCast v160
  ![24, v290.toNat]
def k0_off226 (k0_t13 : Fin k0_t13_loop.trips) : Fin 2 → Nat :=
  let c25_i32 : BitVec 32 := 25#32
  let v294 : Index := Scalar.indexCast c25_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v295 : Index := Scalar.indexCast v160
  ![25, v295.toNat]
def k0_off227 (k0_t13 : Fin k0_t13_loop.trips) : Fin 2 → Nat :=
  let c26_i32 : BitVec 32 := 26#32
  let v299 : Index := Scalar.indexCast c26_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v300 : Index := Scalar.indexCast v160
  ![26, v300.toNat]
def k0_off228 (k0_t13 : Fin k0_t13_loop.trips) : Fin 2 → Nat :=
  let c27_i32 : BitVec 32 := 27#32
  let v304 : Index := Scalar.indexCast c27_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v305 : Index := Scalar.indexCast v160
  ![27, v305.toNat]
def k0_off229 (k0_t13 : Fin k0_t13_loop.trips) : Fin 2 → Nat :=
  let c28_i32 : BitVec 32 := 28#32
  let v309 : Index := Scalar.indexCast c28_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v310 : Index := Scalar.indexCast v160
  ![28, v310.toNat]
def k0_off230 (k0_t13 : Fin k0_t13_loop.trips) : Fin 2 → Nat :=
  let c29_i32 : BitVec 32 := 29#32
  let v314 : Index := Scalar.indexCast c29_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v315 : Index := Scalar.indexCast v160
  ![29, v315.toNat]
def k0_off231 (k0_t13 : Fin k0_t13_loop.trips) : Fin 2 → Nat :=
  let c30_i32 : BitVec 32 := 30#32
  let v319 : Index := Scalar.indexCast c30_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v320 : Index := Scalar.indexCast v160
  ![30, v320.toNat]
def k0_off232 (k0_t13 : Fin k0_t13_loop.trips) : Fin 2 → Nat :=
  let c31_i32 : BitVec 32 := 31#32
  let v324 : Index := Scalar.indexCast c31_i32
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v325 : Index := Scalar.indexCast v160
  ![31, v325.toNat]
def k0_off233 (k0_t3 : Fin k0_t3_loop.trips) (k0_t13 : Fin k0_t13_loop.trips) : Fin 2 → Nat :=
  let c0_i32_12 : BitVec 32 := 0#32
  let c1_i32_14 : BitVec 32 := 1#32
  let arg28 : BitVec 32 := Scf.iv c0_i32_12 c1_i32_14 k0_t3
  let v335 : Index := Scalar.indexCast arg28
  let c0_i32_89 : BitVec 32 := 0#32
  let c1_i32_91 : BitVec 32 := 1#32
  let arg32 : BitVec 32 := Scf.iv c0_i32_89 c1_i32_91 k0_t13
  let c16_i32_96 : BitVec 32 := 16#32
  let v159 : BitVec 32 := Scalar.muli arg32 c16_i32_96
  let v160 : BitVec 32 := v159
  let v336 : Index := Scalar.indexCast v160
  ![v335.toNat, v336.toNat]
def k0_mult26 (v29 : BitVec 32) (v36 : BitVec 32) (k0_t7 : Fin (k0_t7_loop v29 v36).trips) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c5_i32_96 : BitVec 32 := 5#32
  let v159 : BitVec 32 := Scalar.addi v125 c5_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  v162
def k0_cond24 (v29 : BitVec 32) (v36 : BitVec 32) (k0_t7 : Fin (k0_t7_loop v29 v36).trips) : BitVec 1 :=
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c5_i32_81 : BitVec 32 := 5#32
  let v146 : BitVec 32 := Scalar.addi v125 c5_i32_81
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let v147 : BitVec 1 := Scalar.cmpi .slt v146 v42
  let v148 : BitVec 32 := Scalar.extui v147
  let c0_i32_82 : BitVec 32 := 0#32
  let v149 : BitVec 1 := Scalar.cmpi .ne v148 c0_i32_82
  v149

def k0_cond25 (v29 : BitVec 32) (v36 : BitVec 32) (k0_t7 : Fin (k0_t7_loop v29 v36).trips) : BitVec 1 :=
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c5_i32_93 : BitVec 32 := 5#32
  let v154 : BitVec 32 := Scalar.addi v125 c5_i32_93
  let c6_i32_94 : BitVec 32 := 6#32
  let v155 : BitVec 32 := Scalar.addi v154 c6_i32_94
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let v156 : BitVec 1 := Scalar.cmpi .slt v155 v42
  let v157 : BitVec 32 := Scalar.extui v156
  let c0_i32_95 : BitVec 32 := 0#32
  let v158 : BitVec 1 := Scalar.cmpi .ne v157 c0_i32_95
  v158

def k0_off234 (v29 : BitVec 32) (v36 : BitVec 32) (k0_t7 : Fin (k0_t7_loop v29 v36).trips) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let c1_i32_56 : BitVec 32 := 1#32
  let arg30 : BitVec 32 := Scf.iv c0_i32_53 c1_i32_56 k0_t7
  let v125 : BitVec 32 := Scalar.muli c6_i32_70 arg30
  let c5_i32_96 : BitVec 32 := 5#32
  let v159 : BitVec 32 := Scalar.addi v125 c5_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  let v163 : BitVec 32 := v162
  let c0_i32_99 : BitVec 32 := 0#32
  ![v163.toNat, 0]
@[reducible] def k0_t14_loop (v29 : BitVec 32) (v36 : BitVec 32) : Scf.Loop 32 :=
  let c0_i32_53 : BitVec 32 := 0#32
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let v103 : BitVec 32 := Scalar.addi c0_i32_53 v102
  let c1_i32_57 : BitVec 32 := 1#32
  ⟨v106, v103, c1_i32_57⟩
@[reducible] def k0_t15_loop : Scf.Loop 32 :=
  let c0_i32_89 : BitVec 32 := 0#32
  let c16_i32_90 : BitVec 32 := 16#32
  let v152 : BitVec 32 := Scalar.addi c0_i32_89 c16_i32_90
  let c1_i32_91 : BitVec 32 := 1#32
  ⟨c0_i32_89, v152, c1_i32_91⟩
def k0_mult27 (k0_t15 : Fin k0_t15_loop.trips) : BitVec 32 :=
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  v159
def k0_off235 (k0_t15 : Fin k0_t15_loop.trips) : Fin 2 → Nat :=
  let c0_i32_105 : BitVec 32 := 0#32
  let v169 : Index := Scalar.indexCast c0_i32_105
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v170 : Index := Scalar.indexCast v160
  ![0, v170.toNat]
def k0_off236 (k0_t15 : Fin k0_t15_loop.trips) : Fin 2 → Nat :=
  let c1_i32_106 : BitVec 32 := 1#32
  let v174 : Index := Scalar.indexCast c1_i32_106
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v175 : Index := Scalar.indexCast v160
  ![1, v175.toNat]
def k0_off237 (k0_t15 : Fin k0_t15_loop.trips) : Fin 2 → Nat :=
  let c2_i32_107 : BitVec 32 := 2#32
  let v179 : Index := Scalar.indexCast c2_i32_107
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v180 : Index := Scalar.indexCast v160
  ![2, v180.toNat]
def k0_off238 (k0_t15 : Fin k0_t15_loop.trips) : Fin 2 → Nat :=
  let c3_i32_108 : BitVec 32 := 3#32
  let v184 : Index := Scalar.indexCast c3_i32_108
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v185 : Index := Scalar.indexCast v160
  ![3, v185.toNat]
def k0_off239 (k0_t15 : Fin k0_t15_loop.trips) : Fin 2 → Nat :=
  let c4_i32_109 : BitVec 32 := 4#32
  let v189 : Index := Scalar.indexCast c4_i32_109
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v190 : Index := Scalar.indexCast v160
  ![4, v190.toNat]
def k0_off240 (k0_t15 : Fin k0_t15_loop.trips) : Fin 2 → Nat :=
  let c5_i32_110 : BitVec 32 := 5#32
  let v194 : Index := Scalar.indexCast c5_i32_110
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v195 : Index := Scalar.indexCast v160
  ![5, v195.toNat]
def k0_off241 (k0_t15 : Fin k0_t15_loop.trips) : Fin 2 → Nat :=
  let c6_i32_111 : BitVec 32 := 6#32
  let v199 : Index := Scalar.indexCast c6_i32_111
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v200 : Index := Scalar.indexCast v160
  ![6, v200.toNat]
def k0_off242 (k0_t15 : Fin k0_t15_loop.trips) : Fin 2 → Nat :=
  let c7_i32_112 : BitVec 32 := 7#32
  let v204 : Index := Scalar.indexCast c7_i32_112
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v205 : Index := Scalar.indexCast v160
  ![7, v205.toNat]
def k0_off243 (k0_t15 : Fin k0_t15_loop.trips) : Fin 2 → Nat :=
  let c8_i32_113 : BitVec 32 := 8#32
  let v209 : Index := Scalar.indexCast c8_i32_113
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v210 : Index := Scalar.indexCast v160
  ![8, v210.toNat]
def k0_off244 (k0_t15 : Fin k0_t15_loop.trips) : Fin 2 → Nat :=
  let c9_i32 : BitVec 32 := 9#32
  let v214 : Index := Scalar.indexCast c9_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v215 : Index := Scalar.indexCast v160
  ![9, v215.toNat]
def k0_off245 (k0_t15 : Fin k0_t15_loop.trips) : Fin 2 → Nat :=
  let c10_i32 : BitVec 32 := 10#32
  let v219 : Index := Scalar.indexCast c10_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v220 : Index := Scalar.indexCast v160
  ![10, v220.toNat]
def k0_off246 (k0_t15 : Fin k0_t15_loop.trips) : Fin 2 → Nat :=
  let c11_i32 : BitVec 32 := 11#32
  let v224 : Index := Scalar.indexCast c11_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v225 : Index := Scalar.indexCast v160
  ![11, v225.toNat]
def k0_off247 (k0_t15 : Fin k0_t15_loop.trips) : Fin 2 → Nat :=
  let c12_i32 : BitVec 32 := 12#32
  let v229 : Index := Scalar.indexCast c12_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v230 : Index := Scalar.indexCast v160
  ![12, v230.toNat]
def k0_off248 (k0_t15 : Fin k0_t15_loop.trips) : Fin 2 → Nat :=
  let c13_i32 : BitVec 32 := 13#32
  let v234 : Index := Scalar.indexCast c13_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v235 : Index := Scalar.indexCast v160
  ![13, v235.toNat]
def k0_off249 (k0_t15 : Fin k0_t15_loop.trips) : Fin 2 → Nat :=
  let c14_i32 : BitVec 32 := 14#32
  let v239 : Index := Scalar.indexCast c14_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v240 : Index := Scalar.indexCast v160
  ![14, v240.toNat]
def k0_off250 (k0_t15 : Fin k0_t15_loop.trips) : Fin 2 → Nat :=
  let c15_i32 : BitVec 32 := 15#32
  let v244 : Index := Scalar.indexCast c15_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v245 : Index := Scalar.indexCast v160
  ![15, v245.toNat]
def k0_off251 (k0_t15 : Fin k0_t15_loop.trips) : Fin 2 → Nat :=
  let c16_i32_114 : BitVec 32 := 16#32
  let v249 : Index := Scalar.indexCast c16_i32_114
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v250 : Index := Scalar.indexCast v160
  ![16, v250.toNat]
def k0_off252 (k0_t15 : Fin k0_t15_loop.trips) : Fin 2 → Nat :=
  let c17_i32_115 : BitVec 32 := 17#32
  let v254 : Index := Scalar.indexCast c17_i32_115
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v255 : Index := Scalar.indexCast v160
  ![17, v255.toNat]
def k0_off253 (k0_t15 : Fin k0_t15_loop.trips) : Fin 2 → Nat :=
  let c18_i32 : BitVec 32 := 18#32
  let v259 : Index := Scalar.indexCast c18_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v260 : Index := Scalar.indexCast v160
  ![18, v260.toNat]
def k0_off254 (k0_t15 : Fin k0_t15_loop.trips) : Fin 2 → Nat :=
  let c19_i32 : BitVec 32 := 19#32
  let v264 : Index := Scalar.indexCast c19_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v265 : Index := Scalar.indexCast v160
  ![19, v265.toNat]
def k0_off255 (k0_t15 : Fin k0_t15_loop.trips) : Fin 2 → Nat :=
  let c20_i32 : BitVec 32 := 20#32
  let v269 : Index := Scalar.indexCast c20_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v270 : Index := Scalar.indexCast v160
  ![20, v270.toNat]
def k0_off256 (k0_t15 : Fin k0_t15_loop.trips) : Fin 2 → Nat :=
  let c21_i32 : BitVec 32 := 21#32
  let v274 : Index := Scalar.indexCast c21_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v275 : Index := Scalar.indexCast v160
  ![21, v275.toNat]
def k0_off257 (k0_t15 : Fin k0_t15_loop.trips) : Fin 2 → Nat :=
  let c22_i32 : BitVec 32 := 22#32
  let v279 : Index := Scalar.indexCast c22_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v280 : Index := Scalar.indexCast v160
  ![22, v280.toNat]
def k0_off258 (k0_t15 : Fin k0_t15_loop.trips) : Fin 2 → Nat :=
  let c23_i32 : BitVec 32 := 23#32
  let v284 : Index := Scalar.indexCast c23_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v285 : Index := Scalar.indexCast v160
  ![23, v285.toNat]
def k0_off259 (k0_t15 : Fin k0_t15_loop.trips) : Fin 2 → Nat :=
  let c24_i32 : BitVec 32 := 24#32
  let v289 : Index := Scalar.indexCast c24_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v290 : Index := Scalar.indexCast v160
  ![24, v290.toNat]
def k0_off260 (k0_t15 : Fin k0_t15_loop.trips) : Fin 2 → Nat :=
  let c25_i32 : BitVec 32 := 25#32
  let v294 : Index := Scalar.indexCast c25_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v295 : Index := Scalar.indexCast v160
  ![25, v295.toNat]
def k0_off261 (k0_t15 : Fin k0_t15_loop.trips) : Fin 2 → Nat :=
  let c26_i32 : BitVec 32 := 26#32
  let v299 : Index := Scalar.indexCast c26_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v300 : Index := Scalar.indexCast v160
  ![26, v300.toNat]
def k0_off262 (k0_t15 : Fin k0_t15_loop.trips) : Fin 2 → Nat :=
  let c27_i32 : BitVec 32 := 27#32
  let v304 : Index := Scalar.indexCast c27_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v305 : Index := Scalar.indexCast v160
  ![27, v305.toNat]
def k0_off263 (k0_t15 : Fin k0_t15_loop.trips) : Fin 2 → Nat :=
  let c28_i32 : BitVec 32 := 28#32
  let v309 : Index := Scalar.indexCast c28_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v310 : Index := Scalar.indexCast v160
  ![28, v310.toNat]
def k0_off264 (k0_t15 : Fin k0_t15_loop.trips) : Fin 2 → Nat :=
  let c29_i32 : BitVec 32 := 29#32
  let v314 : Index := Scalar.indexCast c29_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v315 : Index := Scalar.indexCast v160
  ![29, v315.toNat]
def k0_off265 (k0_t15 : Fin k0_t15_loop.trips) : Fin 2 → Nat :=
  let c30_i32 : BitVec 32 := 30#32
  let v319 : Index := Scalar.indexCast c30_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v320 : Index := Scalar.indexCast v160
  ![30, v320.toNat]
def k0_off266 (k0_t15 : Fin k0_t15_loop.trips) : Fin 2 → Nat :=
  let c31_i32 : BitVec 32 := 31#32
  let v324 : Index := Scalar.indexCast c31_i32
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v325 : Index := Scalar.indexCast v160
  ![31, v325.toNat]
def k0_off267 (k0_t3 : Fin k0_t3_loop.trips) (k0_t15 : Fin k0_t15_loop.trips) : Fin 2 → Nat :=
  let c0_i32_12 : BitVec 32 := 0#32
  let c1_i32_14 : BitVec 32 := 1#32
  let arg28 : BitVec 32 := Scf.iv c0_i32_12 c1_i32_14 k0_t3
  let v335 : Index := Scalar.indexCast arg28
  let c0_i32_89 : BitVec 32 := 0#32
  let c1_i32_91 : BitVec 32 := 1#32
  let arg32 : BitVec 32 := Scf.iv c0_i32_89 c1_i32_91 k0_t15
  let c16_i32_96 : BitVec 32 := 16#32
  let v159 : BitVec 32 := Scalar.muli arg32 c16_i32_96
  let v160 : BitVec 32 := v159
  let v336 : Index := Scalar.indexCast v160
  ![v335.toNat, v336.toNat]
def k0_mult28 (v29 : BitVec 32) (v36 : BitVec 32) (k0_t14 : Fin (k0_t14_loop v29 v36).trips) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c0_i32_96 : BitVec 32 := 0#32
  let v159 : BitVec 32 := Scalar.addi v125 c0_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  v162
def k0_cond26 (v29 : BitVec 32) (v36 : BitVec 32) (k0_t14 : Fin (k0_t14_loop v29 v36).trips) : BitVec 1 :=
  let c6_i32_70 : BitVec 32 := 6#32
  let c0_i32_53 : BitVec 32 := 0#32
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c0_i32_71 : BitVec 32 := 0#32
  let v126 : BitVec 32 := Scalar.addi v125 c0_i32_71
  let v127 : BitVec 1 := Scalar.cmpi .slt v126 v42
  let v128 : BitVec 32 := Scalar.extui v127
  let c0_i32_72 : BitVec 32 := 0#32
  let v129 : BitVec 1 := Scalar.cmpi .ne v128 c0_i32_72
  v129

def k0_cond27 (v29 : BitVec 32) (v36 : BitVec 32) (k0_t14 : Fin (k0_t14_loop v29 v36).trips) : BitVec 1 :=
  let c6_i32_70 : BitVec 32 := 6#32
  let c0_i32_53 : BitVec 32 := 0#32
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c0_i32_93 : BitVec 32 := 0#32
  let v154 : BitVec 32 := Scalar.addi v125 c0_i32_93
  let c6_i32_94 : BitVec 32 := 6#32
  let v155 : BitVec 32 := Scalar.addi v154 c6_i32_94
  let v156 : BitVec 1 := Scalar.cmpi .slt v155 v42
  let v157 : BitVec 32 := Scalar.extui v156
  let c0_i32_95 : BitVec 32 := 0#32
  let v158 : BitVec 1 := Scalar.cmpi .ne v157 c0_i32_95
  v158

def k0_off268 (v29 : BitVec 32) (v36 : BitVec 32) (k0_t14 : Fin (k0_t14_loop v29 v36).trips) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c0_i32_96 : BitVec 32 := 0#32
  let v159 : BitVec 32 := Scalar.addi v125 c0_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  let v163 : BitVec 32 := v162
  let c0_i32_99 : BitVec 32 := 0#32
  ![v163.toNat, 0]
@[reducible] def k0_t16_loop : Scf.Loop 32 :=
  let c0_i32_89 : BitVec 32 := 0#32
  let c16_i32_90 : BitVec 32 := 16#32
  let v152 : BitVec 32 := Scalar.addi c0_i32_89 c16_i32_90
  let c1_i32_91 : BitVec 32 := 1#32
  ⟨c0_i32_89, v152, c1_i32_91⟩
def k0_mult29 (k0_t16 : Fin k0_t16_loop.trips) : BitVec 32 :=
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  v159
def k0_off269 (k0_t16 : Fin k0_t16_loop.trips) : Fin 2 → Nat :=
  let c0_i32_105 : BitVec 32 := 0#32
  let v169 : Index := Scalar.indexCast c0_i32_105
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v170 : Index := Scalar.indexCast v160
  ![0, v170.toNat]
def k0_off270 (k0_t16 : Fin k0_t16_loop.trips) : Fin 2 → Nat :=
  let c1_i32_106 : BitVec 32 := 1#32
  let v174 : Index := Scalar.indexCast c1_i32_106
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v175 : Index := Scalar.indexCast v160
  ![1, v175.toNat]
def k0_off271 (k0_t16 : Fin k0_t16_loop.trips) : Fin 2 → Nat :=
  let c2_i32_107 : BitVec 32 := 2#32
  let v179 : Index := Scalar.indexCast c2_i32_107
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v180 : Index := Scalar.indexCast v160
  ![2, v180.toNat]
def k0_off272 (k0_t16 : Fin k0_t16_loop.trips) : Fin 2 → Nat :=
  let c3_i32_108 : BitVec 32 := 3#32
  let v184 : Index := Scalar.indexCast c3_i32_108
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v185 : Index := Scalar.indexCast v160
  ![3, v185.toNat]
def k0_off273 (k0_t16 : Fin k0_t16_loop.trips) : Fin 2 → Nat :=
  let c4_i32_109 : BitVec 32 := 4#32
  let v189 : Index := Scalar.indexCast c4_i32_109
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v190 : Index := Scalar.indexCast v160
  ![4, v190.toNat]
def k0_off274 (k0_t16 : Fin k0_t16_loop.trips) : Fin 2 → Nat :=
  let c5_i32_110 : BitVec 32 := 5#32
  let v194 : Index := Scalar.indexCast c5_i32_110
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v195 : Index := Scalar.indexCast v160
  ![5, v195.toNat]
def k0_off275 (k0_t16 : Fin k0_t16_loop.trips) : Fin 2 → Nat :=
  let c6_i32_111 : BitVec 32 := 6#32
  let v199 : Index := Scalar.indexCast c6_i32_111
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v200 : Index := Scalar.indexCast v160
  ![6, v200.toNat]
def k0_off276 (k0_t16 : Fin k0_t16_loop.trips) : Fin 2 → Nat :=
  let c7_i32_112 : BitVec 32 := 7#32
  let v204 : Index := Scalar.indexCast c7_i32_112
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v205 : Index := Scalar.indexCast v160
  ![7, v205.toNat]
def k0_off277 (k0_t16 : Fin k0_t16_loop.trips) : Fin 2 → Nat :=
  let c8_i32_113 : BitVec 32 := 8#32
  let v209 : Index := Scalar.indexCast c8_i32_113
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v210 : Index := Scalar.indexCast v160
  ![8, v210.toNat]
def k0_off278 (k0_t16 : Fin k0_t16_loop.trips) : Fin 2 → Nat :=
  let c9_i32 : BitVec 32 := 9#32
  let v214 : Index := Scalar.indexCast c9_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v215 : Index := Scalar.indexCast v160
  ![9, v215.toNat]
def k0_off279 (k0_t16 : Fin k0_t16_loop.trips) : Fin 2 → Nat :=
  let c10_i32 : BitVec 32 := 10#32
  let v219 : Index := Scalar.indexCast c10_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v220 : Index := Scalar.indexCast v160
  ![10, v220.toNat]
def k0_off280 (k0_t16 : Fin k0_t16_loop.trips) : Fin 2 → Nat :=
  let c11_i32 : BitVec 32 := 11#32
  let v224 : Index := Scalar.indexCast c11_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v225 : Index := Scalar.indexCast v160
  ![11, v225.toNat]
def k0_off281 (k0_t16 : Fin k0_t16_loop.trips) : Fin 2 → Nat :=
  let c12_i32 : BitVec 32 := 12#32
  let v229 : Index := Scalar.indexCast c12_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v230 : Index := Scalar.indexCast v160
  ![12, v230.toNat]
def k0_off282 (k0_t16 : Fin k0_t16_loop.trips) : Fin 2 → Nat :=
  let c13_i32 : BitVec 32 := 13#32
  let v234 : Index := Scalar.indexCast c13_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v235 : Index := Scalar.indexCast v160
  ![13, v235.toNat]
def k0_off283 (k0_t16 : Fin k0_t16_loop.trips) : Fin 2 → Nat :=
  let c14_i32 : BitVec 32 := 14#32
  let v239 : Index := Scalar.indexCast c14_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v240 : Index := Scalar.indexCast v160
  ![14, v240.toNat]
def k0_off284 (k0_t16 : Fin k0_t16_loop.trips) : Fin 2 → Nat :=
  let c15_i32 : BitVec 32 := 15#32
  let v244 : Index := Scalar.indexCast c15_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v245 : Index := Scalar.indexCast v160
  ![15, v245.toNat]
def k0_off285 (k0_t16 : Fin k0_t16_loop.trips) : Fin 2 → Nat :=
  let c16_i32_114 : BitVec 32 := 16#32
  let v249 : Index := Scalar.indexCast c16_i32_114
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v250 : Index := Scalar.indexCast v160
  ![16, v250.toNat]
def k0_off286 (k0_t16 : Fin k0_t16_loop.trips) : Fin 2 → Nat :=
  let c17_i32_115 : BitVec 32 := 17#32
  let v254 : Index := Scalar.indexCast c17_i32_115
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v255 : Index := Scalar.indexCast v160
  ![17, v255.toNat]
def k0_off287 (k0_t16 : Fin k0_t16_loop.trips) : Fin 2 → Nat :=
  let c18_i32 : BitVec 32 := 18#32
  let v259 : Index := Scalar.indexCast c18_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v260 : Index := Scalar.indexCast v160
  ![18, v260.toNat]
def k0_off288 (k0_t16 : Fin k0_t16_loop.trips) : Fin 2 → Nat :=
  let c19_i32 : BitVec 32 := 19#32
  let v264 : Index := Scalar.indexCast c19_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v265 : Index := Scalar.indexCast v160
  ![19, v265.toNat]
def k0_off289 (k0_t16 : Fin k0_t16_loop.trips) : Fin 2 → Nat :=
  let c20_i32 : BitVec 32 := 20#32
  let v269 : Index := Scalar.indexCast c20_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v270 : Index := Scalar.indexCast v160
  ![20, v270.toNat]
def k0_off290 (k0_t16 : Fin k0_t16_loop.trips) : Fin 2 → Nat :=
  let c21_i32 : BitVec 32 := 21#32
  let v274 : Index := Scalar.indexCast c21_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v275 : Index := Scalar.indexCast v160
  ![21, v275.toNat]
def k0_off291 (k0_t16 : Fin k0_t16_loop.trips) : Fin 2 → Nat :=
  let c22_i32 : BitVec 32 := 22#32
  let v279 : Index := Scalar.indexCast c22_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v280 : Index := Scalar.indexCast v160
  ![22, v280.toNat]
def k0_off292 (k0_t16 : Fin k0_t16_loop.trips) : Fin 2 → Nat :=
  let c23_i32 : BitVec 32 := 23#32
  let v284 : Index := Scalar.indexCast c23_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v285 : Index := Scalar.indexCast v160
  ![23, v285.toNat]
def k0_off293 (k0_t16 : Fin k0_t16_loop.trips) : Fin 2 → Nat :=
  let c24_i32 : BitVec 32 := 24#32
  let v289 : Index := Scalar.indexCast c24_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v290 : Index := Scalar.indexCast v160
  ![24, v290.toNat]
def k0_off294 (k0_t16 : Fin k0_t16_loop.trips) : Fin 2 → Nat :=
  let c25_i32 : BitVec 32 := 25#32
  let v294 : Index := Scalar.indexCast c25_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v295 : Index := Scalar.indexCast v160
  ![25, v295.toNat]
def k0_off295 (k0_t16 : Fin k0_t16_loop.trips) : Fin 2 → Nat :=
  let c26_i32 : BitVec 32 := 26#32
  let v299 : Index := Scalar.indexCast c26_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v300 : Index := Scalar.indexCast v160
  ![26, v300.toNat]
def k0_off296 (k0_t16 : Fin k0_t16_loop.trips) : Fin 2 → Nat :=
  let c27_i32 : BitVec 32 := 27#32
  let v304 : Index := Scalar.indexCast c27_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v305 : Index := Scalar.indexCast v160
  ![27, v305.toNat]
def k0_off297 (k0_t16 : Fin k0_t16_loop.trips) : Fin 2 → Nat :=
  let c28_i32 : BitVec 32 := 28#32
  let v309 : Index := Scalar.indexCast c28_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v310 : Index := Scalar.indexCast v160
  ![28, v310.toNat]
def k0_off298 (k0_t16 : Fin k0_t16_loop.trips) : Fin 2 → Nat :=
  let c29_i32 : BitVec 32 := 29#32
  let v314 : Index := Scalar.indexCast c29_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v315 : Index := Scalar.indexCast v160
  ![29, v315.toNat]
def k0_off299 (k0_t16 : Fin k0_t16_loop.trips) : Fin 2 → Nat :=
  let c30_i32 : BitVec 32 := 30#32
  let v319 : Index := Scalar.indexCast c30_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v320 : Index := Scalar.indexCast v160
  ![30, v320.toNat]
def k0_off300 (k0_t16 : Fin k0_t16_loop.trips) : Fin 2 → Nat :=
  let c31_i32 : BitVec 32 := 31#32
  let v324 : Index := Scalar.indexCast c31_i32
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v325 : Index := Scalar.indexCast v160
  ![31, v325.toNat]
def k0_off301 (k0_t3 : Fin k0_t3_loop.trips) (k0_t16 : Fin k0_t16_loop.trips) : Fin 2 → Nat :=
  let c0_i32_12 : BitVec 32 := 0#32
  let c1_i32_14 : BitVec 32 := 1#32
  let arg28 : BitVec 32 := Scf.iv c0_i32_12 c1_i32_14 k0_t3
  let v335 : Index := Scalar.indexCast arg28
  let c0_i32_89 : BitVec 32 := 0#32
  let c1_i32_91 : BitVec 32 := 1#32
  let arg32 : BitVec 32 := Scf.iv c0_i32_89 c1_i32_91 k0_t16
  let c16_i32_96 : BitVec 32 := 16#32
  let v159 : BitVec 32 := Scalar.muli arg32 c16_i32_96
  let v160 : BitVec 32 := v159
  let v336 : Index := Scalar.indexCast v160
  ![v335.toNat, v336.toNat]
def k0_mult30 (v29 : BitVec 32) (v36 : BitVec 32) (k0_t14 : Fin (k0_t14_loop v29 v36).trips) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c1_i32_96 : BitVec 32 := 1#32
  let v159 : BitVec 32 := Scalar.addi v125 c1_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  v162
def k0_cond28 (v29 : BitVec 32) (v36 : BitVec 32) (k0_t14 : Fin (k0_t14_loop v29 v36).trips) : BitVec 1 :=
  let c6_i32_70 : BitVec 32 := 6#32
  let c0_i32_53 : BitVec 32 := 0#32
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c1_i32_73 : BitVec 32 := 1#32
  let v130 : BitVec 32 := Scalar.addi v125 c1_i32_73
  let v131 : BitVec 1 := Scalar.cmpi .slt v130 v42
  let v132 : BitVec 32 := Scalar.extui v131
  let c0_i32_74 : BitVec 32 := 0#32
  let v133 : BitVec 1 := Scalar.cmpi .ne v132 c0_i32_74
  v133

def k0_cond29 (v29 : BitVec 32) (v36 : BitVec 32) (k0_t14 : Fin (k0_t14_loop v29 v36).trips) : BitVec 1 :=
  let c6_i32_70 : BitVec 32 := 6#32
  let c0_i32_53 : BitVec 32 := 0#32
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c1_i32_93 : BitVec 32 := 1#32
  let v154 : BitVec 32 := Scalar.addi v125 c1_i32_93
  let c6_i32_94 : BitVec 32 := 6#32
  let v155 : BitVec 32 := Scalar.addi v154 c6_i32_94
  let v156 : BitVec 1 := Scalar.cmpi .slt v155 v42
  let v157 : BitVec 32 := Scalar.extui v156
  let c0_i32_95 : BitVec 32 := 0#32
  let v158 : BitVec 1 := Scalar.cmpi .ne v157 c0_i32_95
  v158

def k0_off302 (v29 : BitVec 32) (v36 : BitVec 32) (k0_t14 : Fin (k0_t14_loop v29 v36).trips) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c1_i32_96 : BitVec 32 := 1#32
  let v159 : BitVec 32 := Scalar.addi v125 c1_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  let v163 : BitVec 32 := v162
  let c0_i32_99 : BitVec 32 := 0#32
  ![v163.toNat, 0]
@[reducible] def k0_t17_loop : Scf.Loop 32 :=
  let c0_i32_89 : BitVec 32 := 0#32
  let c16_i32_90 : BitVec 32 := 16#32
  let v152 : BitVec 32 := Scalar.addi c0_i32_89 c16_i32_90
  let c1_i32_91 : BitVec 32 := 1#32
  ⟨c0_i32_89, v152, c1_i32_91⟩
def k0_mult31 (k0_t17 : Fin k0_t17_loop.trips) : BitVec 32 :=
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  v159
def k0_off303 (k0_t17 : Fin k0_t17_loop.trips) : Fin 2 → Nat :=
  let c0_i32_105 : BitVec 32 := 0#32
  let v169 : Index := Scalar.indexCast c0_i32_105
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v170 : Index := Scalar.indexCast v160
  ![0, v170.toNat]
def k0_off304 (k0_t17 : Fin k0_t17_loop.trips) : Fin 2 → Nat :=
  let c1_i32_106 : BitVec 32 := 1#32
  let v174 : Index := Scalar.indexCast c1_i32_106
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v175 : Index := Scalar.indexCast v160
  ![1, v175.toNat]
def k0_off305 (k0_t17 : Fin k0_t17_loop.trips) : Fin 2 → Nat :=
  let c2_i32_107 : BitVec 32 := 2#32
  let v179 : Index := Scalar.indexCast c2_i32_107
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v180 : Index := Scalar.indexCast v160
  ![2, v180.toNat]
def k0_off306 (k0_t17 : Fin k0_t17_loop.trips) : Fin 2 → Nat :=
  let c3_i32_108 : BitVec 32 := 3#32
  let v184 : Index := Scalar.indexCast c3_i32_108
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v185 : Index := Scalar.indexCast v160
  ![3, v185.toNat]
def k0_off307 (k0_t17 : Fin k0_t17_loop.trips) : Fin 2 → Nat :=
  let c4_i32_109 : BitVec 32 := 4#32
  let v189 : Index := Scalar.indexCast c4_i32_109
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v190 : Index := Scalar.indexCast v160
  ![4, v190.toNat]
def k0_off308 (k0_t17 : Fin k0_t17_loop.trips) : Fin 2 → Nat :=
  let c5_i32_110 : BitVec 32 := 5#32
  let v194 : Index := Scalar.indexCast c5_i32_110
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v195 : Index := Scalar.indexCast v160
  ![5, v195.toNat]
def k0_off309 (k0_t17 : Fin k0_t17_loop.trips) : Fin 2 → Nat :=
  let c6_i32_111 : BitVec 32 := 6#32
  let v199 : Index := Scalar.indexCast c6_i32_111
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v200 : Index := Scalar.indexCast v160
  ![6, v200.toNat]
def k0_off310 (k0_t17 : Fin k0_t17_loop.trips) : Fin 2 → Nat :=
  let c7_i32_112 : BitVec 32 := 7#32
  let v204 : Index := Scalar.indexCast c7_i32_112
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v205 : Index := Scalar.indexCast v160
  ![7, v205.toNat]
def k0_off311 (k0_t17 : Fin k0_t17_loop.trips) : Fin 2 → Nat :=
  let c8_i32_113 : BitVec 32 := 8#32
  let v209 : Index := Scalar.indexCast c8_i32_113
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v210 : Index := Scalar.indexCast v160
  ![8, v210.toNat]
def k0_off312 (k0_t17 : Fin k0_t17_loop.trips) : Fin 2 → Nat :=
  let c9_i32 : BitVec 32 := 9#32
  let v214 : Index := Scalar.indexCast c9_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v215 : Index := Scalar.indexCast v160
  ![9, v215.toNat]
def k0_off313 (k0_t17 : Fin k0_t17_loop.trips) : Fin 2 → Nat :=
  let c10_i32 : BitVec 32 := 10#32
  let v219 : Index := Scalar.indexCast c10_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v220 : Index := Scalar.indexCast v160
  ![10, v220.toNat]
def k0_off314 (k0_t17 : Fin k0_t17_loop.trips) : Fin 2 → Nat :=
  let c11_i32 : BitVec 32 := 11#32
  let v224 : Index := Scalar.indexCast c11_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v225 : Index := Scalar.indexCast v160
  ![11, v225.toNat]
def k0_off315 (k0_t17 : Fin k0_t17_loop.trips) : Fin 2 → Nat :=
  let c12_i32 : BitVec 32 := 12#32
  let v229 : Index := Scalar.indexCast c12_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v230 : Index := Scalar.indexCast v160
  ![12, v230.toNat]
def k0_off316 (k0_t17 : Fin k0_t17_loop.trips) : Fin 2 → Nat :=
  let c13_i32 : BitVec 32 := 13#32
  let v234 : Index := Scalar.indexCast c13_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v235 : Index := Scalar.indexCast v160
  ![13, v235.toNat]
def k0_off317 (k0_t17 : Fin k0_t17_loop.trips) : Fin 2 → Nat :=
  let c14_i32 : BitVec 32 := 14#32
  let v239 : Index := Scalar.indexCast c14_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v240 : Index := Scalar.indexCast v160
  ![14, v240.toNat]
def k0_off318 (k0_t17 : Fin k0_t17_loop.trips) : Fin 2 → Nat :=
  let c15_i32 : BitVec 32 := 15#32
  let v244 : Index := Scalar.indexCast c15_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v245 : Index := Scalar.indexCast v160
  ![15, v245.toNat]
def k0_off319 (k0_t17 : Fin k0_t17_loop.trips) : Fin 2 → Nat :=
  let c16_i32_114 : BitVec 32 := 16#32
  let v249 : Index := Scalar.indexCast c16_i32_114
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v250 : Index := Scalar.indexCast v160
  ![16, v250.toNat]
def k0_off320 (k0_t17 : Fin k0_t17_loop.trips) : Fin 2 → Nat :=
  let c17_i32_115 : BitVec 32 := 17#32
  let v254 : Index := Scalar.indexCast c17_i32_115
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v255 : Index := Scalar.indexCast v160
  ![17, v255.toNat]
def k0_off321 (k0_t17 : Fin k0_t17_loop.trips) : Fin 2 → Nat :=
  let c18_i32 : BitVec 32 := 18#32
  let v259 : Index := Scalar.indexCast c18_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v260 : Index := Scalar.indexCast v160
  ![18, v260.toNat]
def k0_off322 (k0_t17 : Fin k0_t17_loop.trips) : Fin 2 → Nat :=
  let c19_i32 : BitVec 32 := 19#32
  let v264 : Index := Scalar.indexCast c19_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v265 : Index := Scalar.indexCast v160
  ![19, v265.toNat]
def k0_off323 (k0_t17 : Fin k0_t17_loop.trips) : Fin 2 → Nat :=
  let c20_i32 : BitVec 32 := 20#32
  let v269 : Index := Scalar.indexCast c20_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v270 : Index := Scalar.indexCast v160
  ![20, v270.toNat]
def k0_off324 (k0_t17 : Fin k0_t17_loop.trips) : Fin 2 → Nat :=
  let c21_i32 : BitVec 32 := 21#32
  let v274 : Index := Scalar.indexCast c21_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v275 : Index := Scalar.indexCast v160
  ![21, v275.toNat]
def k0_off325 (k0_t17 : Fin k0_t17_loop.trips) : Fin 2 → Nat :=
  let c22_i32 : BitVec 32 := 22#32
  let v279 : Index := Scalar.indexCast c22_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v280 : Index := Scalar.indexCast v160
  ![22, v280.toNat]
def k0_off326 (k0_t17 : Fin k0_t17_loop.trips) : Fin 2 → Nat :=
  let c23_i32 : BitVec 32 := 23#32
  let v284 : Index := Scalar.indexCast c23_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v285 : Index := Scalar.indexCast v160
  ![23, v285.toNat]
def k0_off327 (k0_t17 : Fin k0_t17_loop.trips) : Fin 2 → Nat :=
  let c24_i32 : BitVec 32 := 24#32
  let v289 : Index := Scalar.indexCast c24_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v290 : Index := Scalar.indexCast v160
  ![24, v290.toNat]
def k0_off328 (k0_t17 : Fin k0_t17_loop.trips) : Fin 2 → Nat :=
  let c25_i32 : BitVec 32 := 25#32
  let v294 : Index := Scalar.indexCast c25_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v295 : Index := Scalar.indexCast v160
  ![25, v295.toNat]
def k0_off329 (k0_t17 : Fin k0_t17_loop.trips) : Fin 2 → Nat :=
  let c26_i32 : BitVec 32 := 26#32
  let v299 : Index := Scalar.indexCast c26_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v300 : Index := Scalar.indexCast v160
  ![26, v300.toNat]
def k0_off330 (k0_t17 : Fin k0_t17_loop.trips) : Fin 2 → Nat :=
  let c27_i32 : BitVec 32 := 27#32
  let v304 : Index := Scalar.indexCast c27_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v305 : Index := Scalar.indexCast v160
  ![27, v305.toNat]
def k0_off331 (k0_t17 : Fin k0_t17_loop.trips) : Fin 2 → Nat :=
  let c28_i32 : BitVec 32 := 28#32
  let v309 : Index := Scalar.indexCast c28_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v310 : Index := Scalar.indexCast v160
  ![28, v310.toNat]
def k0_off332 (k0_t17 : Fin k0_t17_loop.trips) : Fin 2 → Nat :=
  let c29_i32 : BitVec 32 := 29#32
  let v314 : Index := Scalar.indexCast c29_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v315 : Index := Scalar.indexCast v160
  ![29, v315.toNat]
def k0_off333 (k0_t17 : Fin k0_t17_loop.trips) : Fin 2 → Nat :=
  let c30_i32 : BitVec 32 := 30#32
  let v319 : Index := Scalar.indexCast c30_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v320 : Index := Scalar.indexCast v160
  ![30, v320.toNat]
def k0_off334 (k0_t17 : Fin k0_t17_loop.trips) : Fin 2 → Nat :=
  let c31_i32 : BitVec 32 := 31#32
  let v324 : Index := Scalar.indexCast c31_i32
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v325 : Index := Scalar.indexCast v160
  ![31, v325.toNat]
def k0_off335 (k0_t3 : Fin k0_t3_loop.trips) (k0_t17 : Fin k0_t17_loop.trips) : Fin 2 → Nat :=
  let c0_i32_12 : BitVec 32 := 0#32
  let c1_i32_14 : BitVec 32 := 1#32
  let arg28 : BitVec 32 := Scf.iv c0_i32_12 c1_i32_14 k0_t3
  let v335 : Index := Scalar.indexCast arg28
  let c0_i32_89 : BitVec 32 := 0#32
  let c1_i32_91 : BitVec 32 := 1#32
  let arg32 : BitVec 32 := Scf.iv c0_i32_89 c1_i32_91 k0_t17
  let c16_i32_96 : BitVec 32 := 16#32
  let v159 : BitVec 32 := Scalar.muli arg32 c16_i32_96
  let v160 : BitVec 32 := v159
  let v336 : Index := Scalar.indexCast v160
  ![v335.toNat, v336.toNat]
def k0_mult32 (v29 : BitVec 32) (v36 : BitVec 32) (k0_t14 : Fin (k0_t14_loop v29 v36).trips) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c2_i32_96 : BitVec 32 := 2#32
  let v159 : BitVec 32 := Scalar.addi v125 c2_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  v162
def k0_cond30 (v29 : BitVec 32) (v36 : BitVec 32) (k0_t14 : Fin (k0_t14_loop v29 v36).trips) : BitVec 1 :=
  let c6_i32_70 : BitVec 32 := 6#32
  let c0_i32_53 : BitVec 32 := 0#32
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c2_i32_75 : BitVec 32 := 2#32
  let v134 : BitVec 32 := Scalar.addi v125 c2_i32_75
  let v135 : BitVec 1 := Scalar.cmpi .slt v134 v42
  let v136 : BitVec 32 := Scalar.extui v135
  let c0_i32_76 : BitVec 32 := 0#32
  let v137 : BitVec 1 := Scalar.cmpi .ne v136 c0_i32_76
  v137

def k0_cond31 (v29 : BitVec 32) (v36 : BitVec 32) (k0_t14 : Fin (k0_t14_loop v29 v36).trips) : BitVec 1 :=
  let c6_i32_70 : BitVec 32 := 6#32
  let c0_i32_53 : BitVec 32 := 0#32
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c2_i32_93 : BitVec 32 := 2#32
  let v154 : BitVec 32 := Scalar.addi v125 c2_i32_93
  let c6_i32_94 : BitVec 32 := 6#32
  let v155 : BitVec 32 := Scalar.addi v154 c6_i32_94
  let v156 : BitVec 1 := Scalar.cmpi .slt v155 v42
  let v157 : BitVec 32 := Scalar.extui v156
  let c0_i32_95 : BitVec 32 := 0#32
  let v158 : BitVec 1 := Scalar.cmpi .ne v157 c0_i32_95
  v158

def k0_off336 (v29 : BitVec 32) (v36 : BitVec 32) (k0_t14 : Fin (k0_t14_loop v29 v36).trips) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c2_i32_96 : BitVec 32 := 2#32
  let v159 : BitVec 32 := Scalar.addi v125 c2_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  let v163 : BitVec 32 := v162
  let c0_i32_99 : BitVec 32 := 0#32
  ![v163.toNat, 0]
@[reducible] def k0_t18_loop : Scf.Loop 32 :=
  let c0_i32_89 : BitVec 32 := 0#32
  let c16_i32_90 : BitVec 32 := 16#32
  let v152 : BitVec 32 := Scalar.addi c0_i32_89 c16_i32_90
  let c1_i32_91 : BitVec 32 := 1#32
  ⟨c0_i32_89, v152, c1_i32_91⟩
def k0_mult33 (k0_t18 : Fin k0_t18_loop.trips) : BitVec 32 :=
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  v159
def k0_off337 (k0_t18 : Fin k0_t18_loop.trips) : Fin 2 → Nat :=
  let c0_i32_105 : BitVec 32 := 0#32
  let v169 : Index := Scalar.indexCast c0_i32_105
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v170 : Index := Scalar.indexCast v160
  ![0, v170.toNat]
def k0_off338 (k0_t18 : Fin k0_t18_loop.trips) : Fin 2 → Nat :=
  let c1_i32_106 : BitVec 32 := 1#32
  let v174 : Index := Scalar.indexCast c1_i32_106
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v175 : Index := Scalar.indexCast v160
  ![1, v175.toNat]
def k0_off339 (k0_t18 : Fin k0_t18_loop.trips) : Fin 2 → Nat :=
  let c2_i32_107 : BitVec 32 := 2#32
  let v179 : Index := Scalar.indexCast c2_i32_107
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v180 : Index := Scalar.indexCast v160
  ![2, v180.toNat]
def k0_off340 (k0_t18 : Fin k0_t18_loop.trips) : Fin 2 → Nat :=
  let c3_i32_108 : BitVec 32 := 3#32
  let v184 : Index := Scalar.indexCast c3_i32_108
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v185 : Index := Scalar.indexCast v160
  ![3, v185.toNat]
def k0_off341 (k0_t18 : Fin k0_t18_loop.trips) : Fin 2 → Nat :=
  let c4_i32_109 : BitVec 32 := 4#32
  let v189 : Index := Scalar.indexCast c4_i32_109
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v190 : Index := Scalar.indexCast v160
  ![4, v190.toNat]
def k0_off342 (k0_t18 : Fin k0_t18_loop.trips) : Fin 2 → Nat :=
  let c5_i32_110 : BitVec 32 := 5#32
  let v194 : Index := Scalar.indexCast c5_i32_110
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v195 : Index := Scalar.indexCast v160
  ![5, v195.toNat]
def k0_off343 (k0_t18 : Fin k0_t18_loop.trips) : Fin 2 → Nat :=
  let c6_i32_111 : BitVec 32 := 6#32
  let v199 : Index := Scalar.indexCast c6_i32_111
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v200 : Index := Scalar.indexCast v160
  ![6, v200.toNat]
def k0_off344 (k0_t18 : Fin k0_t18_loop.trips) : Fin 2 → Nat :=
  let c7_i32_112 : BitVec 32 := 7#32
  let v204 : Index := Scalar.indexCast c7_i32_112
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v205 : Index := Scalar.indexCast v160
  ![7, v205.toNat]
def k0_off345 (k0_t18 : Fin k0_t18_loop.trips) : Fin 2 → Nat :=
  let c8_i32_113 : BitVec 32 := 8#32
  let v209 : Index := Scalar.indexCast c8_i32_113
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v210 : Index := Scalar.indexCast v160
  ![8, v210.toNat]
def k0_off346 (k0_t18 : Fin k0_t18_loop.trips) : Fin 2 → Nat :=
  let c9_i32 : BitVec 32 := 9#32
  let v214 : Index := Scalar.indexCast c9_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v215 : Index := Scalar.indexCast v160
  ![9, v215.toNat]
def k0_off347 (k0_t18 : Fin k0_t18_loop.trips) : Fin 2 → Nat :=
  let c10_i32 : BitVec 32 := 10#32
  let v219 : Index := Scalar.indexCast c10_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v220 : Index := Scalar.indexCast v160
  ![10, v220.toNat]
def k0_off348 (k0_t18 : Fin k0_t18_loop.trips) : Fin 2 → Nat :=
  let c11_i32 : BitVec 32 := 11#32
  let v224 : Index := Scalar.indexCast c11_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v225 : Index := Scalar.indexCast v160
  ![11, v225.toNat]
def k0_off349 (k0_t18 : Fin k0_t18_loop.trips) : Fin 2 → Nat :=
  let c12_i32 : BitVec 32 := 12#32
  let v229 : Index := Scalar.indexCast c12_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v230 : Index := Scalar.indexCast v160
  ![12, v230.toNat]
def k0_off350 (k0_t18 : Fin k0_t18_loop.trips) : Fin 2 → Nat :=
  let c13_i32 : BitVec 32 := 13#32
  let v234 : Index := Scalar.indexCast c13_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v235 : Index := Scalar.indexCast v160
  ![13, v235.toNat]
def k0_off351 (k0_t18 : Fin k0_t18_loop.trips) : Fin 2 → Nat :=
  let c14_i32 : BitVec 32 := 14#32
  let v239 : Index := Scalar.indexCast c14_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v240 : Index := Scalar.indexCast v160
  ![14, v240.toNat]
def k0_off352 (k0_t18 : Fin k0_t18_loop.trips) : Fin 2 → Nat :=
  let c15_i32 : BitVec 32 := 15#32
  let v244 : Index := Scalar.indexCast c15_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v245 : Index := Scalar.indexCast v160
  ![15, v245.toNat]
def k0_off353 (k0_t18 : Fin k0_t18_loop.trips) : Fin 2 → Nat :=
  let c16_i32_114 : BitVec 32 := 16#32
  let v249 : Index := Scalar.indexCast c16_i32_114
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v250 : Index := Scalar.indexCast v160
  ![16, v250.toNat]
def k0_off354 (k0_t18 : Fin k0_t18_loop.trips) : Fin 2 → Nat :=
  let c17_i32_115 : BitVec 32 := 17#32
  let v254 : Index := Scalar.indexCast c17_i32_115
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v255 : Index := Scalar.indexCast v160
  ![17, v255.toNat]
def k0_off355 (k0_t18 : Fin k0_t18_loop.trips) : Fin 2 → Nat :=
  let c18_i32 : BitVec 32 := 18#32
  let v259 : Index := Scalar.indexCast c18_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v260 : Index := Scalar.indexCast v160
  ![18, v260.toNat]
def k0_off356 (k0_t18 : Fin k0_t18_loop.trips) : Fin 2 → Nat :=
  let c19_i32 : BitVec 32 := 19#32
  let v264 : Index := Scalar.indexCast c19_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v265 : Index := Scalar.indexCast v160
  ![19, v265.toNat]
def k0_off357 (k0_t18 : Fin k0_t18_loop.trips) : Fin 2 → Nat :=
  let c20_i32 : BitVec 32 := 20#32
  let v269 : Index := Scalar.indexCast c20_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v270 : Index := Scalar.indexCast v160
  ![20, v270.toNat]
def k0_off358 (k0_t18 : Fin k0_t18_loop.trips) : Fin 2 → Nat :=
  let c21_i32 : BitVec 32 := 21#32
  let v274 : Index := Scalar.indexCast c21_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v275 : Index := Scalar.indexCast v160
  ![21, v275.toNat]
def k0_off359 (k0_t18 : Fin k0_t18_loop.trips) : Fin 2 → Nat :=
  let c22_i32 : BitVec 32 := 22#32
  let v279 : Index := Scalar.indexCast c22_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v280 : Index := Scalar.indexCast v160
  ![22, v280.toNat]
def k0_off360 (k0_t18 : Fin k0_t18_loop.trips) : Fin 2 → Nat :=
  let c23_i32 : BitVec 32 := 23#32
  let v284 : Index := Scalar.indexCast c23_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v285 : Index := Scalar.indexCast v160
  ![23, v285.toNat]
def k0_off361 (k0_t18 : Fin k0_t18_loop.trips) : Fin 2 → Nat :=
  let c24_i32 : BitVec 32 := 24#32
  let v289 : Index := Scalar.indexCast c24_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v290 : Index := Scalar.indexCast v160
  ![24, v290.toNat]
def k0_off362 (k0_t18 : Fin k0_t18_loop.trips) : Fin 2 → Nat :=
  let c25_i32 : BitVec 32 := 25#32
  let v294 : Index := Scalar.indexCast c25_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v295 : Index := Scalar.indexCast v160
  ![25, v295.toNat]
def k0_off363 (k0_t18 : Fin k0_t18_loop.trips) : Fin 2 → Nat :=
  let c26_i32 : BitVec 32 := 26#32
  let v299 : Index := Scalar.indexCast c26_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v300 : Index := Scalar.indexCast v160
  ![26, v300.toNat]
def k0_off364 (k0_t18 : Fin k0_t18_loop.trips) : Fin 2 → Nat :=
  let c27_i32 : BitVec 32 := 27#32
  let v304 : Index := Scalar.indexCast c27_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v305 : Index := Scalar.indexCast v160
  ![27, v305.toNat]
def k0_off365 (k0_t18 : Fin k0_t18_loop.trips) : Fin 2 → Nat :=
  let c28_i32 : BitVec 32 := 28#32
  let v309 : Index := Scalar.indexCast c28_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v310 : Index := Scalar.indexCast v160
  ![28, v310.toNat]
def k0_off366 (k0_t18 : Fin k0_t18_loop.trips) : Fin 2 → Nat :=
  let c29_i32 : BitVec 32 := 29#32
  let v314 : Index := Scalar.indexCast c29_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v315 : Index := Scalar.indexCast v160
  ![29, v315.toNat]
def k0_off367 (k0_t18 : Fin k0_t18_loop.trips) : Fin 2 → Nat :=
  let c30_i32 : BitVec 32 := 30#32
  let v319 : Index := Scalar.indexCast c30_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v320 : Index := Scalar.indexCast v160
  ![30, v320.toNat]
def k0_off368 (k0_t18 : Fin k0_t18_loop.trips) : Fin 2 → Nat :=
  let c31_i32 : BitVec 32 := 31#32
  let v324 : Index := Scalar.indexCast c31_i32
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v325 : Index := Scalar.indexCast v160
  ![31, v325.toNat]
def k0_off369 (k0_t3 : Fin k0_t3_loop.trips) (k0_t18 : Fin k0_t18_loop.trips) : Fin 2 → Nat :=
  let c0_i32_12 : BitVec 32 := 0#32
  let c1_i32_14 : BitVec 32 := 1#32
  let arg28 : BitVec 32 := Scf.iv c0_i32_12 c1_i32_14 k0_t3
  let v335 : Index := Scalar.indexCast arg28
  let c0_i32_89 : BitVec 32 := 0#32
  let c1_i32_91 : BitVec 32 := 1#32
  let arg32 : BitVec 32 := Scf.iv c0_i32_89 c1_i32_91 k0_t18
  let c16_i32_96 : BitVec 32 := 16#32
  let v159 : BitVec 32 := Scalar.muli arg32 c16_i32_96
  let v160 : BitVec 32 := v159
  let v336 : Index := Scalar.indexCast v160
  ![v335.toNat, v336.toNat]
def k0_mult34 (v29 : BitVec 32) (v36 : BitVec 32) (k0_t14 : Fin (k0_t14_loop v29 v36).trips) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c3_i32_96 : BitVec 32 := 3#32
  let v159 : BitVec 32 := Scalar.addi v125 c3_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  v162
def k0_cond32 (v29 : BitVec 32) (v36 : BitVec 32) (k0_t14 : Fin (k0_t14_loop v29 v36).trips) : BitVec 1 :=
  let c6_i32_70 : BitVec 32 := 6#32
  let c0_i32_53 : BitVec 32 := 0#32
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c3_i32_77 : BitVec 32 := 3#32
  let v138 : BitVec 32 := Scalar.addi v125 c3_i32_77
  let v139 : BitVec 1 := Scalar.cmpi .slt v138 v42
  let v140 : BitVec 32 := Scalar.extui v139
  let c0_i32_78 : BitVec 32 := 0#32
  let v141 : BitVec 1 := Scalar.cmpi .ne v140 c0_i32_78
  v141

def k0_cond33 (v29 : BitVec 32) (v36 : BitVec 32) (k0_t14 : Fin (k0_t14_loop v29 v36).trips) : BitVec 1 :=
  let c6_i32_70 : BitVec 32 := 6#32
  let c0_i32_53 : BitVec 32 := 0#32
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c3_i32_93 : BitVec 32 := 3#32
  let v154 : BitVec 32 := Scalar.addi v125 c3_i32_93
  let c6_i32_94 : BitVec 32 := 6#32
  let v155 : BitVec 32 := Scalar.addi v154 c6_i32_94
  let v156 : BitVec 1 := Scalar.cmpi .slt v155 v42
  let v157 : BitVec 32 := Scalar.extui v156
  let c0_i32_95 : BitVec 32 := 0#32
  let v158 : BitVec 1 := Scalar.cmpi .ne v157 c0_i32_95
  v158

def k0_off370 (v29 : BitVec 32) (v36 : BitVec 32) (k0_t14 : Fin (k0_t14_loop v29 v36).trips) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c3_i32_96 : BitVec 32 := 3#32
  let v159 : BitVec 32 := Scalar.addi v125 c3_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  let v163 : BitVec 32 := v162
  let c0_i32_99 : BitVec 32 := 0#32
  ![v163.toNat, 0]
@[reducible] def k0_t19_loop : Scf.Loop 32 :=
  let c0_i32_89 : BitVec 32 := 0#32
  let c16_i32_90 : BitVec 32 := 16#32
  let v152 : BitVec 32 := Scalar.addi c0_i32_89 c16_i32_90
  let c1_i32_91 : BitVec 32 := 1#32
  ⟨c0_i32_89, v152, c1_i32_91⟩
def k0_mult35 (k0_t19 : Fin k0_t19_loop.trips) : BitVec 32 :=
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  v159
def k0_off371 (k0_t19 : Fin k0_t19_loop.trips) : Fin 2 → Nat :=
  let c0_i32_105 : BitVec 32 := 0#32
  let v169 : Index := Scalar.indexCast c0_i32_105
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v170 : Index := Scalar.indexCast v160
  ![0, v170.toNat]
def k0_off372 (k0_t19 : Fin k0_t19_loop.trips) : Fin 2 → Nat :=
  let c1_i32_106 : BitVec 32 := 1#32
  let v174 : Index := Scalar.indexCast c1_i32_106
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v175 : Index := Scalar.indexCast v160
  ![1, v175.toNat]
def k0_off373 (k0_t19 : Fin k0_t19_loop.trips) : Fin 2 → Nat :=
  let c2_i32_107 : BitVec 32 := 2#32
  let v179 : Index := Scalar.indexCast c2_i32_107
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v180 : Index := Scalar.indexCast v160
  ![2, v180.toNat]
def k0_off374 (k0_t19 : Fin k0_t19_loop.trips) : Fin 2 → Nat :=
  let c3_i32_108 : BitVec 32 := 3#32
  let v184 : Index := Scalar.indexCast c3_i32_108
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v185 : Index := Scalar.indexCast v160
  ![3, v185.toNat]
def k0_off375 (k0_t19 : Fin k0_t19_loop.trips) : Fin 2 → Nat :=
  let c4_i32_109 : BitVec 32 := 4#32
  let v189 : Index := Scalar.indexCast c4_i32_109
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v190 : Index := Scalar.indexCast v160
  ![4, v190.toNat]
def k0_off376 (k0_t19 : Fin k0_t19_loop.trips) : Fin 2 → Nat :=
  let c5_i32_110 : BitVec 32 := 5#32
  let v194 : Index := Scalar.indexCast c5_i32_110
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v195 : Index := Scalar.indexCast v160
  ![5, v195.toNat]
def k0_off377 (k0_t19 : Fin k0_t19_loop.trips) : Fin 2 → Nat :=
  let c6_i32_111 : BitVec 32 := 6#32
  let v199 : Index := Scalar.indexCast c6_i32_111
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v200 : Index := Scalar.indexCast v160
  ![6, v200.toNat]
def k0_off378 (k0_t19 : Fin k0_t19_loop.trips) : Fin 2 → Nat :=
  let c7_i32_112 : BitVec 32 := 7#32
  let v204 : Index := Scalar.indexCast c7_i32_112
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v205 : Index := Scalar.indexCast v160
  ![7, v205.toNat]
def k0_off379 (k0_t19 : Fin k0_t19_loop.trips) : Fin 2 → Nat :=
  let c8_i32_113 : BitVec 32 := 8#32
  let v209 : Index := Scalar.indexCast c8_i32_113
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v210 : Index := Scalar.indexCast v160
  ![8, v210.toNat]
def k0_off380 (k0_t19 : Fin k0_t19_loop.trips) : Fin 2 → Nat :=
  let c9_i32 : BitVec 32 := 9#32
  let v214 : Index := Scalar.indexCast c9_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v215 : Index := Scalar.indexCast v160
  ![9, v215.toNat]
def k0_off381 (k0_t19 : Fin k0_t19_loop.trips) : Fin 2 → Nat :=
  let c10_i32 : BitVec 32 := 10#32
  let v219 : Index := Scalar.indexCast c10_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v220 : Index := Scalar.indexCast v160
  ![10, v220.toNat]
def k0_off382 (k0_t19 : Fin k0_t19_loop.trips) : Fin 2 → Nat :=
  let c11_i32 : BitVec 32 := 11#32
  let v224 : Index := Scalar.indexCast c11_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v225 : Index := Scalar.indexCast v160
  ![11, v225.toNat]
def k0_off383 (k0_t19 : Fin k0_t19_loop.trips) : Fin 2 → Nat :=
  let c12_i32 : BitVec 32 := 12#32
  let v229 : Index := Scalar.indexCast c12_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v230 : Index := Scalar.indexCast v160
  ![12, v230.toNat]
def k0_off384 (k0_t19 : Fin k0_t19_loop.trips) : Fin 2 → Nat :=
  let c13_i32 : BitVec 32 := 13#32
  let v234 : Index := Scalar.indexCast c13_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v235 : Index := Scalar.indexCast v160
  ![13, v235.toNat]
def k0_off385 (k0_t19 : Fin k0_t19_loop.trips) : Fin 2 → Nat :=
  let c14_i32 : BitVec 32 := 14#32
  let v239 : Index := Scalar.indexCast c14_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v240 : Index := Scalar.indexCast v160
  ![14, v240.toNat]
def k0_off386 (k0_t19 : Fin k0_t19_loop.trips) : Fin 2 → Nat :=
  let c15_i32 : BitVec 32 := 15#32
  let v244 : Index := Scalar.indexCast c15_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v245 : Index := Scalar.indexCast v160
  ![15, v245.toNat]
def k0_off387 (k0_t19 : Fin k0_t19_loop.trips) : Fin 2 → Nat :=
  let c16_i32_114 : BitVec 32 := 16#32
  let v249 : Index := Scalar.indexCast c16_i32_114
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v250 : Index := Scalar.indexCast v160
  ![16, v250.toNat]
def k0_off388 (k0_t19 : Fin k0_t19_loop.trips) : Fin 2 → Nat :=
  let c17_i32_115 : BitVec 32 := 17#32
  let v254 : Index := Scalar.indexCast c17_i32_115
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v255 : Index := Scalar.indexCast v160
  ![17, v255.toNat]
def k0_off389 (k0_t19 : Fin k0_t19_loop.trips) : Fin 2 → Nat :=
  let c18_i32 : BitVec 32 := 18#32
  let v259 : Index := Scalar.indexCast c18_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v260 : Index := Scalar.indexCast v160
  ![18, v260.toNat]
def k0_off390 (k0_t19 : Fin k0_t19_loop.trips) : Fin 2 → Nat :=
  let c19_i32 : BitVec 32 := 19#32
  let v264 : Index := Scalar.indexCast c19_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v265 : Index := Scalar.indexCast v160
  ![19, v265.toNat]
def k0_off391 (k0_t19 : Fin k0_t19_loop.trips) : Fin 2 → Nat :=
  let c20_i32 : BitVec 32 := 20#32
  let v269 : Index := Scalar.indexCast c20_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v270 : Index := Scalar.indexCast v160
  ![20, v270.toNat]
def k0_off392 (k0_t19 : Fin k0_t19_loop.trips) : Fin 2 → Nat :=
  let c21_i32 : BitVec 32 := 21#32
  let v274 : Index := Scalar.indexCast c21_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v275 : Index := Scalar.indexCast v160
  ![21, v275.toNat]
def k0_off393 (k0_t19 : Fin k0_t19_loop.trips) : Fin 2 → Nat :=
  let c22_i32 : BitVec 32 := 22#32
  let v279 : Index := Scalar.indexCast c22_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v280 : Index := Scalar.indexCast v160
  ![22, v280.toNat]
def k0_off394 (k0_t19 : Fin k0_t19_loop.trips) : Fin 2 → Nat :=
  let c23_i32 : BitVec 32 := 23#32
  let v284 : Index := Scalar.indexCast c23_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v285 : Index := Scalar.indexCast v160
  ![23, v285.toNat]
def k0_off395 (k0_t19 : Fin k0_t19_loop.trips) : Fin 2 → Nat :=
  let c24_i32 : BitVec 32 := 24#32
  let v289 : Index := Scalar.indexCast c24_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v290 : Index := Scalar.indexCast v160
  ![24, v290.toNat]
def k0_off396 (k0_t19 : Fin k0_t19_loop.trips) : Fin 2 → Nat :=
  let c25_i32 : BitVec 32 := 25#32
  let v294 : Index := Scalar.indexCast c25_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v295 : Index := Scalar.indexCast v160
  ![25, v295.toNat]
def k0_off397 (k0_t19 : Fin k0_t19_loop.trips) : Fin 2 → Nat :=
  let c26_i32 : BitVec 32 := 26#32
  let v299 : Index := Scalar.indexCast c26_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v300 : Index := Scalar.indexCast v160
  ![26, v300.toNat]
def k0_off398 (k0_t19 : Fin k0_t19_loop.trips) : Fin 2 → Nat :=
  let c27_i32 : BitVec 32 := 27#32
  let v304 : Index := Scalar.indexCast c27_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v305 : Index := Scalar.indexCast v160
  ![27, v305.toNat]
def k0_off399 (k0_t19 : Fin k0_t19_loop.trips) : Fin 2 → Nat :=
  let c28_i32 : BitVec 32 := 28#32
  let v309 : Index := Scalar.indexCast c28_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v310 : Index := Scalar.indexCast v160
  ![28, v310.toNat]
def k0_off400 (k0_t19 : Fin k0_t19_loop.trips) : Fin 2 → Nat :=
  let c29_i32 : BitVec 32 := 29#32
  let v314 : Index := Scalar.indexCast c29_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v315 : Index := Scalar.indexCast v160
  ![29, v315.toNat]
def k0_off401 (k0_t19 : Fin k0_t19_loop.trips) : Fin 2 → Nat :=
  let c30_i32 : BitVec 32 := 30#32
  let v319 : Index := Scalar.indexCast c30_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v320 : Index := Scalar.indexCast v160
  ![30, v320.toNat]
def k0_off402 (k0_t19 : Fin k0_t19_loop.trips) : Fin 2 → Nat :=
  let c31_i32 : BitVec 32 := 31#32
  let v324 : Index := Scalar.indexCast c31_i32
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v325 : Index := Scalar.indexCast v160
  ![31, v325.toNat]
def k0_off403 (k0_t3 : Fin k0_t3_loop.trips) (k0_t19 : Fin k0_t19_loop.trips) : Fin 2 → Nat :=
  let c0_i32_12 : BitVec 32 := 0#32
  let c1_i32_14 : BitVec 32 := 1#32
  let arg28 : BitVec 32 := Scf.iv c0_i32_12 c1_i32_14 k0_t3
  let v335 : Index := Scalar.indexCast arg28
  let c0_i32_89 : BitVec 32 := 0#32
  let c1_i32_91 : BitVec 32 := 1#32
  let arg32 : BitVec 32 := Scf.iv c0_i32_89 c1_i32_91 k0_t19
  let c16_i32_96 : BitVec 32 := 16#32
  let v159 : BitVec 32 := Scalar.muli arg32 c16_i32_96
  let v160 : BitVec 32 := v159
  let v336 : Index := Scalar.indexCast v160
  ![v335.toNat, v336.toNat]
def k0_mult36 (v29 : BitVec 32) (v36 : BitVec 32) (k0_t14 : Fin (k0_t14_loop v29 v36).trips) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c4_i32_96 : BitVec 32 := 4#32
  let v159 : BitVec 32 := Scalar.addi v125 c4_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  v162
def k0_cond34 (v29 : BitVec 32) (v36 : BitVec 32) (k0_t14 : Fin (k0_t14_loop v29 v36).trips) : BitVec 1 :=
  let c6_i32_70 : BitVec 32 := 6#32
  let c0_i32_53 : BitVec 32 := 0#32
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c4_i32_79 : BitVec 32 := 4#32
  let v142 : BitVec 32 := Scalar.addi v125 c4_i32_79
  let v143 : BitVec 1 := Scalar.cmpi .slt v142 v42
  let v144 : BitVec 32 := Scalar.extui v143
  let c0_i32_80 : BitVec 32 := 0#32
  let v145 : BitVec 1 := Scalar.cmpi .ne v144 c0_i32_80
  v145

def k0_cond35 (v29 : BitVec 32) (v36 : BitVec 32) (k0_t14 : Fin (k0_t14_loop v29 v36).trips) : BitVec 1 :=
  let c6_i32_70 : BitVec 32 := 6#32
  let c0_i32_53 : BitVec 32 := 0#32
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c4_i32_93 : BitVec 32 := 4#32
  let v154 : BitVec 32 := Scalar.addi v125 c4_i32_93
  let c6_i32_94 : BitVec 32 := 6#32
  let v155 : BitVec 32 := Scalar.addi v154 c6_i32_94
  let v156 : BitVec 1 := Scalar.cmpi .slt v155 v42
  let v157 : BitVec 32 := Scalar.extui v156
  let c0_i32_95 : BitVec 32 := 0#32
  let v158 : BitVec 1 := Scalar.cmpi .ne v157 c0_i32_95
  v158

def k0_off404 (v29 : BitVec 32) (v36 : BitVec 32) (k0_t14 : Fin (k0_t14_loop v29 v36).trips) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c4_i32_96 : BitVec 32 := 4#32
  let v159 : BitVec 32 := Scalar.addi v125 c4_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  let v163 : BitVec 32 := v162
  let c0_i32_99 : BitVec 32 := 0#32
  ![v163.toNat, 0]
@[reducible] def k0_t20_loop : Scf.Loop 32 :=
  let c0_i32_89 : BitVec 32 := 0#32
  let c16_i32_90 : BitVec 32 := 16#32
  let v152 : BitVec 32 := Scalar.addi c0_i32_89 c16_i32_90
  let c1_i32_91 : BitVec 32 := 1#32
  ⟨c0_i32_89, v152, c1_i32_91⟩
def k0_mult37 (k0_t20 : Fin k0_t20_loop.trips) : BitVec 32 :=
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  v159
def k0_off405 (k0_t20 : Fin k0_t20_loop.trips) : Fin 2 → Nat :=
  let c0_i32_105 : BitVec 32 := 0#32
  let v169 : Index := Scalar.indexCast c0_i32_105
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v170 : Index := Scalar.indexCast v160
  ![0, v170.toNat]
def k0_off406 (k0_t20 : Fin k0_t20_loop.trips) : Fin 2 → Nat :=
  let c1_i32_106 : BitVec 32 := 1#32
  let v174 : Index := Scalar.indexCast c1_i32_106
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v175 : Index := Scalar.indexCast v160
  ![1, v175.toNat]
def k0_off407 (k0_t20 : Fin k0_t20_loop.trips) : Fin 2 → Nat :=
  let c2_i32_107 : BitVec 32 := 2#32
  let v179 : Index := Scalar.indexCast c2_i32_107
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v180 : Index := Scalar.indexCast v160
  ![2, v180.toNat]
def k0_off408 (k0_t20 : Fin k0_t20_loop.trips) : Fin 2 → Nat :=
  let c3_i32_108 : BitVec 32 := 3#32
  let v184 : Index := Scalar.indexCast c3_i32_108
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v185 : Index := Scalar.indexCast v160
  ![3, v185.toNat]
def k0_off409 (k0_t20 : Fin k0_t20_loop.trips) : Fin 2 → Nat :=
  let c4_i32_109 : BitVec 32 := 4#32
  let v189 : Index := Scalar.indexCast c4_i32_109
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v190 : Index := Scalar.indexCast v160
  ![4, v190.toNat]
def k0_off410 (k0_t20 : Fin k0_t20_loop.trips) : Fin 2 → Nat :=
  let c5_i32_110 : BitVec 32 := 5#32
  let v194 : Index := Scalar.indexCast c5_i32_110
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v195 : Index := Scalar.indexCast v160
  ![5, v195.toNat]
def k0_off411 (k0_t20 : Fin k0_t20_loop.trips) : Fin 2 → Nat :=
  let c6_i32_111 : BitVec 32 := 6#32
  let v199 : Index := Scalar.indexCast c6_i32_111
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v200 : Index := Scalar.indexCast v160
  ![6, v200.toNat]
def k0_off412 (k0_t20 : Fin k0_t20_loop.trips) : Fin 2 → Nat :=
  let c7_i32_112 : BitVec 32 := 7#32
  let v204 : Index := Scalar.indexCast c7_i32_112
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v205 : Index := Scalar.indexCast v160
  ![7, v205.toNat]
def k0_off413 (k0_t20 : Fin k0_t20_loop.trips) : Fin 2 → Nat :=
  let c8_i32_113 : BitVec 32 := 8#32
  let v209 : Index := Scalar.indexCast c8_i32_113
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v210 : Index := Scalar.indexCast v160
  ![8, v210.toNat]
def k0_off414 (k0_t20 : Fin k0_t20_loop.trips) : Fin 2 → Nat :=
  let c9_i32 : BitVec 32 := 9#32
  let v214 : Index := Scalar.indexCast c9_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v215 : Index := Scalar.indexCast v160
  ![9, v215.toNat]
def k0_off415 (k0_t20 : Fin k0_t20_loop.trips) : Fin 2 → Nat :=
  let c10_i32 : BitVec 32 := 10#32
  let v219 : Index := Scalar.indexCast c10_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v220 : Index := Scalar.indexCast v160
  ![10, v220.toNat]
def k0_off416 (k0_t20 : Fin k0_t20_loop.trips) : Fin 2 → Nat :=
  let c11_i32 : BitVec 32 := 11#32
  let v224 : Index := Scalar.indexCast c11_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v225 : Index := Scalar.indexCast v160
  ![11, v225.toNat]
def k0_off417 (k0_t20 : Fin k0_t20_loop.trips) : Fin 2 → Nat :=
  let c12_i32 : BitVec 32 := 12#32
  let v229 : Index := Scalar.indexCast c12_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v230 : Index := Scalar.indexCast v160
  ![12, v230.toNat]
def k0_off418 (k0_t20 : Fin k0_t20_loop.trips) : Fin 2 → Nat :=
  let c13_i32 : BitVec 32 := 13#32
  let v234 : Index := Scalar.indexCast c13_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v235 : Index := Scalar.indexCast v160
  ![13, v235.toNat]
def k0_off419 (k0_t20 : Fin k0_t20_loop.trips) : Fin 2 → Nat :=
  let c14_i32 : BitVec 32 := 14#32
  let v239 : Index := Scalar.indexCast c14_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v240 : Index := Scalar.indexCast v160
  ![14, v240.toNat]
def k0_off420 (k0_t20 : Fin k0_t20_loop.trips) : Fin 2 → Nat :=
  let c15_i32 : BitVec 32 := 15#32
  let v244 : Index := Scalar.indexCast c15_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v245 : Index := Scalar.indexCast v160
  ![15, v245.toNat]
def k0_off421 (k0_t20 : Fin k0_t20_loop.trips) : Fin 2 → Nat :=
  let c16_i32_114 : BitVec 32 := 16#32
  let v249 : Index := Scalar.indexCast c16_i32_114
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v250 : Index := Scalar.indexCast v160
  ![16, v250.toNat]
def k0_off422 (k0_t20 : Fin k0_t20_loop.trips) : Fin 2 → Nat :=
  let c17_i32_115 : BitVec 32 := 17#32
  let v254 : Index := Scalar.indexCast c17_i32_115
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v255 : Index := Scalar.indexCast v160
  ![17, v255.toNat]
def k0_off423 (k0_t20 : Fin k0_t20_loop.trips) : Fin 2 → Nat :=
  let c18_i32 : BitVec 32 := 18#32
  let v259 : Index := Scalar.indexCast c18_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v260 : Index := Scalar.indexCast v160
  ![18, v260.toNat]
def k0_off424 (k0_t20 : Fin k0_t20_loop.trips) : Fin 2 → Nat :=
  let c19_i32 : BitVec 32 := 19#32
  let v264 : Index := Scalar.indexCast c19_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v265 : Index := Scalar.indexCast v160
  ![19, v265.toNat]
def k0_off425 (k0_t20 : Fin k0_t20_loop.trips) : Fin 2 → Nat :=
  let c20_i32 : BitVec 32 := 20#32
  let v269 : Index := Scalar.indexCast c20_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v270 : Index := Scalar.indexCast v160
  ![20, v270.toNat]
def k0_off426 (k0_t20 : Fin k0_t20_loop.trips) : Fin 2 → Nat :=
  let c21_i32 : BitVec 32 := 21#32
  let v274 : Index := Scalar.indexCast c21_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v275 : Index := Scalar.indexCast v160
  ![21, v275.toNat]
def k0_off427 (k0_t20 : Fin k0_t20_loop.trips) : Fin 2 → Nat :=
  let c22_i32 : BitVec 32 := 22#32
  let v279 : Index := Scalar.indexCast c22_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v280 : Index := Scalar.indexCast v160
  ![22, v280.toNat]
def k0_off428 (k0_t20 : Fin k0_t20_loop.trips) : Fin 2 → Nat :=
  let c23_i32 : BitVec 32 := 23#32
  let v284 : Index := Scalar.indexCast c23_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v285 : Index := Scalar.indexCast v160
  ![23, v285.toNat]
def k0_off429 (k0_t20 : Fin k0_t20_loop.trips) : Fin 2 → Nat :=
  let c24_i32 : BitVec 32 := 24#32
  let v289 : Index := Scalar.indexCast c24_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v290 : Index := Scalar.indexCast v160
  ![24, v290.toNat]
def k0_off430 (k0_t20 : Fin k0_t20_loop.trips) : Fin 2 → Nat :=
  let c25_i32 : BitVec 32 := 25#32
  let v294 : Index := Scalar.indexCast c25_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v295 : Index := Scalar.indexCast v160
  ![25, v295.toNat]
def k0_off431 (k0_t20 : Fin k0_t20_loop.trips) : Fin 2 → Nat :=
  let c26_i32 : BitVec 32 := 26#32
  let v299 : Index := Scalar.indexCast c26_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v300 : Index := Scalar.indexCast v160
  ![26, v300.toNat]
def k0_off432 (k0_t20 : Fin k0_t20_loop.trips) : Fin 2 → Nat :=
  let c27_i32 : BitVec 32 := 27#32
  let v304 : Index := Scalar.indexCast c27_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v305 : Index := Scalar.indexCast v160
  ![27, v305.toNat]
def k0_off433 (k0_t20 : Fin k0_t20_loop.trips) : Fin 2 → Nat :=
  let c28_i32 : BitVec 32 := 28#32
  let v309 : Index := Scalar.indexCast c28_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v310 : Index := Scalar.indexCast v160
  ![28, v310.toNat]
def k0_off434 (k0_t20 : Fin k0_t20_loop.trips) : Fin 2 → Nat :=
  let c29_i32 : BitVec 32 := 29#32
  let v314 : Index := Scalar.indexCast c29_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v315 : Index := Scalar.indexCast v160
  ![29, v315.toNat]
def k0_off435 (k0_t20 : Fin k0_t20_loop.trips) : Fin 2 → Nat :=
  let c30_i32 : BitVec 32 := 30#32
  let v319 : Index := Scalar.indexCast c30_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v320 : Index := Scalar.indexCast v160
  ![30, v320.toNat]
def k0_off436 (k0_t20 : Fin k0_t20_loop.trips) : Fin 2 → Nat :=
  let c31_i32 : BitVec 32 := 31#32
  let v324 : Index := Scalar.indexCast c31_i32
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v325 : Index := Scalar.indexCast v160
  ![31, v325.toNat]
def k0_off437 (k0_t3 : Fin k0_t3_loop.trips) (k0_t20 : Fin k0_t20_loop.trips) : Fin 2 → Nat :=
  let c0_i32_12 : BitVec 32 := 0#32
  let c1_i32_14 : BitVec 32 := 1#32
  let arg28 : BitVec 32 := Scf.iv c0_i32_12 c1_i32_14 k0_t3
  let v335 : Index := Scalar.indexCast arg28
  let c0_i32_89 : BitVec 32 := 0#32
  let c1_i32_91 : BitVec 32 := 1#32
  let arg32 : BitVec 32 := Scf.iv c0_i32_89 c1_i32_91 k0_t20
  let c16_i32_96 : BitVec 32 := 16#32
  let v159 : BitVec 32 := Scalar.muli arg32 c16_i32_96
  let v160 : BitVec 32 := v159
  let v336 : Index := Scalar.indexCast v160
  ![v335.toNat, v336.toNat]
def k0_mult38 (v29 : BitVec 32) (v36 : BitVec 32) (k0_t14 : Fin (k0_t14_loop v29 v36).trips) : BitVec 32 :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c5_i32_96 : BitVec 32 := 5#32
  let v159 : BitVec 32 := Scalar.addi v125 c5_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  v162
def k0_cond36 (v29 : BitVec 32) (v36 : BitVec 32) (k0_t14 : Fin (k0_t14_loop v29 v36).trips) : BitVec 1 :=
  let c6_i32_70 : BitVec 32 := 6#32
  let c0_i32_53 : BitVec 32 := 0#32
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c5_i32_81 : BitVec 32 := 5#32
  let v146 : BitVec 32 := Scalar.addi v125 c5_i32_81
  let v147 : BitVec 1 := Scalar.cmpi .slt v146 v42
  let v148 : BitVec 32 := Scalar.extui v147
  let c0_i32_82 : BitVec 32 := 0#32
  let v149 : BitVec 1 := Scalar.cmpi .ne v148 c0_i32_82
  v149

def k0_cond37 (v29 : BitVec 32) (v36 : BitVec 32) (k0_t14 : Fin (k0_t14_loop v29 v36).trips) : BitVec 1 :=
  let c6_i32_70 : BitVec 32 := 6#32
  let c0_i32_53 : BitVec 32 := 0#32
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c5_i32_93 : BitVec 32 := 5#32
  let v154 : BitVec 32 := Scalar.addi v125 c5_i32_93
  let c6_i32_94 : BitVec 32 := 6#32
  let v155 : BitVec 32 := Scalar.addi v154 c6_i32_94
  let v156 : BitVec 1 := Scalar.cmpi .slt v155 v42
  let v157 : BitVec 32 := Scalar.extui v156
  let c0_i32_95 : BitVec 32 := 0#32
  let v158 : BitVec 1 := Scalar.cmpi .ne v157 c0_i32_95
  v158

def k0_off438 (v29 : BitVec 32) (v36 : BitVec 32) (k0_t14 : Fin (k0_t14_loop v29 v36).trips) : Fin 2 → Nat :=
  let c7_i32 : BitVec 32 := 7#32
  let v37 : BitVec 32 := Scalar.addi v29 c7_i32
  let c8_i32 : BitVec 32 := 8#32
  let v38 : BitVec 32 := Scalar.divsi v37 c8_i32
  let c8_i32_19 : BitVec 32 := 8#32
  let v39 : BitVec 32 := Scalar.muli v38 c8_i32_19
  let c6_i32_70 : BitVec 32 := 6#32
  let c0_i32_53 : BitVec 32 := 0#32
  let v40 : BitVec 32 := Scalar.subi v36 v39
  let c0_i32_20 : BitVec 32 := 0#32
  let v41 : BitVec 32 := Scalar.maxsi v40 c0_i32_20
  let c32_i32 : BitVec 32 := 32#32
  let v42 : BitVec 32 := Scalar.divsi v41 c32_i32
  let c5_i32_52 : BitVec 32 := 5#32
  let v100 : BitVec 32 := Scalar.addi v42 c5_i32_52
  let c6_i32 : BitVec 32 := 6#32
  let v101 : BitVec 32 := Scalar.divsi v100 c6_i32
  let v102 : BitVec 32 := Scalar.subi v101 c0_i32_53
  let c1_i32_55 : BitVec 32 := 1#32
  let v104 : BitVec 32 := Scalar.divsi v102 c1_i32_55
  let v105 : BitVec 32 := Scalar.muli v104 c1_i32_55
  let v106 : BitVec 32 := Scalar.addi c0_i32_53 v105
  let c1_i32_57 : BitVec 32 := 1#32
  let arg30 : BitVec 32 := Scf.iv v106 c1_i32_57 k0_t14
  let v125 : BitVec 32 := Scalar.muli c6_i32_70 arg30
  let c5_i32_96 : BitVec 32 := 5#32
  let v159 : BitVec 32 := Scalar.addi v125 c5_i32_96
  let c6_i32_97 : BitVec 32 := 6#32
  let v160 : BitVec 32 := Scalar.addi v159 c6_i32_97
  let c32_i32_98 : BitVec 32 := 32#32
  let v161 : BitVec 32 := Scalar.muli v160 c32_i32_98
  let v162 : BitVec 32 := Scalar.addi v39 v161
  let v163 : BitVec 32 := v162
  let c0_i32_99 : BitVec 32 := 0#32
  ![v163.toNat, 0]

def k0_chk3_0 (arg29 : BitVec 32) (v29 : BitVec 32) (v36 : BitVec 32) : Prop :=
  (∀ (k0_h1 : k0_cond1 v29 v36 = 1#1), 8 ∣ (k0_mult1 v29).toNat) ∧
  (∀ (k0_h1 : k0_cond1 v29 v36 = 1#1), ∀ a, (k0_off1 v29) a + S32x256.size a ≤ S50000x256.size a) ∧
  (∀ (k0_h2 : k0_cond2 v29 v36 = 1#1), 8 ∣ (k0_mult2 v29).toNat) ∧
  (∀ (k0_h2 : k0_cond2 v29 v36 = 1#1), ∀ a, (k0_off2 v29) a + S32x256.size a ≤ S50000x256.size a) ∧
  (∀ (k0_h3 : k0_cond3 v29 v36 = 1#1), 8 ∣ (k0_mult3 v29).toNat) ∧
  (∀ (k0_h3 : k0_cond3 v29 v36 = 1#1), ∀ a, (k0_off3 v29) a + S32x256.size a ≤ S50000x256.size a) ∧
  (∀ (k0_h4 : k0_cond4 v29 v36 = 1#1), 8 ∣ (k0_mult4 v29).toNat) ∧
  (∀ (k0_h4 : k0_cond4 v29 v36 = 1#1), ∀ a, (k0_off4 v29) a + S32x256.size a ≤ S50000x256.size a) ∧
  (∀ (k0_h5 : k0_cond5 v29 v36 = 1#1), 8 ∣ (k0_mult5 v29).toNat) ∧
  (∀ (k0_h5 : k0_cond5 v29 v36 = 1#1), ∀ a, (k0_off5 v29) a + S32x256.size a ≤ S50000x256.size a) ∧
  (∀ (k0_h6 : k0_cond6 v29 v36 = 1#1), 8 ∣ (k0_mult6 v29).toNat) ∧
  (∀ (k0_h6 : k0_cond6 v29 v36 = 1#1), ∀ a, (k0_off6 v29) a + S32x256.size a ≤ S50000x256.size a) ∧
  (∀ (k0_h7 : k0_cond7 arg29 v29 v36 = 1#1), 8 ∣ (k0_mult7 v29).toNat) ∧
  (∀ (k0_h7 : k0_cond7 arg29 v29 v36 = 1#1), ∀ a, (k0_off7 v29) a + S8x256.size a ≤ S50000x256.size a) ∧
  (∀ (k0_h10 : k0_cond10 v29 v36 = 1#1), 8 ∣ (k0_mult11 v29 v36).toNat) ∧
  (∀ (k0_h10 : k0_cond10 v29 v36 = 1#1), ∀ a, (k0_off27 v29 v36) a + S8x256.size a ≤ S50000x256.size a) ∧
  (∀ (k0_h11 : k0_cond11 v29 v36 = 1#1), 8 ∣ (k0_mult12 v29 v36).toNat) ∧
  (∀ (k0_h11 : k0_cond11 v29 v36 = 1#1), ∀ a, (k0_off28 v29 v36) a + S8x256.size a ≤ S50000x256.size a) ∧
  (∀ (k0_h12 : k0_cond12 v29 v36 = 1#1), 8 ∣ (k0_mult13 v29 v36).toNat) ∧
  (∀ (k0_h12 : k0_cond12 v29 v36 = 1#1), ∀ a, (k0_off29 v29 v36) a + S8x256.size a ≤ S50000x256.size a) ∧
  (∀ (k0_h13 : k0_cond13 v29 v36 = 1#1), 8 ∣ (k0_mult14 v29 v36).toNat) ∧
  (∀ (k0_h13 : k0_cond13 v29 v36 = 1#1), ∀ a, (k0_off30 v29 v36) a + S8x256.size a ≤ S50000x256.size a) ∧
  ((k0_t7_loop v29 v36).OK) ∧
  (∀ k0_t7 : Fin (k0_t7_loop v29 v36).trips, ∀ (k0_h14 : k0_cond14 v29 v36 k0_t7 = 1#1), ∀ (k0_h15 : k0_cond15 v29 v36 k0_t7 = 1#1), 8 ∣ (k0_mult16 v29 v36 k0_t7).toNat) ∧
  (∀ k0_t7 : Fin (k0_t7_loop v29 v36).trips, ∀ (k0_h14 : k0_cond14 v29 v36 k0_t7 = 1#1), ∀ (k0_h15 : k0_cond15 v29 v36 k0_t7 = 1#1), ∀ a, (k0_off64 v29 v36 k0_t7) a + S32x256.size a ≤ S50000x256.size a) ∧
  (∀ k0_t7 : Fin (k0_t7_loop v29 v36).trips, ∀ (k0_h16 : k0_cond16 v29 v36 k0_t7 = 1#1), ∀ (k0_h17 : k0_cond17 v29 v36 k0_t7 = 1#1), 8 ∣ (k0_mult18 v29 v36 k0_t7).toNat) ∧
  (∀ k0_t7 : Fin (k0_t7_loop v29 v36).trips, ∀ (k0_h16 : k0_cond16 v29 v36 k0_t7 = 1#1), ∀ (k0_h17 : k0_cond17 v29 v36 k0_t7 = 1#1), ∀ a, (k0_off98 v29 v36 k0_t7) a + S32x256.size a ≤ S50000x256.size a) ∧
  (∀ k0_t7 : Fin (k0_t7_loop v29 v36).trips, ∀ (k0_h18 : k0_cond18 v29 v36 k0_t7 = 1#1), ∀ (k0_h19 : k0_cond19 v29 v36 k0_t7 = 1#1), 8 ∣ (k0_mult20 v29 v36 k0_t7).toNat) ∧
  (∀ k0_t7 : Fin (k0_t7_loop v29 v36).trips, ∀ (k0_h18 : k0_cond18 v29 v36 k0_t7 = 1#1), ∀ (k0_h19 : k0_cond19 v29 v36 k0_t7 = 1#1), ∀ a, (k0_off132 v29 v36 k0_t7) a + S32x256.size a ≤ S50000x256.size a) ∧
  (∀ k0_t7 : Fin (k0_t7_loop v29 v36).trips, ∀ (k0_h20 : k0_cond20 v29 v36 k0_t7 = 1#1), ∀ (k0_h21 : k0_cond21 v29 v36 k0_t7 = 1#1), 8 ∣ (k0_mult22 v29 v36 k0_t7).toNat) ∧
  (∀ k0_t7 : Fin (k0_t7_loop v29 v36).trips, ∀ (k0_h20 : k0_cond20 v29 v36 k0_t7 = 1#1), ∀ (k0_h21 : k0_cond21 v29 v36 k0_t7 = 1#1), ∀ a, (k0_off166 v29 v36 k0_t7) a + S32x256.size a ≤ S50000x256.size a) ∧
  (∀ k0_t7 : Fin (k0_t7_loop v29 v36).trips, ∀ (k0_h22 : k0_cond22 v29 v36 k0_t7 = 1#1), ∀ (k0_h23 : k0_cond23 v29 v36 k0_t7 = 1#1), 8 ∣ (k0_mult24 v29 v36 k0_t7).toNat)
def k0_chk3_1 (arg29 : BitVec 32) (v29 : BitVec 32) (v36 : BitVec 32) : Prop :=
  (∀ k0_t7 : Fin (k0_t7_loop v29 v36).trips, ∀ (k0_h22 : k0_cond22 v29 v36 k0_t7 = 1#1), ∀ (k0_h23 : k0_cond23 v29 v36 k0_t7 = 1#1), ∀ a, (k0_off200 v29 v36 k0_t7) a + S32x256.size a ≤ S50000x256.size a) ∧
  (∀ k0_t7 : Fin (k0_t7_loop v29 v36).trips, ∀ (k0_h24 : k0_cond24 v29 v36 k0_t7 = 1#1), ∀ (k0_h25 : k0_cond25 v29 v36 k0_t7 = 1#1), 8 ∣ (k0_mult26 v29 v36 k0_t7).toNat) ∧
  (∀ k0_t7 : Fin (k0_t7_loop v29 v36).trips, ∀ (k0_h24 : k0_cond24 v29 v36 k0_t7 = 1#1), ∀ (k0_h25 : k0_cond25 v29 v36 k0_t7 = 1#1), ∀ a, (k0_off234 v29 v36 k0_t7) a + S32x256.size a ≤ S50000x256.size a) ∧
  ((k0_t14_loop v29 v36).OK) ∧
  (∀ k0_t14 : Fin (k0_t14_loop v29 v36).trips, ∀ (k0_h26 : k0_cond26 v29 v36 k0_t14 = 1#1), ∀ (k0_h27 : k0_cond27 v29 v36 k0_t14 = 1#1), 8 ∣ (k0_mult28 v29 v36 k0_t14).toNat) ∧
  (∀ k0_t14 : Fin (k0_t14_loop v29 v36).trips, ∀ (k0_h26 : k0_cond26 v29 v36 k0_t14 = 1#1), ∀ (k0_h27 : k0_cond27 v29 v36 k0_t14 = 1#1), ∀ a, (k0_off268 v29 v36 k0_t14) a + S32x256.size a ≤ S50000x256.size a) ∧
  (∀ k0_t14 : Fin (k0_t14_loop v29 v36).trips, ∀ (k0_h28 : k0_cond28 v29 v36 k0_t14 = 1#1), ∀ (k0_h29 : k0_cond29 v29 v36 k0_t14 = 1#1), 8 ∣ (k0_mult30 v29 v36 k0_t14).toNat) ∧
  (∀ k0_t14 : Fin (k0_t14_loop v29 v36).trips, ∀ (k0_h28 : k0_cond28 v29 v36 k0_t14 = 1#1), ∀ (k0_h29 : k0_cond29 v29 v36 k0_t14 = 1#1), ∀ a, (k0_off302 v29 v36 k0_t14) a + S32x256.size a ≤ S50000x256.size a) ∧
  (∀ k0_t14 : Fin (k0_t14_loop v29 v36).trips, ∀ (k0_h30 : k0_cond30 v29 v36 k0_t14 = 1#1), ∀ (k0_h31 : k0_cond31 v29 v36 k0_t14 = 1#1), 8 ∣ (k0_mult32 v29 v36 k0_t14).toNat) ∧
  (∀ k0_t14 : Fin (k0_t14_loop v29 v36).trips, ∀ (k0_h30 : k0_cond30 v29 v36 k0_t14 = 1#1), ∀ (k0_h31 : k0_cond31 v29 v36 k0_t14 = 1#1), ∀ a, (k0_off336 v29 v36 k0_t14) a + S32x256.size a ≤ S50000x256.size a) ∧
  (∀ k0_t14 : Fin (k0_t14_loop v29 v36).trips, ∀ (k0_h32 : k0_cond32 v29 v36 k0_t14 = 1#1), ∀ (k0_h33 : k0_cond33 v29 v36 k0_t14 = 1#1), 8 ∣ (k0_mult34 v29 v36 k0_t14).toNat) ∧
  (∀ k0_t14 : Fin (k0_t14_loop v29 v36).trips, ∀ (k0_h32 : k0_cond32 v29 v36 k0_t14 = 1#1), ∀ (k0_h33 : k0_cond33 v29 v36 k0_t14 = 1#1), ∀ a, (k0_off370 v29 v36 k0_t14) a + S32x256.size a ≤ S50000x256.size a) ∧
  (∀ k0_t14 : Fin (k0_t14_loop v29 v36).trips, ∀ (k0_h34 : k0_cond34 v29 v36 k0_t14 = 1#1), ∀ (k0_h35 : k0_cond35 v29 v36 k0_t14 = 1#1), 8 ∣ (k0_mult36 v29 v36 k0_t14).toNat) ∧
  (∀ k0_t14 : Fin (k0_t14_loop v29 v36).trips, ∀ (k0_h34 : k0_cond34 v29 v36 k0_t14 = 1#1), ∀ (k0_h35 : k0_cond35 v29 v36 k0_t14 = 1#1), ∀ a, (k0_off404 v29 v36 k0_t14) a + S32x256.size a ≤ S50000x256.size a) ∧
  (∀ k0_t14 : Fin (k0_t14_loop v29 v36).trips, ∀ (k0_h36 : k0_cond36 v29 v36 k0_t14 = 1#1), ∀ (k0_h37 : k0_cond37 v29 v36 k0_t14 = 1#1), 8 ∣ (k0_mult38 v29 v36 k0_t14).toNat) ∧
  (∀ k0_t14 : Fin (k0_t14_loop v29 v36).trips, ∀ (k0_h36 : k0_cond36 v29 v36 k0_t14 = 1#1), ∀ (k0_h37 : k0_cond37 v29 v36 k0_t14 = 1#1), ∀ a, (k0_off438 v29 v36 k0_t14) a + S32x256.size a ≤ S50000x256.size a)
def k0_chk3 (arg29 : BitVec 32) (v29 : BitVec 32) (v36 : BitVec 32) : Prop :=
  k0_chk3_0 arg29 v29 v36 ∧
  k0_chk3_1 arg29 v29 v36
theorem k0_mult1_dvd : ∀ (arg29 : BitVec 32) (v29 : BitVec 32) (v36 : BitVec 32) (k0_hw3 : k0_chk3 arg29 v29 v36), ∀ (k0_h1 : k0_cond1 v29 v36 = 1#1), 8 ∣ (k0_mult1 v29).toNat := fun arg29 v29 v36 k0_hw3 k0_h1 => k0_hw3.1.1 k0_h1
theorem k0_off1_inb : ∀ (arg29 : BitVec 32) (v29 : BitVec 32) (v36 : BitVec 32) (k0_hw3 : k0_chk3 arg29 v29 v36), ∀ (k0_h1 : k0_cond1 v29 v36 = 1#1), ∀ a, (k0_off1 v29) a + S32x256.size a ≤ S50000x256.size a := fun arg29 v29 v36 k0_hw3 k0_h1 => k0_hw3.1.2.1 k0_h1
theorem k0_mult2_dvd : ∀ (arg29 : BitVec 32) (v29 : BitVec 32) (v36 : BitVec 32) (k0_hw3 : k0_chk3 arg29 v29 v36), ∀ (k0_h2 : k0_cond2 v29 v36 = 1#1), 8 ∣ (k0_mult2 v29).toNat := fun arg29 v29 v36 k0_hw3 k0_h2 => k0_hw3.1.2.2.1 k0_h2
theorem k0_off2_inb : ∀ (arg29 : BitVec 32) (v29 : BitVec 32) (v36 : BitVec 32) (k0_hw3 : k0_chk3 arg29 v29 v36), ∀ (k0_h2 : k0_cond2 v29 v36 = 1#1), ∀ a, (k0_off2 v29) a + S32x256.size a ≤ S50000x256.size a := fun arg29 v29 v36 k0_hw3 k0_h2 => k0_hw3.1.2.2.2.1 k0_h2
theorem k0_mult3_dvd : ∀ (arg29 : BitVec 32) (v29 : BitVec 32) (v36 : BitVec 32) (k0_hw3 : k0_chk3 arg29 v29 v36), ∀ (k0_h3 : k0_cond3 v29 v36 = 1#1), 8 ∣ (k0_mult3 v29).toNat := fun arg29 v29 v36 k0_hw3 k0_h3 => k0_hw3.1.2.2.2.2.1 k0_h3
theorem k0_off3_inb : ∀ (arg29 : BitVec 32) (v29 : BitVec 32) (v36 : BitVec 32) (k0_hw3 : k0_chk3 arg29 v29 v36), ∀ (k0_h3 : k0_cond3 v29 v36 = 1#1), ∀ a, (k0_off3 v29) a + S32x256.size a ≤ S50000x256.size a := fun arg29 v29 v36 k0_hw3 k0_h3 => k0_hw3.1.2.2.2.2.2.1 k0_h3
theorem k0_mult4_dvd : ∀ (arg29 : BitVec 32) (v29 : BitVec 32) (v36 : BitVec 32) (k0_hw3 : k0_chk3 arg29 v29 v36), ∀ (k0_h4 : k0_cond4 v29 v36 = 1#1), 8 ∣ (k0_mult4 v29).toNat := fun arg29 v29 v36 k0_hw3 k0_h4 => k0_hw3.1.2.2.2.2.2.2.1 k0_h4
theorem k0_off4_inb : ∀ (arg29 : BitVec 32) (v29 : BitVec 32) (v36 : BitVec 32) (k0_hw3 : k0_chk3 arg29 v29 v36), ∀ (k0_h4 : k0_cond4 v29 v36 = 1#1), ∀ a, (k0_off4 v29) a + S32x256.size a ≤ S50000x256.size a := fun arg29 v29 v36 k0_hw3 k0_h4 => k0_hw3.1.2.2.2.2.2.2.2.1 k0_h4
theorem k0_mult5_dvd : ∀ (arg29 : BitVec 32) (v29 : BitVec 32) (v36 : BitVec 32) (k0_hw3 : k0_chk3 arg29 v29 v36), ∀ (k0_h5 : k0_cond5 v29 v36 = 1#1), 8 ∣ (k0_mult5 v29).toNat := fun arg29 v29 v36 k0_hw3 k0_h5 => k0_hw3.1.2.2.2.2.2.2.2.2.1 k0_h5
theorem k0_off5_inb : ∀ (arg29 : BitVec 32) (v29 : BitVec 32) (v36 : BitVec 32) (k0_hw3 : k0_chk3 arg29 v29 v36), ∀ (k0_h5 : k0_cond5 v29 v36 = 1#1), ∀ a, (k0_off5 v29) a + S32x256.size a ≤ S50000x256.size a := fun arg29 v29 v36 k0_hw3 k0_h5 => k0_hw3.1.2.2.2.2.2.2.2.2.2.1 k0_h5
theorem k0_mult6_dvd : ∀ (arg29 : BitVec 32) (v29 : BitVec 32) (v36 : BitVec 32) (k0_hw3 : k0_chk3 arg29 v29 v36), ∀ (k0_h6 : k0_cond6 v29 v36 = 1#1), 8 ∣ (k0_mult6 v29).toNat := fun arg29 v29 v36 k0_hw3 k0_h6 => k0_hw3.1.2.2.2.2.2.2.2.2.2.2.1 k0_h6
theorem k0_off6_inb : ∀ (arg29 : BitVec 32) (v29 : BitVec 32) (v36 : BitVec 32) (k0_hw3 : k0_chk3 arg29 v29 v36), ∀ (k0_h6 : k0_cond6 v29 v36 = 1#1), ∀ a, (k0_off6 v29) a + S32x256.size a ≤ S50000x256.size a := fun arg29 v29 v36 k0_hw3 k0_h6 => k0_hw3.1.2.2.2.2.2.2.2.2.2.2.2.1 k0_h6
theorem k0_mult7_dvd : ∀ (arg29 : BitVec 32) (v29 : BitVec 32) (v36 : BitVec 32) (k0_hw3 : k0_chk3 arg29 v29 v36), ∀ (k0_h7 : k0_cond7 arg29 v29 v36 = 1#1), 8 ∣ (k0_mult7 v29).toNat := fun arg29 v29 v36 k0_hw3 k0_h7 => k0_hw3.1.2.2.2.2.2.2.2.2.2.2.2.2.1 k0_h7
theorem k0_off7_inb : ∀ (arg29 : BitVec 32) (v29 : BitVec 32) (v36 : BitVec 32) (k0_hw3 : k0_chk3 arg29 v29 v36), ∀ (k0_h7 : k0_cond7 arg29 v29 v36 = 1#1), ∀ a, (k0_off7 v29) a + S8x256.size a ≤ S50000x256.size a := fun arg29 v29 v36 k0_hw3 k0_h7 => k0_hw3.1.2.2.2.2.2.2.2.2.2.2.2.2.2.1 k0_h7
theorem k0_mult11_dvd : ∀ (arg29 : BitVec 32) (v29 : BitVec 32) (v36 : BitVec 32) (k0_hw3 : k0_chk3 arg29 v29 v36), ∀ (k0_h10 : k0_cond10 v29 v36 = 1#1), 8 ∣ (k0_mult11 v29 v36).toNat := fun arg29 v29 v36 k0_hw3 k0_h10 => k0_hw3.1.2.2.2.2.2.2.2.2.2.2.2.2.2.2.1 k0_h10
theorem k0_off27_inb : ∀ (arg29 : BitVec 32) (v29 : BitVec 32) (v36 : BitVec 32) (k0_hw3 : k0_chk3 arg29 v29 v36), ∀ (k0_h10 : k0_cond10 v29 v36 = 1#1), ∀ a, (k0_off27 v29 v36) a + S8x256.size a ≤ S50000x256.size a := fun arg29 v29 v36 k0_hw3 k0_h10 => k0_hw3.1.2.2.2.2.2.2.2.2.2.2.2.2.2.2.2.1 k0_h10
theorem k0_mult12_dvd : ∀ (arg29 : BitVec 32) (v29 : BitVec 32) (v36 : BitVec 32) (k0_hw3 : k0_chk3 arg29 v29 v36), ∀ (k0_h11 : k0_cond11 v29 v36 = 1#1), 8 ∣ (k0_mult12 v29 v36).toNat := fun arg29 v29 v36 k0_hw3 k0_h11 => k0_hw3.1.2.2.2.2.2.2.2.2.2.2.2.2.2.2.2.2.1 k0_h11
theorem k0_off28_inb : ∀ (arg29 : BitVec 32) (v29 : BitVec 32) (v36 : BitVec 32) (k0_hw3 : k0_chk3 arg29 v29 v36), ∀ (k0_h11 : k0_cond11 v29 v36 = 1#1), ∀ a, (k0_off28 v29 v36) a + S8x256.size a ≤ S50000x256.size a := fun arg29 v29 v36 k0_hw3 k0_h11 => k0_hw3.1.2.2.2.2.2.2.2.2.2.2.2.2.2.2.2.2.2.1 k0_h11
theorem k0_mult13_dvd : ∀ (arg29 : BitVec 32) (v29 : BitVec 32) (v36 : BitVec 32) (k0_hw3 : k0_chk3 arg29 v29 v36), ∀ (k0_h12 : k0_cond12 v29 v36 = 1#1), 8 ∣ (k0_mult13 v29 v36).toNat := fun arg29 v29 v36 k0_hw3 k0_h12 => k0_hw3.1.2.2.2.2.2.2.2.2.2.2.2.2.2.2.2.2.2.2.1 k0_h12
theorem k0_off29_inb : ∀ (arg29 : BitVec 32) (v29 : BitVec 32) (v36 : BitVec 32) (k0_hw3 : k0_chk3 arg29 v29 v36), ∀ (k0_h12 : k0_cond12 v29 v36 = 1#1), ∀ a, (k0_off29 v29 v36) a + S8x256.size a ≤ S50000x256.size a := fun arg29 v29 v36 k0_hw3 k0_h12 => k0_hw3.1.2.2.2.2.2.2.2.2.2.2.2.2.2.2.2.2.2.2.2.1 k0_h12
theorem k0_mult14_dvd : ∀ (arg29 : BitVec 32) (v29 : BitVec 32) (v36 : BitVec 32) (k0_hw3 : k0_chk3 arg29 v29 v36), ∀ (k0_h13 : k0_cond13 v29 v36 = 1#1), 8 ∣ (k0_mult14 v29 v36).toNat := fun arg29 v29 v36 k0_hw3 k0_h13 => k0_hw3.1.2.2.2.2.2.2.2.2.2.2.2.2.2.2.2.2.2.2.2.2.1 k0_h13
theorem k0_off30_inb : ∀ (arg29 : BitVec 32) (v29 : BitVec 32) (v36 : BitVec 32) (k0_hw3 : k0_chk3 arg29 v29 v36), ∀ (k0_h13 : k0_cond13 v29 v36 = 1#1), ∀ a, (k0_off30 v29 v36) a + S8x256.size a ≤ S50000x256.size a := fun arg29 v29 v36 k0_hw3 k0_h13 => k0_hw3.1.2.2.2.2.2.2.2.2.2.2.2.2.2.2.2.2.2.2.2.2.2.1 k0_h13
theorem k0_t7_ok : ∀ (arg29 : BitVec 32) (v29 : BitVec 32) (v36 : BitVec 32) (k0_hw3 : k0_chk3 arg29 v29 v36), (k0_t7_loop v29 v36).OK := fun arg29 v29 v36 k0_hw3 => k0_hw3.1.2.2.2.2.2.2.2.2.2.2.2.2.2.2.2.2.2.2.2.2.2.2.1
theorem k0_mult16_dvd : ∀ (arg29 : BitVec 32) (v29 : BitVec 32) (v36 : BitVec 32) (k0_hw3 : k0_chk3 arg29 v29 v36) (k0_t7 : Fin (k0_t7_loop v29 v36).trips), ∀ (k0_h14 : k0_cond14 v29 v36 k0_t7 = 1#1), ∀ (k0_h15 : k0_cond15 v29 v36 k0_t7 = 1#1), 8 ∣ (k0_mult16 v29 v36 k0_t7).toNat := fun arg29 v29 v36 k0_hw3 k0_t7 k0_h14 k0_h15 => k0_hw3.1.2.2.2.2.2.2.2.2.2.2.2.2.2.2.2.2.2.2.2.2.2.2.2.1 k0_t7 k0_h14 k0_h15
theorem k0_off64_inb : ∀ (arg29 : BitVec 32) (v29 : BitVec 32) (v36 : BitVec 32) (k0_hw3 : k0_chk3 arg29 v29 v36) (k0_t7 : Fin (k0_t7_loop v29 v36).trips), ∀ (k0_h14 : k0_cond14 v29 v36 k0_t7 = 1#1), ∀ (k0_h15 : k0_cond15 v29 v36 k0_t7 = 1#1), ∀ a, (k0_off64 v29 v36 k0_t7) a + S32x256.size a ≤ S50000x256.size a := fun arg29 v29 v36 k0_hw3 k0_t7 k0_h14 k0_h15 => k0_hw3.1.2.2.2.2.2.2.2.2.2.2.2.2.2.2.2.2.2.2.2.2.2.2.2.2.1 k0_t7 k0_h14 k0_h15
theorem k0_mult18_dvd : ∀ (arg29 : BitVec 32) (v29 : BitVec 32) (v36 : BitVec 32) (k0_hw3 : k0_chk3 arg29 v29 v36) (k0_t7 : Fin (k0_t7_loop v29 v36).trips), ∀ (k0_h16 : k0_cond16 v29 v36 k0_t7 = 1#1), ∀ (k0_h17 : k0_cond17 v29 v36 k0_t7 = 1#1), 8 ∣ (k0_mult18 v29 v36 k0_t7).toNat := fun arg29 v29 v36 k0_hw3 k0_t7 k0_h16 k0_h17 => k0_hw3.1.2.2.2.2.2.2.2.2.2.2.2.2.2.2.2.2.2.2.2.2.2.2.2.2.2.1 k0_t7 k0_h16 k0_h17
theorem k0_off98_inb : ∀ (arg29 : BitVec 32) (v29 : BitVec 32) (v36 : BitVec 32) (k0_hw3 : k0_chk3 arg29 v29 v36) (k0_t7 : Fin (k0_t7_loop v29 v36).trips), ∀ (k0_h16 : k0_cond16 v29 v36 k0_t7 = 1#1), ∀ (k0_h17 : k0_cond17 v29 v36 k0_t7 = 1#1), ∀ a, (k0_off98 v29 v36 k0_t7) a + S32x256.size a ≤ S50000x256.size a := fun arg29 v29 v36 k0_hw3 k0_t7 k0_h16 k0_h17 => k0_hw3.1.2.2.2.2.2.2.2.2.2.2.2.2.2.2.2.2.2.2.2.2.2.2.2.2.2.2.1 k0_t7 k0_h16 k0_h17
theorem k0_mult20_dvd : ∀ (arg29 : BitVec 32) (v29 : BitVec 32) (v36 : BitVec 32) (k0_hw3 : k0_chk3 arg29 v29 v36) (k0_t7 : Fin (k0_t7_loop v29 v36).trips), ∀ (k0_h18 : k0_cond18 v29 v36 k0_t7 = 1#1), ∀ (k0_h19 : k0_cond19 v29 v36 k0_t7 = 1#1), 8 ∣ (k0_mult20 v29 v36 k0_t7).toNat := fun arg29 v29 v36 k0_hw3 k0_t7 k0_h18 k0_h19 => k0_hw3.1.2.2.2.2.2.2.2.2.2.2.2.2.2.2.2.2.2.2.2.2.2.2.2.2.2.2.2.1 k0_t7 k0_h18 k0_h19
theorem k0_off132_inb : ∀ (arg29 : BitVec 32) (v29 : BitVec 32) (v36 : BitVec 32) (k0_hw3 : k0_chk3 arg29 v29 v36) (k0_t7 : Fin (k0_t7_loop v29 v36).trips), ∀ (k0_h18 : k0_cond18 v29 v36 k0_t7 = 1#1), ∀ (k0_h19 : k0_cond19 v29 v36 k0_t7 = 1#1), ∀ a, (k0_off132 v29 v36 k0_t7) a + S32x256.size a ≤ S50000x256.size a := fun arg29 v29 v36 k0_hw3 k0_t7 k0_h18 k0_h19 => k0_hw3.1.2.2.2.2.2.2.2.2.2.2.2.2.2.2.2.2.2.2.2.2.2.2.2.2.2.2.2.2.1 k0_t7 k0_h18 k0_h19
theorem k0_mult22_dvd : ∀ (arg29 : BitVec 32) (v29 : BitVec 32) (v36 : BitVec 32) (k0_hw3 : k0_chk3 arg29 v29 v36) (k0_t7 : Fin (k0_t7_loop v29 v36).trips), ∀ (k0_h20 : k0_cond20 v29 v36 k0_t7 = 1#1), ∀ (k0_h21 : k0_cond21 v29 v36 k0_t7 = 1#1), 8 ∣ (k0_mult22 v29 v36 k0_t7).toNat := fun arg29 v29 v36 k0_hw3 k0_t7 k0_h20 k0_h21 => k0_hw3.1.2.2.2.2.2.2.2.2.2.2.2.2.2.2.2.2.2.2.2.2.2.2.2.2.2.2.2.2.2.1 k0_t7 k0_h20 k0_h21
theorem k0_off166_inb : ∀ (arg29 : BitVec 32) (v29 : BitVec 32) (v36 : BitVec 32) (k0_hw3 : k0_chk3 arg29 v29 v36) (k0_t7 : Fin (k0_t7_loop v29 v36).trips), ∀ (k0_h20 : k0_cond20 v29 v36 k0_t7 = 1#1), ∀ (k0_h21 : k0_cond21 v29 v36 k0_t7 = 1#1), ∀ a, (k0_off166 v29 v36 k0_t7) a + S32x256.size a ≤ S50000x256.size a := fun arg29 v29 v36 k0_hw3 k0_t7 k0_h20 k0_h21 => k0_hw3.1.2.2.2.2.2.2.2.2.2.2.2.2.2.2.2.2.2.2.2.2.2.2.2.2.2.2.2.2.2.2.1 k0_t7 k0_h20 k0_h21
theorem k0_mult24_dvd : ∀ (arg29 : BitVec 32) (v29 : BitVec 32) (v36 : BitVec 32) (k0_hw3 : k0_chk3 arg29 v29 v36) (k0_t7 : Fin (k0_t7_loop v29 v36).trips), ∀ (k0_h22 : k0_cond22 v29 v36 k0_t7 = 1#1), ∀ (k0_h23 : k0_cond23 v29 v36 k0_t7 = 1#1), 8 ∣ (k0_mult24 v29 v36 k0_t7).toNat := fun arg29 v29 v36 k0_hw3 k0_t7 k0_h22 k0_h23 => k0_hw3.1.2.2.2.2.2.2.2.2.2.2.2.2.2.2.2.2.2.2.2.2.2.2.2.2.2.2.2.2.2.2.2 k0_t7 k0_h22 k0_h23
theorem k0_off200_inb : ∀ (arg29 : BitVec 32) (v29 : BitVec 32) (v36 : BitVec 32) (k0_hw3 : k0_chk3 arg29 v29 v36) (k0_t7 : Fin (k0_t7_loop v29 v36).trips), ∀ (k0_h22 : k0_cond22 v29 v36 k0_t7 = 1#1), ∀ (k0_h23 : k0_cond23 v29 v36 k0_t7 = 1#1), ∀ a, (k0_off200 v29 v36 k0_t7) a + S32x256.size a ≤ S50000x256.size a := fun arg29 v29 v36 k0_hw3 k0_t7 k0_h22 k0_h23 => k0_hw3.2.1 k0_t7 k0_h22 k0_h23
theorem k0_mult26_dvd : ∀ (arg29 : BitVec 32) (v29 : BitVec 32) (v36 : BitVec 32) (k0_hw3 : k0_chk3 arg29 v29 v36) (k0_t7 : Fin (k0_t7_loop v29 v36).trips), ∀ (k0_h24 : k0_cond24 v29 v36 k0_t7 = 1#1), ∀ (k0_h25 : k0_cond25 v29 v36 k0_t7 = 1#1), 8 ∣ (k0_mult26 v29 v36 k0_t7).toNat := fun arg29 v29 v36 k0_hw3 k0_t7 k0_h24 k0_h25 => k0_hw3.2.2.1 k0_t7 k0_h24 k0_h25
theorem k0_off234_inb : ∀ (arg29 : BitVec 32) (v29 : BitVec 32) (v36 : BitVec 32) (k0_hw3 : k0_chk3 arg29 v29 v36) (k0_t7 : Fin (k0_t7_loop v29 v36).trips), ∀ (k0_h24 : k0_cond24 v29 v36 k0_t7 = 1#1), ∀ (k0_h25 : k0_cond25 v29 v36 k0_t7 = 1#1), ∀ a, (k0_off234 v29 v36 k0_t7) a + S32x256.size a ≤ S50000x256.size a := fun arg29 v29 v36 k0_hw3 k0_t7 k0_h24 k0_h25 => k0_hw3.2.2.2.1 k0_t7 k0_h24 k0_h25
theorem k0_t14_ok : ∀ (arg29 : BitVec 32) (v29 : BitVec 32) (v36 : BitVec 32) (k0_hw3 : k0_chk3 arg29 v29 v36), (k0_t14_loop v29 v36).OK := fun arg29 v29 v36 k0_hw3 => k0_hw3.2.2.2.2.1
theorem k0_mult28_dvd : ∀ (arg29 : BitVec 32) (v29 : BitVec 32) (v36 : BitVec 32) (k0_hw3 : k0_chk3 arg29 v29 v36) (k0_t14 : Fin (k0_t14_loop v29 v36).trips), ∀ (k0_h26 : k0_cond26 v29 v36 k0_t14 = 1#1), ∀ (k0_h27 : k0_cond27 v29 v36 k0_t14 = 1#1), 8 ∣ (k0_mult28 v29 v36 k0_t14).toNat := fun arg29 v29 v36 k0_hw3 k0_t14 k0_h26 k0_h27 => k0_hw3.2.2.2.2.2.1 k0_t14 k0_h26 k0_h27
theorem k0_off268_inb : ∀ (arg29 : BitVec 32) (v29 : BitVec 32) (v36 : BitVec 32) (k0_hw3 : k0_chk3 arg29 v29 v36) (k0_t14 : Fin (k0_t14_loop v29 v36).trips), ∀ (k0_h26 : k0_cond26 v29 v36 k0_t14 = 1#1), ∀ (k0_h27 : k0_cond27 v29 v36 k0_t14 = 1#1), ∀ a, (k0_off268 v29 v36 k0_t14) a + S32x256.size a ≤ S50000x256.size a := fun arg29 v29 v36 k0_hw3 k0_t14 k0_h26 k0_h27 => k0_hw3.2.2.2.2.2.2.1 k0_t14 k0_h26 k0_h27
theorem k0_mult30_dvd : ∀ (arg29 : BitVec 32) (v29 : BitVec 32) (v36 : BitVec 32) (k0_hw3 : k0_chk3 arg29 v29 v36) (k0_t14 : Fin (k0_t14_loop v29 v36).trips), ∀ (k0_h28 : k0_cond28 v29 v36 k0_t14 = 1#1), ∀ (k0_h29 : k0_cond29 v29 v36 k0_t14 = 1#1), 8 ∣ (k0_mult30 v29 v36 k0_t14).toNat := fun arg29 v29 v36 k0_hw3 k0_t14 k0_h28 k0_h29 => k0_hw3.2.2.2.2.2.2.2.1 k0_t14 k0_h28 k0_h29
theorem k0_off302_inb : ∀ (arg29 : BitVec 32) (v29 : BitVec 32) (v36 : BitVec 32) (k0_hw3 : k0_chk3 arg29 v29 v36) (k0_t14 : Fin (k0_t14_loop v29 v36).trips), ∀ (k0_h28 : k0_cond28 v29 v36 k0_t14 = 1#1), ∀ (k0_h29 : k0_cond29 v29 v36 k0_t14 = 1#1), ∀ a, (k0_off302 v29 v36 k0_t14) a + S32x256.size a ≤ S50000x256.size a := fun arg29 v29 v36 k0_hw3 k0_t14 k0_h28 k0_h29 => k0_hw3.2.2.2.2.2.2.2.2.1 k0_t14 k0_h28 k0_h29
theorem k0_mult32_dvd : ∀ (arg29 : BitVec 32) (v29 : BitVec 32) (v36 : BitVec 32) (k0_hw3 : k0_chk3 arg29 v29 v36) (k0_t14 : Fin (k0_t14_loop v29 v36).trips), ∀ (k0_h30 : k0_cond30 v29 v36 k0_t14 = 1#1), ∀ (k0_h31 : k0_cond31 v29 v36 k0_t14 = 1#1), 8 ∣ (k0_mult32 v29 v36 k0_t14).toNat := fun arg29 v29 v36 k0_hw3 k0_t14 k0_h30 k0_h31 => k0_hw3.2.2.2.2.2.2.2.2.2.1 k0_t14 k0_h30 k0_h31
theorem k0_off336_inb : ∀ (arg29 : BitVec 32) (v29 : BitVec 32) (v36 : BitVec 32) (k0_hw3 : k0_chk3 arg29 v29 v36) (k0_t14 : Fin (k0_t14_loop v29 v36).trips), ∀ (k0_h30 : k0_cond30 v29 v36 k0_t14 = 1#1), ∀ (k0_h31 : k0_cond31 v29 v36 k0_t14 = 1#1), ∀ a, (k0_off336 v29 v36 k0_t14) a + S32x256.size a ≤ S50000x256.size a := fun arg29 v29 v36 k0_hw3 k0_t14 k0_h30 k0_h31 => k0_hw3.2.2.2.2.2.2.2.2.2.2.1 k0_t14 k0_h30 k0_h31
theorem k0_mult34_dvd : ∀ (arg29 : BitVec 32) (v29 : BitVec 32) (v36 : BitVec 32) (k0_hw3 : k0_chk3 arg29 v29 v36) (k0_t14 : Fin (k0_t14_loop v29 v36).trips), ∀ (k0_h32 : k0_cond32 v29 v36 k0_t14 = 1#1), ∀ (k0_h33 : k0_cond33 v29 v36 k0_t14 = 1#1), 8 ∣ (k0_mult34 v29 v36 k0_t14).toNat := fun arg29 v29 v36 k0_hw3 k0_t14 k0_h32 k0_h33 => k0_hw3.2.2.2.2.2.2.2.2.2.2.2.1 k0_t14 k0_h32 k0_h33
theorem k0_off370_inb : ∀ (arg29 : BitVec 32) (v29 : BitVec 32) (v36 : BitVec 32) (k0_hw3 : k0_chk3 arg29 v29 v36) (k0_t14 : Fin (k0_t14_loop v29 v36).trips), ∀ (k0_h32 : k0_cond32 v29 v36 k0_t14 = 1#1), ∀ (k0_h33 : k0_cond33 v29 v36 k0_t14 = 1#1), ∀ a, (k0_off370 v29 v36 k0_t14) a + S32x256.size a ≤ S50000x256.size a := fun arg29 v29 v36 k0_hw3 k0_t14 k0_h32 k0_h33 => k0_hw3.2.2.2.2.2.2.2.2.2.2.2.2.1 k0_t14 k0_h32 k0_h33
theorem k0_mult36_dvd : ∀ (arg29 : BitVec 32) (v29 : BitVec 32) (v36 : BitVec 32) (k0_hw3 : k0_chk3 arg29 v29 v36) (k0_t14 : Fin (k0_t14_loop v29 v36).trips), ∀ (k0_h34 : k0_cond34 v29 v36 k0_t14 = 1#1), ∀ (k0_h35 : k0_cond35 v29 v36 k0_t14 = 1#1), 8 ∣ (k0_mult36 v29 v36 k0_t14).toNat := fun arg29 v29 v36 k0_hw3 k0_t14 k0_h34 k0_h35 => k0_hw3.2.2.2.2.2.2.2.2.2.2.2.2.2.1 k0_t14 k0_h34 k0_h35
theorem k0_off404_inb : ∀ (arg29 : BitVec 32) (v29 : BitVec 32) (v36 : BitVec 32) (k0_hw3 : k0_chk3 arg29 v29 v36) (k0_t14 : Fin (k0_t14_loop v29 v36).trips), ∀ (k0_h34 : k0_cond34 v29 v36 k0_t14 = 1#1), ∀ (k0_h35 : k0_cond35 v29 v36 k0_t14 = 1#1), ∀ a, (k0_off404 v29 v36 k0_t14) a + S32x256.size a ≤ S50000x256.size a := fun arg29 v29 v36 k0_hw3 k0_t14 k0_h34 k0_h35 => k0_hw3.2.2.2.2.2.2.2.2.2.2.2.2.2.2.1 k0_t14 k0_h34 k0_h35
theorem k0_mult38_dvd : ∀ (arg29 : BitVec 32) (v29 : BitVec 32) (v36 : BitVec 32) (k0_hw3 : k0_chk3 arg29 v29 v36) (k0_t14 : Fin (k0_t14_loop v29 v36).trips), ∀ (k0_h36 : k0_cond36 v29 v36 k0_t14 = 1#1), ∀ (k0_h37 : k0_cond37 v29 v36 k0_t14 = 1#1), 8 ∣ (k0_mult38 v29 v36 k0_t14).toNat := fun arg29 v29 v36 k0_hw3 k0_t14 k0_h36 k0_h37 => k0_hw3.2.2.2.2.2.2.2.2.2.2.2.2.2.2.2.1 k0_t14 k0_h36 k0_h37
theorem k0_off438_inb : ∀ (arg29 : BitVec 32) (v29 : BitVec 32) (v36 : BitVec 32) (k0_hw3 : k0_chk3 arg29 v29 v36) (k0_t14 : Fin (k0_t14_loop v29 v36).trips), ∀ (k0_h36 : k0_cond36 v29 v36 k0_t14 = 1#1), ∀ (k0_h37 : k0_cond37 v29 v36 k0_t14 = 1#1), ∀ a, (k0_off438 v29 v36 k0_t14) a + S32x256.size a ≤ S50000x256.size a := fun arg29 v29 v36 k0_hw3 k0_t14 k0_h36 k0_h37 => k0_hw3.2.2.2.2.2.2.2.2.2.2.2.2.2.2.2.2 k0_t14 k0_h36 k0_h37

@[reducible] def k0_t21_loop : Scf.Loop 32 :=
  let c0_i32_79 : BitVec 32 := 0#32
  let c16_i32_80 : BitVec 32 := 16#32
  let v129 : BitVec 32 := Scalar.addi c0_i32_79 c16_i32_80
  let c1_i32_81 : BitVec 32 := 1#32
  ⟨c0_i32_79, v129, c1_i32_81⟩
def k0_mult39 (k0_t21 : Fin k0_t21_loop.trips) : BitVec 32 :=
  let c0_i32_79 : BitVec 32 := 0#32
  let c1_i32_81 : BitVec 32 := 1#32
  let arg30 : BitVec 32 := Scf.iv c0_i32_79 c1_i32_81 k0_t21
  let c16_i32_83 : BitVec 32 := 16#32
  let v131 : BitVec 32 := Scalar.muli arg30 c16_i32_83
  v131
def k0_off439 (k0_t21 : Fin k0_t21_loop.trips) : Fin 2 → Nat :=
  let c0_i32_92 : BitVec 32 := 0#32
  let v141 : Index := Scalar.indexCast c0_i32_92
  let c0_i32_79 : BitVec 32 := 0#32
  let c1_i32_81 : BitVec 32 := 1#32
  let arg30 : BitVec 32 := Scf.iv c0_i32_79 c1_i32_81 k0_t21
  let c16_i32_83 : BitVec 32 := 16#32
  let v131 : BitVec 32 := Scalar.muli arg30 c16_i32_83
  let v132 : BitVec 32 := v131
  let v142 : Index := Scalar.indexCast v132
  ![0, v142.toNat]
def k0_off440 (k0_t21 : Fin k0_t21_loop.trips) : Fin 2 → Nat :=
  let c1_i32_93 : BitVec 32 := 1#32
  let v146 : Index := Scalar.indexCast c1_i32_93
  let c0_i32_79 : BitVec 32 := 0#32
  let c1_i32_81 : BitVec 32 := 1#32
  let arg30 : BitVec 32 := Scf.iv c0_i32_79 c1_i32_81 k0_t21
  let c16_i32_83 : BitVec 32 := 16#32
  let v131 : BitVec 32 := Scalar.muli arg30 c16_i32_83
  let v132 : BitVec 32 := v131
  let v147 : Index := Scalar.indexCast v132
  ![1, v147.toNat]
def k0_off441 (k0_t21 : Fin k0_t21_loop.trips) : Fin 2 → Nat :=
  let c2_i32_94 : BitVec 32 := 2#32
  let v151 : Index := Scalar.indexCast c2_i32_94
  let c0_i32_79 : BitVec 32 := 0#32
  let c1_i32_81 : BitVec 32 := 1#32
  let arg30 : BitVec 32 := Scf.iv c0_i32_79 c1_i32_81 k0_t21
  let c16_i32_83 : BitVec 32 := 16#32
  let v131 : BitVec 32 := Scalar.muli arg30 c16_i32_83
  let v132 : BitVec 32 := v131
  let v152 : Index := Scalar.indexCast v132
  ![2, v152.toNat]
def k0_off442 (k0_t21 : Fin k0_t21_loop.trips) : Fin 2 → Nat :=
  let c3_i32_95 : BitVec 32 := 3#32
  let v156 : Index := Scalar.indexCast c3_i32_95
  let c0_i32_79 : BitVec 32 := 0#32
  let c1_i32_81 : BitVec 32 := 1#32
  let arg30 : BitVec 32 := Scf.iv c0_i32_79 c1_i32_81 k0_t21
  let c16_i32_83 : BitVec 32 := 16#32
  let v131 : BitVec 32 := Scalar.muli arg30 c16_i32_83
  let v132 : BitVec 32 := v131
  let v157 : Index := Scalar.indexCast v132
  ![3, v157.toNat]
def k0_off443 (k0_t21 : Fin k0_t21_loop.trips) : Fin 2 → Nat :=
  let c4_i32_96 : BitVec 32 := 4#32
  let v161 : Index := Scalar.indexCast c4_i32_96
  let c0_i32_79 : BitVec 32 := 0#32
  let c1_i32_81 : BitVec 32 := 1#32
  let arg30 : BitVec 32 := Scf.iv c0_i32_79 c1_i32_81 k0_t21
  let c16_i32_83 : BitVec 32 := 16#32
  let v131 : BitVec 32 := Scalar.muli arg30 c16_i32_83
  let v132 : BitVec 32 := v131
  let v162 : Index := Scalar.indexCast v132
  ![4, v162.toNat]
def k0_off444 (k0_t21 : Fin k0_t21_loop.trips) : Fin 2 → Nat :=
  let c5_i32_97 : BitVec 32 := 5#32
  let v166 : Index := Scalar.indexCast c5_i32_97
  let c0_i32_79 : BitVec 32 := 0#32
  let c1_i32_81 : BitVec 32 := 1#32
  let arg30 : BitVec 32 := Scf.iv c0_i32_79 c1_i32_81 k0_t21
  let c16_i32_83 : BitVec 32 := 16#32
  let v131 : BitVec 32 := Scalar.muli arg30 c16_i32_83
  let v132 : BitVec 32 := v131
  let v167 : Index := Scalar.indexCast v132
  ![5, v167.toNat]
def k0_off445 (k0_t21 : Fin k0_t21_loop.trips) : Fin 2 → Nat :=
  let c6_i32_98 : BitVec 32 := 6#32
  let v171 : Index := Scalar.indexCast c6_i32_98
  let c0_i32_79 : BitVec 32 := 0#32
  let c1_i32_81 : BitVec 32 := 1#32
  let arg30 : BitVec 32 := Scf.iv c0_i32_79 c1_i32_81 k0_t21
  let c16_i32_83 : BitVec 32 := 16#32
  let v131 : BitVec 32 := Scalar.muli arg30 c16_i32_83
  let v132 : BitVec 32 := v131
  let v172 : Index := Scalar.indexCast v132
  ![6, v172.toNat]
def k0_off446 (k0_t21 : Fin k0_t21_loop.trips) : Fin 2 → Nat :=
  let c7_i32_99 : BitVec 32 := 7#32
  let v176 : Index := Scalar.indexCast c7_i32_99
  let c0_i32_79 : BitVec 32 := 0#32
  let c1_i32_81 : BitVec 32 := 1#32
  let arg30 : BitVec 32 := Scf.iv c0_i32_79 c1_i32_81 k0_t21
  let c16_i32_83 : BitVec 32 := 16#32
  let v131 : BitVec 32 := Scalar.muli arg30 c16_i32_83
  let v132 : BitVec 32 := v131
  let v177 : Index := Scalar.indexCast v132
  ![7, v177.toNat]
def k0_off447 (k0_t3 : Fin k0_t3_loop.trips) (k0_t21 : Fin k0_t21_loop.trips) : Fin 2 → Nat :=
  let c0_i32_12 : BitVec 32 := 0#32
  let c1_i32_14 : BitVec 32 := 1#32
  let arg28 : BitVec 32 := Scf.iv c0_i32_12 c1_i32_14 k0_t3
  let v187 : Index := Scalar.indexCast arg28
  let c0_i32_79 : BitVec 32 := 0#32
  let c1_i32_81 : BitVec 32 := 1#32
  let arg30 : BitVec 32 := Scf.iv c0_i32_79 c1_i32_81 k0_t21
  let c16_i32_83 : BitVec 32 := 16#32
  let v131 : BitVec 32 := Scalar.muli arg30 c16_i32_83
  let v132 : BitVec 32 := v131
  let v188 : Index := Scalar.indexCast v132
  ![v187.toNat, v188.toNat]
@[reducible] def k0_t22_loop : Scf.Loop 32 :=
  let c0_i32_79 : BitVec 32 := 0#32
  let c16_i32_80 : BitVec 32 := 16#32
  let v129 : BitVec 32 := Scalar.addi c0_i32_79 c16_i32_80
  let c1_i32_81 : BitVec 32 := 1#32
  ⟨c0_i32_79, v129, c1_i32_81⟩
def k0_mult40 (k0_t22 : Fin k0_t22_loop.trips) : BitVec 32 :=
  let c0_i32_79 : BitVec 32 := 0#32
  let c1_i32_81 : BitVec 32 := 1#32
  let arg30 : BitVec 32 := Scf.iv c0_i32_79 c1_i32_81 k0_t22
  let c16_i32_83 : BitVec 32 := 16#32
  let v131 : BitVec 32 := Scalar.muli arg30 c16_i32_83
  v131
def k0_off448 (k0_t22 : Fin k0_t22_loop.trips) : Fin 2 → Nat :=
  let c8_i32_92 : BitVec 32 := 8#32
  let v141 : Index := Scalar.indexCast c8_i32_92
  let c0_i32_79 : BitVec 32 := 0#32
  let c1_i32_81 : BitVec 32 := 1#32
  let arg30 : BitVec 32 := Scf.iv c0_i32_79 c1_i32_81 k0_t22
  let c16_i32_83 : BitVec 32 := 16#32
  let v131 : BitVec 32 := Scalar.muli arg30 c16_i32_83
  let v132 : BitVec 32 := v131
  let v142 : Index := Scalar.indexCast v132
  ![8, v142.toNat]
def k0_off449 (k0_t22 : Fin k0_t22_loop.trips) : Fin 2 → Nat :=
  let c9_i32 : BitVec 32 := 9#32
  let v146 : Index := Scalar.indexCast c9_i32
  let c0_i32_79 : BitVec 32 := 0#32
  let c1_i32_81 : BitVec 32 := 1#32
  let arg30 : BitVec 32 := Scf.iv c0_i32_79 c1_i32_81 k0_t22
  let c16_i32_83 : BitVec 32 := 16#32
  let v131 : BitVec 32 := Scalar.muli arg30 c16_i32_83
  let v132 : BitVec 32 := v131
  let v147 : Index := Scalar.indexCast v132
  ![9, v147.toNat]
def k0_off450 (k0_t22 : Fin k0_t22_loop.trips) : Fin 2 → Nat :=
  let c10_i32 : BitVec 32 := 10#32
  let v151 : Index := Scalar.indexCast c10_i32
  let c0_i32_79 : BitVec 32 := 0#32
  let c1_i32_81 : BitVec 32 := 1#32
  let arg30 : BitVec 32 := Scf.iv c0_i32_79 c1_i32_81 k0_t22
  let c16_i32_83 : BitVec 32 := 16#32
  let v131 : BitVec 32 := Scalar.muli arg30 c16_i32_83
  let v132 : BitVec 32 := v131
  let v152 : Index := Scalar.indexCast v132
  ![10, v152.toNat]
def k0_off451 (k0_t22 : Fin k0_t22_loop.trips) : Fin 2 → Nat :=
  let c11_i32 : BitVec 32 := 11#32
  let v156 : Index := Scalar.indexCast c11_i32
  let c0_i32_79 : BitVec 32 := 0#32
  let c1_i32_81 : BitVec 32 := 1#32
  let arg30 : BitVec 32 := Scf.iv c0_i32_79 c1_i32_81 k0_t22
  let c16_i32_83 : BitVec 32 := 16#32
  let v131 : BitVec 32 := Scalar.muli arg30 c16_i32_83
  let v132 : BitVec 32 := v131
  let v157 : Index := Scalar.indexCast v132
  ![11, v157.toNat]
def k0_off452 (k0_t22 : Fin k0_t22_loop.trips) : Fin 2 → Nat :=
  let c12_i32 : BitVec 32 := 12#32
  let v161 : Index := Scalar.indexCast c12_i32
  let c0_i32_79 : BitVec 32 := 0#32
  let c1_i32_81 : BitVec 32 := 1#32
  let arg30 : BitVec 32 := Scf.iv c0_i32_79 c1_i32_81 k0_t22
  let c16_i32_83 : BitVec 32 := 16#32
  let v131 : BitVec 32 := Scalar.muli arg30 c16_i32_83
  let v132 : BitVec 32 := v131
  let v162 : Index := Scalar.indexCast v132
  ![12, v162.toNat]
def k0_off453 (k0_t22 : Fin k0_t22_loop.trips) : Fin 2 → Nat :=
  let c13_i32 : BitVec 32 := 13#32
  let v166 : Index := Scalar.indexCast c13_i32
  let c0_i32_79 : BitVec 32 := 0#32
  let c1_i32_81 : BitVec 32 := 1#32
  let arg30 : BitVec 32 := Scf.iv c0_i32_79 c1_i32_81 k0_t22
  let c16_i32_83 : BitVec 32 := 16#32
  let v131 : BitVec 32 := Scalar.muli arg30 c16_i32_83
  let v132 : BitVec 32 := v131
  let v167 : Index := Scalar.indexCast v132
  ![13, v167.toNat]
def k0_off454 (k0_t22 : Fin k0_t22_loop.trips) : Fin 2 → Nat :=
  let c14_i32 : BitVec 32 := 14#32
  let v171 : Index := Scalar.indexCast c14_i32
  let c0_i32_79 : BitVec 32 := 0#32
  let c1_i32_81 : BitVec 32 := 1#32
  let arg30 : BitVec 32 := Scf.iv c0_i32_79 c1_i32_81 k0_t22
  let c16_i32_83 : BitVec 32 := 16#32
  let v131 : BitVec 32 := Scalar.muli arg30 c16_i32_83
  let v132 : BitVec 32 := v131
  let v172 : Index := Scalar.indexCast v132
  ![14, v172.toNat]
def k0_off455 (k0_t22 : Fin k0_t22_loop.trips) : Fin 2 → Nat :=
  let c15_i32 : BitVec 32 := 15#32
  let v176 : Index := Scalar.indexCast c15_i32
  let c0_i32_79 : BitVec 32 := 0#32
  let c1_i32_81 : BitVec 32 := 1#32
  let arg30 : BitVec 32 := Scf.iv c0_i32_79 c1_i32_81 k0_t22
  let c16_i32_83 : BitVec 32 := 16#32
  let v131 : BitVec 32 := Scalar.muli arg30 c16_i32_83
  let v132 : BitVec 32 := v131
  let v177 : Index := Scalar.indexCast v132
  ![15, v177.toNat]
def k0_off456 (k0_t3 : Fin k0_t3_loop.trips) (k0_t22 : Fin k0_t22_loop.trips) : Fin 2 → Nat :=
  let c0_i32_12 : BitVec 32 := 0#32
  let c1_i32_14 : BitVec 32 := 1#32
  let arg28 : BitVec 32 := Scf.iv c0_i32_12 c1_i32_14 k0_t3
  let v187 : Index := Scalar.indexCast arg28
  let c0_i32_79 : BitVec 32 := 0#32
  let c1_i32_81 : BitVec 32 := 1#32
  let arg30 : BitVec 32 := Scf.iv c0_i32_79 c1_i32_81 k0_t22
  let c16_i32_83 : BitVec 32 := 16#32
  let v131 : BitVec 32 := Scalar.muli arg30 c16_i32_83
  let v132 : BitVec 32 := v131
  let v188 : Index := Scalar.indexCast v132
  ![v187.toNat, v188.toNat]
@[reducible] def k0_t23_loop : Scf.Loop 32 :=
  let c0_i32_79 : BitVec 32 := 0#32
  let c16_i32_80 : BitVec 32 := 16#32
  let v129 : BitVec 32 := Scalar.addi c0_i32_79 c16_i32_80
  let c1_i32_81 : BitVec 32 := 1#32
  ⟨c0_i32_79, v129, c1_i32_81⟩
def k0_mult41 (k0_t23 : Fin k0_t23_loop.trips) : BitVec 32 :=
  let c0_i32_79 : BitVec 32 := 0#32
  let c1_i32_81 : BitVec 32 := 1#32
  let arg30 : BitVec 32 := Scf.iv c0_i32_79 c1_i32_81 k0_t23
  let c16_i32_83 : BitVec 32 := 16#32
  let v131 : BitVec 32 := Scalar.muli arg30 c16_i32_83
  v131
def k0_off457 (k0_t23 : Fin k0_t23_loop.trips) : Fin 2 → Nat :=
  let c16_i32_92 : BitVec 32 := 16#32
  let v141 : Index := Scalar.indexCast c16_i32_92
  let c0_i32_79 : BitVec 32 := 0#32
  let c1_i32_81 : BitVec 32 := 1#32
  let arg30 : BitVec 32 := Scf.iv c0_i32_79 c1_i32_81 k0_t23
  let c16_i32_83 : BitVec 32 := 16#32
  let v131 : BitVec 32 := Scalar.muli arg30 c16_i32_83
  let v132 : BitVec 32 := v131
  let v142 : Index := Scalar.indexCast v132
  ![16, v142.toNat]
def k0_off458 (k0_t23 : Fin k0_t23_loop.trips) : Fin 2 → Nat :=
  let c17_i32_93 : BitVec 32 := 17#32
  let v146 : Index := Scalar.indexCast c17_i32_93
  let c0_i32_79 : BitVec 32 := 0#32
  let c1_i32_81 : BitVec 32 := 1#32
  let arg30 : BitVec 32 := Scf.iv c0_i32_79 c1_i32_81 k0_t23
  let c16_i32_83 : BitVec 32 := 16#32
  let v131 : BitVec 32 := Scalar.muli arg30 c16_i32_83
  let v132 : BitVec 32 := v131
  let v147 : Index := Scalar.indexCast v132
  ![17, v147.toNat]
def k0_off459 (k0_t23 : Fin k0_t23_loop.trips) : Fin 2 → Nat :=
  let c18_i32 : BitVec 32 := 18#32
  let v151 : Index := Scalar.indexCast c18_i32
  let c0_i32_79 : BitVec 32 := 0#32
  let c1_i32_81 : BitVec 32 := 1#32
  let arg30 : BitVec 32 := Scf.iv c0_i32_79 c1_i32_81 k0_t23
  let c16_i32_83 : BitVec 32 := 16#32
  let v131 : BitVec 32 := Scalar.muli arg30 c16_i32_83
  let v132 : BitVec 32 := v131
  let v152 : Index := Scalar.indexCast v132
  ![18, v152.toNat]
def k0_off460 (k0_t23 : Fin k0_t23_loop.trips) : Fin 2 → Nat :=
  let c19_i32 : BitVec 32 := 19#32
  let v156 : Index := Scalar.indexCast c19_i32
  let c0_i32_79 : BitVec 32 := 0#32
  let c1_i32_81 : BitVec 32 := 1#32
  let arg30 : BitVec 32 := Scf.iv c0_i32_79 c1_i32_81 k0_t23
  let c16_i32_83 : BitVec 32 := 16#32
  let v131 : BitVec 32 := Scalar.muli arg30 c16_i32_83
  let v132 : BitVec 32 := v131
  let v157 : Index := Scalar.indexCast v132
  ![19, v157.toNat]
def k0_off461 (k0_t23 : Fin k0_t23_loop.trips) : Fin 2 → Nat :=
  let c20_i32 : BitVec 32 := 20#32
  let v161 : Index := Scalar.indexCast c20_i32
  let c0_i32_79 : BitVec 32 := 0#32
  let c1_i32_81 : BitVec 32 := 1#32
  let arg30 : BitVec 32 := Scf.iv c0_i32_79 c1_i32_81 k0_t23
  let c16_i32_83 : BitVec 32 := 16#32
  let v131 : BitVec 32 := Scalar.muli arg30 c16_i32_83
  let v132 : BitVec 32 := v131
  let v162 : Index := Scalar.indexCast v132
  ![20, v162.toNat]
def k0_off462 (k0_t23 : Fin k0_t23_loop.trips) : Fin 2 → Nat :=
  let c21_i32 : BitVec 32 := 21#32
  let v166 : Index := Scalar.indexCast c21_i32
  let c0_i32_79 : BitVec 32 := 0#32
  let c1_i32_81 : BitVec 32 := 1#32
  let arg30 : BitVec 32 := Scf.iv c0_i32_79 c1_i32_81 k0_t23
  let c16_i32_83 : BitVec 32 := 16#32
  let v131 : BitVec 32 := Scalar.muli arg30 c16_i32_83
  let v132 : BitVec 32 := v131
  let v167 : Index := Scalar.indexCast v132
  ![21, v167.toNat]
def k0_off463 (k0_t23 : Fin k0_t23_loop.trips) : Fin 2 → Nat :=
  let c22_i32 : BitVec 32 := 22#32
  let v171 : Index := Scalar.indexCast c22_i32
  let c0_i32_79 : BitVec 32 := 0#32
  let c1_i32_81 : BitVec 32 := 1#32
  let arg30 : BitVec 32 := Scf.iv c0_i32_79 c1_i32_81 k0_t23
  let c16_i32_83 : BitVec 32 := 16#32
  let v131 : BitVec 32 := Scalar.muli arg30 c16_i32_83
  let v132 : BitVec 32 := v131
  let v172 : Index := Scalar.indexCast v132
  ![22, v172.toNat]
def k0_off464 (k0_t23 : Fin k0_t23_loop.trips) : Fin 2 → Nat :=
  let c23_i32 : BitVec 32 := 23#32
  let v176 : Index := Scalar.indexCast c23_i32
  let c0_i32_79 : BitVec 32 := 0#32
  let c1_i32_81 : BitVec 32 := 1#32
  let arg30 : BitVec 32 := Scf.iv c0_i32_79 c1_i32_81 k0_t23
  let c16_i32_83 : BitVec 32 := 16#32
  let v131 : BitVec 32 := Scalar.muli arg30 c16_i32_83
  let v132 : BitVec 32 := v131
  let v177 : Index := Scalar.indexCast v132
  ![23, v177.toNat]
def k0_off465 (k0_t3 : Fin k0_t3_loop.trips) (k0_t23 : Fin k0_t23_loop.trips) : Fin 2 → Nat :=
  let c0_i32_12 : BitVec 32 := 0#32
  let c1_i32_14 : BitVec 32 := 1#32
  let arg28 : BitVec 32 := Scf.iv c0_i32_12 c1_i32_14 k0_t3
  let v187 : Index := Scalar.indexCast arg28
  let c0_i32_79 : BitVec 32 := 0#32
  let c1_i32_81 : BitVec 32 := 1#32
  let arg30 : BitVec 32 := Scf.iv c0_i32_79 c1_i32_81 k0_t23
  let c16_i32_83 : BitVec 32 := 16#32
  let v131 : BitVec 32 := Scalar.muli arg30 c16_i32_83
  let v132 : BitVec 32 := v131
  let v188 : Index := Scalar.indexCast v132
  ![v187.toNat, v188.toNat]
@[reducible] def k0_t24_loop : Scf.Loop 32 :=
  let c0_i32_78 : BitVec 32 := 0#32
  let c16_i32_79 : BitVec 32 := 16#32
  let v129 : BitVec 32 := Scalar.addi c0_i32_78 c16_i32_79
  let c1_i32_80 : BitVec 32 := 1#32
  ⟨c0_i32_78, v129, c1_i32_80⟩
def k0_mult42 (k0_t24 : Fin k0_t24_loop.trips) : BitVec 32 :=
  let c0_i32_78 : BitVec 32 := 0#32
  let c1_i32_80 : BitVec 32 := 1#32
  let arg30 : BitVec 32 := Scf.iv c0_i32_78 c1_i32_80 k0_t24
  let c16_i32_82 : BitVec 32 := 16#32
  let v131 : BitVec 32 := Scalar.muli arg30 c16_i32_82
  v131
def k0_off466 (k0_t24 : Fin k0_t24_loop.trips) : Fin 2 → Nat :=
  let c24_i32_91 : BitVec 32 := 24#32
  let v141 : Index := Scalar.indexCast c24_i32_91
  let c0_i32_78 : BitVec 32 := 0#32
  let c1_i32_80 : BitVec 32 := 1#32
  let arg30 : BitVec 32 := Scf.iv c0_i32_78 c1_i32_80 k0_t24
  let c16_i32_82 : BitVec 32 := 16#32
  let v131 : BitVec 32 := Scalar.muli arg30 c16_i32_82
  let v132 : BitVec 32 := v131
  let v142 : Index := Scalar.indexCast v132
  ![24, v142.toNat]
def k0_off467 (k0_t24 : Fin k0_t24_loop.trips) : Fin 2 → Nat :=
  let c25_i32 : BitVec 32 := 25#32
  let v155 : Index := Scalar.indexCast c25_i32
  let c0_i32_78 : BitVec 32 := 0#32
  let c1_i32_80 : BitVec 32 := 1#32
  let arg30 : BitVec 32 := Scf.iv c0_i32_78 c1_i32_80 k0_t24
  let c16_i32_82 : BitVec 32 := 16#32
  let v131 : BitVec 32 := Scalar.muli arg30 c16_i32_82
  let v132 : BitVec 32 := v131
  let v156 : Index := Scalar.indexCast v132
  ![25, v156.toNat]
def k0_off468 (k0_t24 : Fin k0_t24_loop.trips) : Fin 2 → Nat :=
  let c26_i32 : BitVec 32 := 26#32
  let v169 : Index := Scalar.indexCast c26_i32
  let c0_i32_78 : BitVec 32 := 0#32
  let c1_i32_80 : BitVec 32 := 1#32
  let arg30 : BitVec 32 := Scf.iv c0_i32_78 c1_i32_80 k0_t24
  let c16_i32_82 : BitVec 32 := 16#32
  let v131 : BitVec 32 := Scalar.muli arg30 c16_i32_82
  let v132 : BitVec 32 := v131
  let v170 : Index := Scalar.indexCast v132
  ![26, v170.toNat]
def k0_off469 (k0_t24 : Fin k0_t24_loop.trips) : Fin 2 → Nat :=
  let c27_i32 : BitVec 32 := 27#32
  let v183 : Index := Scalar.indexCast c27_i32
  let c0_i32_78 : BitVec 32 := 0#32
  let c1_i32_80 : BitVec 32 := 1#32
  let arg30 : BitVec 32 := Scf.iv c0_i32_78 c1_i32_80 k0_t24
  let c16_i32_82 : BitVec 32 := 16#32
  let v131 : BitVec 32 := Scalar.muli arg30 c16_i32_82
  let v132 : BitVec 32 := v131
  let v184 : Index := Scalar.indexCast v132
  ![27, v184.toNat]
def k0_off470 (k0_t24 : Fin k0_t24_loop.trips) : Fin 2 → Nat :=
  let c28_i32 : BitVec 32 := 28#32
  let v197 : Index := Scalar.indexCast c28_i32
  let c0_i32_78 : BitVec 32 := 0#32
  let c1_i32_80 : BitVec 32 := 1#32
  let arg30 : BitVec 32 := Scf.iv c0_i32_78 c1_i32_80 k0_t24
  let c16_i32_82 : BitVec 32 := 16#32
  let v131 : BitVec 32 := Scalar.muli arg30 c16_i32_82
  let v132 : BitVec 32 := v131
  let v198 : Index := Scalar.indexCast v132
  ![28, v198.toNat]
def k0_off471 (k0_t24 : Fin k0_t24_loop.trips) : Fin 2 → Nat :=
  let c29_i32 : BitVec 32 := 29#32
  let v211 : Index := Scalar.indexCast c29_i32
  let c0_i32_78 : BitVec 32 := 0#32
  let c1_i32_80 : BitVec 32 := 1#32
  let arg30 : BitVec 32 := Scf.iv c0_i32_78 c1_i32_80 k0_t24
  let c16_i32_82 : BitVec 32 := 16#32
  let v131 : BitVec 32 := Scalar.muli arg30 c16_i32_82
  let v132 : BitVec 32 := v131
  let v212 : Index := Scalar.indexCast v132
  ![29, v212.toNat]
def k0_off472 (k0_t24 : Fin k0_t24_loop.trips) : Fin 2 → Nat :=
  let c30_i32 : BitVec 32 := 30#32
  let v225 : Index := Scalar.indexCast c30_i32
  let c0_i32_78 : BitVec 32 := 0#32
  let c1_i32_80 : BitVec 32 := 1#32
  let arg30 : BitVec 32 := Scf.iv c0_i32_78 c1_i32_80 k0_t24
  let c16_i32_82 : BitVec 32 := 16#32
  let v131 : BitVec 32 := Scalar.muli arg30 c16_i32_82
  let v132 : BitVec 32 := v131
  let v226 : Index := Scalar.indexCast v132
  ![30, v226.toNat]
def k0_off473 (k0_t24 : Fin k0_t24_loop.trips) : Fin 2 → Nat :=
  let c31_i32 : BitVec 32 := 31#32
  let v239 : Index := Scalar.indexCast c31_i32
  let c0_i32_78 : BitVec 32 := 0#32
  let c1_i32_80 : BitVec 32 := 1#32
  let arg30 : BitVec 32 := Scf.iv c0_i32_78 c1_i32_80 k0_t24
  let c16_i32_82 : BitVec 32 := 16#32
  let v131 : BitVec 32 := Scalar.muli arg30 c16_i32_82
  let v132 : BitVec 32 := v131
  let v240 : Index := Scalar.indexCast v132
  ![31, v240.toNat]
def k0_off474 (k0_t3 : Fin k0_t3_loop.trips) (k0_t24 : Fin k0_t24_loop.trips) : Fin 2 → Nat :=
  let c0_i32_12 : BitVec 32 := 0#32
  let c1_i32_14 : BitVec 32 := 1#32
  let arg28 : BitVec 32 := Scf.iv c0_i32_12 c1_i32_14 k0_t3
  let v259 : Index := Scalar.indexCast arg28
  let c0_i32_78 : BitVec 32 := 0#32
  let c1_i32_80 : BitVec 32 := 1#32
  let arg30 : BitVec 32 := Scf.iv c0_i32_78 c1_i32_80 k0_t24
  let c16_i32_82 : BitVec 32 := 16#32
  let v131 : BitVec 32 := Scalar.muli arg30 c16_i32_82
  let v132 : BitVec 32 := v131
  let v260 : Index := Scalar.indexCast v132
  ![v259.toNat, v260.toNat]
@[reducible] def k0_t25_loop : Scf.Loop 32 :=
  let c0_i32_66 : BitVec 32 := 0#32
  let c16_i32_67 : BitVec 32 := 16#32
  let v121 : BitVec 32 := Scalar.addi c0_i32_66 c16_i32_67
  let c1_i32_68 : BitVec 32 := 1#32
  ⟨c0_i32_66, v121, c1_i32_68⟩
def k0_mult43 (k0_t25 : Fin k0_t25_loop.trips) : BitVec 32 :=
  let c0_i32_66 : BitVec 32 := 0#32
  let c1_i32_68 : BitVec 32 := 1#32
  let arg30 : BitVec 32 := Scf.iv c0_i32_66 c1_i32_68 k0_t25
  let c16_i32_70 : BitVec 32 := 16#32
  let v125 : BitVec 32 := Scalar.muli arg30 c16_i32_70
  v125
def k0_off475 (k0_t3 : Fin k0_t3_loop.trips) (k0_t25 : Fin k0_t25_loop.trips) : Fin 2 → Nat :=
  let c0_i32_12 : BitVec 32 := 0#32
  let c1_i32_14 : BitVec 32 := 1#32
  let arg28 : BitVec 32 := Scf.iv c0_i32_12 c1_i32_14 k0_t3
  let v127 : Index := Scalar.indexCast arg28
  let c0_i32_66 : BitVec 32 := 0#32
  let c1_i32_68 : BitVec 32 := 1#32
  let arg30 : BitVec 32 := Scf.iv c0_i32_66 c1_i32_68 k0_t25
  let c16_i32_70 : BitVec 32 := 16#32
  let v125 : BitVec 32 := Scalar.muli arg30 c16_i32_70
  let v126 : BitVec 32 := v125
  let v128 : Index := Scalar.indexCast v126
  ![v127.toNat, v128.toNat]
def k0_off476 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_0 : BitVec 32 := 16#32
  let v2 : BitVec 32 := Scalar.muli v1 c16_i32_0
  let c0_i32_16_r1 : BitVec 32 := 0#32
  ![v2.toNat, 0]
abbrev grid1 : Pipeline.Grid := .none

abbrev stage1_0 : Fin 1 → Memref sig .tc .vmem S512x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S512x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x256 : Shape := ⟨2, ![50000, 256]⟩
abbrev S50000 : Shape := ⟨1, ![50000]⟩
abbrev S256x512 : Shape := ⟨2, ![256, 512]⟩
abbrev S256 : Shape := ⟨1, ![256]⟩
abbrev S1x50000 : Shape := ⟨2, ![1, 50000]⟩
abbrev S512 : Shape := ⟨1, ![512]⟩
abbrev S512x1 : Shape := ⟨2, ![512, 1]⟩
abbrev S512x50000 : Shape := ⟨2, ![512, 50000]⟩
abbrev S512x50000x1 : Shape := ⟨3, ![512, 50000, 1]⟩
abbrev S1x50000x256 : Shape := ⟨3, ![1, 50000, 256]⟩
abbrev S_ : Shape := ⟨0, ![]⟩
abbrev S512x50000x256 : Shape := ⟨3, ![512, 50000, 256]⟩
abbrev S512x256 : Shape := ⟨2, ![512, 256]⟩
abbrev S50000x1 : Shape := ⟨2, ![50000, 1]⟩
abbrev S512x512 : Shape := ⟨2, ![512, 512]⟩
abbrev S1x256 : Shape := ⟨2, ![1, 256]⟩

abbrev nBuf : Space → Nat
  | .hbm => 37
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256x512, .f32⟩
  | .hbm, ⟨3, _⟩ => ⟨S256, .f32⟩
  | .hbm, ⟨4, _⟩ => ⟨S1x50000, .i32⟩
  | .hbm, ⟨5, _⟩ => ⟨S512, .i32⟩
  | .hbm, ⟨6, _⟩ => ⟨S512x1, .i32⟩
  | .hbm, ⟨7, _⟩ => ⟨S512x50000, .i32⟩
  | .hbm, ⟨8, _⟩ => ⟨S512x50000, .i32⟩
  | .hbm, ⟨9, _⟩ => ⟨S512x50000, .i1⟩
  | .hbm, ⟨10, _⟩ => ⟨S512x50000x1, .i1⟩
  | .hbm, ⟨11, _⟩ => ⟨S1x50000x256, .f32⟩
  | .hbm, ⟨12, _⟩ => ⟨S_, .f32⟩
  | .hbm, ⟨13, _⟩ => ⟨S_, .f32⟩
  | .hbm, ⟨14, _⟩ => ⟨S512x50000x256, .i1⟩
  | .hbm, ⟨15, _⟩ => ⟨S512x50000x256, .f32⟩
  | .hbm, ⟨16, _⟩ => ⟨S512x50000x256, .f32⟩
  | .hbm, ⟨17, _⟩ => ⟨S512x50000x256, .f32⟩
  | .hbm, ⟨18, _⟩ => ⟨S_, .f32⟩
  | .hbm, ⟨19, _⟩ => ⟨S512x256, .f32⟩
  | .hbm, ⟨20, _⟩ => ⟨S_, .f32⟩
  | .hbm, ⟨21, _⟩ => ⟨S512x256, .f32⟩
  | .hbm, ⟨22, _⟩ => ⟨S512x256, .i1⟩
  | .hbm, ⟨23, _⟩ => ⟨S_, .f32⟩
  | .hbm, ⟨24, _⟩ => ⟨S_, .f32⟩
  | .hbm, ⟨25, _⟩ => ⟨S512x256, .f32⟩
  | .hbm, ⟨26, _⟩ => ⟨S512x256, .f32⟩
  | .hbm, ⟨27, _⟩ => ⟨S_, .f32⟩
  | .hbm, ⟨28, _⟩ => ⟨S512x256, .f32⟩
  | .hbm, ⟨29, _⟩ => ⟨S50000x1, .i32⟩
  | .hbm, ⟨30, _⟩ => ⟨S512x256, .f32⟩
  | .hbm, ⟨31, _⟩ => ⟨S512x512, .f32⟩
  | .hbm, ⟨32, _⟩ => ⟨S512x256, .f32⟩
  | .hbm, ⟨33, _⟩ => ⟨S512x256, .f32⟩
  | .hbm, ⟨34, _⟩ => ⟨S1x256, .f32⟩
  | .hbm, ⟨35, _⟩ => ⟨S512x256, .f32⟩
  | .hbm, ⟨36, _⟩ => ⟨S512x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_call1_v0 : Ref sig .tc := ⟨.hbm, 24, rfl⟩
abbrev main_call1_v1 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Proof.Fold.lean ====
/- Folds of a column: a value got from the elements of a multiset of rows by an operation, in some order and grouping. -/
module

public import Mathlib.Data.Multiset.Fold
public import Mathlib.Algebra.BigOperators.Group.Finset.Basic

@[expose] public section

namespace Cert.Proof

/-- `v` is `op` folded over the elements `x r` of the rows in the multiset, in some order and grouping, `z` standing
    for no row (any number of times). -/
inductive Fold {α : Type} (op : α → α → α) (z : α) (x : Nat → α) : Multiset Nat → α → Prop
  | nil : Fold op z x 0 z
  | one (r : Nat) : Fold op z x {r} (x r)
  | add {A B : Multiset Nat} {a b : α} : Fold op z x A a → Fold op z x B b → Fold op z x (A + B) (op a b)

/-- A fold of a commutative, associative operation with neutral element `z` is the fold of the multiset. -/
theorem Fold.eq {α : Type} {op : α → α → α} {z : α} {x : Nat → α} [Std.Commutative op] [Std.Associative op]
    (hz : ∀ a, op z a = a) {A : Multiset Nat} {a : α} (h : Fold op z x A a) : a = (A.map x).fold op z := by
  induction h with
  | nil => simp
  | one r =>
    rw [Multiset.map_singleton, Multiset.fold_singleton, Std.Commutative.comm (op := op), hz]
  | add _ _ ih₁ ih₂ =>
    rw [Multiset.map_add, ih₁, ih₂]
    exact (Multiset.fold_add op z z _ _).symm.trans (by rw [hz])

end Cert.Proof
end
-- ==== Proof.AccI.lean ====
/- The accumulation loop of the SparseCore kernel, stated once: a step of it reads sixteen columns of the rows of a
   buffer, folds them into four running maxima and four running sums, and folds these into a row of the two results. -/
module

public import proofs.«01_k».proof.Proof.Gen.KernelIdeal
public import proofs.«01_k».proof.Proof.Fold
public import Idealize.ShloMosaic.Lib.SparseCore.Quiescent
public import Idealize.ShloMosaic.Lib.Tactic
public import Idealize.ShloMosaic.Lib.WritesUnit
public import Idealize.ShloMosaic.Lib.Pipeline.Value

@[expose] public section

noncomputable section

namespace Cert.Proof.KI

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The four running maxima and the four running sums; each row goes to the first of four, and the four rotate. -/
structure Run8 (F : FTy → Type) where
  p0 : FVec F S16 .f32
  p1 : FVec F S16 .f32
  p2 : FVec F S16 .f32
  p3 : FVec F S16 .f32
  s0 : FVec F S16 .f32
  s1 : FVec F S16 .f32
  s2 : FVec F S16 .f32
  s3 : FVec F S16 .f32

/-- One row: `vm` into the first maximum, `vs` into the first sum, and a rotation. -/
def Run8.step (st : Run8 F) (vm vs : FVec F S16 .f32) : Run8 F :=
  ⟨st.p1, st.p2, st.p3, maximumf st.p0 vm, st.s1, st.s2, st.s3, addf st.s0 vs⟩

/-- The start: every maximum the word of minus infinity, every sum the word of zero. -/
def Run8.init : Run8 F :=
  let m : FVec F S16 .f32 := broadcast S16 (Scalar.ofBits .f32 0xFF800000#32)
  let z : FVec F S16 .f32 := broadcast S16 (Scalar.ofBits .f32 0x00000000#32)
  ⟨m, m, m, m, z, z, z, z⟩

def Run8.max (st : Run8 F) : FVec F S16 .f32 := maximumf (maximumf (maximumf st.p0 st.p1) st.p2) st.p3
def Run8.sum (st : Run8 F) : FVec F S16 .f32 := addf (addf (addf st.s0 st.s1) st.s2) st.s3

/-- A piece of sixteen columns at `off`. -/
abbrev piece {R : Nat} (off : Fin 2 → Nat) (h : ∀ a, off a + S1x16.size a ≤ (⟨2, ![R, 256]⟩ : Shape).size a) : Rect (⟨2, ![R, 256]⟩ : Shape) :=
  Rect.unit (s := ⟨2, ![R, 256]⟩) off S1x16.size h

/-- The effects of a tile. -/
abbrev EV (F : FTy → Type) (a : Fin τ.nSC) (b : Fin τ.nSub) : Type → Type := TpuEff nD τ sig (Elt F) Λ₀ (.scVector a b)

section Prog

variable {a : Fin τ.nSC} {b : Fin τ.nSub} {R : Nat}

/-- Read the next `n` rows, `r` rows being read already. -/
def accRows (m : Memref sig .scVector .vmem ⟨2, ![R, 256]⟩ .f32) (off : Nat → Fin 2 → Nat) (N : Nat)
    (inb : ∀ r, r < N → ∀ a, off r a + S1x16.size a ≤ (⟨2, ![R, 256]⟩ : Shape).size a)
    (fm fs : Nat → FVec F S16 .f32 → FVec F S16 .f32) {α : Type} (k : Run8 F → Prog (EV F a b) α) :
    (n r : Nat) → r + n ≤ N → Run8 F → Prog (EV F a b) α
  | 0, _, _, st => k st
  | n + 1, r, h, st =>
    .op (TpuEff.load m (piece (off r) (inb r (by omega))).toLoadRect (View.loadsAt_vmem h_S1x16)) fun x =>
      let v : FVec F S16 .f32 := shapeCast S16 x shapeCasts_S1x16_S16
      accRows m off N inb fm fs k n (r + 1) (by omega) (st.step (fm r v) (fs r v))

/-- One step of the loop. -/
def accBody (m : Memref sig .scVector .vmem ⟨2, ![R, 256]⟩ .f32) (off : Nat → Fin 2 → Nat) (N : Nat)
    (inb : ∀ r, r < N → ∀ a, off r a + S1x16.size a ≤ (⟨2, ![R, 256]⟩ : Shape).size a)
    (fm fs : Nat → FVec F S16 .f32 → FVec F S16 .f32)
    (om os : Memref sig .scVector .vmem S16x256 .f32) (offo : Fin 2 → Nat) (inbo : ∀ a, offo a + S1x16.size a ≤ S16x256.size a) :
    Prog (EV F a b) (BitVec 32) :=
  accRows m off N inb fm fs (fun st =>
    .op (TpuEff.load om (piece offo inbo).toLoadRect (View.loadsAt_vmem h_S1x16)) fun x =>
    .op (TpuEff.load om (piece offo inbo).toLoadRect (View.loadsAt_vmem h_S1x16)) fun _ =>
    .op (TpuEff.store om (piece offo inbo) (shapeCast S1x16 (maximumf (shapeCast S16 x shapeCasts_S1x16_S16) st.max) shapeCasts_S16_S1x16) Finset.univ (View.stores_vmem_bits_univ h_S1x16 rfl) (.inl rfl)) fun _ =>
    .op (TpuEff.load os (piece offo inbo).toLoadRect (View.loadsAt_vmem h_S1x16)) fun y =>
    .op (TpuEff.load os (piece offo inbo).toLoadRect (View.loadsAt_vmem h_S1x16)) fun _ =>
    .op (TpuEff.store os (piece offo inbo) (shapeCast S1x16 (addf (shapeCast S16 y shapeCasts_S1x16_S16) st.sum) shapeCasts_S16_S1x16) Finset.univ (View.stores_vmem_bits_univ h_S1x16 rfl) (.inl rfl)) fun _ =>
    .ret 0#32) N 0 (by omega) Run8.init

end Prog

/-- A row's offset in a buffer, sixteen columns from `v` on. -/
abbrev rowOff (base : Nat) (v : BitVec 32) (r : Nat) : Fin 2 → Nat := ![base + r, (Scalar.indexCast v).toNat]

/-! ## Values -/

section Values

/-- The larger and the sum of two values, the words of minus infinity and of zero. -/
abbrev mx (a b : F .f32) : F .f32 := FloatOps.maximumf a b
abbrev ad (a b : F .f32) : F .f32 := FloatOps.addf a b
abbrev nInf : F .f32 := Scalar.ofBits .f32 0xFF800000#32
abbrev zero : F .f32 := Scalar.ofBits .f32 0x00000000#32

variable (xv : Nat → Nat → F .f32)

/-- Sixteen columns from column `16 t` on: the maxima over the rows `M`. -/
def MaxV (t : Nat) (M : Multiset Nat) (v : FVec F S16 .f32) : Prop :=
  ∀ l : S16.Idx, Fold mx nInf (fun r => xv r (16 * t + (l 0).val)) M (v l)
/-- Sixteen columns from column `16 t` on: the sums over the rows `M`. -/
def SumV (t : Nat) (M : Multiset Nat) (v : FVec F S16 .f32) : Prop :=
  ∀ l : S16.Idx, Fold ad zero (fun r => xv r (16 * t + (l 0).val)) M (v l)

/-- The running values are those over the rows `M`, split in four. -/
def Run8.Ok (t : Nat) (M : Multiset Nat) (st : Run8 F) : Prop :=
  ∃ A B C D : Multiset Nat, A + B + C + D = M
    ∧ (MaxV xv t A st.p0 ∧ MaxV xv t B st.p1 ∧ MaxV xv t C st.p2 ∧ MaxV xv t D st.p3)
    ∧ (SumV xv t A st.s0 ∧ SumV xv t B st.s1 ∧ SumV xv t C st.s2 ∧ SumV xv t D st.s3)

variable {xv}

theorem Run8.ok_init (t : Nat) : Run8.Ok xv t 0 (Run8.init (F := F)) :=
  ⟨0, 0, 0, 0, rfl, ⟨fun _ => .nil, fun _ => .nil, fun _ => .nil, fun _ => .nil⟩, fun _ => .nil, fun _ => .nil, fun _ => .nil, fun _ => .nil⟩

theorem Run8.Ok.step {t : Nat} {M N : Multiset Nat} {st : Run8 F} (h : Run8.Ok xv t M st) {vm vs : FVec F S16 .f32}
    (hm : MaxV xv t N vm) (hs : SumV xv t N vs) : Run8.Ok xv t (M + N) (st.step vm vs) := by
  obtain ⟨A, B, C, D, rfl, ⟨h0, h1, h2, h3⟩, g0, g1, g2, g3⟩ := h
  refine ⟨B, C, D, A + N, by ac_rfl, ⟨h1, h2, h3, fun l => (h0 l).add (hm l)⟩, g1, g2, g3, fun l => (g0 l).add (hs l)⟩

theorem Run8.Ok.max {t : Nat} {M : Multiset Nat} {st : Run8 F} (h : Run8.Ok xv t M st) : MaxV xv t M st.max := by
  obtain ⟨A, B, C, D, rfl, ⟨h0, h1, h2, h3⟩, -⟩ := h
  exact fun l => (((h0 l).add (h1 l)).add (h2 l)).add (h3 l)

theorem Run8.Ok.sum {t : Nat} {M : Multiset Nat} {st : Run8 F} (h : Run8.Ok xv t M st) : SumV xv t M st.sum := by
  obtain ⟨A, B, C, D, rfl, -, h0, h1, h2, h3⟩ := h
  exact fun l => (((h0 l).add (h1 l)).add (h2 l)).add (h3 l)

/-- What is said of a result array's elements, by row and column. -/
def Holds (P : Nat → Nat → F .f32 → Prop) (f : S16x256.Idx → F .f32) : Prop :=
  ∀ y : S16x256.Idx, P (y 0).val (y 1).val (f y)

theorem Holds.mono {P P' : Nat → Nat → F .f32 → Prop} {f : S16x256.Idx → F .f32} (h : Holds P f)
    (hP : ∀ r c x, r < 16 → c < 256 → P r c x → P' r c x) : Holds P' f :=
  fun y => hP _ _ _ (y 0).isLt (y 1).isLt (h y)

/-- Row `s` holds folds over the rows `M c` (by column), the other rows what `D` says. -/
def RowP (op : F .f32 → F .f32 → F .f32) (z : F .f32) (xv : Nat → Nat → F .f32) (s : Nat) (M : Nat → Multiset Nat)
    (D : Nat → Nat → F .f32 → Prop) : Nat → Nat → F .f32 → Prop :=
  fun r c x => if r = s then Fold op z (fun r => xv r c) (M c) x else D r c x

/-- Sixteen values and one row of sixteen. -/
theorem cast16 {α : Type} (x : S1x16.Idx → α) (l : S16.Idx) :
    shapeCast S16 x shapeCasts_S1x16_S16 l = x (Fin.cons (⟨0, Nat.one_pos⟩ : Fin 1) l) :=
  shapeCast_dropUnit_apply (n := 1) ![16] x shapeCasts_S1x16_S16 l
theorem cast1x16 {α : Type} (x : S16.Idx → α) (l : S1x16.Idx) :
    shapeCast S1x16 x shapeCasts_S16_S1x16 l = x (fun a => l a.succ) :=
  shapeCast_addUnit_apply (n := 1) ![16] x shapeCasts_S16_S1x16 l
/-- Row `r` as the program reads it off contents `f`. -/
def rowv {R : Nat} (m : Memref sig .scVector .vmem ⟨2, ![R, 256]⟩ .f32) (off : Fin 2 → Nat)
    (inb : ∀ a, off a + S1x16.size a ≤ (⟨2, ![R, 256]⟩ : Shape).size a) (f : m.view.ty.Contents (Elt F)) : FVec F S16 .f32 :=
  shapeCast S16 (m.view.readAt (Elt F) (piece off inb).toLoadRect f) shapeCasts_S1x16_S16

/-- Storing sixteen values into a piece of a result array. -/
theorem Holds.store {P P' : Nat → Nat → F .f32 → Prop} {s t : Nat}
    (m : Memref sig .scVector .vmem S16x256 .f32) (f : m.view.ty.Contents (Elt F))
    (h : Holds P (m.view.read (Elt F) f)) (off : Fin 2 → Nat) (inb : ∀ a, off a + S1x16.size a ≤ S16x256.size a) (hoff : off = ![s, 16 * t])
    (w : FVec F S16 .f32) (hP : ∀ r c x, ¬ (r = s ∧ 16 * t ≤ c ∧ c < 16 * t + 16) → P r c x → P' r c x)
    (hw : ∀ l : S16.Idx, P s (16 * t + (l 0).val) (rowv (R := 16) m off inb f l) → P' s (16 * t + (l 0).val) (w l)) :
    Holds P' (m.view.read (Elt F) ((m.access (piece (R := 16) off inb)).write (Elt F) f
      (shapeCast S1x16 w shapeCasts_S16_S1x16) Finset.univ)) := by
  subst hoff
  intro y
  by_cases hy : (y 0).val = s ∧ 16 * t ≤ (y 1).val ∧ (y 1).val < 16 * t + 16
  · obtain ⟨h0, h1, h2⟩ := hy
    let l : S16.Idx := fun a => ⟨(y 1).val - 16 * t, by
      have ha : a = 0 := Subsingleton.elim (α := Fin 1) _ _
      subst ha; show _ < 16; omega⟩
    let x : S1x16.Idx := Fin.cons (⟨0, Nat.one_pos⟩ : Fin 1) l
    have hx : ∀ a : Fin 2, (y a).val = (![s, 16 * t] : Fin 2 → Nat) a + (x a).val :=
      Fin.forall_fin_two.mpr ⟨h0, by show (y 1).val = 16 * t + ((y 1).val - 16 * t); omega⟩
    have e : y = (piece (R := 16) ![s, 16 * t] inb).toLoadRect.idx x := funext fun a => Fin.ext (by
      rw [LoadRect.idx_apply]; show (y a).val = (![s, 16 * t] : Fin 2 → Nat) a + 1 * (x a).val; rw [Nat.one_mul]; exact hx a)
    have hr : ∀ w, m.view.read (Elt F) ((m.access (piece (R := 16) ![s, 16 * t] inb)).write (Elt F) f w Finset.univ) y = w x :=
      fun w => View.read_writes_cons_unit_of_mem m.view f inb w [] y x rfl hx
    rw [hr, cast1x16]
    have hl : (fun a => x (Fin.succ a)) = l := rfl
    have hc : 16 * t + (l 0).val = (y 1).val := by show 16 * t + ((y 1).val - 16 * t) = _; omega
    have := hw l
    unfold rowv at this
    rw [cast16, View.readAt_apply, ← e, hc, ← h0] at this
    rw [hl]
    exact this (h y)
  · refine hP _ _ _ hy ?_
    have hr : ∀ w, m.view.read (Elt F) ((m.access (piece (R := 16) ![s, 16 * t] inb)).write (Elt F) f w Finset.univ) y = m.view.read (Elt F) f y := by
      intro w
      by_cases h0 : (y 0).val = s
      · refine View.read_writes_cons_unit_of_not_mem m.view f inb w [] y rfl (1 : Fin 2) ?_
        show (y 1).val < 16 * t ∨ 16 * t + 16 ≤ (y 1).val
        omega
      · refine View.read_writes_cons_unit_of_not_mem m.view f inb w [] y rfl (0 : Fin 2) ?_
        show (y 0).val < s ∨ s + 1 ≤ (y 0).val
        omega
    rw [hr]; exact h y

end Values

end Cert.Proof.KI
end
-- ==== Proof.AccWpI.lean ====
/- The rules of the accumulation loop (`accRows`, `accBody`, `accLoop`): what it leaves in the two result arrays. -/
module

public import proofs.«01_k».proof.Proof.AccI

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev 𝒱₀ : Variants := Variants.none

/-- The handshakes' rounds library beside the transfers' counters. -/
abbrev UH : Type := URounds (GSem nD τ sig) ℕ
/-- The pipeline rounds of the dense call. -/
abbrev UP : Type := URounds (GSem nD τ sig) Unit
abbrev UU : Type := UH × (UP × Counters)

local notation "𝕄" => MT nD τ sig (HIx 1) (Elt F) ℕ UU ℕ

/-- A program of a tile, run to the end. -/
abbrev WP (d : Dev nD) (a : Fin τ.nSC) (b : Fin τ.nSub) {α : Type} (p : Prog (EV F a b) α) (Q : α → sProp 𝕄) : sProp 𝕄 :=
  wp frame (wpE (defs₀ (F := F)) 𝒱₀ (V d a b) none) Set.univ p Q

section Rules

variable (d : Dev nD) {a : Fin τ.nSC} {b : Fin τ.nSub} {R : Nat} (xv : Nat → Nat → F .f32)

/-- The rows folded into row `s` before trip `t`: `M` and, in the columns done, `N`. -/
def upTo (t : Nat) (M N : Multiset Nat) : Nat → Multiset Nat := fun c => if c < 16 * t then M + N else M

theorem RowP.step {op : F .f32 → F .f32 → F .f32} {z : F .f32} {xv : Nat → Nat → F .f32} {s t : Nat} {M N : Multiset Nat} {D : Nat → Nat → F .f32 → Prop}
    (r c : Nat) (x : F .f32) (h : ¬ (r = s ∧ 16 * t ≤ c ∧ c < 16 * t + 16)) (hx : RowP op z xv s (upTo t M N) D r c x) :
    RowP op z xv s (upTo (t + 1) M N) D r c x := by
  unfold RowP at hx ⊢
  by_cases hr : r = s
  · rw [if_pos hr] at hx ⊢
    unfold upTo at hx ⊢
    by_cases hc : c < 16 * t
    · rw [if_pos hc] at hx; rwa [if_pos (by omega)]
    · rw [if_neg hc] at hx; rwa [if_neg (by omega)]
  · rw [if_neg hr] at hx ⊢; exact hx

theorem RowP.fold {op : F .f32 → F .f32 → F .f32} {z : F .f32} {xv : Nat → Nat → F .f32} {s t : Nat} {M N : Multiset Nat} {D : Nat → Nat → F .f32 → Prop}
    {v : FVec F S16 .f32} (hv : ∀ l : S16.Idx, Fold op z (fun r => xv r (16 * t + (l 0).val)) N (v l)) (u : FVec F S16 .f32) (l : S16.Idx)
    (hx : RowP op z xv s (upTo t M N) D s (16 * t + (l 0).val) (u l)) : RowP op z xv s (upTo (t + 1) M N) D s (16 * t + (l 0).val) (op (u l) (v l)) := by
  have hl : (l 0).val < 16 := (l 0).isLt
  unfold RowP upTo at hx ⊢
  rw [if_pos rfl] at hx ⊢
  rw [if_neg (by omega)] at hx
  rw [if_pos (by omega)]
  exact hx.add (hv l)

/-- The rows' pass: the running values at its end are those over the rows it read beside those before. -/
theorem wp_accRows {m : Memref sig .scVector .vmem ⟨2, ![R, 256]⟩ .f32} {off : Nat → Fin 2 → Nat} {N : Nat}
    {inb : ∀ r, r < N → ∀ a, off r a + S1x16.size a ≤ (⟨2, ![R, 256]⟩ : Shape).size a}
    {fm fs : Nat → FVec F S16 .f32 → FVec F S16 .f32} {α : Type} {k : Run8 F → Prog (EV F a b) α} {Q : α → sProp 𝕄}
    {Sb : Finset (Idx (m.view.loc (V d a b)))} {q : PosShare TreeShare} {f : Buf (Elt F) (m.view.loc (V d a b))}
    (hS : ∀ r h, m.view.setOn (piece (off r) (inb r h)).toLoadRect.set ⊆ Sb)
    (t : Nat) (A : Nat → Multiset Nat)
    (hv : ∀ r h, MaxV xv t (A r) (fm r (rowv m (off r) (inb r h) f)) ∧ SumV xv t (A r) (fs r (rowv m (off r) (inb r h) f))) :
    ∀ (n r : Nat) (h : r + n ≤ N) (st : Run8 F), st.Ok xv t (∑ i ∈ Finset.range r, A i) →
      iprop((m.view.loc (V d a b) ↦[Sb]{q} f)
          ∗ (∀ st' : Run8 F, ⌜st'.Ok xv t (∑ i ∈ Finset.range (r + n), A i)⌝ -∗ (m.view.loc (V d a b) ↦[Sb]{q} f) -∗ WP d a b (k st') Q))
        ⊢ WP d a b (accRows m off N inb fm fs k n r h st) Q := by
  intro n
  induction n with
  | zero =>
    intro r h st hst
    unfold accRows
    iintro ⟨Hf, Hk⟩
    ispecialize Hk $$ %st
    iapply Hk $$ [] [Hf]
    · ipureintro; exact hst
    · iexact Hf
  | succ n ih =>
    intro r h st hst
    unfold accRows
    iintro ⟨Hf, Hk⟩
    iapply (wp_load (defs := defs₀ (F := F)) 𝒱₀ (V d a b) none Set.univ (hS r (by omega))) $$ Hf
    iintro Hf
    have hst' := hst.step (hv r (by omega)).1 (hv r (by omega)).2
    rw [← Finset.sum_range_succ] at hst'
    iapply (ih (r + 1) (by omega) _ hst')
    isplitl [Hf]; · iexact Hf
    rw [show r + 1 + n = r + (n + 1) by omega]
    iexact Hk

/-- One step of the loop: the rows' fold into sixteen columns of one row of each result. -/
theorem wp_accBody {m : Memref sig .scVector .vmem ⟨2, ![R, 256]⟩ .f32} {off : Nat → Fin 2 → Nat} {N : Nat}
    {inb : ∀ r, r < N → ∀ a, off r a + S1x16.size a ≤ (⟨2, ![R, 256]⟩ : Shape).size a}
    {fm fs : Nat → FVec F S16 .f32 → FVec F S16 .f32} {om os : Memref sig .scVector .vmem S16x256 .f32} {offo : Fin 2 → Nat}
    {inbo : ∀ a, offo a + S1x16.size a ≤ S16x256.size a} {Q : BitVec 32 → sProp 𝕄}
    {Sb : Finset (Idx (m.view.loc (V d a b)))} {q : PosShare TreeShare} {f : Buf (Elt F) (m.view.loc (V d a b))}
    {go : Buf (Elt F) (om.view.loc (V d a b))} {gs : Buf (Elt F) (os.view.loc (V d a b))}
    (hS : ∀ r h, m.view.setOn (piece (off r) (inb r h)).toLoadRect.set ⊆ Sb)
    (s t : Nat) (hoffo : offo = ![s, 16 * t]) (A : Nat → Multiset Nat)
    (hv : ∀ r h, MaxV xv t (A r) (fm r (rowv m (off r) (inb r h) f)) ∧ SumV xv t (A r) (fs r (rowv m (off r) (inb r h) f)))
    {M : Multiset Nat} {Dm Ds : Nat → Nat → F .f32 → Prop}
    (hm : Holds (RowP mx nInf xv s (upTo t M (∑ i ∈ Finset.range N, A i)) Dm) (om.view.read (Elt F) go))
    (hs : Holds (RowP ad zero xv s (upTo t M (∑ i ∈ Finset.range N, A i)) Ds) (os.view.read (Elt F) gs)) :
      iprop((m.view.loc (V d a b) ↦[Sb]{q} f) ∗ (om.view.loc (V d a b) ↦{fullShare} go) ∗ (os.view.loc (V d a b) ↦{fullShare} gs)
          ∗ (∀ go gs, ⌜Holds (RowP mx nInf xv s (upTo (t + 1) M (∑ i ∈ Finset.range N, A i)) Dm) (om.view.read (Elt F) go)
                ∧ Holds (RowP ad zero xv s (upTo (t + 1) M (∑ i ∈ Finset.range N, A i)) Ds) (os.view.read (Elt F) gs)⌝
            -∗ (m.view.loc (V d a b) ↦[Sb]{q} f) -∗ (om.view.loc (V d a b) ↦{fullShare} go) -∗ (os.view.loc (V d a b) ↦{fullShare} gs) -∗ Q 0#32))
        ⊢ WP d a b (accBody m off N inb fm fs om os offo inbo) Q := by
  unfold accBody
  iintro ⟨Hf, Hm, Hs, Hk⟩
  iapply (wp_accRows d xv hS t A hv N 0 _ Run8.init (Run8.ok_init t))
  isplitl [Hf]; · iexact Hf
  iintro %st %hst Hf
  rw [Nat.zero_add] at hst
  iapply (wp_load (defs := defs₀ (F := F)) 𝒱₀ (V d a b) none Set.univ (Finset.subset_univ _)) $$ Hm
  iintro Hm
  iapply (wp_load (defs := defs₀ (F := F)) 𝒱₀ (V d a b) none Set.univ (Finset.subset_univ _)) $$ Hm
  iintro Hm
  iapply (wp_store (defs := defs₀ (F := F)) 𝒱₀ (V d a b) none Set.univ (m := om) (r := piece (R := 16) offo inbo) (f := go) (Finset.subset_univ _)) $$ Hm
  iintro Hm
  iapply (wp_load (defs := defs₀ (F := F)) 𝒱₀ (V d a b) none Set.univ (Finset.subset_univ _)) $$ Hs
  iintro Hs
  iapply (wp_load (defs := defs₀ (F := F)) 𝒱₀ (V d a b) none Set.univ (Finset.subset_univ _)) $$ Hs
  iintro Hs
  iapply (wp_store (defs := defs₀ (F := F)) 𝒱₀ (V d a b) none Set.univ (m := os) (r := piece (R := 16) offo inbo) (f := gs) (Finset.subset_univ _)) $$ Hs
  iintro Hs
  rw [wp_ret]
  imodintro
  iapply Hk $$ [] [Hf] [Hm] [Hs]
  · ipureintro
    exact ⟨hm.store om go offo inbo hoffo _ RowP.step (RowP.fold hst.max _), hs.store os gs offo inbo hoffo _ RowP.step (RowP.fold hst.sum _)⟩
  · iexact Hf
  · iexact Hm
  · iexact Hs

end Rules
end Cert.Proof.KI
end
-- ==== Proof.SegI.lean ====
/- The body of the loop over the segments, in a few programs: a guarded copy in, a guarded wait with an accumulation
   loop, and a turn of the ring of row buffers. The parts of the kernel's text are these. -/
module

public import proofs.«01_k».proof.Proof.AccWpI

@[expose] public section

noncomputable section

namespace Cert.Proof.KI

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The first of the sixteen columns of trip `t`. -/
abbrev colBV (t : Nat) : BitVec 32 := Scalar.muli (Scf.iv 0#32 1#32 t) 16#32
/-- Where the results of row `s` and trip `t` are. -/
abbrev resOff (s t : Nat) : Fin 2 → Nat := ![(Scalar.indexCast (Scf.iv 0#32 1#32 s)).toNat, (Scalar.indexCast (colBV t)).toNat]

theorem small_cases {p : Nat → Prop} (h : ∀ t : Fin 16, p t.val) (t : Nat) (ht : t < 16) : p t := h ⟨t, ht⟩

theorem colBV_eq {t : Nat} (ht : t < 16) : (Scalar.indexCast (colBV t)).toNat = 16 * t :=
  small_cases (p := fun t => (Scalar.indexCast (colBV t)).toNat = 16 * t) (by decide +kernel) t ht
theorem rowBV_eq {t : Nat} (ht : t < 16) : (Scalar.indexCast (Scf.iv 0#32 1#32 t)).toNat = t :=
  small_cases (p := fun t => (Scalar.indexCast (Scf.iv 0#32 1#32 t)).toNat = t) (by decide +kernel) t ht

theorem resOff_eq {s t : Nat} (hs : s < 16) (ht : t < 16) : resOff s t = ![s, 16 * t] := by
  unfold resOff; rw [rowBV_eq hs, colBV_eq ht]

theorem resOff_inb {s t : Nat} (hs : s < 16) (ht : t < 16) : ∀ a, resOff s t a + S1x16.size a ≤ S16x256.size a := by
  rw [resOff_eq hs ht]
  exact Fin.forall_fin_two.mpr ⟨by show s + 1 ≤ 16; omega, by show 16 * t + 16 ≤ 256; omega⟩

theorem rowOff_eq {base t r : Nat} (ht : t < 16) : rowOff base (colBV t) r = ![base + r, 16 * t] := by
  unfold rowOff; rw [colBV_eq ht]

theorem rowOff_inb {R base N t r : Nat} (ht : t < 16) (hR : base + N ≤ R) (hr : r < N) :
    ∀ a, rowOff base (colBV t) r a + S1x16.size a ≤ (⟨2, ![R, 256]⟩ : Shape).size a := by
  rw [rowOff_eq ht]
  exact Fin.forall_fin_two.mpr ⟨by show base + r + 1 ≤ R; omega, by show 16 * t + 16 ≤ 256; omega⟩

section Prog

variable {a : Fin τ.nSC} {b : Fin τ.nSub} {R : Nat}

/-- The accumulation loop: rows `base`, … of a buffer into row `s` of the results. -/
def accLoop (L : Scf.Loop 32) (hok : L.OK) (hL : L.trips ≤ 16) (m : Memref sig .scVector .vmem ⟨2, ![R, 256]⟩ .f32) (base N : Nat)
    (hR : base + N ≤ R) (fm fs : Nat → FVec F S16 .f32 → FVec F S16 .f32) (om os : Memref sig .scVector .vmem S16x256 .f32) (s : Nat)
    (hs : s < 16) : Prog (EV F a b) (BitVec 32) :=
  Scf.Loop.for L hok 0#32 fun t _ =>
    accBody m (rowOff base (colBV t)) N (fun _ h => rowOff_inb (Nat.lt_of_lt_of_le t.isLt hL) hR h) fm fs om os (resOff s t)
      (resOff_inb hs (Nat.lt_of_lt_of_le t.isLt hL))

/-- The row is kept as it is. -/
abbrev plain : Nat → FVec F S16 .f32 → FVec F S16 .f32 := fun _ v => v
/-- Whether row `r` from `base` on is between the limits. -/
def keepRow (base lo hi : BitVec 32) (r : Nat) : BitVec 1 :=
  Scalar.andi (Scalar.cmpi .sge (Scalar.addi base (BitVec.ofNat 32 r)) lo) (Scalar.cmpi .slt (Scalar.addi base (BitVec.ofNat 32 r)) hi)
/-- The row if it is between the limits, a constant otherwise. -/
def maskRow (base lo hi : BitVec 32) (z : F .f32) : Nat → FVec F S16 .f32 → FVec F S16 .f32 := fun r v =>
  (Scalar.select (keepRow base lo hi r) v (broadcast S16 z : FVec F S16 .f32) : FVec F S16 .f32)

/-- The tables of rows and of row numbers. -/
abbrev XRef : Type := Memref sig .scVector .hbm S50000x256 .f32
/-- `R` rows of the table from `off` on. -/
abbrev xs (x : XRef) (R : Nat) (off : Fin 2 → Nat) (inb : ∀ a, off a + (⟨2, ![R, 256]⟩ : Shape).size a ≤ S50000x256.size a) :
    Memref sig .scVector .hbm ⟨2, ![R, 256]⟩ .f32 :=
  x.slice (Rect.unit (s := S50000x256) off (⟨2, ![R, 256]⟩ : Shape).size inb) (fun _ => rfl)

/-- The copy of `R` rows into a buffer. -/
def copyIn (x : XRef) (off : Fin 2 → Nat) (inb : ∀ a, off a + (⟨2, ![R, 256]⟩ : Shape).size a ≤ S50000x256.size a)
    (m : Memref sig .scVector .vmem ⟨2, ![R, 256]⟩ .f32) (hm : m.view.WordExact) (sem : DmaSem sig) : Prog (EV F a b) PUnit :=
  Prog.lift (TpuEff.enqueueDma (xs x R off inb) (.here m) (.dma sem) (View.wordExact_bits rfl) hm ⟨Or.inl rfl, trivial⟩)

/-- The copy under a condition, and the rest. -/
def issue {α : Type} (c : BitVec 1) (x : XRef) (off : Fin 2 → Nat) (inb : c = 1#1 → ∀ a, off a + (⟨2, ![R, 256]⟩ : Shape).size a ≤ S50000x256.size a)
    (m : Memref sig .scVector .vmem ⟨2, ![R, 256]⟩ .f32) (hm : m.view.WordExact) (sem : DmaSem sig) (k : Prog (EV F a b) α) : Prog (EV F a b) α :=
  if h : c = 1#1 then copyIn x off (inb h) m hm sem >>= fun _ => k else k

theorem issue_cps {α : Type} {c : BitVec 1} {x : XRef} {off : Fin 2 → Nat} {inb : c = 1#1 → ∀ a, off a + (⟨2, ![R, 256]⟩ : Shape).size a ≤ S50000x256.size a}
    {m : Memref sig .scVector .vmem ⟨2, ![R, 256]⟩ .f32} {hm : m.view.WordExact} {sem : DmaSem sig} {k₁ k : Prog (EV F a b) α} (h : k₁ = k) :
    (if h : c = 1#1 then copyIn x off (inb h) m hm sem >>= fun _ => k₁ else k₁) = issue c x off inb m hm sem k := by subst h; rfl

/-- The wait for a copy into a buffer. -/
def await (x : XRef) (inb0 : ∀ a, (![0, 0] : Fin 2 → Nat) a + (⟨2, ![R, 256]⟩ : Shape).size a ≤ S50000x256.size a)
    (m : Memref sig .scVector .vmem ⟨2, ![R, 256]⟩ .f32) (hm : m.view.WordExact) (sem : DmaSem sig) : Prog (EV F a b) PUnit :=
  Prog.lift (TpuEff.waitDma2 sem (xs x R ![0, 0] inb0) m (View.wordExact_bits rfl) hm)

/-- The wait and a loop, under a condition, and the rest. -/
def take {α : Type} (c : BitVec 1) (x : XRef) (inb0 : ∀ a, (![0, 0] : Fin 2 → Nat) a + (⟨2, ![R, 256]⟩ : Shape).size a ≤ S50000x256.size a)
    (m : Memref sig .scVector .vmem ⟨2, ![R, 256]⟩ .f32) (hm : m.view.WordExact) (sem : DmaSem sig) (loop : Prog (EV F a b) (BitVec 32))
    (k : Prog (EV F a b) α) : Prog (EV F a b) α :=
  if c = 1#1 then await x inb0 m hm sem >>= fun _ => loop >>= fun _ => k else k

theorem take_cps {α : Type} {c : BitVec 1} {x : XRef} {inb0 : ∀ a, (![0, 0] : Fin 2 → Nat) a + (⟨2, ![R, 256]⟩ : Shape).size a ≤ S50000x256.size a}
    {m : Memref sig .scVector .vmem ⟨2, ![R, 256]⟩ .f32} {hm : m.view.WordExact} {sem : DmaSem sig} {loop : Prog (EV F a b) (BitVec 32)}
    {k₁ k : Prog (EV F a b) α} (h : k₁ = k) :
    (if c = 1#1 then await x inb0 m hm sem >>= fun _ => loop >>= fun _ => k₁ else k₁) = take c x inb0 m hm sem loop k := by subst h; rfl

/-- A loop under a condition, and the rest. -/
def again {α : Type} (c : BitVec 1) (loop : Prog (EV F a b) (BitVec 32)) (k : Prog (EV F a b) α) : Prog (EV F a b) α :=
  if c = 1#1 then loop >>= fun _ => k else k

theorem again_cps {α : Type} {c : BitVec 1} {loop : Prog (EV F a b) (BitVec 32)} {k₁ k : Prog (EV F a b) α} (h : k₁ = k) :
    (if c = 1#1 then loop >>= fun _ => k₁ else k₁) = again c loop k := by subst h; rfl

/-- A turn of the ring: wait, accumulate, copy the next rows in; and the rest. -/
def turn {α : Type} (c c' : BitVec 1) (x : XRef) (inb0 : ∀ a, (![0, 0] : Fin 2 → Nat) a + (⟨2, ![R, 256]⟩ : Shape).size a ≤ S50000x256.size a)
    (off : Fin 2 → Nat) (inb : c = 1#1 → c' = 1#1 → ∀ a, off a + (⟨2, ![R, 256]⟩ : Shape).size a ≤ S50000x256.size a)
    (m : Memref sig .scVector .vmem ⟨2, ![R, 256]⟩ .f32) (hm : m.view.WordExact) (sem : DmaSem sig) (loop : Prog (EV F a b) (BitVec 32))
    (k : Prog (EV F a b) α) : Prog (EV F a b) α :=
  if h : c = 1#1 then await x inb0 m hm sem >>= fun _ => loop >>= fun _ => issue c' x off (inb h) m hm sem k else k

theorem turn_cps {α : Type} {c c' : BitVec 1} {x : XRef} {inb0 : ∀ a, (![0, 0] : Fin 2 → Nat) a + (⟨2, ![R, 256]⟩ : Shape).size a ≤ S50000x256.size a}
    {off : Fin 2 → Nat} {inb : c = 1#1 → c' = 1#1 → ∀ a, off a + (⟨2, ![R, 256]⟩ : Shape).size a ≤ S50000x256.size a}
    {m : Memref sig .scVector .vmem ⟨2, ![R, 256]⟩ .f32} {hm : m.view.WordExact} {sem : DmaSem sig} {loop : Prog (EV F a b) (BitVec 32)}
    {k₁ k : Prog (EV F a b) α} (h : k₁ = k) :
    (if h : c = 1#1 then await x inb0 m hm sem >>= fun _ => loop >>= fun _ =>
        (if h' : c' = 1#1 then copyIn x off (inb h h') m hm sem >>= fun _ => k₁ else k₁) else k₁)
      = turn c c' x inb0 off inb m hm sem loop k := by subst h; rfl

theorem bind_eq {ε : Type → Type} {α β : Type} {p q : Prog ε α} {k l : α → Prog ε β} (h : p = q) (hk : ∀ x, k x = l x) : p >>= k = q >>= l := by
  cases h; exact congrArg _ (funext hk)

/-- The start of a row of the results. -/
def initLoop (L : Scf.Loop 32) (hok : L.OK) (hL : L.trips ≤ 16) (om os : Memref sig .scVector .vmem S16x256 .f32) (s : Nat) (hs : s < 16) :
    Prog (EV F a b) (BitVec 32) :=
  Scf.Loop.for L hok 0#32 fun t _ => do
    let h := resOff_inb hs (Nat.lt_of_lt_of_le t.isLt hL)
    let _ ← Prog.lift (TpuEff.load om (piece (R := 16) (resOff s t) h).toLoadRect (View.loadsAt_vmem h_S1x16))
    Prog.lift (TpuEff.store om (piece (R := 16) (resOff s t) h) (shapeCast S1x16 (broadcast S16 nInf : FVec F S16 .f32) shapeCasts_S16_S1x16) Finset.univ (View.stores_vmem_bits_univ h_S1x16 rfl) (.inl rfl))
    let _ ← Prog.lift (TpuEff.load os (piece (R := 16) (resOff s t) h).toLoadRect (View.loadsAt_vmem h_S1x16))
    Prog.lift (TpuEff.store os (piece (R := 16) (resOff s t) h) (shapeCast S1x16 (broadcast S16 zero : FVec F S16 .f32) shapeCasts_S16_S1x16) Finset.univ (View.stores_vmem_bits_univ h_S1x16 rfl) (.inl rfl))
    pure 0#32

/-- The end of a row of the maxima: minus infinity becomes zero. -/
def finVec (v : FVec F S16 .f32) : FVec F S16 .f32 := select (cmpf .oeq v (broadcast S16 nInf)) (broadcast S16 zero) v

/-- The end of a row of the results. -/
def finLoop (L : Scf.Loop 32) (hok : L.OK) (hL : L.trips ≤ 16) (om : Memref sig .scVector .vmem S16x256 .f32) (s : Nat) (hs : s < 16) :
    Prog (EV F a b) (BitVec 32) :=
  Scf.Loop.for L hok 0#32 fun t _ => do
    let h := resOff_inb hs (Nat.lt_of_lt_of_le t.isLt hL)
    let x ← Prog.lift (TpuEff.load om (piece (R := 16) (resOff s t) h).toLoadRect (View.loadsAt_vmem h_S1x16))
    let _ ← Prog.lift (TpuEff.load om (piece (R := 16) (resOff s t) h).toLoadRect (View.loadsAt_vmem h_S1x16))
    Prog.lift (TpuEff.store om (piece (R := 16) (resOff s t) h) (shapeCast S1x16 (finVec (shapeCast S16 x shapeCasts_S1x16_S16)) shapeCasts_S16_S1x16) Finset.univ (View.stores_vmem_bits_univ h_S1x16 rfl) (.inl rfl))
    pure 0#32

end Prog
end Cert.Proof.KI
end
-- ==== Proof.PartsI.lean ====
/- The parts of the segments' loop body, as compact programs. -/
module

public import proofs.«01_k».proof.Proof.SegI

@[expose] public section

noncomputable section

namespace Cert.Proof.KI

open Cert.KernelIdeal Cert.KernelIdeal.Gen
open Idealize.ShloMosaic
open Idealize.SL.Sem

variable {F : FTy → Type} [FloatOps F]

theorem trips3 : k0_t3_loop.trips = 16 := by decide +kernel

/-- Rows 0 to 7 of the tail's buffer. -/
abbrev tb0 (m : Memref sig .scVector .vmem S32x256 .f32) : Memref sig .scVector .vmem S8x256 .f32 :=
  m.slice (Rect.unit (s := S32x256) ![0, 0] S8x256.size inb_S32x256_S8x256_0_0) (fun _ => rfl)
/-- Rows 8 to 15 of the tail's buffer. -/
abbrev tb1 (m : Memref sig .scVector .vmem S32x256 .f32) : Memref sig .scVector .vmem S8x256 .f32 :=
  m.slice (Rect.unit (s := S32x256) ![8, 0] S8x256.size inb_S32x256_S8x256_8_0) (fun _ => rfl)
/-- Rows 16 to 23 of the tail's buffer. -/
abbrev tb2 (m : Memref sig .scVector .vmem S32x256 .f32) : Memref sig .scVector .vmem S8x256 .f32 :=
  m.slice (Rect.unit (s := S32x256) ![16, 0] S8x256.size inb_S32x256_S8x256_16_0) (fun _ => rfl)
/-- Rows 24 to 31 of the tail's buffer. -/
abbrev tb3 (m : Memref sig .scVector .vmem S32x256 .f32) : Memref sig .scVector .vmem S8x256 .f32 :=
  m.slice (Rect.unit (s := S32x256) ![24, 0] S8x256.size inb_S32x256_S8x256_24_0) (fun _ => rfl)

section Parts

variable (i : grid0.Coords)
  (arg2 : Memref sig .scVector .hbm S50000 .i32) (harg2 : arg2.IsWhole) (arg3 : Memref sig .scVector .hbm S50000x256 .f32) (harg3 : arg3.IsWhole)
  (arg4 : Memref sig .scVector .hbm S512x256 .f32) (harg4 : arg4.IsWhole) (arg5 : Memref sig .scVector .hbm S512x256 .f32) (harg5 : arg5.IsWhole)
  (arg6 : Memref sig .scVector .vmem S50000 .i32) (harg6 : arg6.IsWhole) (arg7 : Memref sig .scVector .vmem S8x256 .f32) (harg7 : arg7.IsWhole)
  (arg8 : Memref sig .scVector .vmem S32x256 .f32) (harg8 : arg8.IsWhole) (arg9 : Memref sig .scVector .vmem S32x256 .f32) (harg9 : arg9.IsWhole)
  (arg10 : Memref sig .scVector .vmem S32x256 .f32) (harg10 : arg10.IsWhole) (arg11 : Memref sig .scVector .vmem S32x256 .f32) (harg11 : arg11.IsWhole)
  (arg12 : Memref sig .scVector .vmem S32x256 .f32) (harg12 : arg12.IsWhole) (arg13 : Memref sig .scVector .vmem S32x256 .f32) (harg13 : arg13.IsWhole)
  (arg14 : Memref sig .scVector .vmem S32x256 .f32) (harg14 : arg14.IsWhole) (arg15 : Memref sig .scVector .vmem S16x256 .f32) (harg15 : arg15.IsWhole)
  (arg16 : Memref sig .scVector .vmem S16x256 .f32) (harg16 : arg16.IsWhole)
  (arg17 arg18 arg19 arg20 arg21 arg22 arg23 arg24 arg25 arg26 arg27 v23_r0 v23_r1 v23_r2 : DmaSems sig S_)
  (k0_t3 : Fin k0_t3_loop.trips) (arg29 arg28 v29 v36 : BitVec 32) (k0_hw3 : k0_chk3 arg29 v29 v36)

set_option pp.maxSteps 300 in
set_option maxRecDepth 30000 in
theorem part62_eq (v39 v42 v43 v47 v52 : BitVec 32) (v44 v59 : BitVec 1) :
    k0_part62 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2
        k0_t3 arg29 arg28 v29 v36 k0_hw3 v39 v42 v43 v44 v47 v52 v59
      = (issue (k0_cond2 v29 v36) arg3 (k0_off2 v29) (k0_off2_inb arg29 v29 v36 k0_hw3) arg9 harg9.wordExact arg19.sem <|
        issue (k0_cond3 v29 v36) arg3 (k0_off3 v29) (k0_off3_inb arg29 v29 v36 k0_hw3) arg10 harg10.wordExact arg20.sem <|
        issue (k0_cond4 v29 v36) arg3 (k0_off4 v29) (k0_off4_inb arg29 v29 v36 k0_hw3) arg11 harg11.wordExact arg21.sem <|
        issue (k0_cond5 v29 v36) arg3 (k0_off5 v29) (k0_off5_inb arg29 v29 v36 k0_hw3) arg12 harg12.wordExact arg22.sem <|
        issue (k0_cond6 v29 v36) arg3 (k0_off6 v29) (k0_off6_inb arg29 v29 v36 k0_hw3) arg13 harg13.wordExact arg23.sem <|
        issue (k0_cond7 arg29 v29 v36) arg3 (k0_off7 v29) (k0_off7_inb arg29 v29 v36 k0_hw3) arg7 harg7.wordExact arg17.sem <|
        initLoop k0_t4_loop k0_t4_ok k0_t4_abs.2.1 arg15 arg16 k0_t3 (trips3 ▸ k0_t3.isLt) >>= fun _ =>
        take (Scalar.cmpi .ne (Scalar.extui (Scalar.andi v44 (Scalar.cmpi .ne arg29 v47)) : BitVec 32) 0#32) arg3 inb_S50000x256_S8x256_0_0 arg7 harg7.wordExact arg17.sem
          (accLoop k0_t5_loop k0_t5_ok k0_t5_abs.2.1 arg7 0 8 (by decide) (maskRow v47 v29 v43 nInf) (maskRow v47 v29 v43 zero) arg15 arg16 k0_t3 (trips3 ▸ k0_t3.isLt)) <|
        again (Scalar.cmpi .ne (Scalar.extui (Scalar.andi v44 (Scalar.cmpi .eq arg29 v47)) : BitVec 32) 0#32)
          (accLoop k0_t6_loop k0_t6_ok k0_t6_abs.2.1 arg14 24 8 (by decide) (maskRow v47 v29 v43 nInf) (maskRow v47 v29 v43 zero) arg15 arg16 k0_t3 (trips3 ▸ k0_t3.isLt)) <|
        pure ⟨⟩) := by
  unfold k0_part62
  refine issue_cps ?_
  refine issue_cps ?_
  refine issue_cps ?_
  refine issue_cps ?_
  refine issue_cps ?_
  refine issue_cps ?_
  refine bind_eq rfl fun _ => ?_
  refine take_cps ?_
  refine again_cps ?_
  rfl

set_option pp.maxSteps 300 in
set_option maxRecDepth 30000 in
theorem part63_eq (v39 v42 v49 v52 v54 v55 : BitVec 32) :
    ∃ body, k0_part63 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2
        k0_t3 arg29 arg28 v29 v36 k0_hw3 v39 v42 v49 v52 v54 v55
      = (issue (k0_cond10 v29 v36) arg3 (k0_off27 v29 v36) (k0_off27_inb arg29 v29 v36 k0_hw3) (tb0 arg14) (View.wordExact_bits rfl) arg24.sem <|
        issue (k0_cond11 v29 v36) arg3 (k0_off28 v29 v36) (k0_off28_inb arg29 v29 v36 k0_hw3) (tb1 arg14) (View.wordExact_bits rfl) arg25.sem <|
        issue (k0_cond12 v29 v36) arg3 (k0_off29 v29 v36) (k0_off29_inb arg29 v29 v36 k0_hw3) (tb2 arg14) (View.wordExact_bits rfl) arg26.sem <|
        issue (k0_cond13 v29 v36) arg3 (k0_off30 v29 v36) (k0_off30_inb arg29 v29 v36 k0_hw3) (tb3 arg14) (View.wordExact_bits rfl) arg27.sem <|
        Scf.Loop.for (k0_t7_loop v29 v36) (k0_t7_ok arg29 v29 v36 k0_hw3) 0#32 (fun k0_t7 _ =>
          turn (k0_cond14 v29 v36 k0_t7) (k0_cond15 v29 v36 k0_t7) arg3 inb_S50000x256_S32x256_0_0 (k0_off64 v29 v36 k0_t7) (k0_off64_inb arg29 v29 v36 k0_hw3 k0_t7) arg8 harg8.wordExact arg18.sem
            (accLoop k0_t8_loop k0_t8_ok k0_t8_abs.2.1 arg8 0 32 (by decide) plain plain arg15 arg16 k0_t3 (trips3 ▸ k0_t3.isLt)) <|
          turn (k0_cond16 v29 v36 k0_t7) (k0_cond17 v29 v36 k0_t7) arg3 inb_S50000x256_S32x256_0_0 (k0_off98 v29 v36 k0_t7) (k0_off98_inb arg29 v29 v36 k0_hw3 k0_t7) arg9 harg9.wordExact arg19.sem
            (accLoop k0_t9_loop k0_t9_ok k0_t9_abs.2.1 arg9 0 32 (by decide) plain plain arg15 arg16 k0_t3 (trips3 ▸ k0_t3.isLt)) <|
          turn (k0_cond18 v29 v36 k0_t7) (k0_cond19 v29 v36 k0_t7) arg3 inb_S50000x256_S32x256_0_0 (k0_off132 v29 v36 k0_t7) (k0_off132_inb arg29 v29 v36 k0_hw3 k0_t7) arg10 harg10.wordExact arg20.sem
            (accLoop k0_t10_loop k0_t10_ok k0_t10_abs.2.1 arg10 0 32 (by decide) plain plain arg15 arg16 k0_t3 (trips3 ▸ k0_t3.isLt)) <|
          turn (k0_cond20 v29 v36 k0_t7) (k0_cond21 v29 v36 k0_t7) arg3 inb_S50000x256_S32x256_0_0 (k0_off166 v29 v36 k0_t7) (k0_off166_inb arg29 v29 v36 k0_hw3 k0_t7) arg11 harg11.wordExact arg21.sem
            (accLoop k0_t11_loop k0_t11_ok k0_t11_abs.2.1 arg11 0 32 (by decide) plain plain arg15 arg16 k0_t3 (trips3 ▸ k0_t3.isLt)) <|
          turn (k0_cond22 v29 v36 k0_t7) (k0_cond23 v29 v36 k0_t7) arg3 inb_S50000x256_S32x256_0_0 (k0_off200 v29 v36 k0_t7) (k0_off200_inb arg29 v29 v36 k0_hw3 k0_t7) arg12 harg12.wordExact arg22.sem
            (accLoop k0_t12_loop k0_t12_ok k0_t12_abs.2.1 arg12 0 32 (by decide) plain plain arg15 arg16 k0_t3 (trips3 ▸ k0_t3.isLt)) <|
          turn (k0_cond24 v29 v36 k0_t7) (k0_cond25 v29 v36 k0_t7) arg3 inb_S50000x256_S32x256_0_0 (k0_off234 v29 v36 k0_t7) (k0_off234_inb arg29 v29 v36 k0_hw3 k0_t7) arg13 harg13.wordExact arg23.sem
            (accLoop k0_t13_loop k0_t13_ok k0_t13_abs.2.1 arg13 0 32 (by decide) plain plain arg15 arg16 k0_t3 (trips3 ▸ k0_t3.isLt)) <|
          pure 0#32) >>= fun acc =>
        Scf.Loop.for (k0_t14_loop v29 v36) (k0_t14_ok arg29 v29 v36 k0_hw3) acc body >>= fun _ =>
        take (Scalar.cmpi .ne (Scalar.extui (Scalar.cmpi .sgt v52 0#32) : BitVec 32) 0#32) arg3 inb_S50000x256_S8x256_0_0 (tb0 arg14) (View.wordExact_bits rfl) arg24.sem
          (accLoop k0_t21_loop k0_t21_ok k0_t21_abs.2.1 arg14 0 8 (by decide) plain plain arg15 arg16 k0_t3 (trips3 ▸ k0_t3.isLt)) <|
        take (Scalar.cmpi .ne (Scalar.extui (Scalar.cmpi .sgt v52 1#32) : BitVec 32) 0#32) arg3 inb_S50000x256_S8x256_0_0 (tb1 arg14) (View.wordExact_bits rfl) arg25.sem
          (accLoop k0_t22_loop k0_t22_ok k0_t22_abs.2.1 arg14 8 8 (by decide) plain plain arg15 arg16 k0_t3 (trips3 ▸ k0_t3.isLt)) <|
        take (Scalar.cmpi .ne (Scalar.extui (Scalar.cmpi .sgt v52 2#32) : BitVec 32) 0#32) arg3 inb_S50000x256_S8x256_0_0 (tb2 arg14) (View.wordExact_bits rfl) arg26.sem
          (accLoop k0_t23_loop k0_t23_ok k0_t23_abs.2.1 arg14 16 8 (by decide) plain plain arg15 arg16 k0_t3 (trips3 ▸ k0_t3.isLt)) <|
        take (Scalar.cmpi .ne (Scalar.extui (Scalar.cmpi .slt v54 v36) : BitVec 32) 0#32) arg3 inb_S50000x256_S8x256_0_0 (tb3 arg14) (View.wordExact_bits rfl) arg27.sem
          (accLoop k0_t24_loop k0_t24_ok k0_t24_abs.2.1 arg14 24 8 (by decide) (maskRow v55 v54 v36 nInf) (maskRow v55 v54 v36 zero) arg15 arg16 k0_t3 (trips3 ▸ k0_t3.isLt)) <|
        pure ⟨0#32, 0#32, 16#32⟩) := by
  apply Exists.intro
  unfold k0_part63
  refine issue_cps ?_
  refine issue_cps ?_
  refine issue_cps ?_
  refine issue_cps ?_
  refine bind_eq ?_ fun _ => ?_
  · refine congrArg _ (funext fun k0_t7 => funext fun _ => ?_)
    refine turn_cps ?_
    refine turn_cps ?_
    refine turn_cps ?_
    refine turn_cps ?_
    refine turn_cps ?_
    refine turn_cps ?_
    rfl
  refine bind_eq rfl fun _ => ?_
  refine take_cps ?_
  refine take_cps ?_
  refine take_cps ?_
  refine take_cps ?_
  rfl

end Parts
end Cert.Proof.KI
end
-- ==== Proof.ArithI.lean ====
/- The arithmetic of a segment: its limits, its whole blocks of thirty-two and of eight rows, and where each copy reads. -/
module

public import proofs.«01_k».proof.Proof.PartsI

@[expose] public section

namespace Cert.Proof.KI

open Cert.KernelIdeal Cert.KernelIdeal.Gen
open Idealize.ShloMosaic
open Idealize.ShloMosaic.Affine (IsInt)

/-! ## The words -/

abbrev bLo8 (lo : BitVec 32) : BitVec 32 := Scalar.muli (Scalar.divsi (Scalar.addi lo 7#32) 8#32) 8#32
abbrev bNf (lo hi : BitVec 32) : BitVec 32 := Scalar.divsi (Scalar.maxsi (Scalar.subi hi (bLo8 lo)) 0#32) 32#32
abbrev bMid (lo hi : BitVec 32) : BitVec 32 := Scalar.minsi (bLo8 lo) hi
abbrev bHb (lo : BitVec 32) : BitVec 32 := Scalar.minsi (Scalar.maxsi (Scalar.subi (bLo8 lo) 8#32) 0#32) 49992#32
abbrev bTlo (lo hi : BitVec 32) : BitVec 32 := Scalar.addi (bLo8 lo) (Scalar.muli (bNf lo hi) 32#32)
abbrev bNt (lo hi : BitVec 32) : BitVec 32 := Scalar.divsi (Scalar.maxsi (Scalar.subi hi (bTlo lo hi)) 0#32) 8#32
abbrev bT8s (lo hi : BitVec 32) : BitVec 32 := Scalar.addi (bTlo lo hi) (Scalar.muli (bNt lo hi) 8#32)
abbrev bT8e (lo hi : BitVec 32) : BitVec 32 := Scalar.minsi (bT8s lo hi) 49992#32

/-! ## The numbers -/

def nLo8 (l : Nat) : Nat := (l + 7) / 8 * 8
def nNf (l h : Nat) : Nat := (h - nLo8 l) / 32
def nHb (l : Nat) : Nat := min (nLo8 l - 8) 49992
def nTlo (l h : Nat) : Nat := nLo8 l + nNf l h * 32
def nNt (l h : Nat) : Nat := (h - nTlo l h) / 8
def nT8s (l h : Nat) : Nat := nTlo l h + nNt l h * 8
def nT8e (l h : Nat) : Nat := min (nT8s l h) 49992

/-- A word below `2 ^ 31` and its number. -/
theorem toInt_eq {x : BitVec 32} {e : Int} (h : IsInt x e) : x.toInt = e := Affine.unique (Affine.word x) h
theorem toNat_eq {x : BitVec 32} {n : Nat} (h : IsInt x n) : x.toNat = n := Affine.nat_eq h n rfl

theorem isInt_of_le {x : BitVec 32} {n : Nat} (hx : x.toNat = n) (h : n ≤ 50000) : IsInt x n := by
  have : x = BitVec.ofNat 32 n := BitVec.eq_of_toNat_eq (by rw [hx, BitVec.toNat_ofNat]; omega)
  subst this
  exact Affine.ofNat n ⟨rfl, by omega⟩

/-- A condition in the form the kernel branches on. -/
theorem guard_slt {x y : BitVec 32} {a b : Int} (hx : IsInt x a) (hy : IsInt y b) :
    Scalar.cmpi .ne (Scalar.extui (Scalar.cmpi .slt x y) : BitVec 32) 0#32 = 1#1 ↔ a < b := by
  rw [Scalar.guard_iff, Scalar.cmpi, IntOp.cmpi_slt, toInt_eq hx, toInt_eq hy]
theorem guard_sgt {x y : BitVec 32} {a b : Int} (hx : IsInt x a) (hy : IsInt y b) :
    Scalar.cmpi .ne (Scalar.extui (Scalar.cmpi .sgt x y) : BitVec 32) 0#32 = 1#1 ↔ b < a := by
  rw [Scalar.guard_iff, Scalar.cmpi, IntOp.cmpi_sgt, toInt_eq hx, toInt_eq hy]

theorem lit (n : Nat) (h : n < 2 ^ 31) : IsInt (BitVec.ofNat 32 n) n := Affine.ofNat n ⟨rfl, h⟩

section
variable {lo hi : BitVec 32} {l h : Nat} (hl : IsInt lo l) (hh : IsInt hi h) (l5 : l ≤ 50000) (h5 : h ≤ 50000)
include hl l5

theorem bLo8_int : IsInt (bLo8 lo) (nLo8 l) :=
  Affine.muli (ea := (l + 7 : Int) / 8) (eb := 8) (Affine.divsi (ea := (l + 7 : Int)) (eb := 8) (Affine.addi hl (lit 7 (by omega)) (by omega)) (lit 8 (by omega)) (by omega))
    (lit 8 (by omega)) (by unfold nLo8; omega)

theorem bHb_int : IsInt (bHb lo) (nHb l) :=
  Affine.minsi (ea := max ((nLo8 l : Int) - 8) 0) (eb := 49992)
    (Affine.maxsi (ea := (nLo8 l : Int) - 8) (eb := 0) (Affine.subi (bLo8_int hl l5) (lit 8 (by omega)) (by unfold nLo8; omega)) (lit 0 (by omega)) rfl)
    (lit 49992 (by omega)) (by unfold nHb; omega)

include hh h5

theorem bMid_int : IsInt (bMid lo hi) (min (nLo8 l) h : Nat) := Affine.minsi (bLo8_int hl l5) hh (by omega)

theorem bNf_int : IsInt (bNf lo hi) (nNf l h) :=
  Affine.divsi (ea := max ((h : Int) - nLo8 l) 0) (eb := 32)
    (Affine.maxsi (ea := (h : Int) - nLo8 l) (eb := 0) (Affine.subi hh (bLo8_int hl l5) (by unfold nLo8; omega)) (lit 0 (by omega)) rfl)
    (lit 32 (by omega)) (by unfold nNf; omega)

theorem bTlo_int : IsInt (bTlo lo hi) (nTlo l h) :=
  Affine.addi (ea := nLo8 l) (eb := nNf l h * 32) (bLo8_int hl l5)
    (Affine.muli (ea := nNf l h) (eb := 32) (bNf_int hl hh l5 h5) (lit 32 (by omega)) (by unfold nNf nLo8; omega))
    (by unfold nTlo nNf nLo8; omega)

theorem bNt_int : IsInt (bNt lo hi) (nNt l h) :=
  Affine.divsi (ea := max ((h : Int) - nTlo l h) 0) (eb := 8)
    (Affine.maxsi (ea := (h : Int) - nTlo l h) (eb := 0) (Affine.subi hh (bTlo_int hl hh l5 h5) (by unfold nTlo nNf nLo8; omega)) (lit 0 (by omega)) rfl)
    (lit 8 (by omega)) (by unfold nNt; omega)

theorem bT8s_int : IsInt (bT8s lo hi) (nT8s l h) :=
  Affine.addi (ea := nTlo l h) (eb := nNt l h * 8) (bTlo_int hl hh l5 h5)
    (Affine.muli (ea := nNt l h) (eb := 8) (bNt_int hl hh l5 h5) (lit 8 (by omega)) (by unfold nNt nTlo nNf nLo8; omega))
    (by unfold nT8s nNt nTlo nNf nLo8; omega)

theorem bT8e_int : IsInt (bT8e lo hi) (nT8e l h) :=
  Affine.minsi (ea := nT8s l h) (eb := 49992) (bT8s_int hl hh l5 h5) (lit 49992 (by omega)) (by unfold nT8e; omega)

/-! ## The patterns of the copies -/

/-- Whether there is a whole block `j`. -/
theorem cond_nf (j : Nat) (hj : j < 100) :
    Scalar.cmpi .ne (Scalar.extui (Scalar.cmpi .sgt (bNf lo hi) (BitVec.ofNat 32 j)) : BitVec 32) 0#32 = 1#1 ↔ j < nNf l h := by
  rw [guard_sgt (bNf_int hl hh l5 h5) (lit j (by omega))]; omega

theorem cond_nt (j : Nat) (hj : j < 100) :
    Scalar.cmpi .ne (Scalar.extui (Scalar.cmpi .sgt (bNt lo hi) (BitVec.ofNat 32 j)) : BitVec 32) 0#32 = 1#1 ↔ j < nNt l h := by
  rw [guard_sgt (bNt_int hl hh l5 h5) (lit j (by omega))]; omega

theorem cond_tail : Scalar.cmpi .ne (Scalar.extui (Scalar.cmpi .slt (bT8s lo hi) hi) : BitVec 32) 0#32 = 1#1 ↔ nT8s l h < h := by
  rw [guard_slt (bT8s_int hl hh l5 h5) hh]; omega

theorem chunk_int (j : Nat) (hj : j < 100) : IsInt (Scalar.addi (bLo8 lo) (BitVec.ofNat 32 (32 * j))) (nLo8 l + 32 * j : Nat) :=
  Affine.addi (bLo8_int hl l5) (lit (32 * j) (by omega)) (by unfold nLo8; omega)

theorem tail_int (j : Nat) (hj : j < 100) : IsInt (Scalar.addi (bTlo lo hi) (BitVec.ofNat 32 (8 * j))) (nTlo l h + 8 * j : Nat) :=
  Affine.addi (bTlo_int hl hh l5 h5) (lit (8 * j) (by omega)) (by unfold nTlo nNf nLo8; omega)

theorem rounds_int : IsInt (Scalar.subi (Scalar.divsi (Scalar.addi (bNf lo hi) 5#32) 6#32) 0#32) (((nNf l h + 5) / 6 : Nat)) :=
  Affine.subi (ea := ((nNf l h + 5) / 6 : Nat)) (eb := 0) (Affine.divsi (ea := (nNf l h + 5 : Nat)) (eb := 6) (Affine.addi (bNf_int hl hh l5 h5) (lit 5 (by omega)) (by unfold nNf; omega))
    (lit 6 (by omega)) (by omega)) (lit 0 (by omega)) (by unfold nNf; omega)

theorem bound_int : IsInt (k0_t7_loop lo hi).ub (((nNf l h + 5) / 6 : Nat)) :=
  Affine.addi (ea := 0) (eb := ((nNf l h + 5) / 6 : Nat)) (lit 0 (by omega)) (Affine.muli (ea := ((nNf l h + 5) / 6 : Nat)) (eb := 1)
    (Affine.divsi (ea := ((nNf l h + 5) / 6 : Nat)) (eb := 1) (e := ((nNf l h + 5) / 6 : Nat)) (rounds_int hl hh l5 h5) (lit 1 (by omega)) (by omega))
    (lit 1 (by omega)) (by unfold nNf; omega)) (by unfold nNf; omega)

theorem loop7_trips : (k0_t7_loop lo hi).trips = (nNf l h + 5) / 6 :=
  Affine.trips_eq (el := 0) (k := 1) (lit 0 (by omega)) (bound_int hl hh l5 h5) (lit 1 (by omega)) _ (by omega)

theorem loop7_ok : (k0_t7_loop lo hi).OK :=
  Affine.ok (el := 0) (k := 1) (lit 0 (by omega)) (bound_int hl hh l5 h5) (lit 1 (by omega)) (by unfold nNf; omega)

/-- The second loop's lower and upper bounds agree. -/
theorem loop14_bounds : ∃ n : Nat, n < 10000 ∧ IsInt (k0_t14_loop lo hi).lb n ∧ IsInt (k0_t14_loop lo hi).ub n :=
  ⟨(nNf l h + 5) / 6, by unfold nNf; omega, bound_int hl hh l5 h5,
    Affine.addi (ea := 0) (eb := ((nNf l h + 5) / 6 : Nat)) (lit 0 (by omega)) (rounds_int hl hh l5 h5) (by unfold nNf; omega)⟩

theorem loop14_trips : (k0_t14_loop lo hi).trips = 0 := by
  obtain ⟨n, -, h1, h2⟩ := loop14_bounds hl hh l5 h5
  exact Affine.trips_eq (k := 1) h1 h2 (lit 1 (by omega)) 0 (by omega)

theorem loop14_ok : (k0_t14_loop lo hi).OK := by
  obtain ⟨n, hn, h1, h2⟩ := loop14_bounds hl hh l5 h5
  exact Affine.ok (k := 1) h1 h2 (lit 1 (by omega)) (by omega)

/-- The trip's word. -/
theorem iv7 {t : Nat} (ht : t < (k0_t7_loop lo hi).trips) : IsInt (Scf.iv 0#32 1#32 t) t ∧ 6 * t < nNf l h + 5 := by
  rw [loop7_trips hl hh l5 h5] at ht
  exact ⟨Affine.iv (lit 0 (by omega)) (lit 1 (by omega)) t (by unfold nNf at ht; omega), by omega⟩

theorem cond_turn (j : Nat) (hj : j < 6) {t : Nat} (ht : t < (k0_t7_loop lo hi).trips) :
    Scalar.cmpi .ne (Scalar.extui (Scalar.cmpi .slt (Scalar.addi (Scalar.muli 6#32 (Scf.iv 0#32 1#32 t)) (BitVec.ofNat 32 j)) (bNf lo hi)) : BitVec 32) 0#32 = 1#1 ↔ 6 * t + j < nNf l h := by
  obtain ⟨hi7, h7⟩ := iv7 hl hh l5 h5 ht
  have hn : nNf l h ≤ 50000 := by unfold nNf; omega
  rw [guard_slt (Affine.addi (e := (6 * t + j : Nat)) (Affine.muli (e := (6 * t : Nat)) (lit 6 (by omega)) hi7 (by omega)) (lit j (by omega)) (by omega)) (bNf_int hl hh l5 h5)]
  omega

theorem next_int (j : Nat) (hj : j < 6) {t : Nat} (ht : t < (k0_t7_loop lo hi).trips) :
    IsInt (Scalar.addi (Scalar.addi (Scalar.muli 6#32 (Scf.iv 0#32 1#32 t)) (BitVec.ofNat 32 j)) 6#32) (6 * t + j + 6 : Nat) := by
  obtain ⟨hi7, h7⟩ := iv7 hl hh l5 h5 ht
  have hn : nNf l h ≤ 50000 := by unfold nNf; omega
  exact Affine.addi (ea := (6 * t + j : Nat)) (Affine.addi (Affine.muli (e := (6 * t : Nat)) (lit 6 (by omega)) hi7 (by omega)) (lit j (by omega)) (by omega)) (lit 6 (by omega)) (by omega)

theorem cond_next (j : Nat) (hj : j < 6) {t : Nat} (ht : t < (k0_t7_loop lo hi).trips) :
    Scalar.cmpi .ne (Scalar.extui (Scalar.cmpi .slt (Scalar.addi (Scalar.addi (Scalar.muli 6#32 (Scf.iv 0#32 1#32 t)) (BitVec.ofNat 32 j)) 6#32) (bNf lo hi)) : BitVec 32) 0#32 = 1#1
      ↔ 6 * t + j + 6 < nNf l h := by
  rw [guard_slt (next_int hl hh l5 h5 j hj ht) (bNf_int hl hh l5 h5)]; omega

theorem turn_int (j : Nat) (hj : j < 6) {t : Nat} (ht : t < (k0_t7_loop lo hi).trips) :
    IsInt (Scalar.addi (bLo8 lo) (Scalar.muli (Scalar.addi (Scalar.addi (Scalar.muli 6#32 (Scf.iv 0#32 1#32 t)) (BitVec.ofNat 32 j)) 6#32) 32#32)) (nLo8 l + 32 * (6 * t + j + 6) : Nat) := by
  have h7 := (iv7 hl hh l5 h5 ht).2
  have hn : nNf l h ≤ 2000 := by unfold nNf; omega
  have h8 : nLo8 l ≤ 50007 := by unfold nLo8; omega
  exact Affine.addi (eb := (32 * (6 * t + j + 6) : Nat)) (bLo8_int hl l5)
    (Affine.muli (next_int hl hh l5 h5 j hj ht) (lit 32 (by omega)) (by omega)) (by omega)

end

/-! ## The conditions, the offsets and the checks of the program -/

/-- A word as an offset. -/
theorem off_eq {x : BitVec 32} {n : Nat} (h : IsInt x n) : (![x.toNat, 0] : Fin 2 → Nat) = ![n, 0] := by rw [toNat_eq h]

theorem inb_rows {x : BitVec 32} {n R : Nat} (h : IsInt x n) (hR : n + R ≤ 50000) :
    ∀ a, (![x.toNat, 0] : Fin 2 → Nat) a + (⟨2, ![R, 256]⟩ : Shape).size a ≤ S50000x256.size a := by
  rw [off_eq h]; exact Fin.forall_fin_two.mpr ⟨by show n + R ≤ 50000; exact hR, Nat.le_refl 256⟩

theorem dvd8 {x : BitVec 32} {n : Nat} (h : IsInt x n) (hn : 8 ∣ n) : 8 ∣ x.toNat := by rw [toNat_eq h]; exact hn

theorem nLo8_dvd (l : Nat) : 8 ∣ nLo8 l := ⟨_, Nat.mul_comm _ _⟩
theorem nTlo_dvd (l h : Nat) : 8 ∣ nTlo l h := by unfold nTlo nLo8; omega

theorem chunk_le {l h j : Nat} (hj : j < nNf l h) : nLo8 l + 32 * j + 32 ≤ h := by unfold nNf at hj; omega
theorem tail_le {l h j : Nat} (hj : j < nNt l h) : nTlo l h + 8 * j + 8 ≤ h := by unfold nNt at hj; omega

section
variable {lo hi : BitVec 32} {l h : Nat} (hl : IsInt lo l) (hh : IsInt hi h) (l5 : l ≤ 50000) (h5 : h ≤ 50000)
include hl hh l5 h5

/-- The condition of the copy of the rows before the first block. -/
theorem cond7_iff (c : BitVec 32) : k0_cond7 c lo hi = 1#1 ↔ (l < min (nLo8 l) h ∧ c ≠ bHb lo) := by
  have e : k0_cond7 c lo hi = Scalar.cmpi .ne (Scalar.extui (Scalar.andi (Scalar.cmpi .slt lo (bMid lo hi)) (Scalar.cmpi .ne c (bHb lo))) : BitVec 32) 0#32 := rfl
  rw [e, Scalar.guard_iff, Scalar.andi, IntOp.andi_eq_one, Scalar.cmpi, Scalar.cmpi, IntOp.cmpi_slt, IntOp.cmpi_ne, toInt_eq hl, toInt_eq (bMid_int hl hh l5 h5), Nat.cast_lt]

theorem cond1_iff : k0_cond1 lo hi = 1#1 ↔ 0 < nNf l h := cond_nf hl hh l5 h5 0 (by omega)
theorem off1_eq : k0_off1 lo = ![nLo8 l + 32 * 0, 0] := off_eq (chunk_int hl hh l5 h5 0 (by omega))
theorem cond2_iff : k0_cond2 lo hi = 1#1 ↔ 1 < nNf l h := cond_nf hl hh l5 h5 1 (by omega)
theorem off2_eq : k0_off2 lo = ![nLo8 l + 32 * 1, 0] := off_eq (chunk_int hl hh l5 h5 1 (by omega))
theorem cond3_iff : k0_cond3 lo hi = 1#1 ↔ 2 < nNf l h := cond_nf hl hh l5 h5 2 (by omega)
theorem off3_eq : k0_off3 lo = ![nLo8 l + 32 * 2, 0] := off_eq (chunk_int hl hh l5 h5 2 (by omega))
theorem cond4_iff : k0_cond4 lo hi = 1#1 ↔ 3 < nNf l h := cond_nf hl hh l5 h5 3 (by omega)
theorem off4_eq : k0_off4 lo = ![nLo8 l + 32 * 3, 0] := off_eq (chunk_int hl hh l5 h5 3 (by omega))
theorem cond5_iff : k0_cond5 lo hi = 1#1 ↔ 4 < nNf l h := cond_nf hl hh l5 h5 4 (by omega)
theorem off5_eq : k0_off5 lo = ![nLo8 l + 32 * 4, 0] := off_eq (chunk_int hl hh l5 h5 4 (by omega))
theorem cond6_iff : k0_cond6 lo hi = 1#1 ↔ 5 < nNf l h := cond_nf hl hh l5 h5 5 (by omega)
theorem off6_eq : k0_off6 lo = ![nLo8 l + 32 * 5, 0] := off_eq (chunk_int hl hh l5 h5 5 (by omega))
theorem cond10_iff : k0_cond10 lo hi = 1#1 ↔ 0 < nNt l h := cond_nt hl hh l5 h5 0 (by omega)
theorem off27_eq : k0_off27 lo hi = ![nTlo l h + 8 * 0, 0] := off_eq (tail_int hl hh l5 h5 0 (by omega))
theorem cond11_iff : k0_cond11 lo hi = 1#1 ↔ 1 < nNt l h := cond_nt hl hh l5 h5 1 (by omega)
theorem off28_eq : k0_off28 lo hi = ![nTlo l h + 8 * 1, 0] := off_eq (tail_int hl hh l5 h5 1 (by omega))
theorem cond12_iff : k0_cond12 lo hi = 1#1 ↔ 2 < nNt l h := cond_nt hl hh l5 h5 2 (by omega)
theorem off29_eq : k0_off29 lo hi = ![nTlo l h + 8 * 2, 0] := off_eq (tail_int hl hh l5 h5 2 (by omega))
theorem cond13_iff : k0_cond13 lo hi = 1#1 ↔ nT8s l h < h := cond_tail hl hh l5 h5
theorem off30_eq : k0_off30 lo hi = ![nT8e l h, 0] := off_eq (bT8e_int hl hh l5 h5)
omit hh h5 in
theorem off7_eq : k0_off7 lo = ![nHb l, 0] := off_eq (bHb_int hl l5)
theorem cond14_iff (t : Fin (k0_t7_loop lo hi).trips) : k0_cond14 lo hi t = 1#1 ↔ 6 * t.val + 0 < nNf l h := cond_turn hl hh l5 h5 0 (by omega) t.isLt
theorem cond15_iff (t : Fin (k0_t7_loop lo hi).trips) : k0_cond15 lo hi t = 1#1 ↔ 6 * t.val + 0 + 6 < nNf l h := cond_next hl hh l5 h5 0 (by omega) t.isLt
theorem off64_eq (t : Fin (k0_t7_loop lo hi).trips) : k0_off64 lo hi t = ![nLo8 l + 32 * (6 * t.val + 0 + 6), 0] := off_eq (turn_int hl hh l5 h5 0 (by omega) t.isLt)
theorem cond16_iff (t : Fin (k0_t7_loop lo hi).trips) : k0_cond16 lo hi t = 1#1 ↔ 6 * t.val + 1 < nNf l h := cond_turn hl hh l5 h5 1 (by omega) t.isLt
theorem cond17_iff (t : Fin (k0_t7_loop lo hi).trips) : k0_cond17 lo hi t = 1#1 ↔ 6 * t.val + 1 + 6 < nNf l h := cond_next hl hh l5 h5 1 (by omega) t.isLt
theorem off98_eq (t : Fin (k0_t7_loop lo hi).trips) : k0_off98 lo hi t = ![nLo8 l + 32 * (6 * t.val + 1 + 6), 0] := off_eq (turn_int hl hh l5 h5 1 (by omega) t.isLt)
theorem cond18_iff (t : Fin (k0_t7_loop lo hi).trips) : k0_cond18 lo hi t = 1#1 ↔ 6 * t.val + 2 < nNf l h := cond_turn hl hh l5 h5 2 (by omega) t.isLt
theorem cond19_iff (t : Fin (k0_t7_loop lo hi).trips) : k0_cond19 lo hi t = 1#1 ↔ 6 * t.val + 2 + 6 < nNf l h := cond_next hl hh l5 h5 2 (by omega) t.isLt
theorem off132_eq (t : Fin (k0_t7_loop lo hi).trips) : k0_off132 lo hi t = ![nLo8 l + 32 * (6 * t.val + 2 + 6), 0] := off_eq (turn_int hl hh l5 h5 2 (by omega) t.isLt)
theorem cond20_iff (t : Fin (k0_t7_loop lo hi).trips) : k0_cond20 lo hi t = 1#1 ↔ 6 * t.val + 3 < nNf l h := cond_turn hl hh l5 h5 3 (by omega) t.isLt
theorem cond21_iff (t : Fin (k0_t7_loop lo hi).trips) : k0_cond21 lo hi t = 1#1 ↔ 6 * t.val + 3 + 6 < nNf l h := cond_next hl hh l5 h5 3 (by omega) t.isLt
theorem off166_eq (t : Fin (k0_t7_loop lo hi).trips) : k0_off166 lo hi t = ![nLo8 l + 32 * (6 * t.val + 3 + 6), 0] := off_eq (turn_int hl hh l5 h5 3 (by omega) t.isLt)
theorem cond22_iff (t : Fin (k0_t7_loop lo hi).trips) : k0_cond22 lo hi t = 1#1 ↔ 6 * t.val + 4 < nNf l h := cond_turn hl hh l5 h5 4 (by omega) t.isLt
theorem cond23_iff (t : Fin (k0_t7_loop lo hi).trips) : k0_cond23 lo hi t = 1#1 ↔ 6 * t.val + 4 + 6 < nNf l h := cond_next hl hh l5 h5 4 (by omega) t.isLt
theorem off200_eq (t : Fin (k0_t7_loop lo hi).trips) : k0_off200 lo hi t = ![nLo8 l + 32 * (6 * t.val + 4 + 6), 0] := off_eq (turn_int hl hh l5 h5 4 (by omega) t.isLt)
theorem cond24_iff (t : Fin (k0_t7_loop lo hi).trips) : k0_cond24 lo hi t = 1#1 ↔ 6 * t.val + 5 < nNf l h := cond_turn hl hh l5 h5 5 (by omega) t.isLt
theorem cond25_iff (t : Fin (k0_t7_loop lo hi).trips) : k0_cond25 lo hi t = 1#1 ↔ 6 * t.val + 5 + 6 < nNf l h := cond_next hl hh l5 h5 5 (by omega) t.isLt
theorem off234_eq (t : Fin (k0_t7_loop lo hi).trips) : k0_off234 lo hi t = ![nLo8 l + 32 * (6 * t.val + 5 + 6), 0] := off_eq (turn_int hl hh l5 h5 5 (by omega) t.isLt)

/-- Every check of the program holds of limits inside the table. -/
theorem chk3 (c : BitVec 32) : k0_chk3 c lo hi := by
  have d8 := nLo8_dvd l
  have dt := nTlo_dvd l h
  have hb : nHb l + 8 ≤ 50000 := by unfold nHb; omega
  have he : nT8e l h + 8 ≤ 50000 := by unfold nT8e; omega
  have hbd : 8 ∣ nHb l := by unfold nHb; omega
  have hed : 8 ∣ nT8e l h := by unfold nT8e nT8s; omega
  have c32 {j : Nat} (hj : j < nNf l h) : nLo8 l + 32 * j + 32 ≤ 50000 := Nat.le_trans (chunk_le hj) h5
  have t8 {j : Nat} (hj : j < nNt l h) : nTlo l h + 8 * j + 8 ≤ 50000 := Nat.le_trans (tail_le hj) h5
  have no14 {p : Fin (k0_t14_loop lo hi).trips → Prop} : ∀ t, p t := fun t => absurd (Nat.lt_of_lt_of_eq t.isLt (loop14_trips hl hh l5 h5)) (Nat.not_lt_zero _)
  refine ⟨⟨fun _ => dvd8 (chunk_int hl hh l5 h5 0 (by omega)) (by omega),
    fun hc => inb_rows (chunk_int hl hh l5 h5 0 (by omega)) (c32 ((cond1_iff hl hh l5 h5).mp hc)),
    fun _ => dvd8 (chunk_int hl hh l5 h5 1 (by omega)) (by omega),
    fun hc => inb_rows (chunk_int hl hh l5 h5 1 (by omega)) (c32 ((cond2_iff hl hh l5 h5).mp hc)),
    fun _ => dvd8 (chunk_int hl hh l5 h5 2 (by omega)) (by omega),
    fun hc => inb_rows (chunk_int hl hh l5 h5 2 (by omega)) (c32 ((cond3_iff hl hh l5 h5).mp hc)),
    fun _ => dvd8 (chunk_int hl hh l5 h5 3 (by omega)) (by omega),
    fun hc => inb_rows (chunk_int hl hh l5 h5 3 (by omega)) (c32 ((cond4_iff hl hh l5 h5).mp hc)),
    fun _ => dvd8 (chunk_int hl hh l5 h5 4 (by omega)) (by omega),
    fun hc => inb_rows (chunk_int hl hh l5 h5 4 (by omega)) (c32 ((cond5_iff hl hh l5 h5).mp hc)),
    fun _ => dvd8 (chunk_int hl hh l5 h5 5 (by omega)) (by omega),
    fun hc => inb_rows (chunk_int hl hh l5 h5 5 (by omega)) (c32 ((cond6_iff hl hh l5 h5).mp hc)),
    fun _ => dvd8 (bHb_int hl l5) hbd,
    fun _ => inb_rows (bHb_int hl l5) hb,
    fun _ => dvd8 (tail_int hl hh l5 h5 0 (by omega)) (by omega),
    fun hc => inb_rows (tail_int hl hh l5 h5 0 (by omega)) (t8 ((cond10_iff hl hh l5 h5).mp hc)),
    fun _ => dvd8 (tail_int hl hh l5 h5 1 (by omega)) (by omega),
    fun hc => inb_rows (tail_int hl hh l5 h5 1 (by omega)) (t8 ((cond11_iff hl hh l5 h5).mp hc)),
    fun _ => dvd8 (tail_int hl hh l5 h5 2 (by omega)) (by omega),
    fun hc => inb_rows (tail_int hl hh l5 h5 2 (by omega)) (t8 ((cond12_iff hl hh l5 h5).mp hc)),
    fun _ => dvd8 (bT8e_int hl hh l5 h5) hed,
    fun _ => inb_rows (bT8e_int hl hh l5 h5) he,
    loop7_ok hl hh l5 h5,
    fun t _ _ => dvd8 (turn_int hl hh l5 h5 0 (by omega) t.isLt) (by omega),
    fun t _ hc => inb_rows (turn_int hl hh l5 h5 0 (by omega) t.isLt) (c32 ((cond15_iff hl hh l5 h5 t).mp hc)),
    fun t _ _ => dvd8 (turn_int hl hh l5 h5 1 (by omega) t.isLt) (by omega),
    fun t _ hc => inb_rows (turn_int hl hh l5 h5 1 (by omega) t.isLt) (c32 ((cond17_iff hl hh l5 h5 t).mp hc)),
    fun t _ _ => dvd8 (turn_int hl hh l5 h5 2 (by omega) t.isLt) (by omega),
    fun t _ hc => inb_rows (turn_int hl hh l5 h5 2 (by omega) t.isLt) (c32 ((cond19_iff hl hh l5 h5 t).mp hc)),
    fun t _ _ => dvd8 (turn_int hl hh l5 h5 3 (by omega) t.isLt) (by omega),
    fun t _ hc => inb_rows (turn_int hl hh l5 h5 3 (by omega) t.isLt) (c32 ((cond21_iff hl hh l5 h5 t).mp hc)),
    fun t _ _ => dvd8 (turn_int hl hh l5 h5 4 (by omega) t.isLt) (by omega)⟩,
    fun t _ hc => inb_rows (turn_int hl hh l5 h5 4 (by omega) t.isLt) (c32 ((cond23_iff hl hh l5 h5 t).mp hc)),
    fun t _ _ => dvd8 (turn_int hl hh l5 h5 5 (by omega) t.isLt) (by omega),
    fun t _ hc => inb_rows (turn_int hl hh l5 h5 5 (by omega) t.isLt) (c32 ((cond25_iff hl hh l5 h5 t).mp hc)),
    loop14_ok hl hh l5 h5,
    no14,
    no14,
    no14,
    no14,
    no14,
    no14,
    no14,
    no14,
    no14,
    no14,
    no14,
    no14⟩

end

end Cert.Proof.KI
-- ==== Proof.LoopsI.lean ====
/- The loops over the columns: what each leaves in a row of the two results. -/
module

public import proofs.«01_k».proof.Proof.PartsI
public import proofs.«01_k».proof.Proof.ArithI

@[expose] public section

noncomputable section

namespace Cert.Proof.KI

open Cert.KernelIdeal Cert.KernelIdeal.Gen
open Idealize.ShloMosaic
open Idealize.ShloMosaic.Affine (IsInt)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Sets of rows -/

/-- The rows from `a` to before `b`. -/
abbrev Rows (a b : Nat) : Multiset Nat := Multiset.Ico a b

theorem count_rows (a b x : Nat) : (Rows a b).count x = if a ≤ x ∧ x < b then 1 else 0 := by
  rw [Multiset.count_eq_of_nodup Multiset.nodup_Ico]; simp only [Multiset.mem_Ico]

theorem rows_add (a b c : Nat) (h : a ≤ b) (h' : b ≤ c) : Rows a b + Rows b c = Rows a c := by
  ext x; simp only [Multiset.count_add, count_rows]; split_ifs <;> omega

theorem rows_nil {a b : Nat} (h : b ≤ a) : Rows a b = 0 := by
  ext x; simp only [count_rows, Multiset.count_zero]; split_ifs <;> omega

/-- The one row `i` if it is between the limits. -/
def inside (l h i : Nat) : Multiset Nat := if l ≤ i ∧ i < h then {i} else 0

theorem count_inside (l h i x : Nat) : (inside l h i).count x = if l ≤ i ∧ i < h ∧ x = i then 1 else 0 := by
  unfold inside
  by_cases hc : l ≤ i ∧ i < h
  · rw [if_pos hc, Multiset.count_singleton]
    by_cases hx : x = i
    · rw [if_pos hx, if_pos ⟨hc.1, hc.2, hx⟩]
    · rw [if_neg hx, if_neg fun h => hx h.2.2]
  · rw [if_neg hc, Multiset.count_zero, if_neg fun h => hc ⟨h.1, h.2.1⟩]

theorem sum_rows (base N : Nat) : ∑ i ∈ Finset.range N, ({base + i} : Multiset Nat) = Rows base (base + N) := by
  induction N with
  | zero => rw [Finset.sum_range_zero, rows_nil (by omega)]
  | succ N ih =>
    rw [Finset.sum_range_succ, ih]
    ext x; simp only [Multiset.count_add, count_rows, Multiset.count_singleton]; split_ifs <;> omega

theorem sum_inside (base N l h : Nat) : ∑ i ∈ Finset.range N, inside l h (base + i) = Rows (max base l) (min (base + N) h) := by
  induction N with
  | zero => rw [Finset.sum_range_zero, rows_nil (by omega)]
  | succ N ih =>
    rw [Finset.sum_range_succ, ih]
    ext x; simp only [Multiset.count_add, count_rows, count_inside]; split_ifs <;> omega

/-! ## What a buffer holds -/

section Hold
variable {R : Nat} (xv : Nat → Nat → F .f32)

/-- Rows `b0`, … of a buffer are rows `base`, … of the table. -/
def RowsAt (m : Memref sig .scVector .vmem ⟨2, ![R, 256]⟩ .f32) (f : m.view.ty.Contents (Elt F)) (b0 N base : Nat) : Prop :=
  ∀ t r off inb, t < 16 → r < N → off = ![b0 + r, 16 * t] → ∀ l, rowv m off inb f l = xv (base + r) (16 * t + (l 0).val)

/-- The pieces of rows `b0`, … lie in the part `Sb` of the buffer. -/
def Within (d : Dev nD) {a : Fin τ.nSC} {b : Fin τ.nSub} (m : Memref sig .scVector .vmem ⟨2, ![R, 256]⟩ .f32)
    (Sb : Finset (Idx (m.view.loc (V d a b)))) (b0 N : Nat) : Prop :=
  ∀ t r off (inb : ∀ a, off a + S1x16.size a ≤ (⟨2, ![R, 256]⟩ : Shape).size a), t < 16 → r < N → off = ![b0 + r, 16 * t] →
    m.view.setOn (piece off inb).toLoadRect.set ⊆ Sb

/-- What a pass over the rows adds: of each row the contribution `A`. -/
def Adds (m : Memref sig .scVector .vmem ⟨2, ![R, 256]⟩ .f32) (f : m.view.ty.Contents (Elt F)) (b0 N : Nat)
    (fm fs : Nat → FVec F S16 .f32 → FVec F S16 .f32) (A : Nat → Multiset Nat) : Prop :=
  ∀ t r off inb, t < 16 → r < N → off = ![b0 + r, 16 * t] →
    MaxV xv t (A r) (fm r (rowv m off inb f)) ∧ SumV xv t (A r) (fs r (rowv m off inb f))

variable {xv}

theorem RowsAt.plain {m : Memref sig .scVector .vmem ⟨2, ![R, 256]⟩ .f32} {f : m.view.ty.Contents (Elt F)} {b0 N base : Nat}
    (h : RowsAt xv m f b0 N base) : Adds xv m f b0 N plain plain (fun r => {base + r}) := by
  intro t r off inb ht hr ho
  refine ⟨fun l => ?_, fun l => ?_⟩ <;> show Fold _ _ _ {base + r} (rowv m off inb f l) <;> rw [h t r off inb ht hr ho l] <;>
    exact .one (base + r)

theorem keepRow_iff {bb lo hi : BitVec 32} {base l h : Nat} (hb : IsInt bb base) (hl : IsInt lo l) (hh : IsInt hi h) (hb5 : base ≤ 50000)
    {r : Nat} (hr : r < 8) : keepRow bb lo hi r = 1#1 ↔ l ≤ base + r ∧ base + r < h := by
  have e : IsInt (Scalar.addi bb (BitVec.ofNat 32 r)) (base + r : Nat) := Affine.addi hb (lit r (by omega)) (by omega)
  unfold keepRow
  rw [Scalar.andi, IntOp.andi_eq_one, Scalar.cmpi, Scalar.cmpi, IntOp.cmpi_sge, IntOp.cmpi_slt, toInt_eq e, toInt_eq hl, toInt_eq hh]
  omega

theorem RowsAt.mask {m : Memref sig .scVector .vmem ⟨2, ![R, 256]⟩ .f32} {f : m.view.ty.Contents (Elt F)} {b0 base : Nat}
    (h : RowsAt xv m f b0 8 base) {bb lo hi : BitVec 32} {l h' : Nat} (hb : IsInt bb base) (hl : IsInt lo l) (hh : IsInt hi h')
    (hb5 : base ≤ 50000) : Adds xv m f b0 8 (maskRow bb lo hi nInf) (maskRow bb lo hi zero) (fun r => inside l h' (base + r)) := by
  intro t r off inb ht hr ho
  show MaxV xv t (inside l h' (base + r)) (Scalar.select (keepRow bb lo hi r) (rowv m off inb f) (broadcast S16 nInf))
    ∧ SumV xv t (inside l h' (base + r)) (Scalar.select (keepRow bb lo hi r) (rowv m off inb f) (broadcast S16 zero))
  unfold inside
  by_cases hk : keepRow bb lo hi r = 1#1
  · rw [if_pos ((keepRow_iff hb hl hh hb5 hr).mp hk)]
    refine ⟨fun l => ?_, fun l => ?_⟩ <;> rw [show ∀ u w : FVec F S16 .f32, Scalar.select (keepRow bb lo hi r) u w = u from fun _ _ => if_pos hk, h t r off inb ht hr ho l] <;> exact .one (base + r)
  · rw [if_neg fun h => hk ((keepRow_iff hb hl hh hb5 hr).mpr h)]
    refine ⟨fun l => ?_, fun l => ?_⟩ <;> rw [show ∀ u w : FVec F S16 .f32, Scalar.select (keepRow bb lo hi r) u w = w from fun _ _ => if_neg hk] <;> exact .nil

end Hold

/-! ## The results -/

section Rules
variable (d : Dev nD) (a : Fin τ.nSC) (b : Fin τ.nSub) (xv : Nat → Nat → F .f32) (om os : Memref sig .scVector .vmem S16x256 .f32)

/-- The two results: row `s` at the folds over `M`, the others at what `Dm` and `Ds` say. -/
def Acc (s : Nat) (M : Multiset Nat) (Dm Ds : Nat → Nat → F .f32 → Prop) : sProp 𝕄 :=
  iprop(∃ go gs, ⌜Holds (RowP mx nInf xv s (fun _ => M) Dm) (om.view.read (Elt F) go)
      ∧ Holds (RowP ad zero xv s (fun _ => M) Ds) (os.view.read (Elt F) gs)⌝
    ∗ (om.view.loc (V d a b) ↦{fullShare} go) ∗ (os.view.loc (V d a b) ↦{fullShare} gs))

variable {a b} {xv om os}

theorem upTo_zero (M N : Multiset Nat) : upTo 0 M N = fun _ => M := funext fun c => if_neg (by omega)

theorem RowP.last {op : F .f32 → F .f32 → F .f32} {z : F .f32} {s : Nat} {M N : Multiset Nat} {D : Nat → Nat → F .f32 → Prop} {f : S16x256.Idx → F .f32}
    (h : Holds (RowP op z xv s (upTo 16 M N) D) f) : Holds (RowP op z xv s (fun _ => M + N) D) f :=
  h.mono fun r c x _ hc hx => by
    unfold RowP upTo at *
    by_cases hr : r = s
    · rw [if_pos hr] at hx ⊢; rwa [if_pos (by omega)] at hx
    · rw [if_neg hr] at hx ⊢; exact hx

theorem wp_accLoop {R : Nat} {m : Memref sig .scVector .vmem ⟨2, ![R, 256]⟩ .f32} {L : Scf.Loop 32} {hok : L.OK} {hL : L.trips ≤ 16} (h16 : L.trips = 16)
    {b0 N : Nat} {hR : b0 + N ≤ R} {fm fs : Nat → FVec F S16 .f32 → FVec F S16 .f32} {s : Nat} {hs : s < 16}
    {Sb : Finset (Idx (m.view.loc (V d a b)))} {q : PosShare TreeShare} {f : Buf (Elt F) (m.view.loc (V d a b))}
    (hS : Within d m Sb b0 N) (A : Nat → Multiset Nat) (hv : Adds xv m f b0 N fm fs A)
    {M : Multiset Nat} {Dm Ds : Nat → Nat → F .f32 → Prop} {Q : BitVec 32 → sProp 𝕄} :
    iprop((m.view.loc (V d a b) ↦[Sb]{q} f) ∗ Acc d a b xv om os s M Dm Ds
        ∗ (∀ x, (m.view.loc (V d a b) ↦[Sb]{q} f) -∗ Acc d a b xv om os s (M + ∑ i ∈ Finset.range N, A i) Dm Ds -∗ Q x))
      ⊢ WP d a b (accLoop L hok hL m b0 N hR fm fs om os s hs) Q := by
  unfold accLoop Acc
  iintro ⟨Hf, ⟨%go, %gs, %hg, Hm, Hs⟩, Hk⟩
  iapply (Scf.wp_for frame (wpE (defs₀ (F := F)) 𝒱₀ (V d a b) none) Set.univ L.lb L.ub L.st hok 0#32 _
    (fun t _ => iprop(∃ go gs, ⌜Holds (RowP mx nInf xv s (upTo t M (∑ i ∈ Finset.range N, A i)) Dm) (om.view.read (Elt F) go)
      ∧ Holds (RowP ad zero xv s (upTo t M (∑ i ∈ Finset.range N, A i)) Ds) (os.view.read (Elt F) gs)⌝
      ∗ (m.view.loc (V d a b) ↦[Sb]{q} f) ∗ (om.view.loc (V d a b) ↦{fullShare} go) ∗ (os.view.loc (V d a b) ↦{fullShare} gs))) ?_)
  rotate_left
  · isplitl [Hf Hm Hs]
    · iexists go, gs
      isplitr
      · ipureintro; rw [upTo_zero]; exact hg
      isplitl [Hf]; · iexact Hf
      isplitl [Hm] <;> iassumption
    · iintro %x ⟨%go, %gs, %hg, Hf, Hm, Hs⟩
      iapply Hk $$ [Hf] [Hm Hs]
      · iexact Hf
      · iexists go, gs
        isplitr
        · ipureintro
          rw [show Scf.trips L.lb L.ub L.st = 16 from h16] at hg
          exact ⟨RowP.last hg.1, RowP.last hg.2⟩
        isplitl [Hm] <;> iassumption
  · intro t acc
    have ht : t.val < 16 := Nat.lt_of_lt_of_le t.isLt hL
    iintro ⟨%go, %gs, %hg, Hf, Hm, Hs⟩
    iapply (wp_accBody d xv (fun r h => hS t.val r _ _ ht h (rowOff_eq ht)) s t.val (resOff_eq hs ht) A
      (fun r h => hv t.val r _ _ ht h (rowOff_eq ht)) hg.1 hg.2)
    isplitl [Hf]; · iexact Hf
    isplitl [Hm]; · iexact Hm
    isplitl [Hs]; · iexact Hs
    iintro %go %gs %hg Hf Hm Hs
    iexists go, gs
    isplitr; · ipureintro; exact hg
    isplitl [Hf]; · iexact Hf
    isplitl [Hm] <;> iassumption

/-- The same loop at the head of a program. -/
theorem wp_accLoop_bind {R : Nat} {m : Memref sig .scVector .vmem ⟨2, ![R, 256]⟩ .f32} {L : Scf.Loop 32} {hok : L.OK} {hL : L.trips ≤ 16} (h16 : L.trips = 16)
    {b0 N : Nat} {hR : b0 + N ≤ R} {fm fs : Nat → FVec F S16 .f32 → FVec F S16 .f32} {s : Nat} {hs : s < 16}
    {Sb : Finset (Idx (m.view.loc (V d a b)))} {q : PosShare TreeShare} {f : Buf (Elt F) (m.view.loc (V d a b))}
    (hS : Within d m Sb b0 N) (A : Nat → Multiset Nat) (hv : Adds xv m f b0 N fm fs A)
    {M : Multiset Nat} {Dm Ds : Nat → Nat → F .f32 → Prop} {α : Type} {k : BitVec 32 → Prog (EV F a b) α} {Q : α → sProp 𝕄} :
    iprop((m.view.loc (V d a b) ↦[Sb]{q} f) ∗ Acc d a b xv om os s M Dm Ds
        ∗ (∀ x, (m.view.loc (V d a b) ↦[Sb]{q} f) -∗ Acc d a b xv om os s (M + ∑ i ∈ Finset.range N, A i) Dm Ds -∗ WP d a b (k x) Q))
      ⊢ WP d a b (accLoop L hok hL m b0 N hR fm fs om os s hs >>= k) Q := by
  unfold WP
  rw [wp_bind]
  exact wp_accLoop d h16 hS A hv

/-- The start of a row, from any contents. -/
theorem RowP.init {op : F .f32 → F .f32 → F .f32} {z : F .f32} {s t : Nat} {D : Nat → Nat → F .f32 → Prop}
    (r c : Nat) (x : F .f32) (h : ¬ (r = s ∧ 16 * t ≤ c ∧ c < 16 * t + 16))
    (hx : (fun r c x => if r = s then (c < 16 * t → Fold op z (fun r => xv r c) 0 x) else D r c x) r c x) :
    (fun r c x => if r = s then (c < 16 * (t + 1) → Fold op z (fun r => xv r c) 0 x) else D r c x) r c x := by
  dsimp only at hx ⊢
  by_cases hr : r = s
  · rw [if_pos hr] at hx ⊢; exact fun hc => hx (by omega)
  · rw [if_neg hr] at hx ⊢; exact hx

theorem wp_initLoop {L : Scf.Loop 32} {hok : L.OK} {hL : L.trips ≤ 16} (h16 : L.trips = 16) {s : Nat} {hs : s < 16}
    {Dm Ds : Nat → Nat → F .f32 → Prop} {α : Type} {k : BitVec 32 → Prog (EV F a b) α} {Q : α → sProp 𝕄} :
    iprop((∃ go gs, ⌜Holds (fun r c x => r = s ∨ Dm r c x) (om.view.read (Elt F) go) ∧ Holds (fun r c x => r = s ∨ Ds r c x) (os.view.read (Elt F) gs)⌝
          ∗ (om.view.loc (V d a b) ↦{fullShare} go) ∗ (os.view.loc (V d a b) ↦{fullShare} gs))
        ∗ (∀ x, Acc d a b xv om os s 0 Dm Ds -∗ WP d a b (k x) Q))
      ⊢ WP d a b (initLoop L hok hL om os s hs >>= k) Q := by
  unfold WP
  rw [wp_bind]
  unfold initLoop Acc
  iintro ⟨⟨%go, %gs, %hg, Hm, Hs⟩, Hk⟩
  iapply (Scf.wp_for frame (wpE (defs₀ (F := F)) 𝒱₀ (V d a b) none) Set.univ L.lb L.ub L.st hok 0#32 _
    (fun t _ => iprop(∃ go gs, ⌜Holds (fun r c x => if r = s then (c < 16 * t → Fold mx nInf (fun r => xv r c) 0 x) else Dm r c x) (om.view.read (Elt F) go)
      ∧ Holds (fun r c x => if r = s then (c < 16 * t → Fold ad zero (fun r => xv r c) 0 x) else Ds r c x) (os.view.read (Elt F) gs)⌝
      ∗ (om.view.loc (V d a b) ↦{fullShare} go) ∗ (os.view.loc (V d a b) ↦{fullShare} gs))) ?_)
  rotate_left
  · isplitl [Hm Hs]
    · iexists go, gs
      isplitr
      · ipureintro
        refine ⟨hg.1.mono fun r c x _ _ hx => ?_, hg.2.mono fun r c x _ _ hx => ?_⟩
        all_goals
          by_cases hr : r = s
          · rw [if_pos hr]; exact fun hc => absurd hc (by omega)
          · rw [if_neg hr]; exact hx.resolve_left hr
      isplitl [Hm] <;> iassumption
    · iintro %x ⟨%go, %gs, %hg, Hm, Hs⟩
      iapply Hk
      iexists go, gs
      isplitr
      · ipureintro
        rw [show Scf.trips L.lb L.ub L.st = 16 from h16] at hg
        refine ⟨hg.1.mono fun r c x _ hc hx => ?_, hg.2.mono fun r c x _ hc hx => ?_⟩
        all_goals
          unfold RowP
          by_cases hr : r = s
          · rw [if_pos hr] at hx ⊢; exact hx hc
          · rw [if_neg hr] at hx ⊢; exact hx
      isplitl [Hm] <;> iassumption
  · intro t acc
    have ht : t.val < 16 := Nat.lt_of_lt_of_le t.isLt hL
    simp only [Prog.lift, Prog.bind_op, Prog.bind_ret, Prog.pure_eq_ret]
    iintro ⟨%go, %gs, %hg, Hm, Hs⟩
    iapply (wp_load (defs := defs₀ (F := F)) 𝒱₀ (V d a b) none Set.univ (Finset.subset_univ _)) $$ Hm
    iintro Hm
    iapply (wp_store (defs := defs₀ (F := F)) 𝒱₀ (V d a b) none Set.univ (m := om) (r := piece (R := 16) (resOff s t) (resOff_inb hs ht)) (f := go) (Finset.subset_univ _)) $$ Hm
    iintro Hm
    iapply (wp_load (defs := defs₀ (F := F)) 𝒱₀ (V d a b) none Set.univ (Finset.subset_univ _)) $$ Hs
    iintro Hs
    iapply (wp_store (defs := defs₀ (F := F)) 𝒱₀ (V d a b) none Set.univ (m := os) (r := piece (R := 16) (resOff s t) (resOff_inb hs ht)) (f := gs) (Finset.subset_univ _)) $$ Hs
    iintro Hs
    rw [wp_ret]
    imodintro
    iexists _, _
    isplitr
    rotate_left
    · isplitl [Hm]; · iexact Hm
      iexact Hs
    · ipureintro
      refine ⟨hg.1.store om go _ _ (resOff_eq hs ht) _ RowP.init fun l _ => ?_, hg.2.store os gs _ _ (resOff_eq hs ht) _ RowP.init fun l _ => ?_⟩
      all_goals rw [if_pos rfl]; exact fun _ => .nil

/-- The value of the maxima once a row is done. -/
def Fin1 (v x : F .f32) : Prop := x = Scalar.select (FloatOps.cmpf .oeq v (nInf : F .f32)) zero v

theorem wp_finLoop {L : Scf.Loop 32} {hok : L.OK} {hL : L.trips ≤ 16} (h16 : L.trips = 16) {s : Nat} {hs : s < 16} {M : Multiset Nat}
    {Dm Ds : Nat → Nat → F .f32 → Prop} {α : Type} {k : BitVec 32 → Prog (EV F a b) α} {Q : α → sProp 𝕄} :
    iprop(Acc d a b xv om os s M Dm Ds
        ∗ (∀ x, (∃ go gs, ⌜Holds (fun r c x => if r = s then (∃ v, Fold mx nInf (fun r => xv r c) M v ∧ Fin1 v x) else Dm r c x) (om.view.read (Elt F) go)
            ∧ Holds (RowP ad zero xv s (fun _ => M) Ds) (os.view.read (Elt F) gs)⌝
          ∗ (om.view.loc (V d a b) ↦{fullShare} go) ∗ (os.view.loc (V d a b) ↦{fullShare} gs)) -∗ WP d a b (k x) Q))
      ⊢ WP d a b (finLoop L hok hL om s hs >>= k) Q := by
  unfold WP
  rw [wp_bind]
  unfold finLoop Acc
  iintro ⟨⟨%go, %gs, %hg, Hm, Hs⟩, Hk⟩
  iapply (Scf.wp_for frame (wpE (defs₀ (F := F)) 𝒱₀ (V d a b) none) Set.univ L.lb L.ub L.st hok 0#32 _
    (fun t _ => iprop(∃ go, ⌜Holds (fun r c x => if r = s then (if c < 16 * t then (∃ v, Fold mx nInf (fun r => xv r c) M v ∧ Fin1 v x)
        else Fold mx nInf (fun r => xv r c) M x) else Dm r c x) (om.view.read (Elt F) go)⌝
      ∗ (om.view.loc (V d a b) ↦{fullShare} go))) ?_)
  rotate_left
  · isplitl [Hm]
    · iexists go
      isplitr
      · ipureintro
        refine hg.1.mono fun r c x _ _ hx => ?_
        unfold RowP at hx
        by_cases hr : r = s
        · rw [if_pos hr] at hx ⊢; rw [if_neg (by omega)]; exact hx
        · rw [if_neg hr] at hx ⊢; exact hx
      iexact Hm
    · iintro %x ⟨%go, %hg', Hm⟩
      iapply Hk
      iexists go, gs
      isplitr
      · ipureintro
        rw [show Scf.trips L.lb L.ub L.st = 16 from h16] at hg'
        refine ⟨hg'.mono fun r c x _ hc hx => ?_, hg.2⟩
        by_cases hr : r = s
        · rw [if_pos hr] at hx ⊢; rwa [if_pos (by omega)] at hx
        · rw [if_neg hr] at hx ⊢; exact hx
      isplitl [Hm] <;> iassumption
  · intro t acc
    have ht : t.val < 16 := Nat.lt_of_lt_of_le t.isLt hL
    simp only [Prog.lift, Prog.bind_op, Prog.bind_ret, Prog.pure_eq_ret]
    iintro ⟨%go, %hg, Hm⟩
    iapply (wp_load (defs := defs₀ (F := F)) 𝒱₀ (V d a b) none Set.univ (Finset.subset_univ _)) $$ Hm
    iintro Hm
    iapply (wp_load (defs := defs₀ (F := F)) 𝒱₀ (V d a b) none Set.univ (Finset.subset_univ _)) $$ Hm
    iintro Hm
    iapply (wp_store (defs := defs₀ (F := F)) 𝒱₀ (V d a b) none Set.univ (m := om) (r := piece (R := 16) (resOff s t) (resOff_inb hs ht)) (f := go) (Finset.subset_univ _)) $$ Hm
    iintro Hm
    rw [wp_ret]
    imodintro
    iexists _
    isplitr
    rotate_left
    · iexact Hm
    · ipureintro
      refine hg.store om go _ (resOff_inb hs ht) (resOff_eq hs ht) _ (fun r c x h hx => ?_) fun l hx => ?_
      · by_cases hr : r = s
        · rw [if_pos hr] at hx ⊢
          by_cases hc : c < 16 * t.val
          · rw [if_pos hc] at hx; rwa [if_pos (by omega)]
          · rw [if_neg hc] at hx; rwa [if_neg (by omega)]
        · rw [if_neg hr] at hx ⊢; exact hx
      · have hl : (l 0).val < 16 := (l 0).isLt
        rw [if_pos rfl] at hx ⊢
        rw [if_neg (by omega)] at hx
        rw [if_pos (by omega)]
        exact ⟨_, hx, rfl⟩

end Rules
end Cert.Proof.KI
end
-- ==== Proof.SlotsI.lean ====
/- A row buffer with its semaphore and its share of the table: idle, or with a copy under way. The rules of the guarded
   copies, waits and loops. -/
module

public import proofs.«01_k».proof.Proof.LoopsI
public import Idealize.ShloMosaic.Lib.SparseCore.FromWhole

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev EC : UEmb Counters (MT nD τ sig (HIx 1) (Elt F) ℕ UU ℕ) := countersEmb

theorem numel_pos {R : Nat} (hR : 0 < R) : 0 < (⟨2, ![R, 256]⟩ : Shape).numel :=
  Nat.pos_of_ne_zero fun h => by
    obtain ⟨a, ha⟩ := (Shape.numel_eq_zero_iff _).mp h
    exact (Fin.forall_fin_two (p := fun a => (![R, 256] : Fin 2 → Nat) a ≠ 0)).mpr ⟨Nat.ne_of_gt hR, by show 256 ≠ 0; omega⟩ a ha

section Slots
variable (d : Dev nD) (a : Fin τ.nSC) (b : Fin τ.nSub) (xv : Nat → Nat → F .f32) {R : Nat}
  (x : XRef) (m : Memref sig .scVector .vmem ⟨2, ![R, 256]⟩ .f32) (sem : DmaSem sig) (q : PosShare TreeShare)
  (fx : Buf (Elt F) (x.view.loc (V d a b)))

/-- A buffer holds the rows from `base` on. -/
def Chunk (f : m.view.ty.Contents (Elt F)) (base : Nat) : Prop :=
  ∀ y : (⟨2, ![R, 256]⟩ : Shape).Idx, m.view.read (Elt F) f y = xv (base + (y 0).val) (y 1).val

/-- The table's values. -/
def Table (f : x.view.ty.Contents (Elt F)) : Prop := ∀ y : S50000x256.Idx, x.view.read (Elt F) f y = xv (y 0).val (y 1).val

/-- The buffer at contents `P`. -/
abbrev Buff (P : m.view.ty.Contents (Elt F) → Prop) : sProp 𝕄 := iprop(∃ f, ⌜P f⌝ ∗ (m.view.loc (V d a b) ↦[m.view.set]{fullShare} f))

/-- No copy under way. -/
def Idle (P : m.view.ty.Contents (Elt F) → Prop) : sProp 𝕄 :=
  iprop((x.view.loc (V d a b) ↦{q} fx) ∗ Buff d a b m P ∗ semVal (V d a b, SemLoc.dma sem) 0)

/-- The copy of the rows from `base` on under way. -/
def Busy (base : Nat) : sProp 𝕄 :=
  Transfers.Flight EC (V d a b) (.dma sem) none (m.view.amount (.dma sem))
    iprop(Buff d a b m (fun f => Chunk xv m f base) ∗ (x.view.loc (V d a b) ↦{q} fx))

def Slot (p : Prop) [Decidable p] (base : Nat) (P : m.view.ty.Contents (Elt F) → Prop) : sProp 𝕄 :=
  if p then Busy d a b xv x m sem q fx base else Idle d a b x m sem q fx P

variable {d a b xv x m sem q fx}

theorem Idle.mono {P P' : m.view.ty.Contents (Elt F) → Prop} (h : ∀ f, P f → P' f) :
    Idle d a b x m sem q fx P ⊢ Idle d a b x m sem q fx P' := by
  unfold Idle
  iintro ⟨Hx, ⟨%f, %hf, Hm⟩, Hs⟩
  isplitl [Hx]; · iexact Hx
  isplitl [Hm]
  · iexists f
    isplitr; · ipureintro; exact h f hf
    iexact Hm
  · iexact Hs

theorem Slot.ff {p : Prop} [Decidable p] (h : ¬ p) {base : Nat} {P : m.view.ty.Contents (Elt F) → Prop} :
    Slot d a b xv x m sem q fx p base P = Idle d a b x m sem q fx P := if_neg h

/-- What a copy leaves is the rows it read. -/
theorem chunk_write {off : Fin 2 → Nat} {inb : ∀ a, off a + (⟨2, ![R, 256]⟩ : Shape).size a ≤ S50000x256.size a} {base : Nat} (hoff : off = ![base, 0])
    (hx : Table xv x fx) (f : m.view.ty.Contents (Elt F)) :
    Chunk xv m (m.view.write (Elt F) f ((xs x R off inb).view.read (Elt F) fx) Finset.univ) base := by
  subst hoff
  intro y
  rw [View.read_write_univ]
  have e : (xs x R ![base, 0] inb).view.read (Elt F) fx y = x.view.read (Elt F) fx ((Rect.unit (s := S50000x256) ![base, 0] (⟨2, ![R, 256]⟩ : Shape).size inb).toLoadRect.idx y) := rfl
  rw [e, hx]
  congr 1
  · rw [LoadRect.idx_apply]; show base + 1 * (y 0).val = _; omega
  · rw [LoadRect.idx_apply]; show 0 + 1 * (y 1).val = _; omega

theorem wp_copyIn {off : Fin 2 → Nat} {inb : ∀ a, off a + (⟨2, ![R, 256]⟩ : Shape).size a ≤ S50000x256.size a} {base : Nat} (hR : 0 < R) (hoff : off = ![base, 0])
    (hx : Table xv x fx) {hm : m.view.WordExact} {P : m.view.ty.Contents (Elt F) → Prop} {α : Type} {k : PUnit → Prog (EV F a b) α} {Q : α → sProp 𝕄} :
    iprop(Idle d a b x m sem q fx P ∗ (Busy d a b xv x m sem q fx base -∗ WP d a b (k ⟨⟩) Q))
      ⊢ WP d a b (copyIn x off inb m hm sem >>= k) Q := by
  unfold copyIn Idle
  simp only [Prog.lift, Prog.bind_op, Prog.bind_ret]
  iintro ⟨⟨Hx, ⟨%f, -, Hm⟩, Hs⟩, Hk⟩
  iapply (Transfers.wp_dmaFromWhole EC 𝒱₀ (V d a b) none (src := xs x R off inb) (dst := m) (sm := .dma sem) (q := q) (fs := fx) (fd := f) (Sd := m.view.set)
    none (m.view.amount (.dma sem)) rfl (View.amount_pos _ _ (numel_pos hR)) (Finset.Subset.refl _)) $$ [Hx Hm Hs]
  · isplitl [Hx]; · iexact Hx
    isplitl [Hm] <;> iassumption
  iintro Hfl
  iapply Hk
  unfold Busy
  iapply (Transfers.Flight_mono EC (V d a b) ?_) $$ Hfl
  iintro ⟨Hm, Hx⟩
  isplitl [Hm]
  · iexists _
    isplitr
    rotate_left
    · iexact Hm
    · ipureintro; exact chunk_write hoff hx f
  · iexact Hx

theorem wp_issue {c : BitVec 1} {off : Fin 2 → Nat} {inb : c = 1#1 → ∀ a, off a + (⟨2, ![R, 256]⟩ : Shape).size a ≤ S50000x256.size a} (p : Prop) [Decidable p]
    (hc : c = 1#1 ↔ p) {base : Nat} (hR : 0 < R) (hoff : off = ![base, 0])
    (hx : Table xv x fx) {hm : m.view.WordExact} {P : m.view.ty.Contents (Elt F) → Prop} {α : Type} {k : Prog (EV F a b) α} {Q : α → sProp 𝕄} :
    iprop(Idle d a b x m sem q fx P ∗ (Slot d a b xv x m sem q fx p base P -∗ WP d a b k Q))
      ⊢ WP d a b (issue c x off inb m hm sem k) Q := by
  unfold issue Slot
  by_cases h : c = 1#1
  · rw [dif_pos h, if_pos (hc.mp h)]; exact wp_copyIn (k := fun _ => k) hR hoff hx
  · rw [dif_neg h, if_neg fun hp => h (hc.mpr hp)]
    iintro ⟨H, Hk⟩
    iapply Hk; iexact H

/-! ## Waits -/

variable (d a b)
/-- What the tile owes, with the waits it has done besides those of `W`. -/
def Ow (O : CellTallies nD τ sig (HIx 1)) (W : Waits sig (HIx 1)) : sProp 𝕄 :=
  iprop(∃ W', ⌜∀ p ∈ W', p ∈ W ∨ p.2 = none⌝ ∗ owes (V d a b) O W')
variable {d a b}

theorem wp_await {O : CellTallies nD τ sig (HIx 1)} {W : Waits sig (HIx 1)}
    {inb0 : ∀ a, (![0, 0] : Fin 2 → Nat) a + (⟨2, ![R, 256]⟩ : Shape).size a ≤ S50000x256.size a} {hm : m.view.WordExact}
    {base : Nat} {α : Type} {k : PUnit → Prog (EV F a b) α} {Q : α → sProp 𝕄} :
    iprop(Busy d a b xv x m sem q fx base ∗ Ow d a b O W ∗ Transfers.MayWaits (V d a b) none O
        ∗ (Idle d a b x m sem q fx (fun f => Chunk xv m f base) -∗ Ow d a b O W -∗ WP d a b (k ⟨⟩) Q))
      ⊢ WP d a b (await x inb0 m hm sem >>= k) Q := by
  unfold await Busy Ow Idle
  simp only [Prog.lift, Prog.bind_op, Prog.bind_ret]
  iintro ⟨Hfl, ⟨%W', %hW', HO⟩, #Hmw, Hk⟩
  iapply (Transfers.wp_waitLocalO EC 𝒱₀ (V d a b) none (sem := sem) (dstw := m) none (N := m.view.amount (.dma sem)) rfl) $$ [Hfl HO]
  · isplitl [Hfl]; · iexact Hfl
    isplitl [HO]; · iexact HO
    iapply (Transfers.MayWaits.elim (.dma sem)); iexact Hmw
  iintro ⟨⟨Hm, Hx⟩, Hs, HO⟩
  iapply Hk $$ [Hm Hx Hs]
  · isplitl [Hx]; · iexact Hx
    isplitl [Hm] <;> iassumption
  · iexists _
    isplitr
    rotate_left
    · iexact HO
    · ipureintro
      intro p hp
      rcases Finset.mem_insert.mp hp with rfl | hp
      · exact .inr rfl
      · exact hW' p hp

/-! ## Waits with loops -/

section Loops
variable (d a b xv m) (om os : Memref sig .scVector .vmem S16x256 .f32) (s : Nat) (Dm Ds : Nat → Nat → F .f32 → Prop)

/-- The loop adds the rows `A` when the buffer's contents are as `C` says. -/
def LoopAdds (loop : Prog (EV F a b) (BitVec 32)) (C : m.view.ty.Contents (Elt F) → Prop) (A : Multiset Nat) : Prop :=
  ∀ f, C f → ∀ (M : Multiset Nat) (Q : BitVec 32 → sProp 𝕄),
    iprop((m.view.loc (V d a b) ↦[m.view.set]{fullShare} f) ∗ Acc d a b xv om os s M Dm Ds
        ∗ (∀ v, (m.view.loc (V d a b) ↦[m.view.set]{fullShare} f) -∗ Acc d a b xv om os s (M + A) Dm Ds -∗ Q v))
      ⊢ WP d a b loop Q

variable {d a b xv m om os s Dm Ds}

theorem LoopAdds.idle {loop : Prog (EV F a b) (BitVec 32)} {C P : m.view.ty.Contents (Elt F) → Prop} {A : Multiset Nat}
    (h : LoopAdds d a b xv m om os s Dm Ds loop C A) (hP : ∀ f, P f → C f) {M : Multiset Nat} {α : Type} {k : BitVec 32 → Prog (EV F a b) α}
    {Q : α → sProp 𝕄} :
    iprop(Idle d a b x m sem q fx P ∗ Acc d a b xv om os s M Dm Ds
        ∗ (∀ v, Idle d a b x m sem q fx P -∗ Acc d a b xv om os s (M + A) Dm Ds -∗ WP d a b (k v) Q))
      ⊢ WP d a b (loop >>= k) Q := by
  unfold WP
  rw [wp_bind]
  unfold Idle
  iintro ⟨⟨Hx, ⟨%f, %hf, Hm⟩, Hs⟩, Ha, Hk⟩
  iapply (h f (hP f hf) M)
  isplitl [Hm]; · iexact Hm
  isplitl [Ha]; · iexact Ha
  iintro %v Hm Ha
  ispecialize Hk $$ %v
  iapply Hk $$ [Hx Hm Hs] [Ha]
  · isplitl [Hx]; · iexact Hx
    isplitl [Hm]
    · iexists f
      isplitr; · ipureintro; exact hf
      iexact Hm
    · iexact Hs
  · iexact Ha

theorem wp_again {c : BitVec 1} (p : Prop) [Decidable p] (hc : c = 1#1 ↔ p) {loop : Prog (EV F a b) (BitVec 32)} {C P : m.view.ty.Contents (Elt F) → Prop}
    {A : Multiset Nat} (h : LoopAdds d a b xv m om os s Dm Ds loop C A) (hP : p → ∀ f, P f → C f) {M : Multiset Nat} {α : Type} {k : Prog (EV F a b) α} {Q : α → sProp 𝕄} :
    iprop(Idle d a b x m sem q fx P ∗ Acc d a b xv om os s M Dm Ds
        ∗ (Idle d a b x m sem q fx P -∗ Acc d a b xv om os s (M + if p then A else 0) Dm Ds -∗ WP d a b k Q))
      ⊢ WP d a b (again c loop k) Q := by
  unfold again
  by_cases h1 : c = 1#1
  · rw [if_pos h1, if_pos (hc.mp h1)]
    iintro ⟨Hi, Ha, Hk⟩
    iapply (h.idle (k := fun _ => k) (hP (hc.mp h1)))
    isplitl [Hi]; · iexact Hi
    isplitl [Ha]; · iexact Ha
    iintro %v Hi Ha
    iapply Hk $$ [Hi] [Ha] <;> iassumption
  · rw [if_neg h1, if_neg fun hp => h1 (hc.mpr hp), add_zero]
    iintro ⟨Hi, Ha, Hk⟩
    iapply Hk $$ [Hi] [Ha] <;> iassumption

theorem wp_take {c : BitVec 1} {O : CellTallies nD τ sig (HIx 1)} {W : Waits sig (HIx 1)} (p : Prop) [Decidable p] (hc : c = 1#1 ↔ p)
    {inb0 : ∀ a, (![0, 0] : Fin 2 → Nat) a + (⟨2, ![R, 256]⟩ : Shape).size a ≤ S50000x256.size a} {hm : m.view.WordExact} {base : Nat}
    {loop : Prog (EV F a b) (BitVec 32)} {P : m.view.ty.Contents (Elt F) → Prop}
    {A : Multiset Nat} (h : LoopAdds d a b xv m om os s Dm Ds loop (fun f => Chunk xv m f base) A) {M : Multiset Nat} {α : Type} {k : Prog (EV F a b) α} {Q : α → sProp 𝕄} :
    iprop(Transfers.MayWaits (V d a b) none O ∗ Slot d a b xv x m sem q fx p base P ∗ Ow d a b O W ∗ Acc d a b xv om os s M Dm Ds
        ∗ (Idle d a b x m sem q fx (fun f => if p then Chunk xv m f base else P f) -∗ Ow d a b O W
            -∗ Acc d a b xv om os s (M + if p then A else 0) Dm Ds -∗ WP d a b k Q))
      ⊢ WP d a b (take c x inb0 m hm sem loop k) Q := by
  unfold take Slot
  by_cases h1 : c = 1#1
  · simp only [if_pos h1, if_pos (hc.mp h1)]
    iintro ⟨#Hmw, Hi, HO, Ha, Hk⟩
    iapply (wp_await (O := O) (W := W) (k := fun _ => loop >>= fun _ => k))
    isplitl [Hi]; · iexact Hi
    isplitl [HO]; · iexact HO
    isplitr; · iexact Hmw
    iintro Hi HO
    iapply (h.idle (k := fun _ => k) (fun _ hf => hf))
    isplitl [Hi]; · iexact Hi
    isplitl [Ha]; · iexact Ha
    iintro %v Hi Ha
    iapply Hk $$ [Hi] [HO] [Ha] <;> iassumption
  · simp only [if_neg h1, if_neg fun hp => h1 (hc.mpr hp), add_zero]
    iintro ⟨-, Hi, HO, Ha, Hk⟩
    iapply Hk $$ [Hi] [HO] [Ha] <;> iassumption

theorem wp_turn {c c' : BitVec 1} {O : CellTallies nD τ sig (HIx 1)} {W : Waits sig (HIx 1)} (p p' : Prop) [Decidable p] [Decidable p'] (hc : c = 1#1 ↔ p) (hc' : c' = 1#1 ↔ p')
    (hp : p' → p) {inb0 : ∀ a, (![0, 0] : Fin 2 → Nat) a + (⟨2, ![R, 256]⟩ : Shape).size a ≤ S50000x256.size a} {off : Fin 2 → Nat}
    {inb : c = 1#1 → c' = 1#1 → ∀ a, off a + (⟨2, ![R, 256]⟩ : Shape).size a ≤ S50000x256.size a} {hm : m.view.WordExact} {base base' : Nat}
    (hR : 0 < R) (hoff : off = ![base', 0]) (hx : Table xv x fx)
    {loop : Prog (EV F a b) (BitVec 32)} {A : Multiset Nat} (h : LoopAdds d a b xv m om os s Dm Ds loop (fun f => Chunk xv m f base) A)
    {M : Multiset Nat} {α : Type} {k : Prog (EV F a b) α} {Q : α → sProp 𝕄} :
    iprop(Transfers.MayWaits (V d a b) none O ∗ Slot d a b xv x m sem q fx p base (fun _ => True) ∗ Ow d a b O W ∗ Acc d a b xv om os s M Dm Ds
        ∗ (Slot d a b xv x m sem q fx p' base' (fun _ => True) -∗ Ow d a b O W
            -∗ Acc d a b xv om os s (M + if p then A else 0) Dm Ds -∗ WP d a b k Q))
      ⊢ WP d a b (turn c c' x inb0 off inb m hm sem loop k) Q := by
  unfold turn
  by_cases h1 : c = 1#1
  · rw [dif_pos h1, if_pos (hc.mp h1)]
    rw [show Slot d a b xv x m sem q fx p base (fun _ => True) = Busy d a b xv x m sem q fx base from if_pos (hc.mp h1)]
    iintro ⟨#Hmw, Hi, HO, Ha, Hk⟩
    iapply (wp_await (O := O) (W := W) (k := fun _ => loop >>= fun _ => issue c' x off (inb h1) m hm sem k))
    isplitl [Hi]; · iexact Hi
    isplitl [HO]; · iexact HO
    isplitr; · iexact Hmw
    iintro Hi HO
    iapply (h.idle (k := fun _ => issue c' x off (inb h1) m hm sem k) (fun _ hf => hf))
    isplitl [Hi]; · iexact Hi
    isplitl [Ha]; · iexact Ha
    iintro %v Hi Ha
    iapply (wp_issue p' hc' hR hoff hx (P := fun _ => True))
    isplitl [Hi]; · iapply (Idle.mono (fun _ _ => trivial)); iexact Hi
    iintro Hi
    iapply Hk $$ [Hi] [HO] [Ha] <;> iassumption
  · have hn : ¬ p := fun hp => h1 (hc.mpr hp)
    rw [dif_neg h1, if_neg hn, add_zero, Slot.ff hn, Slot.ff fun h => hn (hp h)]
    iintro ⟨-, Hi, HO, Ha, Hk⟩
    iapply Hk $$ [Hi] [HO] [Ha] <;> iassumption

end Loops

end Slots
end Cert.Proof.KI
end
-- ==== Proof.SegmentI.lean ====
/- One segment's work: its copies, waits and loops leave the folds over its rows. -/
module

public import proofs.«01_k».proof.Proof.SlotsI

@[expose] public section

noncomputable section

namespace Cert.Proof.KI

open Cert.KernelIdeal Cert.KernelIdeal.Gen
open Idealize.ShloMosaic
open Idealize.ShloMosaic.Affine (IsInt)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem t4_16 : k0_t4_loop.trips = 16 := by decide +kernel
theorem t5_16 : k0_t5_loop.trips = 16 := by decide +kernel
theorem t6_16 : k0_t6_loop.trips = 16 := by decide +kernel
theorem t8_16 : k0_t8_loop.trips = 16 := by decide +kernel
theorem t9_16 : k0_t9_loop.trips = 16 := by decide +kernel
theorem t10_16 : k0_t10_loop.trips = 16 := by decide +kernel
theorem t11_16 : k0_t11_loop.trips = 16 := by decide +kernel
theorem t12_16 : k0_t12_loop.trips = 16 := by decide +kernel
theorem t13_16 : k0_t13_loop.trips = 16 := by decide +kernel
theorem t21_16 : k0_t21_loop.trips = 16 := by decide +kernel
theorem t22_16 : k0_t22_loop.trips = 16 := by decide +kernel
theorem t23_16 : k0_t23_loop.trips = 16 := by decide +kernel
theorem t24_16 : k0_t24_loop.trips = 16 := by decide +kernel
theorem t25_16 : k0_t25_loop.trips = 16 := by decide +kernel

/-! ## Rows of the whole buffer and of a part of it -/

section Rows
variable {xv : Nat → Nat → F .f32} {R : Nat} {m : Memref sig .scVector .vmem ⟨2, ![R, 256]⟩ .f32} {f : m.view.ty.Contents (Elt F)}

/-- The element a piece's `l` is. -/
theorem rowv_at {r t : Nat} {off : Fin 2 → Nat} (hoff : off = ![r, 16 * t]) (inb : ∀ a, off a + S1x16.size a ≤ (⟨2, ![R, 256]⟩ : Shape).size a) (l : S16.Idx) :
    ∃ y : (⟨2, ![R, 256]⟩ : Shape).Idx, (y 0).val = r ∧ (y 1).val = 16 * t + (l 0).val ∧ rowv m off inb f l = m.view.read (Elt F) f y := by
  subst hoff
  refine ⟨(piece (R := R) ![r, 16 * t] inb).toLoadRect.idx (Fin.cons (⟨0, Nat.one_pos⟩ : Fin 1) l), ?_, ?_, ?_⟩
  · rw [LoadRect.idx_apply]; show r + 1 * 0 = r; omega
  · rw [LoadRect.idx_apply]; show 16 * t + 1 * (l 0).val = _; omega
  · unfold rowv; rw [cast16]; rfl

theorem Chunk.rowsAt {base : Nat} (h : Chunk xv m f base) : RowsAt xv m f 0 R base := by
  intro t r off inb ht hr ho l
  obtain ⟨y, h0, h1, e⟩ := rowv_at (f := f) ho inb l
  rw [e, h y, h0, h1, Nat.zero_add]

theorem within_whole (d : Dev nD) {a : Fin τ.nSC} {b : Fin τ.nSub} (m : Memref sig .scVector .vmem ⟨2, ![R, 256]⟩ .f32) (b0 N : Nat) :
    Within d (a := a) (b := b) m m.view.set b0 N := fun _ _ _ _ _ _ _ => View.setOn_subset_set _ _

/-- Eight rows of a buffer of thirty-two. -/
abbrev oct (m : Memref sig .scVector .vmem S32x256 .f32) (b0 : Nat) (inb : ∀ a, (![b0, 0] : Fin 2 → Nat) a + S8x256.size a ≤ S32x256.size a) :
    Memref sig .scVector .vmem S8x256 .f32 := m.slice (Rect.unit (s := S32x256) ![b0, 0] S8x256.size inb) (fun _ => rfl)

theorem Chunk.rowsAt_oct {m : Memref sig .scVector .vmem S32x256 .f32} {b0 : Nat} {inb : ∀ a, (![b0, 0] : Fin 2 → Nat) a + S8x256.size a ≤ S32x256.size a}
    {f : m.view.ty.Contents (Elt F)} {base : Nat} (h : Chunk (R := 8) xv (oct m b0 inb) f base) : RowsAt (R := 32) xv m f b0 8 base := by
  intro t r off inb' ht hr ho l
  obtain ⟨y, h0, h1, e⟩ := rowv_at (f := f) ho inb' l
  have hy1 : (y 1).val < 256 := (y 1).isLt
  let y' : S8x256.Idx := Fin.cons (⟨r, hr⟩ : Fin 8) (Fin.cons (⟨(y 1).val, hy1⟩ : Fin 256) finZeroElim)
  have hy : (Rect.unit (s := S32x256) ![b0, 0] S8x256.size inb).toLoadRect.idx y' = y := funext fun a => Fin.ext (by
    rw [LoadRect.idx_apply]
    revert a
    exact Fin.forall_fin_two.mpr ⟨by show b0 + 1 * r = (y 0).val; omega, by show 0 + 1 * (y 1).val = (y 1).val; omega⟩)
  have := h y'
  rw [e, ← hy]
  rw [← h1]
  exact this

theorem within_oct (d : Dev nD) {a : Fin τ.nSC} {b : Fin τ.nSub} (m : Memref sig .scVector .vmem S32x256 .f32) (b0 : Nat)
    (inb : ∀ a, (![b0, 0] : Fin 2 → Nat) a + S8x256.size a ≤ S32x256.size a) :
    Within (R := 32) d (a := a) (b := b) m (oct m b0 inb).view.set b0 8 := by
  intro t r off inb' ht hr ho
  subst ho
  show m.view.setOn _ ⊆ (m.view.slice (Rect.unit (s := S32x256) ![b0, 0] S8x256.size inb)).set
  rw [View.set_slice]
  refine Finset.map_subset_map.mpr (Rect.set_subset_of_span _ _ (fun _ => rfl) ?_)
  refine Fin.forall_fin_two.mpr ⟨?_, ?_⟩
  · show b0 ≤ b0 + r ∧ b0 + r + 1 * 1 ≤ b0 + 8 + (1 - 1); omega
  · show 0 ≤ 16 * t ∧ 16 * t + 1 * 16 ≤ 0 + 256 + (1 - 1); omega

end Rows

/-! ## The loops of the program -/

section LoopsOf
variable {d : Dev nD} {a : Fin τ.nSC} {b : Fin τ.nSub} {xv : Nat → Nat → F .f32} {om os : Memref sig .scVector .vmem S16x256 .f32} {s : Nat} {hs : s < 16}
  {Dm Ds : Nat → Nat → F .f32 → Prop} {L : Scf.Loop 32} {hok : L.OK} {hL : L.trips ≤ 16}

theorem adds_ring (h16 : L.trips = 16) (m : Memref sig .scVector .vmem S32x256 .f32) {hR : 0 + 32 ≤ 32} (base : Nat) :
    LoopAdds (R := 32) d a b xv m om os s Dm Ds (accLoop (R := 32) L hok hL m 0 32 hR plain plain om os s hs) (fun f => Chunk (R := 32) xv m f base)
      (Rows base (base + 32)) := by
  intro f hf M Q
  rw [← sum_rows base 32]
  exact wp_accLoop d h16 (within_whole d m 0 32) _ (hf.rowsAt.plain)

theorem adds_tail (h16 : L.trips = 16) (m : Memref sig .scVector .vmem S32x256 .f32) {b0 : Nat} {hR : b0 + 8 ≤ 32}
    {inb : ∀ a, (![b0, 0] : Fin 2 → Nat) a + S8x256.size a ≤ S32x256.size a} (base : Nat) :
    LoopAdds (R := 8) d a b xv (oct m b0 inb) om os s Dm Ds (accLoop (R := 32) L hok hL m b0 8 hR plain plain om os s hs)
      (fun f => Chunk (R := 8) xv (oct m b0 inb) f base) (Rows base (base + 8)) := by
  intro f hf M Q
  rw [← sum_rows base 8]
  exact wp_accLoop d (R := 32) (m := m) (f := f) h16 (within_oct d m b0 inb) _ (hf.rowsAt_oct.plain)

theorem adds_head (h16 : L.trips = 16) (m : Memref sig .scVector .vmem S8x256 .f32) {hR : 0 + 8 ≤ 8} {base l h : Nat} {bb lo hi : BitVec 32}
    (hb : IsInt bb base) (hl : IsInt lo l) (hh : IsInt hi h) (hb5 : base ≤ 50000) :
    LoopAdds (R := 8) d a b xv m om os s Dm Ds (accLoop (R := 8) L hok hL m 0 8 hR (maskRow bb lo hi nInf) (maskRow bb lo hi zero) om os s hs)
      (fun f => Chunk (R := 8) xv m f base) (Rows (max base l) (min (base + 8) h)) := by
  intro f hf M Q
  rw [← sum_inside base 8]
  exact wp_accLoop d h16 (within_whole d m 0 8) _ (hf.rowsAt.mask hb hl hh hb5)

theorem adds_mask (h16 : L.trips = 16) (m : Memref sig .scVector .vmem S32x256 .f32) {b0 : Nat} {hR : b0 + 8 ≤ 32}
    {inb : ∀ a, (![b0, 0] : Fin 2 → Nat) a + S8x256.size a ≤ S32x256.size a} {base l h : Nat} {bb lo hi : BitVec 32}
    (hb : IsInt bb base) (hl : IsInt lo l) (hh : IsInt hi h) (hb5 : base ≤ 50000) :
    LoopAdds (R := 8) d a b xv (oct m b0 inb) om os s Dm Ds
      (accLoop (R := 32) L hok hL m b0 8 hR (maskRow bb lo hi nInf) (maskRow bb lo hi zero) om os s hs)
      (fun f => Chunk (R := 8) xv (oct m b0 inb) f base) (Rows (max base l) (min (base + 8) h)) := by
  intro f hf M Q
  rw [← sum_inside base 8]
  exact wp_accLoop d (R := 32) (m := m) (f := f) h16 (within_oct d m b0 inb) _ (hf.rowsAt_oct.mask hb hl hh hb5)

end LoopsOf

/-! ## The rows add up -/

theorem rows_next (w i n b l : Nat) (h : l ≤ b) :
    Rows l (b + w * min i n) + (if i < n then Rows (b + w * i) (b + w * i + w) else 0) = Rows l (b + w * min (i + 1) n) := by
  by_cases hi : i < n
  · rw [if_pos hi, Nat.min_eq_left (Nat.le_of_lt hi), Nat.min_eq_left (by omega), rows_add _ _ _ (by omega) (by omega), Nat.mul_succ, Nat.add_assoc]
  · rw [if_neg hi, add_zero, Nat.min_eq_right (by omega), Nat.min_eq_right (by omega)]

theorem rows_turn (M : Multiset Nat) (b n t j k : Nat) (hk : k = j + 1) :
    M + Rows b (b + 32 * min (6 * t + j) n) + (if 6 * t + j < n then Rows (b + 32 * (6 * t + j)) (b + 32 * (6 * t + j) + 32) else 0)
      = M + Rows b (b + 32 * min (6 * t + k) n) := by
  subst hk; rw [add_assoc, rows_next 32 (6 * t + j) n b b (Nat.le_refl _)]; rfl

theorem rows_head {l h last hb : Nat} (e : hb = nHb l) (l5 : l ≤ 50000) (h5 : h ≤ 50000) (p p' : Prop) [Decidable p] [Decidable p']
    (hp : p ↔ l < min (nLo8 l) h ∧ last ≠ hb) (hp' : p' ↔ l < min (nLo8 l) h ∧ last = hb) :
    0 + (if p then Rows (max hb l) (min (hb + 8) (min (nLo8 l) h)) else 0)
        + (if p' then Rows (max hb l) (min (hb + 8) (min (nLo8 l) h)) else 0) = Rows l (min (nLo8 l) h) := by
  subst e
  have hl8 : nLo8 l ≤ 50000 ∧ nLo8 l < l + 8 := by unfold nLo8; omega
  by_cases hm : l < min (nLo8 l) h
  · have e1 : max (nHb l) l = l := by unfold nHb; omega
    have e2 : min (nHb l + 8) (min (nLo8 l) h) = min (nLo8 l) h := by unfold nHb; omega
    rw [e1, e2]
    by_cases he : last = nHb l
    · rw [if_neg (by tauto), if_pos (by tauto), zero_add, zero_add]
    · rw [if_pos (by tauto), if_neg (by tauto), zero_add, add_zero]
  · rw [if_neg (by tauto), if_neg (by tauto), rows_nil (by omega)]; rfl

theorem rows_all {l h : Nat} (h5 : h ≤ 50000) :
    Rows l (min (nLo8 l) h) + Rows (nLo8 l) (nLo8 l + 32 * min (6 * ((nNf l h + 5) / 6) + 0) (nNf l h))
        + (if 0 < nNt l h then Rows (nTlo l h + 8 * 0) (nTlo l h + 8 * 0 + 8) else 0)
        + (if 1 < nNt l h then Rows (nTlo l h + 8 * 1) (nTlo l h + 8 * 1 + 8) else 0)
        + (if 2 < nNt l h then Rows (nTlo l h + 8 * 2) (nTlo l h + 8 * 2 + 8) else 0)
        + (if nT8s l h < h then Rows (max (nT8e l h) (nT8s l h)) (min (nT8e l h + 8) h) else 0) = Rows l h := by
  have hl : l ≤ nLo8 l := by unfold nLo8; omega
  have e : min (6 * ((nNf l h + 5) / 6) + 0) (nNf l h) = nNf l h := by omega
  rw [e]
  by_cases hm : h ≤ nLo8 l
  · have nf : nNf l h = 0 := by unfold nNf; omega
    have tl : nTlo l h = nLo8 l := by unfold nTlo; omega
    have nt : nNt l h = 0 := by unfold nNt; omega
    have ts : nT8s l h = nLo8 l := by unfold nT8s; omega
    rw [nf, nt, ts, Nat.min_eq_right hm, if_neg (by omega), if_neg (by omega), if_neg (by omega), if_neg (by omega), rows_nil (a := nLo8 l) (by omega)]
    simp only [add_zero]
  · have tl : nTlo l h = nLo8 l + 32 * nNf l h := by unfold nTlo; omega
    have nt : nNt l h ≤ 3 := by unfold nNt nTlo nNf; omega
    have ht : nTlo l h ≤ h := by unfold nTlo nNf; omega
    have n0 := rows_next 8 0 (nNt l h) (nTlo l h) l (by omega)
    have n1 := rows_next 8 1 (nNt l h) (nTlo l h) l (by omega)
    have n2 := rows_next 8 2 (nNt l h) (nTlo l h) l (by omega)
    rw [Nat.zero_min, Nat.mul_zero, Nat.add_zero] at n0
    rw [Nat.min_eq_left (by omega), rows_add _ _ _ hl (by omega), ← tl, Nat.mul_zero, Nat.add_zero, n0, n1, n2, Nat.min_eq_right (by omega)]
    have ts : nTlo l h + 8 * nNt l h = nT8s l h := by unfold nT8s; omega
    have t8 : nT8s l h ≤ h ∧ h < nT8s l h + 8 := by unfold nT8s nNt; omega
    rw [ts]
    by_cases hc : nT8s l h < h
    · have e1 : max (nT8e l h) (nT8s l h) = nT8s l h := by unfold nT8e; omega
      have e2 : min (nT8e l h + 8) h = h := by unfold nT8e; omega
      rw [if_pos hc, e1, e2, rows_add _ _ _ (by omega) (by omega)]
    · rw [if_neg hc, add_zero]; congr 1; omega

/-- The condition of the loop over the rows kept from the segment before. -/
theorem cond7b_iff {lo hi : BitVec 32} {l h : Nat} (hl : IsInt lo l) (hh : IsInt hi h) (l5 : l ≤ 50000) (h5 : h ≤ 50000) (c : BitVec 32) :
    Scalar.cmpi .ne (Scalar.extui (Scalar.andi (Scalar.cmpi .slt lo (bMid lo hi)) (Scalar.cmpi .eq c (bHb lo))) : BitVec 32) 0#32 = 1#1
      ↔ (l < min (nLo8 l) h ∧ c = bHb lo) := by
  rw [Scalar.guard_iff, Scalar.andi, IntOp.andi_eq_one, Scalar.cmpi, Scalar.cmpi, IntOp.cmpi_slt, IntOp.cmpi_eq, toInt_eq hl, toInt_eq (bMid_int hl hh l5 h5), Nat.cast_lt]

section Parts

variable (i : grid0.Coords)
  (arg2 : Memref sig .scVector .hbm S50000 .i32) (harg2 : arg2.IsWhole) (arg3 : Memref sig .scVector .hbm S50000x256 .f32) (harg3 : arg3.IsWhole)
  (arg4 : Memref sig .scVector .hbm S512x256 .f32) (harg4 : arg4.IsWhole) (arg5 : Memref sig .scVector .hbm S512x256 .f32) (harg5 : arg5.IsWhole)
  (arg6 : Memref sig .scVector .vmem S50000 .i32) (harg6 : arg6.IsWhole) (arg7 : Memref sig .scVector .vmem S8x256 .f32) (harg7 : arg7.IsWhole)
  (arg8 : Memref sig .scVector .vmem S32x256 .f32) (harg8 : arg8.IsWhole) (arg9 : Memref sig .scVector .vmem S32x256 .f32) (harg9 : arg9.IsWhole)
  (arg10 : Memref sig .scVector .vmem S32x256 .f32) (harg10 : arg10.IsWhole) (arg11 : Memref sig .scVector .vmem S32x256 .f32) (harg11 : arg11.IsWhole)
  (arg12 : Memref sig .scVector .vmem S32x256 .f32) (harg12 : arg12.IsWhole) (arg13 : Memref sig .scVector .vmem S32x256 .f32) (harg13 : arg13.IsWhole)
  (arg14 : Memref sig .scVector .vmem S32x256 .f32) (harg14 : arg14.IsWhole) (arg15 : Memref sig .scVector .vmem S16x256 .f32) (harg15 : arg15.IsWhole)
  (arg16 : Memref sig .scVector .vmem S16x256 .f32) (harg16 : arg16.IsWhole)
  (arg17 arg18 arg19 arg20 arg21 arg22 arg23 arg24 arg25 arg26 arg27 v23_r0 v23_r1 v23_r2 : DmaSems sig S_)
  (k0_t3 : Fin k0_t3_loop.trips) (arg29 arg28 lo hi : BitVec 32) (k0_hw3 : k0_chk3 arg29 lo hi)

/-- The tile's subcore. -/
abbrev cV (i : grid0.Coords) : Fin τ.nSC := (i 0).castLE hcore0
abbrev jV (i : grid0.Coords) : Fin τ.nSub := (i 1).castLE hsub0

variable (d : Dev nD) (xv : Nat → Nat → F .f32) (q : Nat → PosShare TreeShare) (fx : Buf (Elt F) (arg3.view.loc (V d (cV i) (jV i))))
  (O : CellTallies nD τ sig (HIx 1)) (W : Waits sig (HIx 1))

/-- The last eight rows of the tail's buffer are the table's rows from `last` on, when these are in the table. -/
def Kept (last : BitVec 32) (f : (tb3 arg14).view.ty.Contents (Elt F)) : Prop := last.toNat ≤ 49992 → Chunk (R := 8) xv (tb3 arg14) f last.toNat

/-- The ring's buffers, idle. -/
abbrev IdleR (j : Nat) (m : Memref sig .scVector .vmem S32x256 .f32) (sem : DmaSems sig S_) : sProp 𝕄 :=
  Idle (R := 32) d (cV i) (jV i) arg3 m sem.sem (q j) fx (fun _ => True)
/-- The buffers of eight rows, idle. -/
abbrev IdleT (j : Nat) (m : Memref sig .scVector .vmem S8x256 .f32) (sem : DmaSems sig S_) (P : m.view.ty.Contents (Elt F) → Prop) : sProp 𝕄 :=
  Idle (R := 8) d (cV i) (jV i) arg3 m sem.sem (q j) fx P
/-- A buffer of the ring before turn `n`: block `n` under way if there is one. -/
abbrev SlotR (l h j n : Nat) (m : Memref sig .scVector .vmem S32x256 .f32) (sem : DmaSems sig S_) : sProp 𝕄 :=
  Slot (R := 32) d (cV i) (jV i) xv arg3 m sem.sem (q j) fx (n < nNf l h) (nLo8 l + 32 * n) (fun _ => True)

variable {l h : Nat} (hl : IsInt lo l) (hh : IsInt hi h) (l5 : l ≤ 50000) (h5 : h ≤ 50000) (hx : Table xv arg3 fx)
  {Dm Ds : Nat → Nat → F .f32 → Prop} {k0_t3 arg29 arg28}
include hl hh l5 h5 hx

set_option maxHeartbeats 4000000 in
theorem wp_part62 (v39 v42 v52 : BitVec 32) (v59 : BitVec 1) {Q : PUnit → sProp 𝕄} :
    iprop(Transfers.MayWaits (V d (cV i) (jV i)) none O
        ∗ (IdleR i arg3 d q fx 1 arg9 arg19 ∗ IdleR i arg3 d q fx 2 arg10 arg20 ∗ IdleR i arg3 d q fx 3 arg11 arg21 ∗ IdleR i arg3 d q fx 4 arg12 arg22 ∗ IdleR i arg3 d q fx 5 arg13 arg23)
        ∗ IdleT i arg3 d q fx 6 arg7 arg17 (fun _ => True) ∗ IdleT i arg3 d q fx 10 (tb3 arg14) arg27 (Kept arg14 xv arg29) ∗ Ow d (cV i) (jV i) O W
        ∗ (∃ go gs, ⌜Holds (fun r c x => r = k0_t3.val ∨ Dm r c x) (arg15.view.read (Elt F) go) ∧ Holds (fun r c x => r = k0_t3.val ∨ Ds r c x) (arg16.view.read (Elt F) gs)⌝
          ∗ (arg15.view.loc (V d (cV i) (jV i)) ↦{fullShare} go) ∗ (arg16.view.loc (V d (cV i) (jV i)) ↦{fullShare} gs))
        ∗ (SlotR i arg3 d xv q fx l h 1 (1) arg9 arg19 -∗ SlotR i arg3 d xv q fx l h 2 (2) arg10 arg20 -∗ SlotR i arg3 d xv q fx l h 3 (3) arg11 arg21 -∗ SlotR i arg3 d xv q fx l h 4 (4) arg12 arg22 -∗ SlotR i arg3 d xv q fx l h 5 (5) arg13 arg23 -∗ IdleT i arg3 d q fx 6 arg7 arg17 (fun _ => True) -∗ IdleT i arg3 d q fx 10 (tb3 arg14) arg27 (Kept arg14 xv arg29)
            -∗ Ow d (cV i) (jV i) O W -∗ Acc d (cV i) (jV i) xv arg15 arg16 k0_t3 (Rows l (min (nLo8 l) h)) Dm Ds -∗ Q ⟨⟩))
      ⊢ WP d (cV i) (jV i) (k0_part62 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2
        k0_t3 arg29 arg28 lo hi k0_hw3 v39 v42 (bMid lo hi) (Scalar.cmpi .slt lo (bMid lo hi)) (bHb lo) v52 v59) Q := by
  rw [part62_eq]
  have hs : k0_t3.val < 16 := trips3 ▸ k0_t3.isLt
  have hhb : nHb l ≤ 50000 := by unfold nHb; omega
  have ht : arg29.toNat = nHb l ↔ arg29 = bHb lo := by rw [← toNat_eq (bHb_int hl l5), BitVec.toNat_inj]
  iintro ⟨#Hmw, ⟨H1, H2, H3, H4, H5⟩, Hh, Ht, HO, Hacc, Hk⟩
  iapply (wp_issue (R := 32) (1 < nNf l h) (cond2_iff hl hh l5 h5) (by omega) (off2_eq hl hh l5 h5) hx (P := fun _ => True))
  isplitl [H1]; · iexact H1
  iintro H1
  iapply (wp_issue (R := 32) (2 < nNf l h) (cond3_iff hl hh l5 h5) (by omega) (off3_eq hl hh l5 h5) hx (P := fun _ => True))
  isplitl [H2]; · iexact H2
  iintro H2
  iapply (wp_issue (R := 32) (3 < nNf l h) (cond4_iff hl hh l5 h5) (by omega) (off4_eq hl hh l5 h5) hx (P := fun _ => True))
  isplitl [H3]; · iexact H3
  iintro H3
  iapply (wp_issue (R := 32) (4 < nNf l h) (cond5_iff hl hh l5 h5) (by omega) (off5_eq hl hh l5 h5) hx (P := fun _ => True))
  isplitl [H4]; · iexact H4
  iintro H4
  iapply (wp_issue (R := 32) (5 < nNf l h) (cond6_iff hl hh l5 h5) (by omega) (off6_eq hl hh l5 h5) hx (P := fun _ => True))
  isplitl [H5]; · iexact H5
  iintro H5
  iapply (wp_issue (R := 8) (l < min (nLo8 l) h ∧ arg29 ≠ bHb lo) (cond7_iff hl hh l5 h5 arg29) (by omega) (off7_eq hl l5) hx (P := fun _ => True))
  isplitl [Hh]; · iexact Hh
  iintro Hh
  iapply (wp_initLoop d t4_16)
  isplitl [Hacc]; · iexact Hacc
  iintro %v Hacc
  iapply (wp_take (R := 8) (W := W) (l < min (nLo8 l) h ∧ arg29 ≠ bHb lo) (cond7_iff hl hh l5 h5 arg29) (base := nHb l)
    (adds_head t5_16 arg7 (bHb_int hl l5) hl (bMid_int hl hh l5 h5) hhb))
  isplitr; · iexact Hmw
  isplitl [Hh]; · iexact Hh
  isplitl [HO]; · iexact HO
  isplitl [Hacc]; · iexact Hacc
  iintro Hh HO Hacc
  iapply (wp_again (R := 8) (l < min (nLo8 l) h ∧ arg29 = bHb lo) (cond7b_iff hl hh l5 h5 arg29)
    (adds_mask t6_16 arg14 (bHb_int hl l5) hl (bMid_int hl hh l5 h5) hhb) (P := Kept arg14 xv arg29) (fun hp f hf => by
      have e : arg29.toNat = nHb l := by rw [hp.2]; exact toNat_eq (bHb_int hl l5)
      have := hf (by rw [e]; unfold nHb; omega)
      rwa [e] at this))
  isplitl [Ht]; · iexact Ht
  isplitl [Hacc]; · iexact Hacc
  iintro Ht Hacc
  rw [rows_head (last := arg29.toNat) (hb := nHb l) rfl l5 h5 _ _ (by rw [ne_eq, ne_eq, ht]) (by rw [ht])]
  unfold WP
  rw [Prog.pure_eq_ret, wp_ret]
  imodintro
  iapply Hk $$ [H1] [H2] [H3] [H4] [H5] [Hh] [Ht] [HO] [Hacc]
  any_goals iassumption
  iapply (Idle.mono (fun _ _ => trivial)); iexact Hh

set_option maxHeartbeats 4000000 in
theorem wp_part63 (v39 v42 v49 : BitVec 32) {M : Multiset Nat} {Q : (Σ' (_ : BitVec 32) (_ : BitVec 32), BitVec 32) → sProp 𝕄} :
    iprop(Transfers.MayWaits (V d (cV i) (jV i)) none O
        ∗ (SlotR i arg3 d xv q fx l h 0 (0) arg8 arg18 ∗ SlotR i arg3 d xv q fx l h 1 (1) arg9 arg19 ∗ SlotR i arg3 d xv q fx l h 2 (2) arg10 arg20 ∗ SlotR i arg3 d xv q fx l h 3 (3) arg11 arg21 ∗ SlotR i arg3 d xv q fx l h 4 (4) arg12 arg22 ∗ SlotR i arg3 d xv q fx l h 5 (5) arg13 arg23)
        ∗ (IdleT i arg3 d q fx 7 (tb0 arg14) arg24 (fun _ => True) ∗ IdleT i arg3 d q fx 8 (tb1 arg14) arg25 (fun _ => True) ∗ IdleT i arg3 d q fx 9 (tb2 arg14) arg26 (fun _ => True)
          ∗ IdleT i arg3 d q fx 10 (tb3 arg14) arg27 (Kept arg14 xv arg29)) ∗ Ow d (cV i) (jV i) O W
        ∗ Acc d (cV i) (jV i) xv arg15 arg16 k0_t3 (Rows l (min (nLo8 l) h)) Dm Ds
        ∗ ((IdleR i arg3 d q fx 0 arg8 arg18 ∗ IdleR i arg3 d q fx 1 arg9 arg19 ∗ IdleR i arg3 d q fx 2 arg10 arg20 ∗ IdleR i arg3 d q fx 3 arg11 arg21 ∗ IdleR i arg3 d q fx 4 arg12 arg22 ∗ IdleR i arg3 d q fx 5 arg13 arg23)
            -∗ (IdleT i arg3 d q fx 7 (tb0 arg14) arg24 (fun _ => True) ∗ IdleT i arg3 d q fx 8 (tb1 arg14) arg25 (fun _ => True) ∗ IdleT i arg3 d q fx 9 (tb2 arg14) arg26 (fun _ => True)
              ∗ IdleT i arg3 d q fx 10 (tb3 arg14) arg27 (Kept arg14 xv (Scalar.select (Scalar.cmpi .slt (bT8s lo hi) hi) (bT8e lo hi) arg29)))
            -∗ Ow d (cV i) (jV i) O W -∗ Acc d (cV i) (jV i) xv arg15 arg16 k0_t3 (Rows l h) Dm Ds -∗ Q ⟨0#32, 0#32, 16#32⟩))
      ⊢ WP d (cV i) (jV i) (k0_part63 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2
        k0_t3 arg29 arg28 lo hi k0_hw3 v39 v42 v49 (bNt lo hi) (bT8s lo hi) (bT8e lo hi)) Q := by
  obtain ⟨body, e⟩ := part63_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2
    k0_t3 arg29 arg28 lo hi k0_hw3 v39 v42 v49 (bNt lo hi) (bT8s lo hi) (bT8e lo hi)
  rw [e]
  have hs : k0_t3.val < 16 := trips3 ▸ k0_t3.isLt
  have he5 : nT8e l h ≤ 50000 := by unfold nT8e; omega
  have hn : ∀ j, ¬ 6 * ((nNf l h + 5) / 6) + j < nNf l h := fun j => by omega
  have hm : ∀ f, (if nT8s l h < h then Chunk (R := 8) xv (tb3 arg14) f (nT8e l h) else Kept arg14 xv arg29 f)
      → Kept arg14 xv (Scalar.select (Scalar.cmpi .slt (bT8s lo hi) hi) (bT8e lo hi) arg29) f := by
    intro f hf
    by_cases hc : nT8s l h < h
    · rw [if_pos hc] at hf
      have e1 : Scalar.cmpi .slt (bT8s lo hi) hi = 1#1 := by
        rw [Scalar.cmpi, IntOp.cmpi_slt, toInt_eq (bT8s_int hl hh l5 h5), toInt_eq hh]; omega
      intro _
      rw [show Scalar.select (Scalar.cmpi .slt (bT8s lo hi) hi) (bT8e lo hi) arg29 = bT8e lo hi from if_pos e1, toNat_eq (bT8e_int hl hh l5 h5)]
      exact hf
    · rw [if_neg hc] at hf
      have e1 : ¬ Scalar.cmpi .slt (bT8s lo hi) hi = 1#1 := by
        rw [Scalar.cmpi, IntOp.cmpi_slt, toInt_eq (bT8s_int hl hh l5 h5), toInt_eq hh]; omega
      rw [show Scalar.select (Scalar.cmpi .slt (bT8s lo hi) hi) (bT8e lo hi) arg29 = arg29 from if_neg e1]
      exact hf
  iintro ⟨#Hmw, ⟨H0, H1, H2, H3, H4, H5⟩, ⟨Ht0, Ht1, Ht2, Ht3⟩, HO, Hacc, Hk⟩
  iapply (wp_issue (R := 8) (0 < nNt l h) (cond10_iff hl hh l5 h5) (by omega) (off27_eq hl hh l5 h5) hx (P := fun _ => True))
  isplitl [Ht0]; · iexact Ht0
  iintro Ht0
  iapply (wp_issue (R := 8) (1 < nNt l h) (cond11_iff hl hh l5 h5) (by omega) (off28_eq hl hh l5 h5) hx (P := fun _ => True))
  isplitl [Ht1]; · iexact Ht1
  iintro Ht1
  iapply (wp_issue (R := 8) (2 < nNt l h) (cond12_iff hl hh l5 h5) (by omega) (off29_eq hl hh l5 h5) hx (P := fun _ => True))
  isplitl [Ht2]; · iexact Ht2
  iintro Ht2
  iapply (wp_issue (R := 8) (nT8s l h < h) (cond13_iff hl hh l5 h5) (by omega) (off30_eq hl hh l5 h5) hx (P := Kept arg14 xv arg29))
  isplitl [Ht3]; · iexact Ht3
  iintro Ht3
  unfold WP
  rw [wp_bind]
  iapply (Scf.wp_for frame (wpE (defs₀ (F := F)) 𝒱₀ (V d (cV i) (jV i)) none) Set.univ (k0_t7_loop lo hi).lb (k0_t7_loop lo hi).ub (k0_t7_loop lo hi).st
    (k0_t7_ok arg29 lo hi k0_hw3) 0#32 _ (fun t _ => iprop(Transfers.MayWaits (V d (cV i) (jV i)) none O
      ∗ (SlotR i arg3 d xv q fx l h 0 (6 * t + 0) arg8 arg18 ∗ SlotR i arg3 d xv q fx l h 1 (6 * t + 1) arg9 arg19 ∗ SlotR i arg3 d xv q fx l h 2 (6 * t + 2) arg10 arg20 ∗ SlotR i arg3 d xv q fx l h 3 (6 * t + 3) arg11 arg21 ∗ SlotR i arg3 d xv q fx l h 4 (6 * t + 4) arg12 arg22 ∗ SlotR i arg3 d xv q fx l h 5 (6 * t + 5) arg13 arg23)
      ∗ Ow d (cV i) (jV i) O W
      ∗ Acc d (cV i) (jV i) xv arg15 arg16 k0_t3 (Rows l (min (nLo8 l) h) + Rows (nLo8 l) (nLo8 l + 32 * min (6 * t + 0) (nNf l h))) Dm Ds)) ?_)
  rotate_left
  · isplitl [H0 H1 H2 H3 H4 H5 HO Hacc]
    · isplitr; · iexact Hmw
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [HO]; · iexact HO
      rw [show 6 * 0 + 0 = 0 from rfl, Nat.zero_min, Nat.mul_zero, Nat.add_zero, rows_nil (a := nLo8 l) (Nat.le_refl _), add_zero]
      iexact Hacc
    iintro %acc ⟨-, ⟨H0, H1, H2, H3, H4, H5⟩, HO, Hacc⟩
    rw [show Scf.trips (k0_t7_loop lo hi).lb (k0_t7_loop lo hi).ub (k0_t7_loop lo hi).st = (nNf l h + 5) / 6 from loop7_trips hl hh l5 h5]
    rw [wp_bind]
    iapply (Scf.wp_for frame (wpE (defs₀ (F := F)) 𝒱₀ (V d (cV i) (jV i)) none) Set.univ (k0_t14_loop lo hi).lb (k0_t14_loop lo hi).ub (k0_t14_loop lo hi).st
      (k0_t14_ok arg29 lo hi k0_hw3) acc _ (fun _ _ => iprop(emp)) (fun t => absurd (Nat.lt_of_lt_of_eq t.isLt (loop14_trips hl hh l5 h5)) (Nat.not_lt_zero _)))
    isplitr; · iempintro
    iintro %acc' -
    iapply (wp_take (R := 8) (W := W) (0 < nNt l h) (cond_nt hl hh l5 h5 0 (by omega)) (base := nTlo l h + 8 * 0) (adds_tail t21_16 arg14 (inb := inb_S32x256_S8x256_0_0) _))
    isplitr; · iexact Hmw
    isplitl [Ht0]; · iexact Ht0
    isplitl [HO]; · iexact HO
    isplitl [Hacc]; · iexact Hacc
    iintro Ht0 HO Hacc
    iapply (wp_take (R := 8) (W := W) (1 < nNt l h) (cond_nt hl hh l5 h5 1 (by omega)) (base := nTlo l h + 8 * 1) (adds_tail t22_16 arg14 (inb := inb_S32x256_S8x256_8_0) _))
    isplitr; · iexact Hmw
    isplitl [Ht1]; · iexact Ht1
    isplitl [HO]; · iexact HO
    isplitl [Hacc]; · iexact Hacc
    iintro Ht1 HO Hacc
    iapply (wp_take (R := 8) (W := W) (2 < nNt l h) (cond_nt hl hh l5 h5 2 (by omega)) (base := nTlo l h + 8 * 2) (adds_tail t23_16 arg14 (inb := inb_S32x256_S8x256_16_0) _))
    isplitr; · iexact Hmw
    isplitl [Ht2]; · iexact Ht2
    isplitl [HO]; · iexact HO
    isplitl [Hacc]; · iexact Hacc
    iintro Ht2 HO Hacc
    iapply (wp_take (R := 8) (W := W) (nT8s l h < h) (cond_tail hl hh l5 h5) (base := nT8e l h)
      (adds_mask t24_16 arg14 (inb := inb_S32x256_S8x256_24_0) (bT8e_int hl hh l5 h5) (bT8s_int hl hh l5 h5) hh he5))
    isplitr; · iexact Hmw
    isplitl [Ht3]; · iexact Ht3
    isplitl [HO]; · iexact HO
    isplitl [Hacc]; · iexact Hacc
    iintro Ht3 HO Hacc
    rw [rows_all h5]
    unfold WP
    rw [Prog.pure_eq_ret, wp_ret]
    imodintro
    iapply Hk $$ [H0 H1 H2 H3 H4 H5] [Ht0 Ht1 Ht2 Ht3] [HO] [Hacc]
    · isplitl [H0]; · iapply (Entails.of_eq (Slot.ff (hn 0))); iexact H0
      isplitl [H1]; · iapply (Entails.of_eq (Slot.ff (hn 1))); iexact H1
      isplitl [H2]; · iapply (Entails.of_eq (Slot.ff (hn 2))); iexact H2
      isplitl [H3]; · iapply (Entails.of_eq (Slot.ff (hn 3))); iexact H3
      isplitl [H4]; · iapply (Entails.of_eq (Slot.ff (hn 4))); iexact H4
      iapply (Entails.of_eq (Slot.ff (hn 5))); iexact H5
    · isplitl [Ht0]; · iapply (Idle.mono (fun _ _ => trivial)); iexact Ht0
      isplitl [Ht1]; · iapply (Idle.mono (fun _ _ => trivial)); iexact Ht1
      isplitl [Ht2]; · iapply (Idle.mono (fun _ _ => trivial)); iexact Ht2
      iapply (Idle.mono hm); iexact Ht3
    · iexact HO
    · iexact Hacc
  · intro t acc
    iintro ⟨#Hmw, ⟨H0, H1, H2, H3, H4, H5⟩, HO, Hacc⟩
    iapply (wp_turn (R := 32) (W := W) (6 * t.val + 0 < nNf l h) (6 * t.val + 0 + 6 < nNf l h) (cond14_iff hl hh l5 h5 t) (cond15_iff hl hh l5 h5 t) (by omega)
      (by omega) (off64_eq hl hh l5 h5 t) hx (base := nLo8 l + 32 * (6 * t.val + 0)) (adds_ring t8_16 arg8 _))
    isplitr; · iexact Hmw
    isplitl [H0]; · iexact H0
    isplitl [HO]; · iexact HO
    isplitl [Hacc]; · iexact Hacc
    iintro H0 HO Hacc
    rw [rows_turn (Rows l (min (nLo8 l) h)) (nLo8 l) (nNf l h) t.val 0 1 rfl]
    iapply (wp_turn (R := 32) (W := W) (6 * t.val + 1 < nNf l h) (6 * t.val + 1 + 6 < nNf l h) (cond16_iff hl hh l5 h5 t) (cond17_iff hl hh l5 h5 t) (by omega)
      (by omega) (off98_eq hl hh l5 h5 t) hx (base := nLo8 l + 32 * (6 * t.val + 1)) (adds_ring t9_16 arg9 _))
    isplitr; · iexact Hmw
    isplitl [H1]; · iexact H1
    isplitl [HO]; · iexact HO
    isplitl [Hacc]; · iexact Hacc
    iintro H1 HO Hacc
    rw [rows_turn (Rows l (min (nLo8 l) h)) (nLo8 l) (nNf l h) t.val 1 2 rfl]
    iapply (wp_turn (R := 32) (W := W) (6 * t.val + 2 < nNf l h) (6 * t.val + 2 + 6 < nNf l h) (cond18_iff hl hh l5 h5 t) (cond19_iff hl hh l5 h5 t) (by omega)
      (by omega) (off132_eq hl hh l5 h5 t) hx (base := nLo8 l + 32 * (6 * t.val + 2)) (adds_ring t10_16 arg10 _))
    isplitr; · iexact Hmw
    isplitl [H2]; · iexact H2
    isplitl [HO]; · iexact HO
    isplitl [Hacc]; · iexact Hacc
    iintro H2 HO Hacc
    rw [rows_turn (Rows l (min (nLo8 l) h)) (nLo8 l) (nNf l h) t.val 2 3 rfl]
    iapply (wp_turn (R := 32) (W := W) (6 * t.val + 3 < nNf l h) (6 * t.val + 3 + 6 < nNf l h) (cond20_iff hl hh l5 h5 t) (cond21_iff hl hh l5 h5 t) (by omega)
      (by omega) (off166_eq hl hh l5 h5 t) hx (base := nLo8 l + 32 * (6 * t.val + 3)) (adds_ring t11_16 arg11 _))
    isplitr; · iexact Hmw
    isplitl [H3]; · iexact H3
    isplitl [HO]; · iexact HO
    isplitl [Hacc]; · iexact Hacc
    iintro H3 HO Hacc
    rw [rows_turn (Rows l (min (nLo8 l) h)) (nLo8 l) (nNf l h) t.val 3 4 rfl]
    iapply (wp_turn (R := 32) (W := W) (6 * t.val + 4 < nNf l h) (6 * t.val + 4 + 6 < nNf l h) (cond22_iff hl hh l5 h5 t) (cond23_iff hl hh l5 h5 t) (by omega)
      (by omega) (off200_eq hl hh l5 h5 t) hx (base := nLo8 l + 32 * (6 * t.val + 4)) (adds_ring t12_16 arg12 _))
    isplitr; · iexact Hmw
    isplitl [H4]; · iexact H4
    isplitl [HO]; · iexact HO
    isplitl [Hacc]; · iexact Hacc
    iintro H4 HO Hacc
    rw [rows_turn (Rows l (min (nLo8 l) h)) (nLo8 l) (nNf l h) t.val 4 5 rfl]
    iapply (wp_turn (R := 32) (W := W) (6 * t.val + 5 < nNf l h) (6 * t.val + 5 + 6 < nNf l h) (cond24_iff hl hh l5 h5 t) (cond25_iff hl hh l5 h5 t) (by omega)
      (by omega) (off234_eq hl hh l5 h5 t) hx (base := nLo8 l + 32 * (6 * t.val + 5)) (adds_ring t13_16 arg13 _))
    isplitr; · iexact Hmw
    isplitl [H5]; · iexact H5
    isplitl [HO]; · iexact HO
    isplitl [Hacc]; · iexact Hacc
    iintro H5 HO Hacc
    rw [rows_turn (Rows l (min (nLo8 l) h)) (nLo8 l) (nNf l h) t.val 5 6 rfl]
    unfold WP
    rw [Prog.pure_eq_ret, wp_ret]
    imodintro
    isplitr; · iexact Hmw
    rw [show 6 * (t.val + 1) + 0 = 6 * t.val + 0 + 6 from rfl, show 6 * (t.val + 1) + 1 = 6 * t.val + 1 + 6 by omega, show 6 * (t.val + 1) + 2 = 6 * t.val + 2 + 6 by omega,
      show 6 * (t.val + 1) + 3 = 6 * t.val + 3 + 6 by omega, show 6 * (t.val + 1) + 4 = 6 * t.val + 4 + 6 by omega, show 6 * (t.val + 1) + 5 = 6 * t.val + 5 + 6 by omega]
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [HO]; · iexact HO
    iexact Hacc

end Parts
end Cert.Proof.KI
end
-- ==== Proof.SearchI.lean ====
/- The binary searches of the sixteen segments' rows, and the lane a segment's limits are read from. -/
module

public import proofs.«01_k».proof.Proof.SlotsI

@[expose] public section

noncomputable section

namespace Cert.Proof.KI

open Cert.KernelIdeal Cert.KernelIdeal.Gen
open Idealize.ShloMosaic
open Idealize.ShloMosaic.Affine (IsInt)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The numbers of a search -/

/-- The keys grow. -/
def Sorted (mv : Nat → Int) : Prop := ∀ r, r + 1 < 50000 → mv r ≤ mv (r + 1)

/-- Where the search for `T` stands after `t` halvings. -/
structure Between (mv : Nat → Int) (T : Int) (t lo hi : Nat) : Prop where
  le : lo ≤ hi + 1
  hi5 : hi ≤ 50000
  near : hi - lo ≤ 50000 / 2 ^ t
  below : Sorted mv → ∀ r, r < lo → r < 50000 → mv r < T
  above : Sorted mv → ∀ r, hi ≤ r → r < 50000 → T ≤ mv r

/-- The first row whose key is not below `T`. -/
def Cut (mv : Nat → Int) (T : Int) (c : Nat) : Prop := c ≤ 50000 ∧ (Sorted mv → ∀ r, r < 50000 → (r < c ↔ mv r < T))

theorem Sorted.mono {mv : Nat → Int} (h : Sorted mv) {r r' : Nat} (hr : r ≤ r') (h' : r' < 50000) : mv r ≤ mv r' := by
  induction r', hr using Nat.le_induction with
  | base => exact Int.le_refl _
  | succ n hn ih => exact Int.le_trans (ih (by omega)) (h n h')

theorem Between.start (mv : Nat → Int) (T : Int) : Between mv T 0 0 50000 where
  le := by omega
  hi5 := by omega
  near := by simp
  below := fun _ r h => absurd h (by omega)
  above := fun _ r h h' => absurd h (by omega)

theorem Between.step {mv : Nat → Int} {T : Int} {t lo hi : Nat} (h : Between mv T t lo hi) :
    (mv (min ((lo + hi) / 2) 49999) < T → Between mv T (t + 1) ((lo + hi) / 2 + 1) hi)
      ∧ (¬ mv (min ((lo + hi) / 2) 49999) < T → Between mv T (t + 1) lo ((lo + hi) / 2)) := by
  have hle := h.le
  have h5 := h.hi5
  have hn := h.near
  have hd : 50000 / 2 ^ (t + 1) = 50000 / 2 ^ t / 2 := by rw [Nat.pow_succ, Nat.div_div_eq_div_mul]
  constructor
  · intro hv
    exact ⟨by omega, h5, by rw [hd]; omega, fun hs r hr h' => Int.lt_of_le_of_lt (hs.mono (r' := min ((lo + hi) / 2) 49999) (by omega) (by omega)) hv, h.above⟩
  · intro hv
    refine ⟨by omega, by omega, by rw [hd]; omega, h.below, fun hs r hr h' => ?_⟩
    have : min ((lo + hi) / 2) 49999 ≤ r := by omega
    exact Int.le_trans (Int.not_lt.mp hv) (hs.mono this h')

theorem Between.done {mv : Nat → Int} {T : Int} {lo hi : Nat} (h : Between mv T 17 lo hi) : Cut mv T (min lo 50000) := by
  have hn := h.near
  have : 50000 / 2 ^ 17 = 0 := by decide
  refine ⟨by omega, fun hs r hr => ⟨fun hc => h.below hs r (by omega) hr, fun hv => ?_⟩⟩
  by_contra hc
  exact absurd hv (Int.not_lt.mpr (h.above hs r (by omega) hr))

/-- The rows of segment `n` are those between two cuts. -/
theorem Cut.mem {mv : Nat → Int} {n : Int} {l h r : Nat} (hl : Cut mv n l) (hh : Cut mv (n + 1) h) (hs : Sorted mv) (hr : r < 50000) :
    (l ≤ r ∧ r < h) ↔ mv r = n := by
  have h1 := hl.2 hs r hr
  have h2 := hh.2 hs r hr
  omega

/-! ## A lane -/

/-- Lane `k`. -/
abbrev lane (k : Fin 16) : S16.Idx := Shape.ofLane (d := ![16]) k

theorem lane_surj (x : S16.Idx) : ∃ k : Fin 16, x = lane k := ⟨x 0, funext fun a => by cases Fin.eq_zero a; rfl⟩

theorem divsi2 (x : BitVec 32) : IntOp.divsi .vector x 2#32 = Scalar.divsi x 2#32 := by
  have h : ¬ IntOp.SDivCorner x 2#32 := by
    rintro (h | ⟨-, h⟩)
    · exact absurd h (by decide)
    · exact absurd h (by decide)
  rw [Scalar.divsi, IntOp.divsi, IntOp.divsi, if_neg h, if_neg h]

theorem isInt_pos {c : BitVec 1} {x y : BitVec 32} {e : Int} (h : c = 1#1) (hx : IsInt x e) : IsInt (Scalar.select c x y) e := by
  rw [show Scalar.select c x y = x from if_pos h]; exact hx
theorem isInt_neg {c : BitVec 1} {x y : BitVec 32} {e : Int} (h : ¬ c = 1#1) (hy : IsInt y e) : IsInt (Scalar.select c x y) e := by
  rw [show Scalar.select c x y = y from if_neg h]; exact hy

/-- One halving of a lane. -/
theorem lane_step {mv : Nat → Int} {T : Int} {t lo hi : Nat} {x y : BitVec 32} (hx : IsInt x lo) (hy : IsInt y hi) (h : Between mv T t lo hi) :
    IsInt (IntOp.divsi .vector (IntOp.addi x y) 2#32) ((lo + hi) / 2 : Nat)
      ∧ IsInt (IntOp.minsi (IntOp.divsi .vector (IntOp.addi x y) 2#32) 49999#32) (min ((lo + hi) / 2) 49999 : Nat)
      ∧ IsInt (IntOp.addi (IntOp.divsi .vector (IntOp.addi x y) 2#32) 1#32) ((lo + hi) / 2 + 1 : Nat) := by
  have h1 := h.le
  have h2 := h.hi5
  rw [divsi2]
  have ha : IsInt (Scalar.addi x y) (lo + hi : Nat) := Affine.addi hx hy ⟨by push_cast; rfl, by omega, by omega⟩
  have hd : IsInt (Scalar.divsi (Scalar.addi x y) 2#32) ((lo + hi) / 2 : Nat) := Affine.divsi ha (lit 2 (by omega)) ⟨by push_cast; rfl, by omega, by omega⟩
  refine ⟨hd, Affine.minsi hd (lit 49999 (by omega)) (by omega), Affine.addi hd (lit 1 (by omega)) ⟨by push_cast; rfl, by omega, by omega⟩⟩

theorem scan_one : ∀ (s : Fin 16) (x : BitVec 32),
    ((List.finRange 16).filter fun k => decide (0 < k.val ∧ k.val ≤ 15)).foldl (fun r k => ScanKind.sum.step r (if k = s then x else 0#32))
      (if (0 : Fin 16) = s then x else 0#32) = x := by
  intro s x
  rw [show ((List.finRange 16).filter fun k => decide (0 < k.val ∧ k.val ≤ 15)) = [1, 2, 3, 4, 5, 6, 7, 8, 9, 10, 11, 12, 13, 14, 15] by decide]
  fin_cases s <;> simp [ScanKind.step, IntOp.addi]

theorem lane_eq : ∀ s k : Fin 16, IntOp.cmpi .eq (BitVec.ofNat 32 (0 * 16 + k.val)) (Scf.iv 0#32 1#32 s.val) = if k = s then 1#1 else 0#1 := by decide +kernel

theorem scan15 (w : IVec S16 32) : extractAt ![15] (scan .sum w) inpos_S16_p15
    = ((List.finRange 16).filter fun k => decide (0 < k.val ∧ k.val ≤ 15)).foldl (fun r k => ScanKind.sum.step r (w (lane k))) (w (lane 0)) := rfl

/-- The element of lane `s`, as the kernel extracts it. -/
def pick (v : IVec S16 32) (s : Nat) : BitVec 32 :=
  extractAt ![15] (scan .sum (select (cmpi .eq (iota .scVector S16 32 [0] iota_S16_d0_w32_scVector) (broadcast S16 (Scf.iv 0#32 1#32 s))) v (broadcast S16 0#32)) : IVec S16 32) inpos_S16_p15

theorem pick_eq (v : IVec S16 32) (s : Fin 16) : pick v s.val = v (lane s) := by
  have e : ∀ k : Fin 16, (select (cmpi .eq (iota .scVector S16 32 [0] iota_S16_d0_w32_scVector) (broadcast S16 (Scf.iv 0#32 1#32 s.val))) v (broadcast S16 0#32) : IVec S16 32) (lane k)
      = if k = s then v (lane s) else 0#32 := by
    intro k
    show Scalar.select (IntOp.cmpi .eq (BitVec.ofNat 32 (0 * 16 + k.val)) (Scf.iv 0#32 1#32 s.val)) (v (lane k)) 0#32 = _
    rw [lane_eq]
    by_cases h : k = s
    · rw [if_pos h, if_pos h, h]; exact if_pos rfl
    · rw [if_neg h, if_neg h]; exact if_neg (by decide)
  unfold pick
  refine (scan15 _).trans ?_
  simp only [e]
  exact scan_one s _

/-! ## A search -/

section Search
variable (d : Dev nD) (a : Fin τ.nSC) (b : Fin τ.nSub) (mv : Nat → Int) (m : Memref sig .scVector .vmem S50000 .i32)

/-- The keys as a buffer holds them. -/
def Keys (f : m.view.ty.Contents (Elt F)) : Prop := ∀ y : S50000.Idx, BitVec.toInt (n := 32) (m.view.read (Elt F) f y) = mv (y 0).val

/-- The middle of a range, as a row. -/
abbrev midv (p : IVec S16 32 × IVec S16 32) : IVec S16 32 := divsi (addi p.1 p.2) (broadcast S16 2#32)
abbrev rowm (p : IVec S16 32 × IVec S16 32) : IVec S16 32 := minsi (midv p) (broadcast S16 49999#32)

/-- One halving. -/
def halve {a : Fin τ.nSC} {b : Fin τ.nSub} (chk : IVec S16 32 → Prop) (dec : ∀ v, Decidable (chk v))
    (inb : ∀ v, chk v → ∀ a x, ((![v] : Fin 1 → IVec S16 32) a x).toNat < S50000.size a)
    (tgt : IVec S16 32) (p : IVec S16 32 × IVec S16 32) : Prog (EV F a b) (IVec S16 32 × IVec S16 32) := do
  have w : chk (rowm p) := (← Prog.lift (TpuEff.assume (chk (rowm p)) (dec (rowm p)))).down
  let v : Vec F S16 .i32 ← SparseCore.vectorLoadIdx m ![rowm p] (inb (rowm p) w) (View.loads_vmem h_S50000)
  pure (select (cmpi .slt v tgt) (addi (midv p) (broadcast S16 1#32)) p.1, select (cmpi .slt v tgt) p.2 (midv p))

/-- Where the sixteen searches stand. -/
def Stand (T : Fin 16 → Int) (t : Nat) (p : IVec S16 32 × IVec S16 32) : Prop :=
  ∀ k, ∃ lo hi : Nat, IsInt (p.1 (lane k)) lo ∧ IsInt (p.2 (lane k)) hi ∧ Between mv (T k) t lo hi

variable {d a b mv m}

theorem Stand.row_lt {T : Fin 16 → Int} {t : Nat} {p : IVec S16 32 × IVec S16 32} (h : Stand mv T t p) (k : Fin 16) : (rowm p (lane k)).toNat < 50000 := by
  obtain ⟨lo, hi, hx, hy, hb⟩ := h k
  exact (toNat_eq (lane_step hx hy hb).2.1).trans_lt (by omega)

theorem wp_halve {chk : IVec S16 32 → Prop} {dec : ∀ v, Decidable (chk v)}
    {inb : ∀ v, chk v → ∀ a x, ((![v] : Fin 1 → IVec S16 32) a x).toNat < S50000.size a} (hchk : ∀ v, (∀ k, (v (lane k)).toNat < 50000) → chk v)
    {tgt : IVec S16 32} {T : Fin 16 → Int} (hT : ∀ k, BitVec.toInt (tgt (lane k)) = T k) {t : Nat} {p : IVec S16 32 × IVec S16 32} (hp : Stand mv T t p)
    {q : PosShare TreeShare} {f : m.view.ty.Contents (Elt F)} (hf : Keys mv m f) {Q : IVec S16 32 × IVec S16 32 → sProp 𝕄} :
    iprop((m.view.loc (V d a b) ↦{q} f) ∗ (∀ p', ⌜Stand mv T (t + 1) p'⌝ -∗ (m.view.loc (V d a b) ↦{q} f) -∗ Q p'))
      ⊢ WP d a b (halve m chk dec inb tgt p) Q := by
  have hc : chk (rowm p) := hchk _ hp.row_lt
  unfold halve WP
  simp only [Prog.lift, Prog.bind_op, Prog.bind_ret]
  iintro ⟨Hm, Hk⟩
  iapply (wp_assume (defs := defs₀ (F := F)) 𝒱₀ (V d a b) none Set.univ hc)
  iapply (SparseCore.wp_vectorLoadIdx (defs := defs₀ (F := F)) 𝒱₀ (V d a b) none Set.univ (base := m) (S := Finset.univ) (f := f) (Finset.subset_univ _)) $$ Hm
  iintro Hm
  rw [Prog.pure_eq_ret, wp_ret]
  imodintro
  iapply Hk $$ [] [Hm]
  · ipureintro
    intro k
    obtain ⟨lo, hi, hx, hy, hb⟩ := hp k
    obtain ⟨h1, h2, h3⟩ := lane_step hx hy hb
    have hv : BitVec.toInt (n := 32) (loadIdx ((m.access (.whole S50000)).read (Elt F) f) ![rowm p] (inb _ hc) (lane k)) = mv (min ((lo + hi) / 2) 49999) := by
      refine (hf _).trans ?_
      congr 1
      show 0 + 1 * (rowm p (lane k)).toNat = _
      rw [Nat.zero_add, Nat.one_mul]
      exact toNat_eq h2
    rcases hb.step with ⟨s1, s2⟩
    by_cases hlt : mv (min ((lo + hi) / 2) 49999) < T k
    · have hs : IntOp.cmpi .slt (loadIdx ((m.access (.whole S50000)).read (Elt F) f) ![rowm p] (inb _ hc) (lane k)) (tgt (lane k)) = 1#1 := by
        rw [IntOp.cmpi_slt, hv, hT]; exact hlt
      exact ⟨_, hi, isInt_pos hs h3, isInt_pos hs hy, s1 hlt⟩
    · have hs : ¬ IntOp.cmpi .slt (loadIdx ((m.access (.whole S50000)).read (Elt F) f) ![rowm p] (inb _ hc) (lane k)) (tgt (lane k)) = 1#1 := by
        rw [IntOp.cmpi_slt, hv, hT]; exact hlt
      exact ⟨lo, _, isInt_neg hs hx, isInt_neg hs h1, s2 hlt⟩
  · iexact Hm

/-- The whole search. -/
theorem wp_search {L : Scf.Loop 32} {hok : L.OK} (h17 : L.trips = 17) {chk : IVec S16 32 → Prop} {dec : ∀ v, Decidable (chk v)}
    {inb : ∀ v, chk v → ∀ a x, ((![v] : Fin 1 → IVec S16 32) a x).toNat < S50000.size a} (hchk : ∀ v, (∀ k, (v (lane k)).toNat < 50000) → chk v)
    {tgt : IVec S16 32} {T : Fin 16 → Int} (hT : ∀ k, BitVec.toInt (tgt (lane k)) = T k)
    {q : PosShare TreeShare} {f : m.view.ty.Contents (Elt F)} (hf : Keys mv m f) {α : Type} {k : IVec S16 32 × IVec S16 32 → Prog (EV F a b) α} {Q : α → sProp 𝕄} :
    iprop((m.view.loc (V d a b) ↦{q} f)
        ∗ (∀ p, ⌜∀ j, ∃ c : Nat, IsInt (minsi p.1 (broadcast S16 50000#32) (lane j)) c ∧ Cut mv (T j) c⌝ -∗ (m.view.loc (V d a b) ↦{q} f) -∗ WP d a b (k p) Q))
      ⊢ WP d a b (Scf.Loop.for L hok (broadcast S16 0#32, broadcast S16 50000#32) (fun _ p => halve m chk dec inb tgt p) >>= k) Q := by
  unfold WP
  rw [wp_bind]
  iintro ⟨Hm, Hk⟩
  iapply (Scf.wp_for frame (wpE (defs₀ (F := F)) 𝒱₀ (V d a b) none) Set.univ L.lb L.ub L.st hok _ _
    (fun t p => iprop(⌜Stand mv T t p⌝ ∗ (m.view.loc (V d a b) ↦{q} f))) ?_)
  rotate_left
  · isplitl [Hm]
    · isplitr
      · ipureintro
        exact fun j => ⟨0, 50000, lit 0 (by omega), lit 50000 (by omega), Between.start mv (T j)⟩
      · iexact Hm
    iintro %p ⟨%hp, Hm⟩
    ispecialize Hk $$ %p
    iapply Hk $$ [] [Hm]
    · ipureintro
      rw [show Scf.trips L.lb L.ub L.st = 17 from h17] at hp
      intro j
      obtain ⟨lo, hi, hx, hy, hb⟩ := hp j
      exact ⟨min lo 50000, Affine.minsi hx (lit 50000 (by omega)) (by omega), hb.done⟩
    · iexact Hm
  · intro t p
    iintro ⟨%hp, Hm⟩
    iapply (wp_halve hchk hT hp hf)
    isplitl [Hm]; · iexact Hm
    iintro %p' %hp' Hm
    isplitr; · ipureintro; exact hp'
    iexact Hm

end Search

end Cert.Proof.KI
end
-- ==== Proof.BodyI.lean ====
/- The tile's whole body: the searches, the loop over its sixteen segments, and its copies. -/
module

public import proofs.«01_k».proof.Proof.SegmentI
public import proofs.«01_k».proof.Proof.SearchI

@[expose] public section

noncomputable section

namespace Cert.Proof.KI

open Cert.KernelIdeal Cert.KernelIdeal.Gen
open Idealize.ShloMosaic
open Idealize.ShloMosaic.Affine (IsInt)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Body

variable (i : grid0.Coords)
  (arg2 : Memref sig .scVector .hbm S50000 .i32) (harg2 : arg2.IsWhole) (arg3 : Memref sig .scVector .hbm S50000x256 .f32) (harg3 : arg3.IsWhole)
  (arg4 : Memref sig .scVector .hbm S512x256 .f32) (harg4 : arg4.IsWhole) (arg5 : Memref sig .scVector .hbm S512x256 .f32) (harg5 : arg5.IsWhole)
  (arg6 : Memref sig .scVector .vmem S50000 .i32) (harg6 : arg6.IsWhole) (arg7 : Memref sig .scVector .vmem S8x256 .f32) (harg7 : arg7.IsWhole)
  (arg8 : Memref sig .scVector .vmem S32x256 .f32) (harg8 : arg8.IsWhole) (arg9 : Memref sig .scVector .vmem S32x256 .f32) (harg9 : arg9.IsWhole)
  (arg10 : Memref sig .scVector .vmem S32x256 .f32) (harg10 : arg10.IsWhole) (arg11 : Memref sig .scVector .vmem S32x256 .f32) (harg11 : arg11.IsWhole)
  (arg12 : Memref sig .scVector .vmem S32x256 .f32) (harg12 : arg12.IsWhole) (arg13 : Memref sig .scVector .vmem S32x256 .f32) (harg13 : arg13.IsWhole)
  (arg14 : Memref sig .scVector .vmem S32x256 .f32) (harg14 : arg14.IsWhole) (arg15 : Memref sig .scVector .vmem S16x256 .f32) (harg15 : arg15.IsWhole)
  (arg16 : Memref sig .scVector .vmem S16x256 .f32) (harg16 : arg16.IsWhole)
  (arg17 arg18 arg19 arg20 arg21 arg22 arg23 arg24 arg25 arg26 arg27 v23_r0 v23_r1 v23_r2 : DmaSems sig S_)

theorem part61_eq (v11 v19 : IVec S16 32) (s : Fin k0_t3_loop.trips) (last : BitVec 32) :
    k0_part61 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2 v11 v19 (iota .scVector S16 32 [0] iota_S16_d0_w32_scVector) 0#32 1#32 s last
      = (Prog.lift (TpuEff.assume (k0_chk3 last (pick v11 s) (pick v19 s)) (k0_chk3.dec last (pick v11 s) (pick v19 s))) >>= fun w =>
          issue (k0_cond1 (pick v11 s) (pick v19 s)) arg3 (k0_off1 (pick v11 s)) (k0_off1_inb last (pick v11 s) (pick v19 s) w.down) arg8 harg8.wordExact arg18.sem <|
          pure ⟨Scf.iv 0#32 1#32 s, pick v11 s, pick v19 s, w.down, bLo8 (pick v11 s), bNf (pick v11 s) (pick v19 s), bMid (pick v11 s) (pick v19 s),
            Scalar.cmpi .slt (pick v11 s) (bMid (pick v11 s) (pick v19 s)), bHb (pick v11 s), bTlo (pick v11 s) (pick v19 s), bNt (pick v11 s) (pick v19 s),
            bT8s (pick v11 s) (pick v19 s), bT8e (pick v11 s) (pick v19 s), Scalar.cmpi .sgt (bNf (pick v11 s) (pick v19 s)) 1#32⟩) := by
  unfold k0_part61
  refine bind_eq rfl fun w => ?_
  exact issue_cps rfl

/-- The end of a row, from a counter. -/
def finFrom (om : Memref sig .scVector .vmem S16x256 .f32) (s : Nat) (hs : s < 16) (c : BitVec 32) : Prog (EV F (cV i) (jV i)) (BitVec 32) :=
  Scf.Loop.for k0_t25_loop k0_t25_ok c fun t _ => do
    let h := resOff_inb hs (Nat.lt_of_lt_of_le t.isLt (Nat.le_of_eq t25_16))
    let x ← Prog.lift (TpuEff.load om (piece (R := 16) (resOff s t) h).toLoadRect (View.loadsAt_vmem h_S1x16))
    let _ ← Prog.lift (TpuEff.load om (piece (R := 16) (resOff s t) h).toLoadRect (View.loadsAt_vmem h_S1x16))
    Prog.lift (TpuEff.store om (piece (R := 16) (resOff s t) h) (shapeCast S1x16 (finVec (shapeCast S16 x shapeCasts_S1x16_S16)) shapeCasts_S16_S1x16) Finset.univ (View.stores_vmem_bits_univ h_S1x16 rfl) (.inl rfl))
    pure 0#32

theorem finFrom_eq (om : Memref sig .scVector .vmem S16x256 .f32) (s : Nat) (hs : s < 16) :
    finFrom (F := F) i om s hs 0#32 = finLoop k0_t25_loop k0_t25_ok (Nat.le_of_eq t25_16) om s hs := rfl

/-- One segment. -/
def segBody (s : Fin k0_t3_loop.trips) (last lo hi : BitVec 32) : Prog (EV F (cV i) (jV i)) (BitVec 32) :=
  Prog.lift (TpuEff.assume (k0_chk3 last lo hi) (k0_chk3.dec last lo hi)) >>= fun w =>
  (issue (k0_cond1 lo hi) arg3 (k0_off1 lo) (k0_off1_inb last lo hi w.down) arg8 harg8.wordExact arg18.sem <|
  k0_part62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2 s last (Scf.iv 0#32 1#32 s) lo hi w.down (bLo8 lo) (bNf lo hi)
    (bMid lo hi) (Scalar.cmpi .slt lo (bMid lo hi)) (bHb lo) (bNt lo hi) (Scalar.cmpi .sgt (bNf lo hi) 1#32) >>= fun _ =>
  k0_part63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2 s last (Scf.iv 0#32 1#32 s) lo hi w.down (bLo8 lo) (bNf lo hi) (bTlo lo hi) (bNt lo hi) (bT8s lo hi) (bT8e lo hi) >>= fun c =>
  finFrom i arg15 s (trips3 ▸ s.isLt) c.1 >>= fun _ =>
  pure (Scalar.select (Scalar.cmpi .slt (bT8s lo hi) hi) (bT8e lo hi) last))

/-- The loop over the segments. -/
def segLoop (v11 v19 : IVec S16 32) : Prog (EV F (cV i) (jV i)) (BitVec 32) :=
  Scf.Loop.for k0_t3_loop k0_t3_ok 4294967295#32 fun s last => segBody i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2 s last (pick v11 s) (pick v19 s)

/-- The words of the tile's targets. -/
abbrev tgt0 (i : grid0.Coords) : IVec S16 32 :=
  addi (broadcast S16 (Scalar.muli (Scalar.addi (Scalar.muli (BitVec.ofNat 32 (i 0).val) 16#32) (BitVec.ofNat 32 (i 1).val)) 16#32))
    (iota .scVector S16 32 [0] iota_S16_d0_w32_scVector)
abbrev tgt1 (i : grid0.Coords) : IVec S16 32 := addi (tgt0 i) (broadcast S16 1#32)

/-- The block of sixteen rows a tile writes. -/
abbrev blk (m : Memref sig .scVector .hbm S512x256 .f32) : Memref sig .scVector .hbm S16x256 .f32 :=
  m.slice (Rect.unit (s := S512x256) (k0_off476 i) S16x256.size (k0_off476_inb i)) (fun _ => rfl)

/-- The keys' copy in, and the copy out of a block of results, each with its wait. -/
def copyKeys (arg2 : Memref sig .scVector .hbm S50000 .i32) (harg2 : arg2.view.WordExact) (arg6 : Memref sig .scVector .vmem S50000 .i32) (harg6 : arg6.view.WordExact)
    (sem : DmaSem sig) : Prog (EV F (cV i) (jV i)) PUnit :=
  Prog.lift (TpuEff.enqueueDma arg2 (.here arg6) (.dma sem) harg2 harg6 ⟨Or.inl rfl, trivial⟩)
def awaitKeys (arg2 : Memref sig .scVector .hbm S50000 .i32) (harg2 : arg2.view.WordExact) (arg6 : Memref sig .scVector .vmem S50000 .i32) (harg6 : arg6.view.WordExact)
    (sem : DmaSem sig) : Prog (EV F (cV i) (jV i)) PUnit :=
  Prog.lift (TpuEff.waitDma2 sem arg2 arg6 harg2 harg6)
def copyOut (om : Memref sig .scVector .vmem S16x256 .f32) (hom : om.view.WordExact) (m : Memref sig .scVector .hbm S512x256 .f32) (sem : DmaSem sig) :
    Prog (EV F (cV i) (jV i)) PUnit :=
  Prog.lift (TpuEff.enqueueDma om (.here (blk i m)) (.dma sem) hom (View.wordExact_bits rfl) ⟨Or.inl rfl, trivial⟩)
def awaitOut (om : Memref sig .scVector .vmem S16x256 .f32) (hom : om.view.WordExact) (m : Memref sig .scVector .hbm S512x256 .f32) (sem : DmaSem sig) :
    Prog (EV F (cV i) (jV i)) PUnit :=
  Prog.lift (TpuEff.waitDma2 sem om (blk i m) hom (View.wordExact_bits rfl))

theorem for_congr {α : Type} {ε : Type → Type} {L : Scf.Loop 32} {hok : L.OK} {x : α} {f g : Fin L.trips → α → Prog ε α} (h : ∀ t y, f t y = g t y) :
    Scf.Loop.for L hok x f = Scf.Loop.for L hok x g := congrArg _ (funext fun t => funext fun y => h t y)

theorem lift_assoc {ε : Type → Type} {α β γ : Type} {e : ε α} {B : α → Prog ε β} {K : β → Prog ε γ} :
    (Prog.lift e >>= B) >>= K = Prog.lift e >>= fun w => B w >>= K := rfl

theorem pure_then {ε : Type → Type} {α β : Type} (x : α) (K : α → Prog ε β) : (pure x : Prog ε α) >>= K = K x := rfl

section
variable {R : Nat} {c : BitVec 1} {x : XRef} {off : Fin 2 → Nat} {inb : c = 1#1 → ∀ a, off a + (⟨2, ![R, 256]⟩ : Shape).size a ≤ S50000x256.size a}
    {m : Memref sig .scVector .vmem ⟨2, ![R, 256]⟩ .f32} {hm : m.view.WordExact} {sem : DmaSem sig} {a : Fin τ.nSC} {b : Fin τ.nSub} {α β : Type}
theorem issue_bind {k : Prog (EV F a b) α} (K : α → Prog (EV F a b) β) :
    issue c x off inb m hm sem k >>= K = issue c x off inb m hm sem (k >>= K) := by
  unfold issue
  by_cases h : c = 1#1
  · rw [dif_pos h, dif_pos h]; rfl
  · rw [dif_neg h, dif_neg h]
theorem issue_congr {k k' : Prog (EV F a b) α} (h : k = k') : issue c x off inb m hm sem k = issue c x off inb m hm sem k' := by rw [h]
end

set_option maxHeartbeats 400000 in set_option maxRecDepth 30000 in
theorem part64_eq :
    k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2
      = (copyKeys i arg2 harg2.wordExact arg6 harg6.wordExact v23_r0.sem >>= fun _ =>
        awaitKeys i arg2 harg2.wordExact arg6 harg6.wordExact v23_r0.sem >>= fun _ =>
        Scf.Loop.for k0_t1_loop k0_t1_ok (broadcast S16 0#32, broadcast S16 50000#32) (fun _ p => halve arg6 k0_chk1 k0_chk1.dec k0_idx1_inb (tgt0 i) p) >>= fun p =>
        Scf.Loop.for k0_t2_loop k0_t2_ok (broadcast S16 0#32, broadcast S16 50000#32) (fun _ p => halve arg6 k0_chk2 k0_chk2.dec k0_idx2_inb (tgt1 i) p) >>= fun p' =>
        segLoop i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2 (minsi p.1 (broadcast S16 50000#32)) (minsi p'.1 (broadcast S16 50000#32)) >>= fun _ =>
        copyOut i arg15 harg15.wordExact arg4 v23_r1.sem >>= fun _ =>
        awaitOut i arg15 harg15.wordExact arg4 v23_r1.sem >>= fun _ =>
        pure ⟨⟩) := by
  unfold k0_part64
  refine bind_eq rfl fun _ => ?_
  refine bind_eq rfl fun _ => ?_
  refine bind_eq rfl fun ⟨p, _⟩ => ?_
  refine bind_eq rfl fun ⟨p', _⟩ => ?_
  refine bind_eq ?_ fun _ => rfl
  unfold segLoop
  refine for_congr fun s last => ?_
  unfold segBody
  refine (bind_eq (part61_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2 _ _ s last) fun _ => rfl).trans ?_
  refine lift_assoc.trans ?_
  refine bind_eq rfl fun w => ?_
  refine (issue_bind _).trans (issue_congr ?_)
  refine (pure_then _ _).trans ?_
  dsimp only
  refine bind_eq rfl fun _ => ?_
  refine bind_eq rfl fun c => ?_
  refine bind_eq ?_ fun _ => rfl
  rfl

end Body
end Cert.Proof.KI
end
-- ==== Proof.TileI.lean ====
/- The rules of the tile's whole body. -/
module

public import proofs.«01_k».proof.Proof.BodyI

@[expose] public section

noncomputable section

namespace Cert.Proof.KI

open Cert.KernelIdeal Cert.KernelIdeal.Gen
open Idealize.ShloMosaic
open Idealize.ShloMosaic.Affine (IsInt)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The maxima of the first `n` segments, and their sums. -/
def MaxS (xv : Nat → Nat → F .f32) (l h : Nat → Nat) (n : Nat) : Nat → Nat → F .f32 → Prop :=
  fun r c x => r < n → ∃ v, Fold mx nInf (fun r => xv r c) (Rows (l r) (h r)) v ∧ Fin1 v x
def SumS (xv : Nat → Nat → F .f32) (l h : Nat → Nat) (n : Nat) : Nat → Nat → F .f32 → Prop :=
  fun r c x => r < n → Fold ad zero (fun r => xv r c) (Rows (l r) (h r)) x

theorem MaxS.next {xv : Nat → Nat → F .f32} {l h : Nat → Nat} {s : Nat} {f : S16x256.Idx → F .f32}
    (H : Holds (fun r c x => if r = s then (∃ v, Fold mx nInf (fun r => xv r c) (Rows (l s) (h s)) v ∧ Fin1 v x) else MaxS xv l h s r c x) f) :
    Holds (MaxS xv l h (s + 1)) f := by
  refine H.mono fun r c x _ _ hp hr => ?_
  by_cases e : r = s
  · rw [if_pos e] at hp; subst e; exact hp
  · rw [if_neg e] at hp; exact hp (by omega)
theorem SumS.next {xv : Nat → Nat → F .f32} {l h : Nat → Nat} {s : Nat} {f : S16x256.Idx → F .f32}
    (H : Holds (RowP ad zero xv s (fun _ => Rows (l s) (h s)) (SumS xv l h s)) f) :
    Holds (SumS xv l h (s + 1)) f := by
  refine H.mono fun r c x _ _ hp hr => ?_
  unfold RowP at hp
  by_cases e : r = s
  · rw [if_pos e] at hp; subst e; exact hp
  · rw [if_neg e] at hp; exact hp (by omega)

theorem kept_first (arg14 : Memref sig .scVector .vmem S32x256 .f32) (xv : Nat → Nat → F .f32) (f : (tb3 arg14).view.ty.Contents (Elt F)) : Kept arg14 xv 4294967295#32 f := by
  intro hc
  exact absurd (show 4294967295 ≤ 49992 from hc) (by omega)

section Tile

variable (i : grid0.Coords)
  (arg2 : Memref sig .scVector .hbm S50000 .i32) (harg2 : arg2.IsWhole) (arg3 : Memref sig .scVector .hbm S50000x256 .f32) (harg3 : arg3.IsWhole)
  (arg4 : Memref sig .scVector .hbm S512x256 .f32) (harg4 : arg4.IsWhole) (arg5 : Memref sig .scVector .hbm S512x256 .f32) (harg5 : arg5.IsWhole)
  (arg6 : Memref sig .scVector .vmem S50000 .i32) (harg6 : arg6.IsWhole) (arg7 : Memref sig .scVector .vmem S8x256 .f32) (harg7 : arg7.IsWhole)
  (arg8 : Memref sig .scVector .vmem S32x256 .f32) (harg8 : arg8.IsWhole) (arg9 : Memref sig .scVector .vmem S32x256 .f32) (harg9 : arg9.IsWhole)
  (arg10 : Memref sig .scVector .vmem S32x256 .f32) (harg10 : arg10.IsWhole) (arg11 : Memref sig .scVector .vmem S32x256 .f32) (harg11 : arg11.IsWhole)
  (arg12 : Memref sig .scVector .vmem S32x256 .f32) (harg12 : arg12.IsWhole) (arg13 : Memref sig .scVector .vmem S32x256 .f32) (harg13 : arg13.IsWhole)
  (arg14 : Memref sig .scVector .vmem S32x256 .f32) (harg14 : arg14.IsWhole) (arg15 : Memref sig .scVector .vmem S16x256 .f32) (harg15 : arg15.IsWhole)
  (arg16 : Memref sig .scVector .vmem S16x256 .f32) (harg16 : arg16.IsWhole)
  (arg17 arg18 arg19 arg20 arg21 arg22 arg23 arg24 arg25 arg26 arg27 v23_r0 v23_r1 v23_r2 : DmaSems sig S_)
  (d : Dev nD) (xv : Nat → Nat → F .f32) (mv : Nat → Int) (q : Nat → PosShare TreeShare) (fx : Buf (Elt F) (arg3.view.loc (V d (cV i) (jV i))))
  (O : CellTallies nD τ sig (HIx 1)) (W : Waits sig (HIx 1))

/-- The tile's buffers and its shares of the table, all idle. -/
def Bufs (P : (tb3 arg14).view.ty.Contents (Elt F) → Prop) : sProp 𝕄 :=
  iprop((IdleR i arg3 d q fx 0 arg8 arg18 ∗ IdleR i arg3 d q fx 1 arg9 arg19 ∗ IdleR i arg3 d q fx 2 arg10 arg20 ∗ IdleR i arg3 d q fx 3 arg11 arg21 ∗ IdleR i arg3 d q fx 4 arg12 arg22 ∗ IdleR i arg3 d q fx 5 arg13 arg23) ∗ IdleT i arg3 d q fx 6 arg7 arg17 (fun _ => True) ∗ (IdleT i arg3 d q fx 7 (tb0 arg14) arg24 (fun _ => True) ∗ IdleT i arg3 d q fx 8 (tb1 arg14) arg25 (fun _ => True) ∗ IdleT i arg3 d q fx 9 (tb2 arg14) arg26 (fun _ => True) ∗ IdleT i arg3 d q fx 10 (tb3 arg14) arg27 (P)))

/-- The results' buffers. -/
def Outs (Pm Ps : Nat → Nat → F .f32 → Prop) : sProp 𝕄 :=
  iprop(∃ go gs, ⌜Holds Pm (arg15.view.read (Elt F) go) ∧ Holds Ps (arg16.view.read (Elt F) gs)⌝
    ∗ (arg15.view.loc (V d (cV i) (jV i)) ↦{fullShare} go) ∗ (arg16.view.loc (V d (cV i) (jV i)) ↦{fullShare} gs))

theorem wp_part63_then (k0_t3 : Fin k0_t3_loop.trips) (arg29 arg28 lo hi : BitVec 32) (k0_hw3 : k0_chk3 arg29 lo hi) {l h : Nat} (hl : IsInt lo l) (hh : IsInt hi h) (l5 : l ≤ 50000) (h5 : h ≤ 50000) (hx : Table xv arg3 fx) (Dm Ds : Nat → Nat → F .f32 → Prop) (v39 v42 v49 : BitVec 32) {M : Multiset Nat} {β : Type} {k : (Σ' (_ : BitVec 32) (_ : BitVec 32), BitVec 32) → Prog (EV F (cV i) (jV i)) β} {Q : β → sProp 𝕄} :
    iprop(Transfers.MayWaits (V d (cV i) (jV i)) none O
        ∗ (SlotR i arg3 d xv q fx l h 0 (0) arg8 arg18 ∗ SlotR i arg3 d xv q fx l h 1 (1) arg9 arg19 ∗ SlotR i arg3 d xv q fx l h 2 (2) arg10 arg20 ∗ SlotR i arg3 d xv q fx l h 3 (3) arg11 arg21 ∗ SlotR i arg3 d xv q fx l h 4 (4) arg12 arg22 ∗ SlotR i arg3 d xv q fx l h 5 (5) arg13 arg23)
        ∗ (IdleT i arg3 d q fx 7 (tb0 arg14) arg24 (fun _ => True) ∗ IdleT i arg3 d q fx 8 (tb1 arg14) arg25 (fun _ => True) ∗ IdleT i arg3 d q fx 9 (tb2 arg14) arg26 (fun _ => True)
          ∗ IdleT i arg3 d q fx 10 (tb3 arg14) arg27 (Kept arg14 xv arg29)) ∗ Ow d (cV i) (jV i) O W
        ∗ Acc d (cV i) (jV i) xv arg15 arg16 k0_t3 (Rows l (min (nLo8 l) h)) Dm Ds
        ∗ ((IdleR i arg3 d q fx 0 arg8 arg18 ∗ IdleR i arg3 d q fx 1 arg9 arg19 ∗ IdleR i arg3 d q fx 2 arg10 arg20 ∗ IdleR i arg3 d q fx 3 arg11 arg21 ∗ IdleR i arg3 d q fx 4 arg12 arg22 ∗ IdleR i arg3 d q fx 5 arg13 arg23)
            -∗ (IdleT i arg3 d q fx 7 (tb0 arg14) arg24 (fun _ => True) ∗ IdleT i arg3 d q fx 8 (tb1 arg14) arg25 (fun _ => True) ∗ IdleT i arg3 d q fx 9 (tb2 arg14) arg26 (fun _ => True)
              ∗ IdleT i arg3 d q fx 10 (tb3 arg14) arg27 (Kept arg14 xv (Scalar.select (Scalar.cmpi .slt (bT8s lo hi) hi) (bT8e lo hi) arg29)))
            -∗ Ow d (cV i) (jV i) O W -∗ Acc d (cV i) (jV i) xv arg15 arg16 k0_t3 (Rows l h) Dm Ds -∗ WP d (cV i) (jV i) (k ⟨0#32, 0#32, 16#32⟩) Q))
      ⊢ WP d (cV i) (jV i) (k0_part63 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2
        k0_t3 arg29 arg28 lo hi k0_hw3 v39 v42 v49 (bNt lo hi) (bT8s lo hi) (bT8e lo hi) >>= k) Q := by
  unfold WP
  rw [wp_bind]
  exact @wp_part63 F _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2 k0_t3 arg29 arg28 lo hi k0_hw3 d xv q fx O W l h hl hh l5 h5 hx Dm Ds v39 v42 v49 M (fun c => WP d (cV i) (jV i) (k c) Q)

set_option maxHeartbeats 400000 in
theorem wp_segBody {l h : Nat → Nat} (s : Fin k0_t3_loop.trips) (last lo hi : BitVec 32) (hlo : IsInt lo (l s)) (hhi : IsInt hi (h s)) (hl5 : l s ≤ 50000) (hh5 : h s ≤ 50000)
    (hx : Table xv arg3 fx) :
    iprop(Transfers.MayWaits (V d (cV i) (jV i)) none O ∗ Bufs i arg3 arg7 arg8 arg9 arg10 arg11 arg12 arg13 arg14 arg17 arg18 arg19 arg20 arg21 arg22 arg23 arg24 arg25 arg26 arg27 d q fx (Kept arg14 xv last) ∗ Ow d (cV i) (jV i) O W
      ∗ Outs i arg15 arg16 d (MaxS xv l h s) (SumS xv l h s))
    ⊢ WP d (cV i) (jV i) (segBody (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2 s last lo hi) (fun last' => iprop(Transfers.MayWaits (V d (cV i) (jV i)) none O ∗ Bufs i arg3 arg7 arg8 arg9 arg10 arg11 arg12 arg13 arg14 arg17 arg18 arg19 arg20 arg21 arg22 arg23 arg24 arg25 arg26 arg27 d q fx (Kept arg14 xv last') ∗ Ow d (cV i) (jV i) O W
      ∗ Outs i arg15 arg16 d (MaxS xv l h (s + 1)) (SumS xv l h (s + 1)))) := by
  have hs : s.val < 16 := Nat.lt_of_lt_of_eq s.isLt trips3
  unfold segBody
  unfold Bufs Outs
  iintro ⟨#Hmw, ⟨⟨H0, H1, H2, H3, H4, H5⟩, HH, Ht0, Ht1, Ht2, Ht3⟩, HO, ⟨%go, %gs, %hg, Hm, Hs⟩⟩
  simp only [Prog.lift, Prog.bind_op, Prog.bind_ret]
  iapply (wp_assume (defs := defs₀ (F := F)) 𝒱₀ (V d (cV i) (jV i)) none Set.univ (chk3 hlo hhi hl5 hh5 last))
  iapply (wp_issue (R := 32) (0 < nNf (l s) (h s)) (cond1_iff hlo hhi hl5 hh5) (by omega) (off1_eq hlo hhi hl5 hh5) hx (P := fun _ => True))
  isplitl [H0]; · iexact H0
  iintro H0
  unfold WP
  rw [wp_bind]
  iapply (@wp_part62 F _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2 s last (Scf.iv 0#32 1#32 s) lo hi (chk3 hlo hhi hl5 hh5 last) d xv q fx O W _ _ hlo hhi hl5 hh5 hx (MaxS xv l h s) (SumS xv l h s) (bLo8 lo) (bNf lo hi) (bNt lo hi) (Scalar.cmpi .sgt (bNf lo hi) 1#32) _)
  isplitr; · iexact Hmw
  isplitl [H1 H2 H3 H4 H5]
  · isplitl [H1]; · iexact H1
    isplitl [H2]; · iexact H2
    isplitl [H3]; · iexact H3
    isplitl [H4]; · iexact H4
    iexact H5
  isplitl [HH]; · iexact HH
  isplitl [Ht3]; · iexact Ht3
  isplitl [HO]; · iexact HO
  isplitl [Hm Hs]
  · iexists go; iexists gs
    isplitr
    · ipureintro; exact ⟨hg.1.mono fun _ _ _ _ _ h => .inr h, hg.2.mono fun _ _ _ _ _ h => .inr h⟩
    isplitl [Hm]; · iexact Hm
    iexact Hs
  iintro H1 H2 H3 H4 H5 HH Ht3 HO Hacc
  iapply (@wp_part63_then F _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2 d xv q fx O W s last (Scf.iv 0#32 1#32 s) lo hi (chk3 hlo hhi hl5 hh5 last) _ _ hlo hhi hl5 hh5 hx (MaxS xv l h s) (SumS xv l h s) (bLo8 lo) (bNf lo hi) (bTlo lo hi) 0 _ _ _)
  isplitr; · iexact Hmw
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [Ht0 Ht1 Ht2 Ht3]
  · isplitl [Ht0]; · iexact Ht0
    isplitl [Ht1]; · iexact Ht1
    isplitl [Ht2]; · iexact Ht2
    iexact Ht3
  isplitl [HO]; · iexact HO
  isplitl [Hacc]; · iexact Hacc
  iintro HA HT HO Hacc
  rw [finFrom_eq]
  iapply (wp_finLoop d t25_16)
  isplitl [Hacc]; · iexact Hacc
  iintro %x ⟨%go', %gs', %hg', Hm, Hs⟩
  unfold WP
  rw [Prog.pure_eq_ret, wp_ret]
  imodintro
  isplitr; · iexact Hmw
  isplitl [HA HH HT]
  · isplitl [HA]; · iexact HA
    isplitl [HH]; · iexact HH
    iexact HT
  isplitl [HO]; · iexact HO
  iexists go'; iexists gs'
  isplitr
  · ipureintro; exact ⟨MaxS.next hg'.1, SumS.next hg'.2⟩
  isplitl [Hm]; · iexact Hm
  iexact Hs

set_option maxHeartbeats 400000 in
theorem wp_segLoop {v11 v19 : IVec S16 32} {l h : Nat → Nat} (hl : ∀ k : Fin 16, IsInt (v11 (lane k)) (l k.val)) (hh : ∀ k : Fin 16, IsInt (v19 (lane k)) (h k.val))
    (l5 : ∀ k : Fin 16, l k.val ≤ 50000) (h5 : ∀ k : Fin 16, h k.val ≤ 50000) (hx : Table xv arg3 fx) {α : Type} {k : BitVec 32 → Prog (EV F (cV i) (jV i)) α} {Q : α → sProp 𝕄} :
    iprop(Transfers.MayWaits (V d (cV i) (jV i)) none O ∗ Bufs i arg3 arg7 arg8 arg9 arg10 arg11 arg12 arg13 arg14 arg17 arg18 arg19 arg20 arg21 arg22 arg23 arg24 arg25 arg26 arg27 d q fx (fun _ => True) ∗ Ow d (cV i) (jV i) O W ∗ Outs i arg15 arg16 d (fun _ _ _ => True) (fun _ _ _ => True)
        ∗ (∀ x, Bufs i arg3 arg7 arg8 arg9 arg10 arg11 arg12 arg13 arg14 arg17 arg18 arg19 arg20 arg21 arg22 arg23 arg24 arg25 arg26 arg27 d q fx (fun _ => True) -∗ Ow d (cV i) (jV i) O W -∗ Outs i arg15 arg16 d (MaxS xv l h 16) (SumS xv l h 16) -∗ WP d (cV i) (jV i) (k x) Q))
      ⊢ WP d (cV i) (jV i) (segLoop (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2 v11 v19 >>= k) Q := by
  unfold WP
  rw [wp_bind]
  unfold segLoop
  iintro ⟨#Hmw, HB, HO, HR, Hk⟩
  iapply (Scf.wp_for frame (wpE (defs₀ (F := F)) 𝒱₀ (V d (cV i) (jV i)) none) Set.univ k0_t3_loop.lb k0_t3_loop.ub k0_t3_loop.st k0_t3_ok 4294967295#32 _
    (fun n last => iprop(Transfers.MayWaits (V d (cV i) (jV i)) none O ∗ Bufs i arg3 arg7 arg8 arg9 arg10 arg11 arg12 arg13 arg14 arg17 arg18 arg19 arg20 arg21 arg22 arg23 arg24 arg25 arg26 arg27 d q fx (Kept arg14 xv last) ∗ Ow d (cV i) (jV i) O W
      ∗ Outs i arg15 arg16 d (MaxS xv l h n) (SumS xv l h n))) ?_)
  rotate_left
  · isplitl [HB HO HR]
    · isplitr; · iexact Hmw
      isplitl [HB]
      · unfold Bufs
        icases HB with ⟨HA, HH, H7, H8, H9, H10⟩
        isplitl [HA]; · iexact HA
        isplitl [HH]; · iexact HH
        isplitl [H7]; · iexact H7
        isplitl [H8]; · iexact H8
        isplitl [H9]; · iexact H9
        iapply (Idle.mono (P := fun _ => True) (fun f _ => kept_first arg14 xv f)); iexact H10
      isplitl [HO]; · iexact HO
      unfold Outs
      icases HR with ⟨%go, %gs, -, Hm, Hs⟩
      iexists go; iexists gs
      isplitr
      · ipureintro; exact ⟨fun _ hr => absurd hr (Nat.not_lt_zero _), fun _ hr => absurd hr (Nat.not_lt_zero _)⟩
      isplitl [Hm]; · iexact Hm
      iexact Hs
    iintro %x ⟨-, HB, HO, HR⟩
    rw [show Scf.trips k0_t3_loop.lb k0_t3_loop.ub k0_t3_loop.st = 16 from trips3]
    ispecialize Hk $$ %x
    iapply Hk $$ [HB] [HO] [HR]
    · unfold Bufs
      icases HB with ⟨HA, HH, H7, H8, H9, H10⟩
      isplitl [HA]; · iexact HA
      isplitl [HH]; · iexact HH
      isplitl [H7]; · iexact H7
      isplitl [H8]; · iexact H8
      isplitl [H9]; · iexact H9
      iapply (Idle.mono (fun _ _ => trivial)); iexact H10
    · iexact HO
    · iexact HR
  · intro s last
    have hs : s.val < 16 := Nat.lt_of_lt_of_eq s.isLt trips3
    have hlo : IsInt (pick v11 s) (l s) := by rw [show pick v11 s = v11 (lane ⟨s.val, hs⟩) from pick_eq v11 ⟨s.val, hs⟩]; exact hl ⟨s.val, hs⟩
    have hhi : IsInt (pick v19 s) (h s) := by rw [show pick v19 s = v19 (lane ⟨s.val, hs⟩) from pick_eq v19 ⟨s.val, hs⟩]; exact hh ⟨s.val, hs⟩
    have H := @wp_segBody F _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2 d xv q fx O W l h s last (pick v11 s) (pick v19 s) hlo hhi (l5 ⟨s.val, hs⟩) (h5 ⟨s.val, hs⟩) hx
    unfold WP at H
    dsimp only
    refine Eq.mp ?_ H
    congr 1

end Tile
end Cert.Proof.KI
end
-- ==== Proof.WholeI.lean ====
/- The tile's whole program. -/
module

public import proofs.«01_k».proof.Proof.TileI

@[expose] public section

noncomputable section

namespace Cert.Proof.KI

open Cert.KernelIdeal Cert.KernelIdeal.Gen
open Idealize.ShloMosaic
open Idealize.ShloMosaic.Affine (IsInt)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- What a kernel's result says of segment `n`: the largest, and the sum, of its rows. -/
def GMax (xv : Nat → Nat → F .f32) (mv : Nat → Int) (n c : Nat) (x : F .f32) : Prop :=
  ∃ l h : Nat, Cut mv n l ∧ Cut mv (n + 1) h ∧ ∃ v, Fold mx nInf (fun r => xv r c) (Rows l h) v ∧ Fin1 v x
def GSum (xv : Nat → Nat → F .f32) (mv : Nat → Int) (n c : Nat) (x : F .f32) : Prop :=
  ∃ l h : Nat, Cut mv n l ∧ Cut mv (n + 1) h ∧ Fold ad zero (fun r => xv r c) (Rows l h) x

/-- The first segment of a tile. -/
def seg0 (i : grid0.Coords) : Nat := ((i 0).val * 16 + (i 1).val) * 16

theorem i0_lt (i : grid0.Coords) : (i 0).val < 2 := (i 0).isLt
theorem i1_lt (i : grid0.Coords) : (i 1).val < 16 := (i 1).isLt

theorem base_int (i : grid0.Coords) : IsInt (Scalar.muli (Scalar.addi (Scalar.muli (BitVec.ofNat 32 (i 0).val) 16#32) (BitVec.ofNat 32 (i 1).val)) 16#32) (seg0 i) := by
  have h0 := i0_lt i
  have h1 := i1_lt i
  exact Affine.muli (ea := ((i 0).val * 16 + (i 1).val : Nat)) (eb := 16)
    (Affine.addi (ea := ((i 0).val * 16 : Nat)) (eb := (i 1).val) (Affine.muli (ea := (i 0).val) (eb := 16) (lit _ (by omega)) (lit 16 (by omega)) (by omega)) (lit _ (by omega)) (by omega))
    (lit 16 (by omega)) (by unfold seg0; omega)

theorem tgt0_int (i : grid0.Coords) (k : Fin 16) : IsInt (tgt0 i (lane k)) (seg0 i + k.val : Nat) := by
  have h0 := i0_lt i
  have h1 := i1_lt i
  have hk := k.isLt
  have e : iota .scVector S16 32 [0] iota_S16_d0_w32_scVector (lane k) = BitVec.ofNat 32 k.val := by
    revert k; decide +kernel
  exact Affine.addi (ea := seg0 i) (eb := k.val) (base_int i) (e ▸ lit k.val (by omega)) (by unfold seg0; omega)

theorem tgt1_int (i : grid0.Coords) (k : Fin 16) : IsInt (tgt1 i (lane k)) (seg0 i + k.val + 1 : Nat) := by
  have h0 := i0_lt i
  have h1 := i1_lt i
  have hk := k.isLt
  exact Affine.addi (ea := (seg0 i + k.val : Nat)) (eb := 1) (tgt0_int i k) (lit 1 (by omega)) (by unfold seg0; omega)

theorem trips1 : k0_t1_loop.trips = 17 := rfl
theorem trips2 : k0_t2_loop.trips = 17 := rfl

theorem chk_of {v : IVec S16 32} (h : ∀ k, (v (lane k)).toNat < 50000) : ∀ a x, ((![v] : Fin 1 → IVec S16 32) a x).toNat < S50000.size a := by
  intro a x
  obtain rfl : a = 0 := Subsingleton.elim _ _
  obtain ⟨k, rfl⟩ := lane_surj x
  exact h k

/-- Sixteen cuts, as one function. -/
theorem cuts {P : Fin 16 → Nat → Prop} (h : ∀ j, ∃ c, P j c) : ∃ l : Nat → Nat, ∀ k : Fin 16, P k (l k.val) :=
  ⟨fun n => if hn : n < 16 then Classical.choose (h ⟨n, hn⟩) else 0, fun k => by
    show P k (if hn : k.val < 16 then Classical.choose (h ⟨k.val, hn⟩) else 0)
    rw [dif_pos k.isLt]; exact Classical.choose_spec (h k)⟩

section Whole

variable (i : grid0.Coords)
  (arg2 : Memref sig .scVector .hbm S50000 .i32) (harg2 : arg2.IsWhole) (arg3 : Memref sig .scVector .hbm S50000x256 .f32) (harg3 : arg3.IsWhole)
  (arg4 : Memref sig .scVector .hbm S512x256 .f32) (harg4 : arg4.IsWhole) (arg5 : Memref sig .scVector .hbm S512x256 .f32) (harg5 : arg5.IsWhole)
  (arg6 : Memref sig .scVector .vmem S50000 .i32) (harg6 : arg6.IsWhole) (arg7 : Memref sig .scVector .vmem S8x256 .f32) (harg7 : arg7.IsWhole)
  (arg8 : Memref sig .scVector .vmem S32x256 .f32) (harg8 : arg8.IsWhole) (arg9 : Memref sig .scVector .vmem S32x256 .f32) (harg9 : arg9.IsWhole)
  (arg10 : Memref sig .scVector .vmem S32x256 .f32) (harg10 : arg10.IsWhole) (arg11 : Memref sig .scVector .vmem S32x256 .f32) (harg11 : arg11.IsWhole)
  (arg12 : Memref sig .scVector .vmem S32x256 .f32) (harg12 : arg12.IsWhole) (arg13 : Memref sig .scVector .vmem S32x256 .f32) (harg13 : arg13.IsWhole)
  (arg14 : Memref sig .scVector .vmem S32x256 .f32) (harg14 : arg14.IsWhole) (arg15 : Memref sig .scVector .vmem S16x256 .f32) (harg15 : arg15.IsWhole)
  (arg16 : Memref sig .scVector .vmem S16x256 .f32) (harg16 : arg16.IsWhole)
  (arg17 arg18 arg19 arg20 arg21 arg22 arg23 arg24 arg25 arg26 arg27 v23_r0 v23_r1 v23_r2 : DmaSems sig S_)
  (d : Dev nD) (xv : Nat → Nat → F .f32) (mv : Nat → Int) (q : Nat → PosShare TreeShare) (fx : Buf (Elt F) (arg3.view.loc (V d (cV i) (jV i))))
  (O : CellTallies nD τ sig (HIx 1)) (W : Waits sig (HIx 1))

/-- The keys' copy, done. -/
theorem wp_keys {sem : DmaSem sig} {q2 : PosShare TreeShare} {f2 : Buf (Elt F) (arg2.view.loc (V d (cV i) (jV i)))} (hk : ∀ y : S50000.Idx, BitVec.toInt (n := 32) (arg2.view.read (Elt F) f2 y) = mv (y 0).val) {α : Type} {k : PUnit → Prog (EV F (cV i) (jV i)) α} {Q : α → sProp 𝕄} :
    iprop((arg2.view.loc (V d (cV i) (jV i)) ↦{q2} f2) ∗ (∃ f, (arg6.view.loc (V d (cV i) (jV i)) ↦{fullShare} f)) ∗ semVal (V d (cV i) (jV i), SemLoc.dma sem) 0 ∗ Ow d (cV i) (jV i) O W ∗ Transfers.MayWaits (V d (cV i) (jV i)) none O
        ∗ (∀ f, ⌜Keys mv arg6 f⌝ -∗ (arg2.view.loc (V d (cV i) (jV i)) ↦{q2} f2) -∗ (arg6.view.loc (V d (cV i) (jV i)) ↦{fullShare} f) -∗ semVal (V d (cV i) (jV i), SemLoc.dma sem) 0 -∗ Ow d (cV i) (jV i) O W -∗ WP d (cV i) (jV i) (k ⟨⟩) Q))
      ⊢ WP d (cV i) (jV i) (copyKeys i arg2 harg2.wordExact arg6 harg6.wordExact sem >>= fun _ => awaitKeys i arg2 harg2.wordExact arg6 harg6.wordExact sem >>= k) Q := by
  unfold copyKeys awaitKeys Ow
  simp only [Prog.lift, Prog.bind_op, Prog.bind_ret]
  iintro ⟨H2, ⟨%f, H6⟩, Hs, ⟨%W', %hW', HO⟩, #Hmw, Hk⟩
  iapply (Transfers.wp_dmaFromWhole EC 𝒱₀ (V d (cV i) (jV i)) none (src := arg2) (dst := arg6) (sm := .dma sem) (q := q2) (fs := f2) (fd := f) (Sd := Finset.univ)
    none (arg6.view.amount (.dma sem)) rfl (View.amount_pos _ _ (by decide +kernel)) (Finset.subset_univ _)) $$ [H2 H6 Hs]
  · isplitl [H2]; · iexact H2
    isplitl [H6]; · iexact H6
    iexact Hs
  iintro Hfl
  iapply (Transfers.wp_waitLocalO EC 𝒱₀ (V d (cV i) (jV i)) none (sem := sem) (dstw := arg6) none (N := arg6.view.amount (.dma sem)) rfl) $$ [Hfl HO]
  · isplitl [Hfl]; · iexact Hfl
    isplitl [HO]; · iexact HO
    iapply (Transfers.MayWaits.elim (.dma sem)); iexact Hmw
  iintro ⟨⟨H6, H2⟩, Hs, HO⟩
  iapply Hk $$ %_ [] [H2] [H6] [Hs] [HO]
  rotate_left
  · iexact H2
  · iexact H6
  · iexact Hs
  · iexists _
    isplitr
    rotate_left
    · iexact HO
    · ipureintro
      intro p hp
      rcases Finset.mem_insert.mp hp with rfl | hp
      · exact .inr rfl
      · exact hW' p hp
  · ipureintro
    intro y
    rw [View.read_write_univ]
    exact hk y

/-- A block of results' copy out, done. -/
theorem wp_result {om : Memref sig .scVector .vmem S16x256 .f32} (hom : om.view.WordExact) {m : Memref sig .scVector .hbm S512x256 .f32} {sem : DmaSem sig}
    {P : Nat → Nat → F .f32 → Prop} {fs : Buf (Elt F) (om.view.loc (V d (cV i) (jV i)))} (hP : Holds P (om.view.read (Elt F) fs)) {α : Type} {k : PUnit → Prog (EV F (cV i) (jV i)) α} {Q : α → sProp 𝕄} :
    iprop((om.view.loc (V d (cV i) (jV i)) ↦{fullShare} fs) ∗ (∃ f, ((blk i m).view.loc (V d (cV i) (jV i)) ↦[(blk i m).view.set]{fullShare} f)) ∗ semVal (V d (cV i) (jV i), SemLoc.dma sem) 0 ∗ Ow d (cV i) (jV i) O W ∗ Transfers.MayWaits (V d (cV i) (jV i)) none O
        ∗ ((om.view.loc (V d (cV i) (jV i)) ↦{fullShare} fs) -∗ (∃ f, ⌜Holds P ((blk i m).view.read (Elt F) f)⌝ ∗ ((blk i m).view.loc (V d (cV i) (jV i)) ↦[(blk i m).view.set]{fullShare} f)) -∗ semVal (V d (cV i) (jV i), SemLoc.dma sem) 0 -∗ Ow d (cV i) (jV i) O W -∗ WP d (cV i) (jV i) (k ⟨⟩) Q))
      ⊢ WP d (cV i) (jV i) (copyOut i om hom m sem >>= fun _ => awaitOut i om hom m sem >>= k) Q := by
  unfold copyOut awaitOut Ow
  simp only [Prog.lift, Prog.bind_op, Prog.bind_ret]
  iintro ⟨H2, ⟨%f, H6⟩, Hs, ⟨%W', %hW', HO⟩, #Hmw, Hk⟩
  iapply (Transfers.wp_dmaFromWhole EC 𝒱₀ (V d (cV i) (jV i)) none (src := om) (dst := blk i m) (sm := .dma sem) (q := fullShare) (fs := fs) (fd := f) (Sd := (blk i m).view.set)
    none ((blk i m).view.amount (.dma sem)) rfl (View.amount_pos _ _ (numel_pos (by omega))) (Finset.Subset.refl _)) $$ [H2 H6 Hs]
  · isplitl [H2]; · iexact H2
    isplitl [H6]; · iexact H6
    iexact Hs
  iintro Hfl
  iapply (Transfers.wp_waitLocalO EC 𝒱₀ (V d (cV i) (jV i)) none (sem := sem) (dstw := blk i m) none (N := (blk i m).view.amount (.dma sem)) rfl) $$ [Hfl HO]
  · isplitl [Hfl]; · iexact Hfl
    isplitl [HO]; · iexact HO
    iapply (Transfers.MayWaits.elim (.dma sem)); iexact Hmw
  iintro ⟨⟨H6, H2⟩, Hs, HO⟩
  iapply Hk $$ [H2] [H6] [Hs] [HO]
  · iexact H2
  · iexists _
    isplitr
    rotate_left
    · iexact H6
    · ipureintro
      intro y
      rw [View.read_write_univ]
      exact hP y
  · iexact Hs
  · iexists _
    isplitr
    rotate_left
    · iexact HO
    · ipureintro
      intro p hp
      rcases Finset.mem_insert.mp hp with rfl | hp
      · exact .inr rfl
      · exact hW' p hp

/-- The block a tile writes of a result, at contents `P`. -/
def Block (m : Memref sig .scVector .hbm S512x256 .f32) (P : Nat → Nat → F .f32 → Prop) : sProp 𝕄 :=
  iprop(∃ f, ⌜Holds P ((blk i m).view.read (Elt F) f)⌝ ∗ ((blk i m).view.loc (V d (cV i) (jV i)) ↦[(blk i m).view.set]{fullShare} f))

/-- What the tile's program runs with, and what it leaves. -/
def Has (q2 : PosShare TreeShare) (f2 : Buf (Elt F) (arg2.view.loc (V d (cV i) (jV i)))) (P4 P5 : Nat → Nat → F .f32 → Prop) : sProp 𝕄 :=
  iprop((arg2.view.loc (V d (cV i) (jV i)) ↦{q2} f2) ∗ (∃ f, (arg6.view.loc (V d (cV i) (jV i)) ↦{fullShare} f))
    ∗ (semVal (V d (cV i) (jV i), SemLoc.dma v23_r0.sem) 0 ∗ semVal (V d (cV i) (jV i), SemLoc.dma v23_r1.sem) 0 ∗ semVal (V d (cV i) (jV i), SemLoc.dma v23_r2.sem) 0)
    ∗ Bufs i arg3 arg7 arg8 arg9 arg10 arg11 arg12 arg13 arg14 arg17 arg18 arg19 arg20 arg21 arg22 arg23 arg24 arg25 arg26 arg27 d q fx (fun _ => True) ∗ Outs i arg15 arg16 d (fun _ _ _ => True) (fun _ _ _ => True)
    ∗ Block i d arg4 P4 ∗ Block i d arg5 P5)

theorem Block.any {m : Memref sig .scVector .hbm S512x256 .f32} {P : Nat → Nat → F .f32 → Prop} :
    Block i d m P ⊢ iprop(∃ f, ((blk i m).view.loc (V d (cV i) (jV i)) ↦[(blk i m).view.set]{fullShare} f)) := by
  unfold Block
  iintro ⟨%f, -, H⟩
  iexists f; iexact H

set_option maxHeartbeats 400000 in
theorem wp_reduce {q2 : PosShare TreeShare} {f2 : Buf (Elt F) (arg2.view.loc (V d (cV i) (jV i)))} (hk : ∀ y : S50000.Idx, BitVec.toInt (n := 32) (arg2.view.read (Elt F) f2 y) = mv (y 0).val) (hx : Table xv arg3 fx) {P4 P5 : Nat → Nat → F .f32 → Prop} :
    iprop(Transfers.MayWaits (V d (cV i) (jV i)) none O ∗ Ow d (cV i) (jV i) O W ∗ Has i arg2 arg3 arg4 arg5 arg6 arg7 arg8 arg9 arg10 arg11 arg12 arg13 arg14 arg15 arg16 arg17 arg18 arg19 arg20 arg21 arg22 arg23 arg24 arg25 arg26 arg27 v23_r0 v23_r1 v23_r2 d q fx q2 f2 P4 P5)
      ⊢ WP d (cV i) (jV i) (cc0_seg_reduce (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2)
        (fun _ => iprop(Ow d (cV i) (jV i) O W ∗ Has i arg2 arg3 arg4 arg5 arg6 arg7 arg8 arg9 arg10 arg11 arg12 arg13 arg14 arg15 arg16 arg17 arg18 arg19 arg20 arg21 arg22 arg23 arg24 arg25 arg26 arg27 v23_r0 v23_r1 v23_r2 d q fx q2 f2 (fun r c x => GMax xv mv (seg0 i + r) c x) (fun r c x => GSum xv mv (seg0 i + r) c x))) := by
  have e : cc0_seg_reduce (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2 = (k0_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2 >>= fun _ => copyOut i arg16 harg16.wordExact arg5 v23_r2.sem >>= fun _ => awaitOut i arg16 harg16.wordExact arg5 v23_r2.sem >>= fun _ => pure ⟨⟩) := rfl
  rw [e, part64_eq]
  simp only [bind_assoc]
  unfold Has
  iintro ⟨#Hmw, HO, H2, H6, ⟨Hs0, Hs1, Hs2⟩, HB, HR, H4, H5⟩
  iapply (wp_keys i arg2 harg2 arg6 harg6 d mv O W hk)
  isplitl [H2]; · iexact H2
  isplitl [H6]; · iexact H6
  isplitl [Hs0]; · iexact Hs0
  isplitl [HO]; · iexact HO
  isplitr; · iexact Hmw
  iintro %f6 %h6 H2 H6 Hs0 HO
  iapply (wp_search (tgt := tgt0 i) (T := fun k => ((seg0 i + k.val : Nat) : Int)) trips1 (fun v h => chk_of h) (fun k => toInt_eq (tgt0_int i k)) h6)
  isplitl [H6]; · iexact H6
  iintro %p %hp H6
  iapply (wp_search (tgt := tgt1 i) (T := fun k => ((seg0 i + k.val + 1 : Nat) : Int)) trips2 (fun v h => chk_of h) (fun k => toInt_eq (tgt1_int i k)) h6)
  isplitl [H6]; · iexact H6
  iintro %p' %hp' H6
  obtain ⟨l, hl⟩ := cuts hp
  obtain ⟨h, hh⟩ := cuts hp'
  iapply (@wp_segLoop F _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 arg24 arg25 arg26 arg27 v23_r0 v23_r1 v23_r2 d xv q fx O W _ _ l h (fun k => (hl k).1) (fun k => (hh k).1) (fun k => (hl k).2.1) (fun k => (hh k).2.1) hx _ _ _)
  isplitr; · iexact Hmw
  isplitl [HB]; · iexact HB
  isplitl [HO]; · iexact HO
  isplitl [HR]; · iexact HR
  iintro %last HB HO HR
  unfold Outs
  icases HR with ⟨%go, %gs, %hg, Hm, Hs⟩
  iapply (wp_result i d O W harg15.wordExact hg.1)
  isplitl [Hm]; · iexact Hm
  isplitl [H4]; · iapply (Block.any i d); iexact H4
  isplitl [Hs1]; · iexact Hs1
  isplitl [HO]; · iexact HO
  isplitr; · iexact Hmw
  iintro Hm H4 Hs1 HO
  rw [pure_then]
  iapply (wp_result i d O W harg16.wordExact hg.2)
  isplitl [Hs]; · iexact Hs
  isplitl [H5]; · iapply (Block.any i d); iexact H5
  isplitl [Hs2]; · iexact Hs2
  isplitl [HO]; · iexact HO
  isplitr; · iexact Hmw
  iintro Hs H5 Hs2 HO
  unfold WP
  rw [Prog.pure_eq_ret, wp_ret]
  imodintro
  isplitl [HO]; · iexact HO
  isplitl [H2]; · iexact H2
  isplitl [H6]; · iexists f6; iexact H6
  isplitl [Hs0 Hs1 Hs2]
  · isplitl [Hs0]; · iexact Hs0
    isplitl [Hs1]; · iexact Hs1
    iexact Hs2
  isplitl [HB]; · iexact HB
  isplitl [Hm Hs]
  · iexists go; iexists gs
    isplitr; · ipureintro; exact ⟨fun _ => trivial, fun _ => trivial⟩
    isplitl [Hm]; · iexact Hm
    iexact Hs
  unfold Block
  isplitl [H4]
  · icases H4 with ⟨%f4, %h4, H4⟩
    iexists f4
    isplitr
    · ipureintro
      exact h4.mono fun r c x hr _ hp => ⟨l r, h r, (hl ⟨r, hr⟩).2, (hh ⟨r, hr⟩).2, hp hr⟩
    iexact H4
  · icases H5 with ⟨%f5, %h5, H5⟩
    iexists f5
    isplitr
    · ipureintro
      exact h5.mono fun r c x hr _ hp => ⟨l r, h r, (hl ⟨r, hr⟩).2, (hh ⟨r, hr⟩).2, hp hr⟩
    iexact H5

end Whole
end Cert.Proof.KI
end
-- ==== Proof.CallI.lean ====
/- The SparseCore call: what it is launched with, and a tile's run from its share of that. -/
module

public import proofs.«01_k».proof.Proof.WholeI
public import proofs.«01_k».proof.Proof.Gen.KernelIdeal.Launch

@[expose] public section

noncomputable section

namespace Cert.Proof.KI

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok shareTokN MayWaits)
open Idealize.ShloMosaic.Tactic

variable {F : FTy → Type} [FloatOps F]

local notation "𝕄" => MT nD τ sig (HIx 1) (Elt F) ℕ UU ℕ

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The device's arrays and the tiles' shares of them -/

abbrev xLoc (d : Dev nD) : Loc nD τ sig := (SparseCore.T d).loc main_arg0
abbrev kLoc (d : Dev nD) : Loc nD τ sig := (SparseCore.T d).loc main_arg1
abbrev mxLoc (d : Dev nD) : Loc nD τ sig := (SparseCore.T d).loc main_v0_0
abbrev smLoc (d : Dev nD) : Loc nD τ sig := (SparseCore.T d).loc main_v0_1

variable (m : (ℓ : Loc nD τ sig) → Buf (Elt F) ℓ) (ρ : Dev nD → UInt64)

/-- Row `r` and column `c`, and row `r`, as places in the operands. -/
def ix2 (r c : Nat) : S50000x256.Idx := fun a => match a with | 0 => ⟨r % 50000, Nat.mod_lt _ (by decide)⟩ | 1 => ⟨c % 256, Nat.mod_lt _ (by decide)⟩
def ix1 (r : Nat) : S50000.Idx := fun a => match a with | 0 => ⟨r % 50000, Nat.mod_lt _ (by decide)⟩

/-- Row `r`, column `c` of the table, and the key of row `r`, as launched. -/
def tabv (d : Dev nD) (r c : Nat) : F .f32 := m (xLoc d) (ix2 r c)
def keyv (d : Dev nD) (r : Nat) : Int := BitVec.toInt (n := 32) (m (kLoc d) (ix1 r))

/-- A tile's coordinates. -/
def coords (c : Fin (grid0.bound 0)) (s : Fin (grid0.bound 1)) : grid0.Coords :=
  fun | 0 => c | 1 => s | ⟨_ + 2, h⟩ => absurd h (Nat.not_lt.2 (Nat.le_add_left _ _))

/-- The rows of a result tile `i` writes. -/
abbrev rows (i : grid0.Coords) : Finset S512x256.Idx := (blk i (Memref.whole main_v0_0_scv)).view.set

/-- The share of an operand that goes to a SparseCore, and to one of its tiles. -/
abbrev shC (c : Nat) : PosShare TreeShare := shareTokN fullShare c
abbrev shT (c s : Nat) : PosShare TreeShare := shareTokN (shC c) s

/-- Tile `i`'s share of the launch, its rows of the results at contents that meet `A` and `B`. -/
def Go (d : Dev nD) (i : grid0.Coords) (A B : Nat → Nat → F .f32 → Prop) : sProp 𝕄 :=
  iprop((xLoc d ↦{shT (i 0).val (i 1).val} m (xLoc d)) ∗ (kLoc d ↦{shT (i 0).val (i 1).val} m (kLoc d))
    ∗ Block i d (Memref.whole main_v0_0_scv) A ∗ Block i d (Memref.whole main_v0_1_scv) B)

abbrev Any : Nat → Nat → F .f32 → Prop := fun _ _ _ => True
/-- What tile `i` leaves in its rows. -/
abbrev TM (d : Dev nD) (i : grid0.Coords) : Nat → Nat → F .f32 → Prop := fun r c x => GMax (tabv m d) (keyv m d) (seg0 i + r) c x
abbrev TS (d : Dev nD) (i : grid0.Coords) : Nat → Nat → F .f32 → Prop := fun r c x => GSum (tabv m d) (keyv m d) (seg0 i + r) c x

theorem core_lt (c : Fin ((K (F := F)).nCore 0)) : c.val < grid0.bound 0 := c.isLt
theorem sub_lt (s : Fin ((K (F := F)).nSub 0)) : s.val < grid0.bound 1 := s.isLt
abbrev at2 (c : Fin ((K (F := F)).nCore 0)) (s : Fin ((K (F := F)).nSub 0)) : grid0.Coords := coords ⟨c.val, core_lt c⟩ ⟨s.val, sub_lt s⟩

/-- A SparseCore's share of the launch. -/
def St (d : Dev nD) (c : Fin ((K (F := F)).nCore 0)) (A B : grid0.Coords → Nat → Nat → F .f32 → Prop) : sProp 𝕄 :=
  iprop((xLoc d ↦{shC c.val} m (xLoc d)) ∗ (kLoc d ↦{shC c.val} m (kLoc d))
    ∗ bigSep Finset.univ fun s : Fin ((K (F := F)).nSub 0) =>
        iprop(Block (at2 c s) d (Memref.whole main_v0_0_scv) (A (at2 c s)) ∗ Block (at2 c s) d (Memref.whole main_v0_1_scv) (B (at2 c s))))

instance Block_storable (i : grid0.Coords) (d : Dev nD) (b : Memref sig .scVector .hbm S512x256 .f32) (A : Nat → Nat → F .f32 → Prop) :
    BI.Storable (upEmb : UEmb _ 𝕄) (Block i d b A) := by unfold Block; infer_instance
instance Go_storable (d : Dev nD) (i : grid0.Coords) (A B : Nat → Nat → F .f32 → Prop) :
    BI.Storable (upEmb : UEmb _ 𝕄) (Go m d i A B) := by unfold Go; infer_instance
instance St_storable (d : Dev nD) (c : Fin ((K (F := F)).nCore 0)) (A B : grid0.Coords → Nat → Nat → F .f32 → Prop) :
    BI.Storable (upEmb : UEmb _ 𝕄) (St m d c A B) := by unfold St; infer_instance

/-- The payloads of the call's handshakes. -/
def P : (K (F := F)).Pay (nD := nD) (Val := Elt F) (Name := ℕ) (U := UU) where
  st := fun q d c => match q with | 0 => St m d c (fun _ => Any) (fun _ => Any)
  dn := fun q d c => match q with | 0 => St m d c (TM m d) (TS m d)
  go := fun q d c s => match q with | 0 => Go m d (at2 c s) Any Any
  td := fun q d c s => match q with | 0 => Go m d (at2 c s) (TM m d (at2 c s)) (TS m d (at2 c s))
  x := fun _ _ => iprop(emp)

instance P_storable : (P m).IsStorable where
  st q d c := match q with | 0 => St_storable m d c (fun _ => Any) (fun _ => Any)
  dn q d c := match q with | 0 => St_storable m d c (TM m d) (TS m d)
  go q d c s := match q with | 0 => Go_storable m d (at2 c s) Any Any
  td q d c s := match q with | 0 => Go_storable m d (at2 c s) (TM m d (at2 c s)) (TS m d (at2 c s))

/-! ## A SparseCore's share, dealt to its tiles -/

theorem deal (ℓ : Loc nD τ sig) (f : Buf (Elt F) ℓ) (c : Nat) :
    (ℓ ↦{shC c} f : sProp 𝕄) ⊣⊢ iprop((ℓ ↦{shareDrop (shC c) 16} f) ∗ bigSep Finset.univ fun s : Fin ((K (F := F)).nSub 0) => (ℓ ↦{shT c s.val} f)) :=
  Transfers.pointsTo_toks (shC c) 16

theorem go_eq (d : Dev nD) (c : Fin ((K (F := F)).nCore 0)) (A B : grid0.Coords → Nat → Nat → F .f32 → Prop) :
    (bigSep Finset.univ fun s : Fin ((K (F := F)).nSub 0) => Go m d (at2 c s) (A (at2 c s)) (B (at2 c s)))
      = iprop((bigSep Finset.univ fun s : Fin ((K (F := F)).nSub 0) => (xLoc d ↦{shT c.val s.val} m (xLoc d)))
        ∗ (bigSep Finset.univ fun s : Fin ((K (F := F)).nSub 0) => (kLoc d ↦{shT c.val s.val} m (kLoc d)))
        ∗ bigSep Finset.univ fun s : Fin ((K (F := F)).nSub 0) =>
            iprop(Block (at2 c s) d (Memref.whole main_v0_0_scv) (A (at2 c s)) ∗ Block (at2 c s) d (Memref.whole main_v0_1_scv) (B (at2 c s)))) := by
  unfold Go
  rw [bigSep_sep' Finset.univ (fun s : Fin ((K (F := F)).nSub 0) => (xLoc d ↦{shT (at2 c s 0).val (at2 c s 1).val} m (xLoc d))), bigSep_sep' Finset.univ (fun s : Fin ((K (F := F)).nSub 0) => (kLoc d ↦{shT (at2 c s 0).val (at2 c s 1).val} m (kLoc d)))]
  rfl

theorem vecSplit : (K (F := F)).VecSplit' (P m) 0 := by
  intro d c
  show St m d c (fun _ => Any) (fun _ => Any) ⊢ |={Set.univ}=> iprop(
      (bigSep Finset.univ fun s : Fin ((K (F := F)).nSub 0) => Go m d (at2 c s) Any Any)
      ∗ ((bigSep Finset.univ fun s : Fin ((K (F := F)).nSub 0) => Go m d (at2 c s) (TM m d (at2 c s)) (TS m d (at2 c s))) -∗ St m d c (TM m d) (TS m d)))
  rw [go_eq m d c (fun _ => Any) (fun _ => Any), go_eq m d c (TM m d) (TS m d)]
  unfold St
  iintro ⟨Hx, Hk, HB⟩
  ihave Hx' := (deal (xLoc d) (m (xLoc d)) c.val).1 $$ Hx
  ihave Hk' := (deal (kLoc d) (m (kLoc d)) c.val).1 $$ Hk
  icases Hx' with ⟨Hxd, Hx⟩
  icases Hk' with ⟨Hkd, Hk⟩
  imodintro
  isplitl [Hx Hk HB]
  · isplitl [Hx]; · iexact Hx
    isplitl [Hk]; · iexact Hk
    iexact HB
  · iintro ⟨Hx, Hk, HB⟩
    isplitl [Hxd Hx]
    · iapply (deal (xLoc d) (m (xLoc d)) c.val).2
      isplitl [Hxd]; · iexact Hxd
      iexact Hx
    isplitl [Hkd Hk]
    · iapply (deal (kLoc d) (m (kLoc d)) c.val).2
      isplitl [Hkd]; · iexact Hkd
      iexact Hk
    iexact HB

/-! ## A tile's semaphores and buffers -/

section Tile
variable (d : Dev nD) (i : grid0.Coords)

abbrev sv (s : SemLoc sig) : sProp 𝕄 := semVal (V d (cV i) (jV i), s) 0

/-- The semaphores the program uses. -/
def sems : Finset (SemLoc sig) :=
  {.dma cc0_scratch11.sem, .dma cc0_scratch12.sem, .dma cc0_scratch13.sem, .dma cc0_scratch14.sem, .dma cc0_scratch15.sem, .dma cc0_scratch16.sem, .dma cc0_scratch17.sem,
    .dma cc0_scratch18.sem, .dma cc0_scratch19.sem, .dma cc0_scratch20.sem, .dma cc0_scratch21.sem, .dma cc0_scoped0.sem, .dma cc0_scoped1.sem, .dma cc0_scoped2.sem}

def cellE (thr : Thread nD τ) : SemLoc sig ↪ GSem nD τ sig := ⟨fun s => (thr, s), fun _ _ h => congrArg Prod.snd h⟩

theorem sems_chain (Φ : SemLoc sig → sProp 𝕄) :
    bigSep sems Φ = iprop(Φ (.dma cc0_scratch11.sem) ∗ Φ (.dma cc0_scratch12.sem) ∗ Φ (.dma cc0_scratch13.sem) ∗ Φ (.dma cc0_scratch14.sem) ∗ Φ (.dma cc0_scratch15.sem) ∗ Φ (.dma cc0_scratch16.sem) ∗ Φ (.dma cc0_scratch17.sem) ∗ Φ (.dma cc0_scratch18.sem) ∗ Φ (.dma cc0_scratch19.sem) ∗ Φ (.dma cc0_scratch20.sem) ∗ Φ (.dma cc0_scratch21.sem) ∗ Φ (.dma cc0_scoped0.sem) ∗ Φ (.dma cc0_scoped1.sem) ∗ Φ (.dma cc0_scoped2.sem)) := by
  unfold sems
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem sems_sub : sems.map (cellE (V d (cV i) (jV i))) ⊆ ownCells (V d (cV i) (jV i)) := by
  intro g hg
  obtain ⟨s, hs, rfl⟩ := Finset.mem_map.mp hg
  refine (mem_ownCells (g := _)).mpr ⟨rfl, ?_⟩
  have h : ∀ s ∈ sems, s.isScoped .scVector = true := by decide
  exact h s hs

theorem sems_eq :
    (SparseCore.Cfg.ownSems0 (V d (cV i) (jV i)) : sProp 𝕄)
      = iprop((sv d i (.dma cc0_scratch11.sem) ∗ sv d i (.dma cc0_scratch12.sem) ∗ sv d i (.dma cc0_scratch13.sem) ∗ sv d i (.dma cc0_scratch14.sem) ∗ sv d i (.dma cc0_scratch15.sem)
          ∗ sv d i (.dma cc0_scratch16.sem) ∗ sv d i (.dma cc0_scratch17.sem) ∗ sv d i (.dma cc0_scratch18.sem) ∗ sv d i (.dma cc0_scratch19.sem) ∗ sv d i (.dma cc0_scratch20.sem)
          ∗ sv d i (.dma cc0_scratch21.sem) ∗ sv d i (.dma cc0_scoped0.sem) ∗ sv d i (.dma cc0_scoped1.sem) ∗ sv d i (.dma cc0_scoped2.sem))
        ∗ bigSep (ownCells (V d (cV i) (jV i)) \ sems.map (cellE (V d (cV i) (jV i)))) fun g => semVal g 0) := by
  unfold SparseCore.Cfg.ownSems0
  rw [SparseCore.bigSep_sdiff_split' (sems_sub d i), bigSep_map]
  congr 1
  exact sems_chain _

/-- The buffers it uses. -/
def bufs : Finset (Ref sig .scVector) :=
  {cc0_scratch0, cc0_scratch1, cc0_scratch2, cc0_scratch3, cc0_scratch4, cc0_scratch5, cc0_scratch6, cc0_scratch7, cc0_scratch8, cc0_scratch9, cc0_scratch10}

theorem bufs_chain (Φ : Ref sig .scVector → sProp 𝕄) :
    bigSep bufs Φ = iprop(Φ cc0_scratch0 ∗ Φ cc0_scratch1 ∗ Φ cc0_scratch2 ∗ Φ cc0_scratch3 ∗ Φ cc0_scratch4 ∗ Φ cc0_scratch5 ∗ Φ cc0_scratch6 ∗ Φ cc0_scratch7 ∗ Φ cc0_scratch8 ∗ Φ cc0_scratch9 ∗ Φ cc0_scratch10) := by
  unfold bufs
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

def refE (p : Proc τ) : Ref sig p.kind ↪ DevRef τ sig := ⟨p.devRef, Proc.devRef_injective _⟩

abbrev bv (b : Ref sig .scVector) : sProp 𝕄 := iprop(∃ f, ((V d (cV i) (jV i)).loc b ↦{fullShare} f))

theorem bufs_sub : bufs.map (refE (.scVector (cV i) (jV i))) ⊆ ownRefs (τ := τ) (.scVector (cV i) (jV i)) := by
  intro g hg
  obtain ⟨s, hs, rfl⟩ := Finset.mem_map.mp hg
  have h : ∀ s ∈ bufs, ((Proc.scVector (cV i) (jV i)).devRef s).owner = .proc (.scVector (cV i) (jV i)) := by
    intro s hs
    simp only [bufs, Finset.mem_insert, Finset.mem_singleton] at hs
    rcases hs with rfl | rfl | rfl | rfl | rfl | rfl | rfl | rfl | rfl | rfl | rfl <;> rfl
  exact SparseCore.Cfg.mem_ownRefs_of_owner (h s hs)

theorem bufs_eq :
    (SparseCore.Cfg.ownBufs (V d (cV i) (jV i)) : sProp 𝕄)
      = iprop((bv d i cc0_scratch0 ∗ bv d i cc0_scratch1 ∗ bv d i cc0_scratch2 ∗ bv d i cc0_scratch3 ∗ bv d i cc0_scratch4 ∗ bv d i cc0_scratch5 ∗ bv d i cc0_scratch6
          ∗ bv d i cc0_scratch7 ∗ bv d i cc0_scratch8 ∗ bv d i cc0_scratch9 ∗ bv d i cc0_scratch10)
        ∗ bigSep (ownRefs (τ := τ) (.scVector (cV i) (jV i)) \ bufs.map (refE (.scVector (cV i) (jV i)))) fun b => iprop(∃ f, ((d, b) : Loc nD τ sig) ↦{fullShare} f)) := by
  unfold SparseCore.Cfg.ownBufs
  show bigSep (ownRefs (τ := τ) (.scVector (cV i) (jV i))) (fun b => iprop(∃ f, ((d, b) : Loc nD τ sig) ↦{fullShare} f)) = _
  rw [SparseCore.bigSep_sdiff_split' (bufs_sub i), bigSep_map]
  congr 1
  exact bufs_chain _

end Tile

end Cert.Proof.KI

end
-- ==== Proof.PiecesI.lean ====
/- A tile's run from its share of the launch. -/
module

public import proofs.«01_k».proof.Proof.CallI

@[expose] public section

noncomputable section

namespace Cert.Proof.KI

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok shareTokN MayWaits)
open Idealize.ShloMosaic.Tactic

variable {F : FTy → Type} [FloatOps F]

local notation "𝕄" => MT nD τ sig (HIx 1) (Elt F) ℕ UU ℕ

/-! ## The rows of a buffer, by eights -/

def R4 (k : Fin 4) : Finset S32x256.Idx := Finset.univ.filter fun y => 8 * k.val ≤ (y 0).val ∧ (y 0).val < 8 * k.val + 8

theorem mem_R4 {k : Fin 4} {y : S32x256.Idx} : y ∈ R4 k ↔ 8 * k.val ≤ (y 0).val ∧ (y 0).val < 8 * k.val + 8 := by
  unfold R4; rw [Finset.mem_filter]; exact ⟨fun h => h.2, fun h => ⟨Finset.mem_univ _, h⟩⟩

theorem R4_disj : ∀ k ∈ (Finset.univ : Finset (Fin 4)), ∀ k' ∈ (Finset.univ : Finset (Fin 4)), k ≠ k' → Disjoint (R4 k) (R4 k') := by
  intro k _ k' _ h
  refine Finset.disjoint_left.mpr fun y hy hy' => h (Fin.ext ?_)
  have := mem_R4.mp hy; have := mem_R4.mp hy'
  omega

theorem R4_cover (y : S32x256.Idx) : ∃ k, y ∈ R4 k := by
  have h : (y 0).val < 32 := (y 0).isLt
  exact ⟨⟨(y 0).val / 8, by omega⟩, mem_R4.mpr (by simp only; omega)⟩

/-- A buffer held whole, by pieces, and from pieces back. -/
theorem whole_split {J : Type} [Fintype J] {ℓ : Loc nD τ sig} (f : Buf (Elt F) ℓ) (R : J → Finset (Idx ℓ))
    (hd : ∀ k ∈ (Finset.univ : Finset J), ∀ k' ∈ (Finset.univ : Finset J), k ≠ k' → Disjoint (R k) (R k')) (hu : ∀ y, ∃ k, y ∈ R k) :
    (ℓ ↦{fullShare} f : sProp 𝕄) = bigSep Finset.univ fun k => (ℓ ↦[R k]{fullShare} f) := by
  rw [← pointsTo_biUnion Finset.univ R hd]
  congr 1
  ext y
  obtain ⟨k, hk⟩ := hu y
  exact ⟨fun _ => Finset.mem_biUnion.mpr ⟨k, Finset.mem_univ _, hk⟩, fun _ => Finset.mem_univ _⟩

theorem whole_join {J : Type} [Fintype J] {ℓ : Loc nD τ sig} (fs : J → Buf (Elt F) ℓ) (f₀ : Buf (Elt F) ℓ) (R : J → Finset (Idx ℓ))
    (hd : ∀ k ∈ (Finset.univ : Finset J), ∀ k' ∈ (Finset.univ : Finset J), k ≠ k' → Disjoint (R k) (R k')) (hu : ∀ y, ∃ k, y ∈ R k) :
    bigSep Finset.univ (fun k => (ℓ ↦[R k]{fullShare} fs k : sProp 𝕄)) ⊢ iprop(∃ g, ⌜∀ k, ∀ y ∈ R k, g y = fs k y⌝ ∗ ℓ ↦{fullShare} g) := by
  refine (pointsTo_biUnion_join Finset.univ R fs f₀ hd).trans ?_
  have e : Finset.univ.biUnion R = Finset.univ := by
    ext y
    obtain ⟨k, hk⟩ := hu y
    exact ⟨fun _ => Finset.mem_univ _, fun _ => Finset.mem_biUnion.mpr ⟨k, Finset.mem_univ _, hk⟩⟩
  rw [e]
  iintro ⟨%g, %hg, H⟩
  iexists g
  isplitr; · ipureintro; exact fun k => hg k (Finset.mem_univ k)
  iexact H

theorem unit_R4 (k : Fin 4) (off : Fin 2 → Nat) (h0 : off 0 = 8 * k.val) (h1 : off 1 = 0) (inb : ∀ a, off a + S8x256.size a ≤ S32x256.size a) :
    (Rect.unit (s := S32x256) off S8x256.size inb).set = R4 k := by
  ext y
  rw [Rect.mem_set_unit, mem_R4]
  constructor
  · intro h
    have := h 0
    rw [h0] at this
    exact this
  · intro h a
    match a with
    | 0 => rw [h0]; exact h
    | 1 => rw [h1]; exact ⟨Nat.zero_le _, by have h1 : (y 1).val < 256 := (y 1).isLt; show (y 1).val < 0 + 256; omega⟩

theorem tb0_set : (tb0 (Memref.whole cc0_scratch8)).view.set = R4 0 := (View.set_slice_whole _ _).trans (unit_R4 0 _ rfl rfl _)
theorem tb1_set : (tb1 (Memref.whole cc0_scratch8)).view.set = R4 1 := (View.set_slice_whole _ _).trans (unit_R4 1 _ rfl rfl _)
theorem tb2_set : (tb2 (Memref.whole cc0_scratch8)).view.set = R4 2 := (View.set_slice_whole _ _).trans (unit_R4 2 _ rfl rfl _)
theorem tb3_set : (tb3 (Memref.whole cc0_scratch8)).view.set = R4 3 := (View.set_slice_whole _ _).trans (unit_R4 3 _ rfl rfl _)

section Tile
variable (d : Dev nD) (i : grid0.Coords)

abbrev bLoc : Loc nD τ sig := (V d (cV i) (jV i)).loc cc0_scratch8

theorem four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

theorem eights (f : Buf (Elt F) (bLoc d i)) :
    (bLoc d i ↦{fullShare} f : sProp 𝕄)
      = iprop((bLoc d i ↦[R4 0]{fullShare} f) ∗ (bLoc d i ↦[R4 1]{fullShare} f) ∗ (bLoc d i ↦[R4 2]{fullShare} f) ∗ (bLoc d i ↦[R4 3]{fullShare} f)) := by
  rw [← four fun k => (bLoc d i ↦[R4 k]{fullShare} f : sProp 𝕄)]
  exact whole_split (ℓ := bLoc d i) f R4 R4_disj R4_cover

theorem eights_join :
    iprop((∃ f, bLoc d i ↦[R4 0]{fullShare} f) ∗ (∃ f, bLoc d i ↦[R4 1]{fullShare} f) ∗ (∃ f, bLoc d i ↦[R4 2]{fullShare} f) ∗ (∃ f, bLoc d i ↦[R4 3]{fullShare} f))
      ⊢ (iprop(∃ f, bLoc d i ↦{fullShare} f) : sProp 𝕄) := by
  iintro ⟨⟨%f0, H0⟩, ⟨%f1, H1⟩, ⟨%f2, H2⟩, ⟨%f3, H3⟩⟩
  ihave H := (whole_join (ℓ := bLoc d i) (fun k : Fin 4 => match k with | 0 => f0 | 1 => f1 | 2 => f2 | 3 => f3) f0 R4 R4_disj R4_cover) $$ [H0 H1 H2 H3]
  · rw [four]
    isplitl [H0]; · iexact H0
    isplitl [H1]; · iexact H1
    isplitl [H2]; · iexact H2
    iexact H3
  icases H with ⟨%g, -, H⟩
  iexists g; iexact H

/-! ## The shares of the table -/

theorem eleven (Φ : Nat → sProp 𝕄) : bigSep (Finset.range 11) Φ = iprop(Φ 0 ∗ Φ 1 ∗ Φ 2 ∗ Φ 3 ∗ Φ 4 ∗ Φ 5 ∗ Φ 6 ∗ Φ 7 ∗ Φ 8 ∗ Φ 9 ∗ Φ 10) := by
  rw [show Finset.range 11 = {0, 1, 2, 3, 4, 5, 6, 7, 8, 9, 10} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- A slot at rest, from its parts and back. -/
theorem idle_eq {R : Nat} {x : XRef} {b : Memref sig .scVector .vmem ⟨2, ![R, 256]⟩ .f32} {sem : DmaSem sig} {q : PosShare TreeShare} {fx : Buf (Elt F) (x.view.loc (V d (cV i) (jV i)))}
    {K : Finset (Idx (b.view.loc (V d (cV i) (jV i))))} (hb : b.view.set = K) :
    (Idle d (cV i) (jV i) x b sem q fx (fun _ => True) : sProp 𝕄)
      ⊣⊢ iprop((x.view.loc (V d (cV i) (jV i)) ↦{q} fx) ∗ (∃ f, b.view.loc (V d (cV i) (jV i)) ↦[K]{fullShare} f) ∗ semVal (V d (cV i) (jV i), SemLoc.dma sem) 0) := by
  subst hb
  unfold Idle Buff
  constructor
  · iintro ⟨H1, ⟨%f, -, H2⟩, H3⟩
    isplitl [H1]; · iexact H1
    isplitl [H2]; · iexists f; iexact H2
    iexact H3
  · iintro ⟨H1, ⟨%f, H2⟩, H3⟩
    isplitl [H1]; · iexact H1
    isplitl [H2]
    · iexists f
      isplitr; · ipureintro; trivial
      iexact H2
    iexact H3

end Tile

end Cert.Proof.KI

end
-- ==== Proof.TileRunI.lean ====
/- A tile's run from its share of the launch. -/
module

public import proofs.«01_k».proof.Proof.PiecesI

@[expose] public section

noncomputable section

namespace Cert.Proof.KI

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok shareTokN MayWaits)
open Idealize.ShloMosaic.Tactic

variable {F : FTy → Type} [FloatOps F]

local notation "𝕄" => MT nD τ sig (HIx 1) (Elt F) ℕ UU ℕ

section Tile
variable (m : (ℓ : Loc nD τ sig) → Buf (Elt F) ℓ) (d : Dev nD) (i : grid0.Coords)

/-- The share of the table a tile's transfer `j` reads through. -/
abbrev shX (j : Nat) : PosShare TreeShare := shareTokN (shT (i 0).val (i 1).val) j

abbrev table : sProp 𝕄 := xLoc d ↦{shT (i 0).val (i 1).val} m (xLoc d)
abbrev drop : sProp 𝕄 := xLoc d ↦{shareDrop (shT (i 0).val (i 1).val) 11} m (xLoc d)

abbrev TBufs : sProp 𝕄 :=
  Bufs i (Memref.whole main_arg0_scv) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) cc0_scratch11 cc0_scratch12 cc0_scratch13 cc0_scratch14 cc0_scratch15 cc0_scratch16 cc0_scratch17 cc0_scratch18 cc0_scratch19 cc0_scratch20 cc0_scratch21 d (shX i) (m (xLoc d)) (fun _ => True)

theorem bufs_in :
    iprop(table m d i ∗ (bv d i cc0_scratch1 ∗ bv d i cc0_scratch2 ∗ bv d i cc0_scratch3 ∗ bv d i cc0_scratch4 ∗ bv d i cc0_scratch5 ∗ bv d i cc0_scratch6 ∗ bv d i cc0_scratch7 ∗ bv d i cc0_scratch8)
        ∗ (sv d i (.dma cc0_scratch11.sem) ∗ sv d i (.dma cc0_scratch12.sem) ∗ sv d i (.dma cc0_scratch13.sem) ∗ sv d i (.dma cc0_scratch14.sem) ∗ sv d i (.dma cc0_scratch15.sem)
          ∗ sv d i (.dma cc0_scratch16.sem) ∗ sv d i (.dma cc0_scratch17.sem) ∗ sv d i (.dma cc0_scratch18.sem) ∗ sv d i (.dma cc0_scratch19.sem) ∗ sv d i (.dma cc0_scratch20.sem)
          ∗ sv d i (.dma cc0_scratch21.sem)))
      ⊢ iprop(TBufs m d i ∗ drop m d i) := by
  unfold TBufs Bufs table drop
  iintro ⟨Hx, ⟨B1, B2, B3, B4, B5, B6, B7, ⟨%f8, B8⟩⟩, ⟨S11, S12, S13, S14, S15, S16, S17, S18, S19, S20, S21⟩⟩
  ihave Hx' := (Transfers.pointsTo_toks_range (shT (i 0).val (i 1).val) 11).1 $$ Hx
  icases Hx' with ⟨Hd, Hx⟩
  ihave Hx' := (Entails.of_eq (eleven fun j => (xLoc d ↦{shX i j} m (xLoc d) : sProp 𝕄))) $$ Hx
  ihave B8' := (Entails.of_eq (eights d i f8)) $$ B8
  icases Hx' with ⟨X0, X1, X2, X3, X4, X5, X6, X7, X8, X9, X10⟩
  icases B8' with ⟨T0, T1, T2, T3⟩
  isplitr [Hd]
  rotate_left
  · iexact Hd
  isplitl [X0 X1 X2 X3 X4 X5 B2 B3 B4 B5 B6 B7 S12 S13 S14 S15 S16 S17]
  · isplitl [X0 B2 S12]
    · iapply (idle_eq d i (x := Memref.whole main_arg0_scv) (View.set_whole _)).2
      isplitl [X0]; · iexact X0
      isplitl [B2]; · iexact B2
      iexact S12
    isplitl [X1 B3 S13]
    · iapply (idle_eq d i (x := Memref.whole main_arg0_scv) (View.set_whole _)).2
      isplitl [X1]; · iexact X1
      isplitl [B3]; · iexact B3
      iexact S13
    isplitl [X2 B4 S14]
    · iapply (idle_eq d i (x := Memref.whole main_arg0_scv) (View.set_whole _)).2
      isplitl [X2]; · iexact X2
      isplitl [B4]; · iexact B4
      iexact S14
    isplitl [X3 B5 S15]
    · iapply (idle_eq d i (x := Memref.whole main_arg0_scv) (View.set_whole _)).2
      isplitl [X3]; · iexact X3
      isplitl [B5]; · iexact B5
      iexact S15
    isplitl [X4 B6 S16]
    · iapply (idle_eq d i (x := Memref.whole main_arg0_scv) (View.set_whole _)).2
      isplitl [X4]; · iexact X4
      isplitl [B6]; · iexact B6
      iexact S16
    iapply (idle_eq d i (x := Memref.whole main_arg0_scv) (View.set_whole _)).2
    isplitl [X5]; · iexact X5
    isplitl [B7]; · iexact B7
    iexact S17
  isplitl [X6 B1 S11]
  · iapply (idle_eq d i (x := Memref.whole main_arg0_scv) (View.set_whole _)).2
    isplitl [X6]; · iexact X6
    isplitl [B1]; · iexact B1
    iexact S11
  isplitl [X7 T0 S18]
  · iapply (idle_eq d i (x := Memref.whole main_arg0_scv) tb0_set).2
    isplitl [X7]; · iexact X7
    isplitl [T0]; · iexists f8; iexact T0
    iexact S18
  isplitl [X8 T1 S19]
  · iapply (idle_eq d i (x := Memref.whole main_arg0_scv) tb1_set).2
    isplitl [X8]; · iexact X8
    isplitl [T1]; · iexists f8; iexact T1
    iexact S19
  isplitl [X9 T2 S20]
  · iapply (idle_eq d i (x := Memref.whole main_arg0_scv) tb2_set).2
    isplitl [X9]; · iexact X9
    isplitl [T2]; · iexists f8; iexact T2
    iexact S20
  iapply (idle_eq d i (x := Memref.whole main_arg0_scv) tb3_set).2
  isplitl [X10]; · iexact X10
  isplitl [T3]; · iexists f8; iexact T3
  iexact S21

theorem bufs_out :
    iprop(TBufs m d i ∗ drop m d i)
      ⊢ iprop(table m d i ∗ (bv d i cc0_scratch1 ∗ bv d i cc0_scratch2 ∗ bv d i cc0_scratch3 ∗ bv d i cc0_scratch4 ∗ bv d i cc0_scratch5 ∗ bv d i cc0_scratch6 ∗ bv d i cc0_scratch7 ∗ bv d i cc0_scratch8)
        ∗ (sv d i (.dma cc0_scratch11.sem) ∗ sv d i (.dma cc0_scratch12.sem) ∗ sv d i (.dma cc0_scratch13.sem) ∗ sv d i (.dma cc0_scratch14.sem) ∗ sv d i (.dma cc0_scratch15.sem)
          ∗ sv d i (.dma cc0_scratch16.sem) ∗ sv d i (.dma cc0_scratch17.sem) ∗ sv d i (.dma cc0_scratch18.sem) ∗ sv d i (.dma cc0_scratch19.sem) ∗ sv d i (.dma cc0_scratch20.sem)
          ∗ sv d i (.dma cc0_scratch21.sem))) := by
  unfold TBufs Bufs table drop
  iintro ⟨⟨⟨I0, I1, I2, I3, I4, I5⟩, I6, ⟨I7, I8, I9, I10⟩⟩, Hd⟩
  ihave J0 := (idle_eq d i (x := Memref.whole main_arg0_scv) (View.set_whole _)).1 $$ I0
  icases J0 with ⟨X0, B0, S0⟩
  ihave J1 := (idle_eq d i (x := Memref.whole main_arg0_scv) (View.set_whole _)).1 $$ I1
  icases J1 with ⟨X1, B1, S1⟩
  ihave J2 := (idle_eq d i (x := Memref.whole main_arg0_scv) (View.set_whole _)).1 $$ I2
  icases J2 with ⟨X2, B2, S2⟩
  ihave J3 := (idle_eq d i (x := Memref.whole main_arg0_scv) (View.set_whole _)).1 $$ I3
  icases J3 with ⟨X3, B3, S3⟩
  ihave J4 := (idle_eq d i (x := Memref.whole main_arg0_scv) (View.set_whole _)).1 $$ I4
  icases J4 with ⟨X4, B4, S4⟩
  ihave J5 := (idle_eq d i (x := Memref.whole main_arg0_scv) (View.set_whole _)).1 $$ I5
  icases J5 with ⟨X5, B5, S5⟩
  ihave J6 := (idle_eq d i (x := Memref.whole main_arg0_scv) (View.set_whole _)).1 $$ I6
  icases J6 with ⟨X6, B6, S6⟩
  ihave J7 := (idle_eq d i (x := Memref.whole main_arg0_scv) tb0_set).1 $$ I7
  icases J7 with ⟨X7, B7, S7⟩
  ihave J8 := (idle_eq d i (x := Memref.whole main_arg0_scv) tb1_set).1 $$ I8
  icases J8 with ⟨X8, B8, S8⟩
  ihave J9 := (idle_eq d i (x := Memref.whole main_arg0_scv) tb2_set).1 $$ I9
  icases J9 with ⟨X9, B9, S9⟩
  ihave J10 := (idle_eq d i (x := Memref.whole main_arg0_scv) tb3_set).1 $$ I10
  icases J10 with ⟨X10, B10, S10⟩
  isplitl [Hd X0 X1 X2 X3 X4 X5 X6 X7 X8 X9 X10]
  · iapply (Transfers.pointsTo_toks_range (shT (i 0).val (i 1).val) 11).2
    isplitl [Hd]; · iexact Hd
    rw [eleven]
    isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    iexact X10
  isplitl [B6 B0 B1 B2 B3 B4 B5 B7 B8 B9 B10]
  · isplitl [B6]; · iexact B6
    isplitl [B0]; · iexact B0
    isplitl [B1]; · iexact B1
    isplitl [B2]; · iexact B2
    isplitl [B3]; · iexact B3
    isplitl [B4]; · iexact B4
    isplitl [B5]; · iexact B5
    iapply (eights_join d i)
    isplitl [B7]; · iexact B7
    isplitl [B8]; · iexact B8
    isplitl [B9]; · iexact B9
    iexact B10
  isplitl [S6]; · iexact S6
  isplitl [S0]; · iexact S0
  isplitl [S1]; · iexact S1
  isplitl [S2]; · iexact S2
  isplitl [S3]; · iexact S3
  isplitl [S4]; · iexact S4
  isplitl [S5]; · iexact S5
  isplitl [S7]; · iexact S7
  isplitl [S8]; · iexact S8
  isplitl [S9]; · iexact S9
  iexact S10

theorem table_at : Table (tabv m d) (Memref.whole main_arg0_scv) (m (xLoc d) : Buf (Elt F) ((Memref.whole main_arg0_scv).view.loc (V d (cV i) (jV i)))) := by
  intro y
  show m (xLoc d) y = m (xLoc d) (ix2 (y 0).val (y 1).val)
  congr 1
  have h0 : (y 0).val < 50000 := (y 0).isLt
  have h1 : (y 1).val < 256 := (y 1).isLt
  funext a
  match a with
  | 0 => exact Fin.ext (Nat.mod_eq_of_lt h0).symm
  | 1 => exact Fin.ext (Nat.mod_eq_of_lt h1).symm

theorem keys_at (y : S50000.Idx) :
    BitVec.toInt (n := 32) ((Memref.whole main_arg1_scv).view.read (Elt F) (m (kLoc d) : Buf (Elt F) ((Memref.whole main_arg1_scv).view.loc (V d (cV i) (jV i)))) y) = keyv m d (y 0).val := by
  have h0 : (y 0).val < 50000 := (y 0).isLt
  have e : y = ix1 (y 0).val := by
    funext a
    match a with
    | 0 => exact Fin.ext (Nat.mod_eq_of_lt h0).symm
  show BitVec.toInt (n := 32) (m (kLoc d) y) = BitVec.toInt (n := 32) (m (kLoc d) (ix1 (y 0).val))
  rw [← e]

set_option maxHeartbeats 400000 in
/-- A tile's run: from its share of the launch to its rows of the results. -/
theorem tile_body (O : CellTallies nD τ sig (HIx 1)) (W : Waits sig (HIx 1)) (hO : ∀ g, O g none = 0) :
    iprop(levAts (K (F := F)).L (K (F := F)).lev ∗ emp ∗ Go m d i Any Any
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ (cc0_seg_reduce (F := F) i (Memref.whole main_arg1_scv) (Memref.isWhole_whole _) (Memref.whole main_arg0_scv) (Memref.isWhole_whole _) (Memref.whole main_v0_0_scv) (Memref.isWhole_whole _) (Memref.whole main_v0_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2)
        fun _ => iprop(Go m d i (TM m d i) (TS m d i) ∗ scopedBufs (V d (cV i) (jV i)) ∗ scopedSems0 (V d (cV i) (jV i))
          ∗ ∃ W', ⌜∀ p ∈ W', p ∈ W ∨ p.2 = none⌝ ∗ owes (V d (cV i) (jV i)) O W') := by
  rw [(K (F := F)).scopedBufs_V facts d (cV i) (jV i), SparseCore.Cfg.scopedSems0_V (Val := Elt F) d (cV i) (jV i), sems_eq, bufs_eq]
  unfold Go
  iintro ⟨#Hlev, -, ⟨Hx, Hk, H4, H5⟩, ⟨⟨B0, B1, B2, B3, B4, B5, B6, B7, B8, ⟨%g9, B9⟩, ⟨%g10, B10⟩⟩, HBr⟩, ⟨⟨S11, S12, S13, S14, S15, S16, S17, S18, S19, S20, S21, R0, R1, R2⟩, HSr⟩, HO⟩
  ihave HT := (bufs_in m d i) $$ [Hx B1 B2 B3 B4 B5 B6 B7 B8 S11 S12 S13 S14 S15 S16 S17 S18 S19 S20 S21]
  · isplitl [Hx]; · iexact Hx
    isplitl [B1 B2 B3 B4 B5 B6 B7 B8]
    · isplitl [B1]; · iexact B1
      isplitl [B2]; · iexact B2
      isplitl [B3]; · iexact B3
      isplitl [B4]; · iexact B4
      isplitl [B5]; · iexact B5
      isplitl [B6]; · iexact B6
      isplitl [B7]; · iexact B7
      iexact B8
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    iexact S21
  icases HT with ⟨HT, Hd⟩
  have H := wp_reduce i (Memref.whole main_arg1_scv) (Memref.isWhole_whole _) (Memref.whole main_arg0_scv) (Memref.isWhole_whole _) (Memref.whole main_v0_0_scv) (Memref.isWhole_whole _) (Memref.whole main_v0_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 d (tabv m d) (keyv m d) (shX i) (m (xLoc d)) O W (q2 := shT (i 0).val (i 1).val) (f2 := m (kLoc d)) (keys_at m d) (table_at m d) (P4 := Any) (P5 := Any)
  iapply (wp_wand frame _ _) $$ [Hlev HO Hk B0 R0 R1 R2 HT B9 B10 H4 H5] [HBr HSr Hd]
  · iapply H
    isplitr
    · iapply ((K (F := F)).mayWaits_none (thr := V d (cV i) (jV i)) hO)
      iexact Hlev
    isplitl [HO]
    · unfold Ow; iexists W
      isplitr; · ipureintro; exact fun p hp => .inl hp
      iexact HO
    unfold Has
    isplitl [Hk]; · iexact Hk
    isplitl [B0]; · iexact B0
    isplitl [R0 R1 R2]
    · isplitl [R0]; · iexact R0
      isplitl [R1]; · iexact R1
      iexact R2
    isplitl [HT]; · iexact HT
    isplitl [B9 B10]
    · unfold Outs
      iexists g9, g10
      isplitr; · ipureintro; exact ⟨fun _ => trivial, fun _ => trivial⟩
      isplitl [B9]; · iexact B9
      iexact B10
    isplitl [H4]; · iexact H4
    iexact H5
  · iintro %_ ⟨HO, HH⟩
    unfold Has Outs
    icases HH with ⟨Hk, B0, ⟨R0, R1, R2⟩, HT, ⟨%e9, %e10, -, B9, B10⟩, H4, H5⟩
    ihave HT' := (bufs_out m d i) $$ [HT Hd]
    · isplitl [HT]; · iexact HT
      iexact Hd
    icases HT' with ⟨Hx, ⟨B1, B2, B3, B4, B5, B6, B7, B8⟩, ⟨S11, S12, S13, S14, S15, S16, S17, S18, S19, S20, S21⟩⟩
    isplitl [Hx Hk H4 H5]
    · isplitl [Hx]; · iexact Hx
      isplitl [Hk]; · iexact Hk
      isplitl [H4]; · iexact H4
      iexact H5
    isplitl [B0 B1 B2 B3 B4 B5 B6 B7 B8 B9 B10 HBr]
    · isplitr [HBr]
      rotate_left
      · iexact HBr
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexists e9; iexact B9
      iexists e10; iexact B10
    isplitl [S11 S12 S13 S14 S15 S16 S17 S18 S19 S20 S21 R0 R1 R2 HSr]
    · isplitr [HSr]
      rotate_left
      · iexact HSr
      isplitl [S11]; · iexact S11
      isplitl [S12]; · iexact S12
      isplitl [S13]; · iexact S13
      isplitl [S14]; · iexact S14
      isplitl [S15]; · iexact S15
      isplitl [S16]; · iexact S16
      isplitl [S17]; · iexact S17
      isplitl [S18]; · iexact S18
      isplitl [S19]; · iexact S19
      isplitl [S20]; · iexact S20
      isplitl [S21]; · iexact S21
      isplitl [R0]; · iexact R0
      isplitl [R1]; · iexact R1
      iexact R2
    unfold Ow
    iexact HO

end Tile

/-! ## The call's obligation of its tiles -/

theorem defs₀_vector (c : Fin τ.nSC) (s : Fin τ.nSub) :
    defs₀ (F := F) (.scVector c s) 0 () = SparseCore.onTile hcore0 hsub0 (fun c s => cc0_seg_reduce (coords c s) (Memref.whole main_arg1_scv) (Memref.isWhole_whole _) (Memref.whole main_arg0_scv) (Memref.isWhole_whole _) (Memref.whole main_v0_0_scv) (Memref.isWhole_whole _) (Memref.whole main_v0_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro
    intro p hp
    rcases hW' p hp with h | h
    · exact .inl h
    · exact .inr (.inl h)
  iexact HO

theorem tileObl (m : (ℓ : Loc nD τ sig) → Buf (Elt F) ℓ) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (tile_body m d (coords ⟨_, hc.1⟩ ⟨_, hc.2⟩) O W hO).trans (wp_mono frame _ _ fun _ => obl_post)

end Cert.Proof.KI

end
-- ==== Proof.RegionI.lean ====
/- The dense call: its body, and its region of the program. -/
module

public import proofs.«01_k».proof.Proof.CallI
public import proofs.«01_k».proof.Proof.Gen.KernelIdeal.Points
public import Idealize.ShloMosaic.Lib.Pipeline.RegionsLoop
public import Idealize.ShloMosaic.Lib.Tactic

@[expose] public section

noncomputable section

namespace Cert.Proof.KI

open Cert.KernelIdeal Cert.KernelIdeal.Gen
open Idealize.ShloMosaic
open Idealize.ShloMosaic.TcCoe
open Idealize.ShloMosaic.SparseCore (S)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-- A memref's buffer on the TensorCore, held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The dense call's result from its five operands. -/
def dense (a b : Vec F S512x256 .f32) (u v : Vec F S256x256 .f32) (w : Vec F S1x256 .f32) : Vec F S512x256 .f32 :=
  addf (addf (matmul dot_S512x256_S256x256_S512x256_1_1_0_0_n_n none a u (constant S512x256 .f32 0x00000000#32))
    (matmul dot_S512x256_S256x256_S512x256_1_1_0_0_n_n none b v (constant S512x256 .f32 0x00000000#32)))
    (broadcastTo S512x256 w broadcasts_S1x256_S512x256)

/-- The body, run on its staging buffers held whole: the operands come back and the result's buffer holds some contents. -/
noncomputable def mergeRun (c : Dev nD) (M0 : Memref sig .tc .vmem S512x256 .f32) (h0 : M0.IsWhole) (M1 : Memref sig .tc .vmem S512x256 .f32) (h1 : M1.IsWhole)
    (M2 : Memref sig .tc .vmem S256x256 .f32) (h2 : M2.IsWhole) (M3 : Memref sig .tc .vmem S256x256 .f32) (h3 : M3.IsWhole)
    (M4 : Memref sig .tc .vmem S1x256 .f32) (h4 : M4.IsWhole) (M5 : Memref sig .tc .vmem S512x256 .f32) (h5 : M5.IsWhole)
    (f0 : Bf (F := F) c M0) (f1 : Bf (F := F) c M1) (f2 : Bf (F := F) c M2) (f3 : Bf (F := F) c M3) (f4 : Bf (F := F) c M4) :
    { W : Bf (F := F) c M5 // ∀ (f5 : Bf (F := F) c M5) (E : Set ℕ) (Q : PUnit → sProp 𝕄),
        iprop(pt c M0 f0 ∗ pt c M1 f1 ∗ pt c M2 f2 ∗ pt c M3 f3 ∗ pt c M4 f4 ∗ pt c M5 f5
          ∗ (iprop(pt c M0 f0 ∗ pt c M1 f1 ∗ pt c M2 f2 ∗ pt c M3 f3 ∗ pt c M4 f4 ∗ pt c M5 W) -∗ Q ⟨⟩))
          ⊢ wp frame (wpE (defs₀ (F := F)) Variants.none c none) E (cc1__merge_body M0 h0 M1 h1 M2 h2 M3 h3 M4 h4 M5 h5) Q } := by
  refine ⟨?_, fun f5 E Q => ?run⟩
  case run =>
    iintro ⟨H0, H1, H2, H3, H4, H5, Hk⟩
    sl_exec!
    sl_step
    iapply Hk
    isplitl [H0]; · iexact H0
    isplitl [H1]; · iexact H1
    isplitl [H2]; · iexact H2
    isplitl [H3]; · iexact H3
    isplitl [H4]; · iexact H4
    iexact H5

/-! ## The region's proof data, at the arrays' contents `V` -/

section Dat
variable (V : (c : Dev nD) → (b : Ref sig .tc) → Buf (Elt F) ((c : Thread nD τ).loc b)) (bd : Nat)

abbrev stg0 (c : Dev nD) : (cfg1.win 0).block.Idx → Elt F (cfg1.win 0).elt := ((cfg1.win 0).blk t1_0).view.read (Elt F) (V c main_v0_0)
abbrev stg1 (c : Dev nD) : (cfg1.win 1).block.Idx → Elt F (cfg1.win 1).elt := ((cfg1.win 1).blk t1_0).view.read (Elt F) (V c main_v0_1)
abbrev stg2 (c : Dev nD) : (cfg1.win 2).block.Idx → Elt F (cfg1.win 2).elt := ((cfg1.win 2).blk t1_0).view.read (Elt F) (V c main_v1)
abbrev stg3 (c : Dev nD) : (cfg1.win 3).block.Idx → Elt F (cfg1.win 3).elt := ((cfg1.win 3).blk t1_0).view.read (Elt F) (V c main_v2)
abbrev stg4 (c : Dev nD) : (cfg1.win 4).block.Idx → Elt F (cfg1.win 4).elt := ((cfg1.win 4).blk t1_0).view.read (Elt F) (V c main_v3)

/-- The body's run at the staged operands. -/
abbrev mrun (c : Dev nD) := mergeRun (F := F) c (stage1_0 0) (hstage1_0 0) (stage1_1 0) (hstage1_1 0) (stage1_2 0) (hstage1_2 0) (stage1_3 0) (hstage1_3 0) (stage1_4 0) (hstage1_4 0)
  (stage1_5 0) (hstage1_5 0) (stg0 V c) (stg1 V c) (stg2 V c) (stg3 V c) (stg4 V c)

abbrev Φc (c : Dev nD) : sProp 𝕄 := Pipeline.scopedRest (Ix := HIx 1) (Name := ℕ) (U := UU) (Lvl := ℕ) (Val := Elt F) spec1 c

def dat (c : Dev nD) : Dat τ (Elt F) (HIx 1) ℕ UU ℕ cfg1 c where
  A w := V c (Pipeline.arrRef spec1 w)
  after w _ := match w with
    | ⟨0, _⟩ => stg0 V c
    | ⟨1, _⟩ => stg1 V c
    | ⟨2, _⟩ => stg2 V c
    | ⟨3, _⟩ => stg3 V c
    | ⟨4, _⟩ => stg4 V c
    | ⟨5, _⟩ => (mrun V c).1
  Φ _ := Φc c
  q _ := fullShare
  owed _ := 0
  recorded _ := {p | (K (F := F)).lev (SparseCore.T c, p.1) p.2 ≤ bd}

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V bd c

theorem before0 (c : Dev nD) (d : (cfg1.win 0).block.Idx → Elt F (cfg1.win 0).elt) : (dat V bd c).before 0 t1_0 d = stg0 V c := by
  unfold Dat.before; rw [if_pos (by decide)]; rfl
theorem before1 (c : Dev nD) (d : (cfg1.win 1).block.Idx → Elt F (cfg1.win 1).elt) : (dat V bd c).before 1 t1_0 d = stg1 V c := by
  unfold Dat.before; rw [if_pos (by decide)]; rfl
theorem before2 (c : Dev nD) (d : (cfg1.win 2).block.Idx → Elt F (cfg1.win 2).elt) : (dat V bd c).before 2 t1_0 d = stg2 V c := by
  unfold Dat.before; rw [if_pos (by decide)]; rfl
theorem before3 (c : Dev nD) (d : (cfg1.win 3).block.Idx → Elt F (cfg1.win 3).elt) : (dat V bd c).before 3 t1_0 d = stg3 V c := by
  unfold Dat.before; rw [if_pos (by decide)]; rfl
theorem before4 (c : Dev nD) (d : (cfg1.win 4).block.Idx → Elt F (cfg1.win 4).elt) : (dat V bd c).before 4 t1_0 d = stg4 V c := by
  unfold Dat.before; rw [if_pos (by decide)]; rfl

/-- The body, at its one point. -/
theorem body_obligation (c : Dev nD) : BodyObligation (dat V bd c) (defs₀ (F := F)) 𝒱₀ none Set.univ := fun t => by
  obtain rfl := fin_N1 t
  rw [bigSep_W1, bigSep_W1]
  simp only [owns_whole_eq]
  rw [show (dat V bd c).Φ t1_0.castSucc = Φc c from rfl, show (dat V bd c).Φ t1_0.succ = Φc c from rfl,
    show (dat V bd c).owesAt none t1_0.succ = (dat V bd c).owesAt none t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [before0] at hf0
  rw [before1] at hf1
  rw [before2] at hf2
  rw [before3] at hf3
  rw [before4] at hf4
  subst hf0 hf1 hf2 hf3 hf4
  iapply ((mrun V c).2 f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  iexists _; isplitr; swap; (· iexact H5); ipureintro; dsimp only [dat]

/-- The result's array after the region. -/
def merged (c : Dev nD) : Buf (Elt F) ((c : Thread nD τ).loc main_v4) := (dat V bd c).arrAt 5 cfg1.N

/-! ## The result's value -/

theorem read0 (c : Dev nD) (f : Buf (Elt F) ((c : Thread nD τ).loc main_v0_0)) : ((cfg1.win 0).blk t1_0).view.read (Elt F) f = f :=
  Memref.read_access_unit_zero (Elt F) main_v0_0 (show (fun a => (win1_0.index t1_0) a * main_v0_0.ty.shape.size a) = fun _ => 0 from funext fun a => by fin_cases a <;> decide)
    (fun a => by fin_cases a <;> decide) f
theorem read1 (c : Dev nD) (f : Buf (Elt F) ((c : Thread nD τ).loc main_v0_1)) : ((cfg1.win 1).blk t1_0).view.read (Elt F) f = f :=
  Memref.read_access_unit_zero (Elt F) main_v0_1 (show (fun a => (win1_1.index t1_0) a * main_v0_1.ty.shape.size a) = fun _ => 0 from funext fun a => by fin_cases a <;> decide)
    (fun a => by fin_cases a <;> decide) f
theorem read2 (c : Dev nD) (f : Buf (Elt F) ((c : Thread nD τ).loc main_v1)) : ((cfg1.win 2).blk t1_0).view.read (Elt F) f = f :=
  Memref.read_access_unit_zero (Elt F) main_v1 (show (fun a => (win1_2.index t1_0) a * main_v1.ty.shape.size a) = fun _ => 0 from funext fun a => by fin_cases a <;> decide)
    (fun a => by fin_cases a <;> decide) f
theorem read3 (c : Dev nD) (f : Buf (Elt F) ((c : Thread nD τ).loc main_v2)) : ((cfg1.win 3).blk t1_0).view.read (Elt F) f = f :=
  Memref.read_access_unit_zero (Elt F) main_v2 (show (fun a => (win1_3.index t1_0) a * main_v2.ty.shape.size a) = fun _ => 0 from funext fun a => by fin_cases a <;> decide)
    (fun a => by fin_cases a <;> decide) f
theorem read4 (c : Dev nD) (f : Buf (Elt F) ((c : Thread nD τ).loc main_v3)) : ((cfg1.win 4).blk t1_0).view.read (Elt F) f = f :=
  Memref.read_access_unit_zero (Elt F) main_v3 (show (fun a => (win1_4.index t1_0) a * main_v3.ty.shape.size a) = fun _ => 0 from funext fun a => by fin_cases a <;> decide)
    (fun a => by fin_cases a <;> decide) f
theorem read5 (c : Dev nD) (f : Buf (Elt F) ((c : Thread nD τ).loc main_v4)) : ((cfg1.win 5).blk t1_0).view.read (Elt F) f = f :=
  Memref.read_access_unit_zero (Elt F) main_v4 (show (fun a => (win1_5.index t1_0) a * main_v4.ty.shape.size a) = fun _ => 0 from funext fun a => by fin_cases a <;> decide)
    (fun a => by fin_cases a <;> decide) f

theorem hz : (![0, 0] : Fin 2 → Nat) = fun _ => 0 := funext fun a => by fin_cases a <;> rfl

theorem mergeRun_val (c : Dev nD) (f0 f1 : Vec F S512x256 .f32) (f2 f3 : Vec F S256x256 .f32) (f4 : Vec F S1x256 .f32) :
    (mergeRun (F := F) c (stage1_0 0) (hstage1_0 0) (stage1_1 0) (hstage1_1 0) (stage1_2 0) (hstage1_2 0) (stage1_3 0) (hstage1_3 0) (stage1_4 0) (hstage1_4 0)
      (stage1_5 0) (hstage1_5 0) f0 f1 f2 f3 f4).1 = dense f0 f1 f2 f3 f4 := by
  unfold mergeRun
  show (stage1_5 0).view.writes (Elt F) (stage1_5 0).view.junk (mergeRun.sl.H5_1 c (stage1_0 0) (stage1_1 0) (stage1_2 0) (stage1_3 0) (stage1_4 0) f0 f1 f2 f3 f4) = _
  unfold mergeRun.sl.H5_1
  rw [View.writes_singleton]
  refine (Memref.write_access_unit_zero_univ (Elt F) cc1_stg5_0 hz _ _ _).trans ?_
  sl_unfold_words
  have e0 := Memref.readAt_unit_zero (Elt F) cc1_stg0_0 hz (fun a => by fin_cases a <;> decide) f0
  have e1 := Memref.readAt_unit_zero (Elt F) cc1_stg1_0 hz (fun a => by fin_cases a <;> decide) f1
  have e2 := Memref.readAt_unit_zero (Elt F) cc1_stg2_0 hz (fun a => by fin_cases a <;> decide) f2
  have e3 := Memref.readAt_unit_zero (Elt F) cc1_stg3_0 hz (fun a => by fin_cases a <;> decide) f3
  have e4 := Memref.readAt_unit_zero (Elt F) cc1_stg4_0 hz (fun a => by fin_cases a <;> decide) f4
  simp only [shapeCast_self]
  unfold dense
  congr 1
  · congr 1
    · congr 1
    · congr 1
  · congr 1

theorem merged_eq (c : Dev nD) : merged V bd c = dense (V c main_v0_0) (V c main_v0_1) (V c main_v1) (V c main_v2) (V c main_v3) := by
  have hw : ((cfg1.win 5).blk t1_0).view.read (Elt F) (merged V bd c) = (dat V bd c).flushed 5 t1_0 := by
    unfold merged
    rw [show cfg1.N = t1_0.val + 1 from N_1, (dat V bd c).arrAt_succ (5 : Fin 6) t1_0, flush1_5, if_pos rfl]
    exact View.read_write_univ _ _
  rw [read5] at hw
  rw [hw]
  have e : (dat V bd c).flushed 5 t1_0 = (mrun V c).1 := by
    show (cfg1.win 5).cut _ ((dat V bd c).after 5 t1_0) = _
    rw [show (dat V bd c).after 5 t1_0 = (mrun V c).1 by dsimp only [dat]]
    generalize (mrun V c).1 = X
    exact funext fun _ => rfl
  have r0 := read0 c (V c main_v0_0)
  have r1 := read1 c (V c main_v0_1)
  have r2 := read2 c (V c main_v1)
  have r3 := read3 c (V c main_v2)
  have r4 := read4 c (V c main_v3)
  refine e.trans ((mergeRun_val c _ _ _ _ _).trans ?_)
  exact congrArg₂ (fun (p : Vec F S512x256 .f32 × Vec F S512x256 .f32) (q : Vec F S256x256 .f32 × Vec F S256x256 .f32 × Vec F S1x256 .f32) => dense p.1 p.2 q.1 q.2.1 q.2.2)
    (congrArg₂ Prod.mk r0 r1) (congrArg₂ Prod.mk r2 (congrArg₂ Prod.mk r3 r4))

variable (Vp : (c : Dev nD) → (b : Ref sig .tc) → Buf (Elt F) ((c : Thread nD τ).loc b))

set_option backward.isDefEq.respectTransparency.types false in
/-- The region, over every unscoped buffer at `V` and what rides along. -/
def reg (R : Dev nD → sProp 𝕄) (hout : ∀ c, Vp c main_v4 = merged V bd c) (hne : ∀ c (b : Ref sig .tc), b ≠ main_v4 → Vp c b = V c b) :
    Pipeline.RegionSeg (pcfgs (F := F)) adm (pdats V bd adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V bd c).loose
  hwaits := Pipeline.hwaits_of_owed_zero _ _ _ _ (K (F := F)).L (K (F := F)).lev 0 fun _ _ => rfl
  pre c := iprop(unscopedBufs c (V c) ∗ R c ∗ ∃ W, ⌜(K (F := F)).WBelow (SparseCore.T c) W bd⌝ ∗ owes (c : Thread nD τ) (0 : CellTallies nD τ sig (HIx 1)) W)
  post c := iprop(unscopedBufs c (Vp c) ∗ R c ∗ ∃ W, ⌜(K (F := F)).WBelow (SparseCore.T c) W bd⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V bd adm) launch1.win launch1.arr_whole c
      ((pdats V bd adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      icases HO with ⟨%W, %hW, HO⟩
      iexists W
      isplitr; · ipureintro; exact fun p hp => Or.inl (hW p hp)
      iexact HO
    isplitr; · iempintro
    isplitl [Hrest]; · iexact Hrest
    iexact HR
  hin c := by
    rw [show (pdats V bd adm 0 c).Φ 0 = Φc c from rfl]
    iintro ⟨-, -, Hr⟩; iexact Hr
  hout c := by
    rw [Pipeline.ownSems0_none, show (pdats V bd adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V bd adm) ((pdats V bd adm 0 c).share_full fun _ => rfl) (V c) (Vp c) ((pdats V bd adm 0 c).arrAt · cfg1.N)
      (fun w => by
        fin_cases w
        · exact ((pdats V bd adm 0 c).arrAt_in 0 rfl _).trans (hne c main_v0_0 (by decide)).symm
        · exact ((pdats V bd adm 0 c).arrAt_in 1 rfl _).trans (hne c main_v0_1 (by decide)).symm
        · exact ((pdats V bd adm 0 c).arrAt_in 2 rfl _).trans (hne c main_v1 (by decide)).symm
        · exact ((pdats V bd adm 0 c).arrAt_in 3 rfl _).trans (hne c main_v2 (by decide)).symm
        · exact ((pdats V bd adm 0 c).arrAt_in 4 rfl _).trans (hne c main_v3 (by decide)).symm
        · exact (hout c).symm)
      (fun b hb => hne c b fun h => hb (h ▸ Finset.mem_image.mpr ⟨5, Finset.mem_univ _, rfl⟩))
    iintro ⟨Ha, HO, -, Hrest, HR⟩
    imodintro
    isplitl [Ha Hrest]
    · iapply hjoin
      isplitl [Ha]; · iexact Ha
      iexact Hrest
    isplitl [HR]; · iexact HR
    unfold Pipeline.Dat.owesAt Pipeline.owesWithin
    icases HO with ⟨%W, %hW, HO⟩
    iexists W
    isplitr
    · ipureintro
      intro p hp
      rcases hW hp with h | h
      · exact h
      · obtain ⟨w, s, rfl⟩ := h
        exact Nat.zero_le _
    iexact HO

end Dat

end Cert.Proof.KI

end
-- ==== Proof.ShareI.lean ====
/- The results' rows, dealt to the tiles and back, and the arrays' shares for the two SparseCores. -/
module

public import proofs.«01_k».proof.Proof.PiecesI

@[expose] public section

noncomputable section

namespace Cert.Proof.KI

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok shareTokN MayWaits)
open Idealize.ShloMosaic.Tactic

variable {F : FTy → Type} [FloatOps F]

local notation "𝕄" => MT nD τ sig (HIx 1) (Elt F) ℕ UU ℕ

/-! ## The rows of a result, by tiles -/

/-- A SparseCore and a tile of it. -/
abbrev J2 : Type := Fin 2 × Fin 16
abbrev atJ (k : J2) : grid0.Coords := coords k.1 k.2

theorem off476 (i : grid0.Coords) : k0_off476 i 0 = seg0 i ∧ k0_off476 i 1 = 0 := ⟨toNat_eq (base_int i), rfl⟩

def RJ (k : J2) : Finset S512x256.Idx := Finset.univ.filter fun y => seg0 (atJ k) ≤ (y 0).val ∧ (y 0).val < seg0 (atJ k) + 16

theorem mem_RJ {k : J2} {y : S512x256.Idx} : y ∈ RJ k ↔ seg0 (atJ k) ≤ (y 0).val ∧ (y 0).val < seg0 (atJ k) + 16 := by
  unfold RJ; rw [Finset.mem_filter]; exact ⟨fun h => h.2, fun h => ⟨Finset.mem_univ _, h⟩⟩

theorem seg0_J (k : J2) : seg0 (atJ k) = (k.1.val * 16 + k.2.val) * 16 := rfl

theorem RJ_disj : ∀ k ∈ (Finset.univ : Finset J2), ∀ k' ∈ (Finset.univ : Finset J2), k ≠ k' → Disjoint (RJ k) (RJ k') := by
  intro k _ k' _ h
  refine Finset.disjoint_left.mpr fun y hy hy' => h ?_
  have h1 := mem_RJ.mp hy; have h2 := mem_RJ.mp hy'
  rw [seg0_J] at h1 h2
  have a1 := k.1.isLt; have a2 := k.2.isLt; have b1 := k'.1.isLt; have b2 := k'.2.isLt
  exact Prod.ext (Fin.ext (by omega)) (Fin.ext (by omega))

theorem RJ_cover (y : S512x256.Idx) : ∃ k, y ∈ RJ k := by
  have h : (y 0).val < 512 := (y 0).isLt
  refine ⟨(⟨(y 0).val / 256, by omega⟩, ⟨(y 0).val / 16 % 16, by omega⟩), mem_RJ.mpr ?_⟩
  rw [seg0_J]
  show ((y 0).val / 256 * 16 + (y 0).val / 16 % 16) * 16 ≤ (y 0).val ∧ (y 0).val < ((y 0).val / 256 * 16 + (y 0).val / 16 % 16) * 16 + 16
  omega

theorem unit_RJ (k : J2) :
    (Rect.unit (s := S512x256) (k0_off476 (atJ k)) S16x256.size (k0_off476_inb (atJ k))).set = RJ k := by
  ext y
  rw [Rect.mem_set_unit, mem_RJ]
  constructor
  · intro h
    have := h 0
    rw [(off476 (atJ k)).1] at this
    exact this
  · intro h a
    match a with
    | 0 => rw [(off476 (atJ k)).1]; exact h
    | 1 => rw [(off476 (atJ k)).2]; exact ⟨Nat.zero_le _, by have h1 : (y 1).val < 256 := (y 1).isLt; show (y 1).val < 0 + 256; omega⟩

theorem blk0_set (k : J2) : (blk (atJ k) (Memref.whole main_v0_0_scv)).view.set = RJ k := (View.set_slice_whole _ _).trans (unit_RJ k)
theorem blk1_set (k : J2) : (blk (atJ k) (Memref.whole main_v0_1_scv)).view.set = RJ k := (View.set_slice_whole _ _).trans (unit_RJ k)

/-- Row `r` of tile `k`'s block. -/
theorem emb0 (k : J2) (y : S16x256.Idx) : ((blk (atJ k) (Memref.whole main_v0_0_scv)).view.emb y 0).val = seg0 (atJ k) + (y 0).val
    ∧ ((blk (atJ k) (Memref.whole main_v0_0_scv)).view.emb y 1).val = (y 1).val := by
  constructor
  · show k0_off476 (atJ k) 0 + 1 * (y 0).val = _
    rw [(off476 (atJ k)).1, Nat.one_mul]
  · show k0_off476 (atJ k) 1 + 1 * (y 1).val = _
    rw [(off476 (atJ k)).2]; omega
theorem emb1 (k : J2) (y : S16x256.Idx) : ((blk (atJ k) (Memref.whole main_v0_1_scv)).view.emb y 0).val = seg0 (atJ k) + (y 0).val
    ∧ ((blk (atJ k) (Memref.whole main_v0_1_scv)).view.emb y 1).val = (y 1).val := by
  constructor
  · show k0_off476 (atJ k) 0 + 1 * (y 0).val = _
    rw [(off476 (atJ k)).1, Nat.one_mul]
  · show k0_off476 (atJ k) 1 + 1 * (y 1).val = _
    rw [(off476 (atJ k)).2]; omega

/-- A result whose place `y` is described by `G` at row `y 0` and column `y 1`. -/
def All (G : Nat → Nat → F .f32 → Prop) (f : S512x256.Idx → F .f32) : Prop := ∀ y, G (y 0).val (y 1).val (f y)

theorem all_of_holds0 (G : Nat → Nat → F .f32 → Prop) (d : Dev nD) (k : J2) (f : Buf (Elt F) (mxLoc d))
    (h : Holds (fun r c x => G (seg0 (atJ k) + r) c x) ((blk (atJ k) (Memref.whole main_v0_0_scv)).view.read (Elt F) f)) (y : S512x256.Idx) (hy : y ∈ RJ k) :
    G (y 0).val (y 1).val (f y) := by
  rw [← blk0_set k] at hy
  obtain ⟨z, -, rfl⟩ := Finset.mem_map.mp hy
  have h1 := h z
  rw [(emb0 k z).1, (emb0 k z).2]
  exact h1
theorem all_of_holds1 (G : Nat → Nat → F .f32 → Prop) (d : Dev nD) (k : J2) (f : Buf (Elt F) (smLoc d))
    (h : Holds (fun r c x => G (seg0 (atJ k) + r) c x) ((blk (atJ k) (Memref.whole main_v0_1_scv)).view.read (Elt F) f)) (y : S512x256.Idx) (hy : y ∈ RJ k) :
    G (y 0).val (y 1).val (f y) := by
  rw [← blk1_set k] at hy
  obtain ⟨z, -, rfl⟩ := Finset.mem_map.mp hy
  have h1 := h z
  rw [(emb1 k z).1, (emb1 k z).2]
  exact h1

theorem any_intro0 (d : Dev nD) (k : J2) (f : Buf (Elt F) (mxLoc d)) :
    (mxLoc d ↦[RJ k]{fullShare} f : sProp 𝕄) ⊢ Block (atJ k) d (Memref.whole main_v0_0_scv) Any := by
  rw [← blk0_set k]
  unfold Block
  iintro H
  iexists f
  isplitr; · ipureintro; exact fun _ => trivial
  iexact H
theorem any_intro1 (d : Dev nD) (k : J2) (f : Buf (Elt F) (smLoc d)) :
    (smLoc d ↦[RJ k]{fullShare} f : sProp 𝕄) ⊢ Block (atJ k) d (Memref.whole main_v0_1_scv) Any := by
  rw [← blk1_set k]
  unfold Block
  iintro H
  iexists f
  isplitr; · ipureintro; exact fun _ => trivial
  iexact H

theorem blocks_in0 (d : Dev nD) (f : Buf (Elt F) (mxLoc d)) :
    (mxLoc d ↦{fullShare} f : sProp 𝕄) ⊢ bigSep Finset.univ fun k : J2 => Block (atJ k) d (Memref.whole main_v0_0_scv) Any := by
  rw [whole_split (ℓ := mxLoc d) f RJ RJ_disj RJ_cover]
  exact bigSep_mono fun k _ => any_intro0 d k f
theorem blocks_in1 (d : Dev nD) (f : Buf (Elt F) (smLoc d)) :
    (smLoc d ↦{fullShare} f : sProp 𝕄) ⊢ bigSep Finset.univ fun k : J2 => Block (atJ k) d (Memref.whole main_v0_1_scv) Any := by
  rw [whole_split (ℓ := smLoc d) f RJ RJ_disj RJ_cover]
  exact bigSep_mono fun k _ => any_intro1 d k f

theorem out0 (d : Dev nD) (G : Nat → Nat → F .f32 → Prop) (k : J2) :
    (Block (atJ k) d (Memref.whole main_v0_0_scv) (fun r c x => G (seg0 (atJ k) + r) c x) : sProp 𝕄)
      ⊢ iprop(∃ f : Buf (Elt F) (mxLoc d), ⌜∀ y ∈ RJ k, G (y 0).val (y 1).val (f y)⌝ ∗ mxLoc d ↦[RJ k]{fullShare} f) := by
  unfold Block
  iintro ⟨%f, %h, H⟩
  iexists f
  isplitr; · ipureintro; exact fun y hy => all_of_holds0 G d k f h y hy
  rw [← blk0_set k]
  iexact H
theorem out1 (d : Dev nD) (G : Nat → Nat → F .f32 → Prop) (k : J2) :
    (Block (atJ k) d (Memref.whole main_v0_1_scv) (fun r c x => G (seg0 (atJ k) + r) c x) : sProp 𝕄)
      ⊢ iprop(∃ f : Buf (Elt F) (smLoc d), ⌜∀ y ∈ RJ k, G (y 0).val (y 1).val (f y)⌝ ∗ smLoc d ↦[RJ k]{fullShare} f) := by
  unfold Block
  iintro ⟨%f, %h, H⟩
  iexists f
  isplitr; · ipureintro; exact fun y hy => all_of_holds1 G d k f h y hy
  rw [← blk1_set k]
  iexact H

/-- Pieces held at contents of which something is known, as one buffer of which it is known. -/
theorem join_all {ℓ : Loc nD τ sig} (f₀ : Buf (Elt F) ℓ) (R : J2 → Finset (Idx ℓ)) (Pr : (y : Idx ℓ) → Elt F ℓ.ty.elt → Prop)
    (hd : ∀ k ∈ (Finset.univ : Finset J2), ∀ k' ∈ (Finset.univ : Finset J2), k ≠ k' → Disjoint (R k) (R k')) (hu : ∀ y, ∃ k, y ∈ R k) :
    (bigSep Finset.univ fun k : J2 => iprop(∃ f : Buf (Elt F) ℓ, ⌜∀ y ∈ R k, Pr y (f y)⌝ ∗ ℓ ↦[R k]{fullShare} f) : sProp 𝕄)
      ⊢ iprop(∃ g : Buf (Elt F) ℓ, ⌜∀ y, Pr y (g y)⌝ ∗ ℓ ↦{fullShare} g) := by
  have : Nonempty (Buf (Elt F) ℓ) := ⟨f₀⟩
  refine (bigSep_exists_pi Finset.univ fun (k : J2) (f : Buf (Elt F) ℓ) => iprop(⌜∀ y ∈ R k, Pr y (f y)⌝ ∗ ℓ ↦[R k]{fullShare} f)).trans ?_
  iintro ⟨%fs, H⟩
  ihave H' := (bigSep_pure_sep Finset.univ (fun k : J2 => ∀ y ∈ R k, Pr y (fs k y)) (fun k : J2 => (ℓ ↦[R k]{fullShare} fs k : sProp 𝕄))) $$ H
  icases H' with ⟨%hp, Hb⟩
  ihave Hb' := (whole_join fs f₀ R hd hu) $$ Hb
  icases Hb' with ⟨%g, %hg, Hb⟩
  iexists g
  isplitr
  · ipureintro
    intro y
    obtain ⟨k, hk⟩ := hu y
    rw [hg k y hk]
    exact hp k (Finset.mem_univ k) y hk
  iexact Hb

theorem blocks_out0 (d : Dev nD) (f₀ : Buf (Elt F) (mxLoc d)) (G : Nat → Nat → F .f32 → Prop) :
    (bigSep Finset.univ fun k : J2 => Block (atJ k) d (Memref.whole main_v0_0_scv) (fun r c x => G (seg0 (atJ k) + r) c x) : sProp 𝕄)
      ⊢ iprop(∃ g : Buf (Elt F) (mxLoc d), ⌜All G g⌝ ∗ mxLoc d ↦{fullShare} g) :=
  (bigSep_mono fun k _ => out0 d G k).trans (join_all (ℓ := mxLoc d) f₀ RJ (fun y x => G (y 0).val (y 1).val x) RJ_disj RJ_cover)
theorem blocks_out1 (d : Dev nD) (f₀ : Buf (Elt F) (smLoc d)) (G : Nat → Nat → F .f32 → Prop) :
    (bigSep Finset.univ fun k : J2 => Block (atJ k) d (Memref.whole main_v0_1_scv) (fun r c x => G (seg0 (atJ k) + r) c x) : sProp 𝕄)
      ⊢ iprop(∃ g : Buf (Elt F) (smLoc d), ⌜All G g⌝ ∗ smLoc d ↦{fullShare} g) :=
  (bigSep_mono fun k _ => out1 d G k).trans (join_all (ℓ := smLoc d) f₀ RJ (fun y x => G (y 0).val (y 1).val x) RJ_disj RJ_cover)

/-! ## The two SparseCores' shares -/

variable (m : (ℓ : Loc nD τ sig) → Buf (Elt F) ℓ)

theorem deal2 (ℓ : Loc nD τ sig) (f : Buf (Elt F) ℓ) :
    (ℓ ↦{fullShare} f : sProp 𝕄) ⊣⊢ iprop((ℓ ↦{shareDrop fullShare 2} f) ∗ bigSep Finset.univ fun c : Fin 2 => (ℓ ↦{shC c.val} f)) :=
  Transfers.pointsTo_toks fullShare 2

theorem st_eq (d : Dev nD) (A B : grid0.Coords → Nat → Nat → F .f32 → Prop) :
    (bigSep Finset.univ fun c : Fin ((K (F := F)).nCore 0) => St m d c A B)
      = iprop((bigSep Finset.univ fun c : Fin 2 => (xLoc d ↦{shC c.val} m (xLoc d))) ∗ (bigSep Finset.univ fun c : Fin 2 => (kLoc d ↦{shC c.val} m (kLoc d)))
        ∗ (bigSep Finset.univ fun k : J2 => Block (atJ k) d (Memref.whole main_v0_0_scv) (A (atJ k)))
        ∗ bigSep Finset.univ fun k : J2 => Block (atJ k) d (Memref.whole main_v0_1_scv) (B (atJ k))) := by
  rw [← bigSep_sep' (Finset.univ : Finset J2), bigSep_univ_prod, ← bigSep_sep' (Finset.univ : Finset (Fin 2)), ← bigSep_sep' (Finset.univ : Finset (Fin 2))]
  rfl

end Cert.Proof.KI

end
-- ==== Proof.LaunchI.lean ====
/- The program on the TensorCore, and its run. -/
module

public import proofs.«01_k».proof.Proof.TileRunI
public import proofs.«01_k».proof.Proof.RegionI
public import proofs.«01_k».proof.Proof.ShareI

@[expose] public section

noncomputable section

namespace Cert.Proof.KI

open Cert.KernelIdeal Cert.KernelIdeal.Gen
open Idealize.ShloMosaic
open Idealize.ShloMosaic.TcCoe
open Idealize.ShloMosaic.SparseCore (S)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok shareTokN MayWaits)
open Idealize.ShloMosaic.Tactic
open Idealize.ShloMosaic.StableHlo (held wp_hlo_within)

variable {F : FTy → Type} [FloatOps F]

local notation "𝕄" => MT nD τ sig (HIx 1) (Elt F) ℕ UU ℕ

/-! ## The launch element -/

abbrev EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
abbrev EP : Emb UP (MT nD τ sig (HIx 1) (Elt F) ℕ UU ℕ) :=
  (Emb.inl : Emb UP (UP × Counters)).trans (embR (nD := nD) (sig := sig) (Ix := HIx 1) (Val := Elt F) (Name := ℕ) (A := UH) (B := UP × Counters) (Lvl := ℕ))
instance EH_landsIn : (EH : Emb UH 𝕄).LandsIn (upEmb : UEmb _ 𝕄) := by unfold EH; infer_instance
instance EP_landsIn : (EP : Emb UP 𝕄).LandsIn (upEmb : UEmb _ 𝕄) := by unfold EP embR; infer_instance

abbrev adm : (p : Fin 1) → (pcfgs (F := F) p).Adm := fun p => (cfgs p).toPCfg_adm

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- The dense call's cells and tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

variable (m : (ℓ : Loc nD τ sig) → Buf (Elt F) ℓ) (ρ : Dev nD → PrngReg)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair _ _) $$ Hu
  icases H with ⟨HH, HK⟩
  ihave HK' := (own_pair_emb _ _ _) $$ HK
  icases HK' with ⟨HP, -⟩
  imod (Pipeline.fund_ghost (Pipeline.pin (pcfgs (F := F)) adm) (EP (F := F)) cellOf_inj) $$ HP with HG
  imodintro
  isplitl [HH]; · iexact HH
  isplitl [HG]
  · iapply (show iprop((bigSep Finset.univ fun c : Dev nD => bigSep Finset.univ fun p : Fin 1 => Pipeline.cellsGhost (Pipeline.pin (pcfgs (F := F)) adm) EP p c)
          ∗ (bigSep Finset.univ fun c : Dev nD => bigSep Finset.univ fun p : Fin 1 => (Pipeline.toksInit (Pipeline.pin (pcfgs (F := F)) adm) EP p c : sProp 𝕄)))
        ⊢ bigSep Finset.univ fun d : Dev nD => G d from by
      rw [← bigSep_sep']
      refine bigSep_mono fun c _ => ?_
      rw [bigSep_univ_of_subsingleton (0 : Fin 1), bigSep_univ_of_subsingleton (0 : Fin 1)]
      first | exact le_rfl | exact fun _ h => h | exact BI.Entails.refl _)
    iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays -/

abbrev x' : DevRef τ sig := Proc.devRef .tc (main_arg0 : Ref sig .tc)
abbrev k' : DevRef τ sig := Proc.devRef .tc (main_arg1 : Ref sig .tc)
abbrev w' : DevRef τ sig := Proc.devRef .tc (main_arg2 : Ref sig .tc)
abbrev b' : DevRef τ sig := Proc.devRef .tc (main_arg3 : Ref sig .tc)
abbrev mx' : DevRef τ sig := Proc.devRef .tc (main_v0_0 : Ref sig .tc)
abbrev sm' : DevRef τ sig := Proc.devRef .tc (main_v0_1 : Ref sig .tc)
abbrev u1' : DevRef τ sig := Proc.devRef .tc (main_v1 : Ref sig .tc)
abbrev u2' : DevRef τ sig := Proc.devRef .tc (main_v2 : Ref sig .tc)
abbrev u3' : DevRef τ sig := Proc.devRef .tc (main_v3 : Ref sig .tc)
abbrev r' : DevRef τ sig := Proc.devRef .tc (main_v4 : Ref sig .tc)

abbrev wLoc (d : Dev nD) : Loc nD τ sig := (SparseCore.T d).loc main_arg2
abbrev bLoc' (d : Dev nD) : Loc nD τ sig := (SparseCore.T d).loc main_arg3
abbrev rLoc (d : Dev nD) : Loc nD τ sig := (SparseCore.T d).loc main_v4

abbrev op1 : HloOp τ sig (Elt F) := StableHlo.unary main_arg2 main_v1 ((extractStridedSlice S256x256 ![0, 0] · slices_S256x512_S256x256_0_0) : (⟨S256x512, .f32⟩ : BufTy).Contents (Elt F) → (⟨S256x256, .f32⟩ : BufTy).Contents (Elt F))
abbrev op2 : HloOp τ sig (Elt F) := StableHlo.unary main_arg2 main_v2 ((extractStridedSlice S256x256 ![0, 256] · slices_S256x512_S256x256_0_256) : (⟨S256x512, .f32⟩ : BufTy).Contents (Elt F) → (⟨S256x256, .f32⟩ : BufTy).Contents (Elt F))
abbrev op3 : HloOp τ sig (Elt F) := StableHlo.reshape main_arg3 main_v3 (rfl : (.f32 : EltTy) = .f32) shapeCasts_S256_S1x256

abbrev S10 : Finset (DevRef τ sig) := {x', k', w', b', mx', sm', u1', u2', u3', r'}

theorem held_S10 (d : Dev nD) (W : Valuation τ sig (Elt F)) :
    (held (SparseCore.T d) S10 W : sProp 𝕄)
      = iprop((xLoc d ↦{fullShare} W x') ∗ (kLoc d ↦{fullShare} W k') ∗ (wLoc d ↦{fullShare} W w') ∗ (bLoc' d ↦{fullShare} W b')
        ∗ (mxLoc d ↦{fullShare} W mx') ∗ (smLoc d ↦{fullShare} W sm') ∗ ((SparseCore.T d).loc main_v1 ↦{fullShare} W u1')
        ∗ ((SparseCore.T d).loc main_v2 ↦{fullShare} W u2') ∗ ((SparseCore.T d).loc main_v3 ↦{fullShare} W u3') ∗ (rLoc d ↦{fullShare} W r')) := by
  unfold held S10
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- A valuation read at the TensorCore's buffers. -/
abbrev VR (W : Valuation τ sig (Elt F)) : (c : Dev nD) → (b : Ref sig .tc) → Buf (Elt F) ((c : Thread nD τ).loc b) := fun _ b => W (Proc.devRef .tc b)

theorem unscoped_held (d : Dev nD) (W : Valuation τ sig (Elt F)) : (unscopedBufs d (VR W d) : sProp 𝕄) = held (SparseCore.T d) S10 W := by
  rw [held_S10]
  unfold unscopedBufs
  rw [show (Finset.univ.filter fun b : Ref sig .tc => ¬ b.isScoped) = {main_arg0, main_arg1, main_arg2, main_arg3, main_v0_0, main_v0_1, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- The launch valuation, then the call's results in place, then the host's operations. -/
def V0 (d : Dev nD) : Valuation τ sig (Elt F) := fun b => m (d, b)
def V1 (d : Dev nD) (f : Buf (Elt F) (mxLoc d)) (g : Buf (Elt F) (smLoc d)) : Valuation τ sig (Elt F) := Function.update (Function.update (V0 m d) mx' f) sm' g
def V4 (d : Dev nD) (f : Buf (Elt F) (mxLoc d)) (g : Buf (Elt F) (smLoc d)) : Valuation τ sig (Elt F) := op3.result (op2.result (op1.result (V1 m d f g)))

/-- The dense call's result over a valuation, and the valuation with it in place. -/
def den (W : Valuation τ sig (Elt F)) : Vec F S512x256 .f32 := dense (W mx') (W sm') (W u1') (W u2') (W u3')
def Wp (W : Valuation τ sig (Elt F)) : Valuation τ sig (Elt F) := Function.update W r' (den W)

theorem V1_other (d : Dev nD) (f : Buf (Elt F) (mxLoc d)) (g : Buf (Elt F) (smLoc d)) (b : DevRef τ sig) (h : b ≠ mx') (h' : b ≠ sm') : V1 m d f g b = m (d, b) := by
  unfold V1
  rw [Function.update_of_ne h', Function.update_of_ne h]
  rfl
theorem V1_mx (d : Dev nD) (f : Buf (Elt F) (mxLoc d)) (g : Buf (Elt F) (smLoc d)) : V1 m d f g mx' = f := by
  unfold V1
  rw [Function.update_of_ne (show mx' ≠ sm' by decide), Function.update_self]
theorem V1_sm (d : Dev nD) (f : Buf (Elt F) (mxLoc d)) (g : Buf (Elt F) (smLoc d)) : V1 m d f g sm' = g := by
  unfold V1
  rw [Function.update_self]

/-- A buffer no host operation writes. -/
theorem V4_other (d : Dev nD) (f : Buf (Elt F) (mxLoc d)) (g : Buf (Elt F) (smLoc d)) (b : DevRef τ sig) (h1 : b ≠ u1') (h2 : b ≠ u2') (h3 : b ≠ u3') : V4 m d f g b = V1 m d f g b := by
  unfold V4
  rw [(op3 (F := F)).result_of_not_mem _ (b := b) (show b ∉ ({u3'} : Finset (DevRef τ sig)) from fun h => h3 (Finset.mem_singleton.mp h)),
    (op2 (F := F)).result_of_not_mem _ (b := b) (show b ∉ ({u2'} : Finset (DevRef τ sig)) from fun h => h2 (Finset.mem_singleton.mp h)),
    (op1 (F := F)).result_of_not_mem _ (b := b) (show b ∉ ({u1'} : Finset (DevRef τ sig)) from fun h => h1 (Finset.mem_singleton.mp h))]

theorem Wp_other (W : Valuation τ sig (Elt F)) (b : DevRef τ sig) (h : b ≠ r') : Wp W b = W b := Function.update_of_ne h _ _

theorem Wp_r (W : Valuation τ sig (Elt F)) : Wp W r' = den W := Function.update_self _ _ _

/-! ## What the call takes and hands back -/

theorem st0_eq (d : Dev nD) : (bigSep Finset.univ fun c : Fin ((K (F := F)).nCore 0) => (P m).st 0 d c)
    = iprop((bigSep Finset.univ fun c : Fin 2 => (xLoc d ↦{shC c.val} m (xLoc d))) ∗ (bigSep Finset.univ fun c : Fin 2 => (kLoc d ↦{shC c.val} m (kLoc d)))
        ∗ (bigSep Finset.univ fun k : J2 => Block (atJ k) d (Memref.whole main_v0_0_scv) Any)
        ∗ bigSep Finset.univ fun k : J2 => Block (atJ k) d (Memref.whole main_v0_1_scv) Any) := st_eq m d (fun _ => Any) (fun _ => Any)
theorem dn0_eq (d : Dev nD) : (bigSep Finset.univ fun c : Fin ((K (F := F)).nCore 0) => (P m).dn 0 d c)
    = iprop((bigSep Finset.univ fun c : Fin 2 => (xLoc d ↦{shC c.val} m (xLoc d))) ∗ (bigSep Finset.univ fun c : Fin 2 => (kLoc d ↦{shC c.val} m (kLoc d)))
        ∗ (bigSep Finset.univ fun k : J2 => Block (atJ k) d (Memref.whole main_v0_0_scv) (TM m d (atJ k)))
        ∗ bigSep Finset.univ fun k : J2 => Block (atJ k) d (Memref.whole main_v0_1_scv) (TS m d (atJ k))) := st_eq m d (TM m d) (TS m d)

/-- What the two results are: each segment's maximum and sum. -/
def Res (d : Dev nD) (f : Buf (Elt F) (mxLoc d)) (g : Buf (Elt F) (smLoc d)) : Prop :=
  All (F := F) (GMax (tabv m d) (keyv m d)) f ∧ All (F := F) (GSum (tabv m d) (keyv m d)) g

theorem h1 : (op1 (F := F)).bufs ⊆ S10 := show ({w', u1'} : Finset (DevRef τ sig)) ⊆ S10 by decide
theorem h2 : (op2 (F := F)).bufs ⊆ S10 := show ({w', u2'} : Finset (DevRef τ sig)) ⊆ S10 by decide
theorem h3 : (op3 (F := F)).bufs ⊆ S10 := show ({b', u3'} : Finset (DevRef τ sig)) ⊆ S10 by decide

/-- The program's result from the call's two. -/
def out (d : Dev nD) (f : Buf (Elt F) (mxLoc d)) (g : Buf (Elt F) (smLoc d)) : Buf (Elt F) (rLoc d) := den (V4 m d f g)

/-- What @main leaves the claim. -/
def FIN (d : Dev nD) : sProp 𝕄 :=
  iprop((xLoc d ↦{fullShare} m (xLoc d)) ∗ (kLoc d ↦{fullShare} m (kLoc d)) ∗ (wLoc d ↦{fullShare} m (wLoc d)) ∗ (bLoc' d ↦{fullShare} m (bLoc' d))
    ∗ ∃ f g, ⌜Res m d f g⌝ ∗ rLoc d ↦{fullShare} out m d f g)

theorem Otc_one (d : Dev nD) : (K (F := F)).Otc d 1 = 0 := by
  unfold SparseCore.Cfg.Otc
  exact Finset.sum_eq_zero fun q _ => if_neg (by have := q.isLt; omega)

/-! ## The dense call, run by @main -/

abbrev enter : Prog (TpuEff nD τ sig (Elt F) (ΛP (F := F)) .tc) PUnit := .op (.customCall (Pipeline.entry 0) ()) .ret

theorem lift_eq : (Prog.lift (.customCall (SparseCore.inner (Pipeline.entry 0)) ()) : Prog (TpuEff nD τ sig (Elt F) (SparseCore.Sig (ΛP (F := F)) 1) .tc) PUnit)
    = SparseCore.liftProg (enter (F := F)) := rfl

/-- The dense call's region over the valuation `W`. -/
def regW (W : Valuation τ sig (Elt F)) :=
  reg (VR W) 8 adm (VR (Wp W)) (fun _ => iprop(emp)) (fun c => (Wp_r W).trans (merged_eq (VR W) 8 c).symm)
    (fun c b hb => Wp_other W _ fun h => hb (Proc.devRef_injective _ h))

abbrev Owed (d : Dev nD) : sProp 𝕄 := iprop(∃ Ws, ⌜(K (F := F)).WBelow (SparseCore.T d) Ws 8⌝ ∗ owes (SparseCore.T d) 0 Ws)

theorem regW_pre (d : Dev nD) (W : Valuation τ sig (Elt F)) : (regW W).pre d = iprop(held (SparseCore.T d) S10 W ∗ emp ∗ Owed d) := by
  rw [← unscoped_held]; rfl
theorem regW_post (d : Dev nD) (W : Valuation τ sig (Elt F)) : (regW W).post d = iprop(held (SparseCore.T d) S10 (Wp W) ∗ emp ∗ Owed d) := by
  rw [← unscoped_held]; rfl

theorem wp_dense [∀ e, Nonempty (Elt F e)] (κ : GSem nD τ sig → ℕ) (d : Dev nD) (W : Valuation τ sig (Elt F)) (Q : PUnit → sProp 𝕄) :
    iprop((K (F := F)).ctx EH (P m) κ ∗ (K (F := F)).tcSt EH d 1 ∗ boundary (SparseCore.T d) ∗ held (SparseCore.T d) S10 W ∗ G d
        ∗ (((K (F := F)).tcSt EH d 1 ∗ boundary (SparseCore.T d) ∗ held (SparseCore.T d) S10 (Wp W)) -∗ Q ⟨⟩))
      ⊢ wp frame (wpE ((K (F := F)).defs (D (F := F))) 𝒱 (SparseCore.T d) none) Set.univ (Prog.lift (.customCall (SparseCore.inner (Pipeline.entry 0)) ())) Q := by
  rw [lift_eq]
  have hrun := Pipeline.RegionSeg.wp (pcfgs (F := F)) adm (pdats (VR W) 8 adm) none cellOf_inj EP defs₀ 𝒱₀ (K (F := F)).L (K (F := F)).lev
    (regW W) d none (fun _ h => nomatch h) .ret Q
  rw [regW_pre, regW_post] at hrun
  unfold SparseCore.Cfg.tcSt
  iintro ⟨#Hctx, ⟨⟨%Ws, %hW, HO⟩, Hst⟩, Hb, Hheld, ⟨HG, HT⟩, HQ⟩
  ihave Hlev := (SparseCore.Cfg.ctx_levAts κ) $$ Hctx
  ihave HO' := (show owes (SparseCore.T d) ((K (F := F)).Otc d 1) Ws ⊢ (owes (SparseCore.T d) 0 Ws : sProp 𝕄) from by rw [Otc_one]) $$ HO
  iapply ((K (F := F)).wp_liftProg (D (F := F)) 𝒱 (SparseCore.T d) Set.univ none (enter (F := F)) Q)
  iapply hrun
  isplitl [Hst HQ]
  · iintro ⟨Hb, Hheld, -, ⟨%Ws', %hW', HO⟩⟩
    rw [wp_ret]; imodintro
    iapply HQ
    ihave HO' := (show (owes (SparseCore.T d) 0 Ws' : sProp 𝕄) ⊢ owes (SparseCore.T d) ((K (F := F)).Otc d 1) Ws' from by rw [Otc_one]) $$ HO
    isplitl [Hst HO']
    · isplitl [HO']
      · iexists Ws'
        isplitr; · ipureintro; exact hW'
        iexact HO'
      iexact Hst
    isplitl [Hb]; · iexact Hb
    iexact Hheld
  isplitl [Hb]; · iexact Hb
  isplitl [Hheld HO']
  · isplitl [Hheld]; · iexact Hheld
    isplitr; · iempintro
    iexists Ws
    isplitr; · ipureintro; exact hW
    iexact HO'
  isplitl [Hlev]; · iexact Hlev
  isplitl [HG]; · iexact HG
  iexact HT

end Cert.Proof.KI

end
-- ==== Proof.RunI.lean ====
/- The program's run: what it leaves in memory. -/
module

public import proofs.«01_k».proof.Proof.LaunchI

@[expose] public section

noncomputable section

namespace Cert.Proof.KI

open Cert.KernelIdeal Cert.KernelIdeal.Gen
open Idealize.ShloMosaic
open Idealize.ShloMosaic.TcCoe
open Idealize.ShloMosaic.SparseCore (S)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok shareTokN MayWaits)
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

theorem launch_held (d : Dev nD) : (unscopedBufs d (fun b => m ((SparseCore.T d).loc b)) : sProp 𝕄) = held (SparseCore.T d) S10 (V0 m d) :=
  unscoped_held d (V0 m d)

theorem held_V0 (d : Dev nD) :
    (held (SparseCore.T d) S10 (V0 m d) : sProp 𝕄)
      = iprop((xLoc d ↦{fullShare} m (xLoc d)) ∗ (kLoc d ↦{fullShare} m (kLoc d)) ∗ (wLoc d ↦{fullShare} m (wLoc d)) ∗ (bLoc' d ↦{fullShare} m (bLoc' d))
        ∗ (mxLoc d ↦{fullShare} m (mxLoc d)) ∗ (smLoc d ↦{fullShare} m (smLoc d)) ∗ ((SparseCore.T d).loc main_v1 ↦{fullShare} V0 m d u1')
        ∗ ((SparseCore.T d).loc main_v2 ↦{fullShare} V0 m d u2') ∗ ((SparseCore.T d).loc main_v3 ↦{fullShare} V0 m d u3') ∗ (rLoc d ↦{fullShare} V0 m d r')) :=
  held_S10 d _

/-- The arrays after the call, as one valuation. -/
theorem held_V1 (d : Dev nD) (f : Buf (Elt F) (mxLoc d)) (g : Buf (Elt F) (smLoc d)) :
    (held (SparseCore.T d) S10 (V1 m d f g) : sProp 𝕄)
      = iprop((xLoc d ↦{fullShare} m (xLoc d)) ∗ (kLoc d ↦{fullShare} m (kLoc d)) ∗ (wLoc d ↦{fullShare} m (wLoc d)) ∗ (bLoc' d ↦{fullShare} m (bLoc' d))
        ∗ (mxLoc d ↦{fullShare} f) ∗ (smLoc d ↦{fullShare} g) ∗ ((SparseCore.T d).loc main_v1 ↦{fullShare} V0 m d u1')
        ∗ ((SparseCore.T d).loc main_v2 ↦{fullShare} V0 m d u2') ∗ ((SparseCore.T d).loc main_v3 ↦{fullShare} V0 m d u3') ∗ (rLoc d ↦{fullShare} V0 m d r')) := by
  rw [held_S10, V1_mx, V1_sm, V1_other m d f g x' (by decide) (by decide), V1_other m d f g k' (by decide) (by decide), V1_other m d f g w' (by decide) (by decide),
    V1_other m d f g b' (by decide) (by decide), V1_other m d f g u1' (by decide) (by decide), V1_other m d f g u2' (by decide) (by decide),
    V1_other m d f g u3' (by decide) (by decide), V1_other m d f g r' (by decide) (by decide)]
  rfl

theorem end_at (d : Dev nD) (f : Buf (Elt F) (mxLoc d)) (g : Buf (Elt F) (smLoc d)) (b : DevRef τ sig) (h0 : b ≠ r') (h1 : b ≠ u1') (h2 : b ≠ u2') (h3 : b ≠ u3') (h4 : b ≠ mx') (h5 : b ≠ sm') :
    Wp (V4 m d f g) b = m (d, b) :=
  (Wp_other _ b h0).trans ((V4_other m d f g b h1 h2 h3).trans (V1_other m d f g b h4 h5))

theorem held_end (d : Dev nD) (f : Buf (Elt F) (mxLoc d)) (g : Buf (Elt F) (smLoc d)) :
    (held (SparseCore.T d) S10 (Wp (V4 m d f g)) : sProp 𝕄)
      ⊢ iprop((xLoc d ↦{fullShare} m (xLoc d)) ∗ (kLoc d ↦{fullShare} m (kLoc d)) ∗ (wLoc d ↦{fullShare} m (wLoc d)) ∗ (bLoc' d ↦{fullShare} m (bLoc' d))
        ∗ (rLoc d ↦{fullShare} out m d f g)) := by
  rw [held_S10, Wp_r, end_at m d f g x' (by decide) (by decide) (by decide) (by decide) (by decide) (by decide), end_at m d f g k' (by decide) (by decide) (by decide) (by decide) (by decide) (by decide),
    end_at m d f g w' (by decide) (by decide) (by decide) (by decide) (by decide) (by decide), end_at m d f g b' (by decide) (by decide) (by decide) (by decide) (by decide) (by decide)]
  iintro ⟨Hx, Hk, Hw, Hb, -, -, -, -, -, Hr⟩
  isplitl [Hx]; · iexact Hx
  isplitl [Hk]; · iexact Hk
  isplitl [Hw]; · iexact Hw
  isplitl [Hb]; · iexact Hb
  iexact Hr

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held]
  simp only [main, wp_bind, wp_pure]
  iintro ⟨#Hctx, Hst, ⟨Hb, Hheld, Hts, -⟩, HG⟩
  ihave Hh := (Entails.of_eq (held_V0 m d)) $$ Hheld
  icases Hh with ⟨Hx, Hk, Hw, Hbi, Hmx, Hsm, Hu1, Hu2, Hu3, Hr⟩
  ihave Hx' := (deal2 (xLoc d) (m (xLoc d))).1 $$ Hx
  icases Hx' with ⟨Hxd, Hx⟩
  ihave Hk' := (deal2 (kLoc d) (m (kLoc d))).1 $$ Hk
  icases Hk' with ⟨Hkd, Hk⟩
  ihave Hmx' := (blocks_in0 d _) $$ Hmx
  ihave Hsm' := (blocks_in1 d _) $$ Hsm
  iapply ((K (F := F)).wp_run (D (F := F)) 𝒱 (EH := EH) (P := P m) κ d 0) $$ [Hst Hx Hk Hmx' Hsm' Hb Hxd Hkd Hw Hbi Hu1 Hu2 Hu3 Hr Hts HG]
  isplitr; · iexact Hctx
  isplitl [Hst]; · iexact Hst
  isplitl [Hx Hk Hmx' Hsm']
  · rw [st0_eq]
    isplitl [Hx]; · iexact Hx
    isplitl [Hk]; · iexact Hk
    isplitl [Hmx']; · iexact Hmx'
    iexact Hsm'
  iintro ⟨Hst, Hdn⟩
  ihave Hdn' := (Entails.of_eq (dn0_eq m d)) $$ Hdn
  icases Hdn' with ⟨Hx, Hk, Hmx, Hsm⟩
  ihave Hmx' := (blocks_out0 d (m (mxLoc d)) (GMax (tabv m d) (keyv m d))) $$ Hmx
  icases Hmx' with ⟨%f, %hf, Hmx⟩
  ihave Hsm' := (blocks_out1 d (m (smLoc d)) (GSum (tabv m d) (keyv m d))) $$ Hsm
  icases Hsm' with ⟨%g, %hg, Hsm⟩
  ihave Hx' := (deal2 (xLoc d) (m (xLoc d))).2 $$ [Hxd Hx]
  · isplitl [Hxd]; · iexact Hxd
    iexact Hx
  ihave Hk' := (deal2 (kLoc d) (m (kLoc d))).2 $$ [Hkd Hk]
  · isplitl [Hkd]; · iexact Hkd
    iexact Hk
  ihave Hheld := (Entails.of_eq (held_V1 m d f g).symm) $$ [Hx' Hk' Hw Hbi Hmx Hsm Hu1 Hu2 Hu3 Hr]
  · isplitl [Hx']; · iexact Hx'
    isplitl [Hk']; · iexact Hk'
    isplitl [Hw]; · iexact Hw
    isplitl [Hbi]; · iexact Hbi
    isplitl [Hmx]; · iexact Hmx
    isplitl [Hsm]; · iexact Hsm
    isplitl [Hu1]; · iexact Hu1
    isplitl [Hu2]; · iexact Hu2
    isplitl [Hu3]; · iexact Hu3
    iexact Hr
  iapply (wp_hlo_within 𝒱 (SparseCore.T d) none Set.univ (op := op1) (S := S10) h1 (V := V1 m d f g)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S10) h2 (V := op1.result (V1 m d f g))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S10) h3 (V := op2.result (op1.result (V1 m d f g)))) $$ [Hb Hheld]
  · isplitl [Hb]; · iexact Hb
    iexact Hheld
  iintro ⟨Hb, Hheld⟩
  rw [wp_ret]; imodintro
  iapply (wp_dense m κ d (V4 m d f g))
  isplitr; · iexact Hctx
  isplitl [Hst]; · iexact Hst
  isplitl [Hb]; · iexact Hb
  isplitl [Hheld]; · iexact Hheld
  isplitl [HG]; · iexact HG
  iintro ⟨Hst, Hb, Hheld⟩
  imodintro
  ihave He := (held_end m d f g) $$ Hheld
  icases He with ⟨Hx, Hk, Hw, Hbi, Hr⟩
  isplitl [Hst]; · iexact Hst
  isplitr [Hb Hts]
  · unfold FIN
    isplitl [Hx]; · iexact Hx
    isplitl [Hk]; · iexact Hk
    isplitl [Hw]; · iexact Hw
    isplitl [Hbi]; · iexact Hbi
    iexists f; iexists g
    isplitr; · ipureintro; exact ⟨hf, hg⟩
    iexact Hr
  isplitl [Hb]; · iexact Hb
  iexact Hts

/-- What the run leaves in memory. -/
def Post (M : (ℓ : Loc nD τ sig) → Buf (Elt F) ℓ) (d : Dev nD) : Prop :=
  (M (xLoc d) = m (xLoc d) ∧ M (kLoc d) = m (kLoc d) ∧ M (wLoc d) = m (wLoc d) ∧ M (bLoc' d) = m (bLoc' d)) ∧ ∃ f g, Res m d f g ∧ M (rLoc d) = out m d f g

def fq (d : Dev nD) (s' : Phys nD τ sig (Elt F)) : Prop := Post m s'.mem.mem d

theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  have h : iprop((ℓ ↦{fullShare} f) ∗ SI s') ⊢ (⌜s'.mem.mem ℓ = f⌝ : sProp 𝕄) := by
    iintro ⟨Hx, HSI⟩
    ihave H := (SI_pointsTo_agree (st := s') (ℓ := ℓ) (I := Finset.univ) (q := fullShare) (f := f)) $$ [HSI Hx]
    · isplitl [HSI] <;> iassumption
    icases H with %hx
    ipureintro; exact funext fun i => hx i (Finset.mem_univ i)
  refine (persistent_entails_right h).trans ?_
  iintro ⟨%h, -, HSI⟩
  isplitr; · ipureintro; exact h
  iexact HSI

theorem hfin (d : Dev nD) (s' : Phys nD τ sig (Elt F)) : iprop(FIN m d ∗ SI s') ⊢ (⌜fq m d s'⌝ : sProp 𝕄) := by
  unfold FIN
  iintro ⟨⟨Hx, Hk, Hw, Hb, %f, %g, %hr, Hr⟩, HSI⟩
  ihave H := (agree s' (xLoc d) (m (xLoc d))) $$ [Hx HSI]
  · isplitl [Hx] <;> iassumption
  icases H with ⟨%h0, HSI⟩
  ihave H := (agree s' (kLoc d) (m (kLoc d))) $$ [Hk HSI]
  · isplitl [Hk] <;> iassumption
  icases H with ⟨%h1, HSI⟩
  ihave H := (agree s' (wLoc d) (m (wLoc d))) $$ [Hw HSI]
  · isplitl [Hw] <;> iassumption
  icases H with ⟨%h2, HSI⟩
  ihave H := (agree s' (bLoc' d) (m (bLoc' d))) $$ [Hb HSI]
  · isplitl [Hb] <;> iassumption
  icases H with ⟨%h3, HSI⟩
  ihave H := (agree s' (rLoc d) (out m d f g)) $$ [Hr HSI]
  · isplitl [Hr] <;> iassumption
  icases H with ⟨%h4, -⟩
  ipureintro
  exact ⟨⟨h0, h1, h2, h3⟩, f, g, hr, h4⟩

def QC : PUnit × MemSt nD τ sig (Elt F) → Prop := fun r => (∀ c : Dev nD, Post m r.2.mem c) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.KI

end
-- ==== Proof.Value.lean ====
/- The reference's value at an index: the maxima and sums of the segments, and the dense product of the two. -/
module

public import proofs.«01_k».proof.Proof.Gen.ReferenceIdeal.Run
public import proofs.«01_k».proof.Pre_memb_sorted
public import Idealize.ShloMosaic.Lib.Pointwise
public import Idealize.ShloMosaic.Lib.ReduceAll
public import Idealize.ShloMosaic.Lib.Routing.OpsPair

@[expose] public section

noncomputable section

namespace Cert.Proof.Val

open Cert.ReferenceIdeal Cert.ReferenceIdeal.Gen Idealize.ShloMosaic

variable (x : FVec Ideal S50000x256 .f32) (k : IVec S50000 32) (w : FVec Ideal S256x512 .f32) (b : FVec Ideal S256 .f32)

/-- The rows with each segment's own in place and minus infinity elsewhere. -/
def masked : FVec Ideal S512x50000x256 .f32 :=
  select (broadcastInDim S512x50000x256 ![0, 1, 2] bcast_S512x50000x1_S512x50000x256_0_1_2 (broadcastInDim S512x50000x1 ![0, 1] bcast_S512x50000_S512x50000x1_0_1 (cmpi .eq (broadcastInDim S512x50000 ![0, 1] bcast_S1x50000_S512x50000_0_1 (broadcastInDim S1x50000 ![1] bcast_S50000_S1x50000_1 k)) (broadcastInDim S512x50000 ![0, 1] bcast_S512x1_S512x50000_0_1 (broadcastInDim S512x1 ![0] bcast_S512_S512x1_0 (iotaInDim S512 32 0))))))
    (broadcastInDim S512x50000x256 ![0, 1, 2] bcast_S1x50000x256_S512x50000x256_0_1_2 (broadcastInDim S1x50000x256 ![1, 2] bcast_S50000x256_S1x50000x256_1_2 x))
    (broadcastInDim S512x50000x256 ![] bcast_S_S512x50000x256 (id (constant S_ .f32 0xFF800000#32)))

/-- The segments' maxima. -/
def maxs : FVec Ideal S512x256 .f32 :=
  Host.reduce FloatOps.maximumf (masked x k) (constant S_ .f32 0xFF800000#32) reducesTo_S512x50000x256_S512x256_d1 h_S_

/-- The segments' maxima with zero for an empty segment. -/
def fins : FVec Ideal S512x256 .f32 :=
  select (cmpf .oeq (maxs x k) (broadcastInDim S512x256 ![] bcast_S_S512x256 (constant S_ .f32 0xFF800000#32)))
    (broadcastInDim S512x256 ![] bcast_S_S512x256 (id (constant S_ .f32 0x00000000#32))) (maxs x k)

/-- The segments' sums. -/
def sums : FVec Ideal S512x256 .f32 :=
  Host.scatterAdd scatter_S512x256_S50000x1_S50000x256_1_0_0_1 (broadcastInDim S512x256 ![] bcast_S_S512x256 (constant S_ .f32 0x00000000#32))
    (broadcastInDim S50000x1 ![0] bcast_S50000_S50000x1_0 k) x

/-- The reference's result. -/
def ref : FVec Ideal S512x256 .f32 :=
  addf (Host.dotGeneral dot_S512x512_S512x256_S512x256_1_0_0_1_n_n none (concatenate S512x512 1 [⟨S512x256, fins x k⟩, ⟨S512x256, sums x k⟩] concatenates_S512x256_S512x256_S512x512_d1) (transpose S512x256 [1, 0] w transposes_S256x512_S512x256_1_0))
    (broadcastInDim S512x256 ![0, 1] bcast_S1x256_S512x256_0_1 (broadcastInDim S1x256 ![1] bcast_S256_S1x256_1 b))

/-- Minus infinity's word. -/
theorem ofBits_ninf : (Ideal.ofBits .f32 0xFF800000#32 : EReal) = ⊥ := by simp [Ideal.ofBits, Ideal.ieee]

theorem masked_at (n : Fin 512) (r : Fin 50000) (c : Fin 256) :
    masked x k (ix3 n r c) = if k (ix1 r) = BitVec.ofNat 32 n.val then x (ix2 r c) else (⊥ : EReal) := by
  pointwise [masked]
  have hb : (id (constant S_ FTy.f32 4286578688#32) ix0 : Ideal .f32) = (⊥ : EReal) := ofBits_ninf
  rw [hb]
  by_cases h : k (ix1 r) = BitVec.ofNat 32 n.val
  · rw [if_pos h, h]
    simp [IntOp.cmpi, Scalar.select]
  · rw [if_neg h]
    have e : (k (ix1 r) == BitVec.ofNat 32 n.val) = false := beq_eq_false_iff_ne.mpr h
    simp [IntOp.cmpi, Scalar.select, e]

theorem maxs_at (n : Fin 512) (c : Fin 256) : maxs x k (ix2 n c) = Finset.univ.fold max (⊥ : EReal) fun r : Fin 50000 => masked x k (ix3 n r c) := by
  unfold maxs
  generalize masked x k = y
  rw [Ideal.maximumf_eq_max]
  pointwise
  rw [ofBits_ninf]

/-- A value with zero in minus infinity's place. -/
def fin1 {F : FTy → Type} [FloatOps F] (v : F .f32) : F .f32 :=
  Scalar.select (FloatOps.cmpf .oeq v (Scalar.ofBits .f32 0xFF800000#32 : F .f32)) (Scalar.ofBits .f32 0x00000000#32) v

theorem fin_i {F : FTy → Type} [FloatOps F] (y : FVec F S512x256 .f32) (i : S512x256.Idx) :
    select (cmpf .oeq y (broadcastInDim S512x256 ![] bcast_S_S512x256 (constant S_ .f32 0xFF800000#32)))
      (broadcastInDim S512x256 ![] bcast_S_S512x256 (id (constant S_ .f32 0x00000000#32))) y i = fin1 (y i) := rfl

theorem fins_at (n : Fin 512) (c : Fin 256) : fins x k (ix2 n c) = fin1 (maxs x k (ix2 n c)) := by
  exact fin_i (maxs x k) (ix2 n c)

theorem start0 (j : S50000x256.Idx) (idx : IVec S50000x1 32) : scatter_S512x256_S50000x1_S50000x256_1_0_0_1.start j idx 0 = (idx (ix2 (j 0) 0)).toInt := by
  unfold ScatterDims.start
  rw [dif_pos (by simp [scatter_S512x256_S50000x1_S50000x256_1_0_0_1])]
  congr 2
  funext a
  fin_cases a <;> rfl

theorem start1 (j : S50000x256.Idx) (idx : IVec S50000x1 32) : scatter_S512x256_S50000x1_S50000x256_1_0_0_1.start j idx 1 = 0 := by
  unfold ScatterDims.start
  rw [dif_neg (by simp [scatter_S512x256_S50000x1_S50000x256_1_0_0_1])]

theorem window0 (j : S50000x256.Idx) : scatter_S512x256_S50000x1_S50000x256_1_0_0_1.window j 0 = 0 := rfl

theorem window1 (j : S50000x256.Idx) : scatter_S512x256_S50000x1_S50000x256_1_0_0_1.window j 1 = (j 1).val := rfl

theorem key_i (r : Fin 50000) : broadcastInDim S50000x1 ![0] bcast_S50000_S50000x1_0 k (ix2 r 0) = k (ix1 r) := by
  pointwise

theorem lands (r : Fin 50000) (q : Fin 256) (n : Fin 512) (c : Fin 256) :
    scatter_S512x256_S50000x1_S50000x256_1_0_0_1.resultIdx? (ix2 r q) (broadcastInDim S50000x1 ![0] bcast_S50000_S50000x1_0 k) = some (ix2 n c)
      ↔ (k (ix1 r)).toInt = n.val ∧ q = c := by
  rw [Routing.resultIdx?_eq_some, ← key_i k r]
  constructor
  · intro h
    have h0 := h 0
    have h1 := h 1
    rw [start0, window0] at h0
    rw [start1, window1] at h1
    exact ⟨by simpa using h0, Fin.ext (by simpa using h1)⟩
  · rintro ⟨h0, rfl⟩ a
    match a with
    | ⟨0, _⟩ =>
      refine (congrArg₂ (· + ·) (start0 _ _) (congrArg Nat.cast (window0 _))).trans ?_
      simpa using h0
    | ⟨1, _⟩ =>
      refine (congrArg₂ (· + ·) (start1 _ _) (congrArg Nat.cast (window1 _))).trans ?_
      simp

/-- The host's sum into segments, at an index. -/
theorem scat_i (o : FVec Ideal S512x256 .f32) (idx : IVec S50000x1 32) (i : S512x256.Idx) :
    Host.scatterAdd scatter_S512x256_S50000x1_S50000x256_1_0_0_1 o idx x i
      = (o i : EReal) + ∑ j ∈ Finset.univ.filter (fun j => scatter_S512x256_S50000x1_S50000x256_1_0_0_1.resultIdx? j idx = some i), x j := by
  unfold Host.scatterAdd
  rw [Ideal.hostScatterAdd_def]
  rfl

theorem zeros_i (i : S512x256.Idx) : (broadcastInDim S512x256 ![] bcast_S_S512x256 (constant S_ .f32 0x00000000#32) i : Ideal .f32) = (0 : EReal) := by
  pointwise

theorem sums_at (n : Fin 512) (c : Fin 256) : sums x k (ix2 n c) = ∑ r : Fin 50000, if (k (ix1 r)).toInt = n.val then x (ix2 r c) else (0 : EReal) := by
  unfold sums
  rw [scat_i, zeros_i, zero_add, Finset.sum_filter, sum_idx2]
  refine Finset.sum_congr rfl fun r _ => ?_
  rw [Finset.sum_eq_single c]
  · exact if_congr ((lands k r c n c).trans ⟨fun h => h.1, fun h => ⟨h, rfl⟩⟩) rfl rfl
  · intro q _ hq
    exact if_neg fun h => hq ((lands k r q n c).mp h).2
  · intro h
    exact absurd (Finset.mem_univ c) h

theorem dot_at (l : FVec Ideal S512x512 .f32) (r : FVec Ideal S512x256 .f32) (n : Fin 512) (j : Fin 256) :
    Host.dotGeneral dot_S512x512_S512x256_S512x256_1_0_0_1_n_n none l r (ix2 n j) = ∑ q : Fin 512, l (ix2 n q) * r (ix2 q j) := by
  pointwise

theorem cat_at (f g : FVec Ideal S512x256 .f32) (n : Fin 512) (q : Fin 512) :
    concatenate S512x512 1 [⟨S512x256, f⟩, ⟨S512x256, g⟩] concatenates_S512x256_S512x256_S512x512_d1 (ix2 n q)
      = if h : q.val < 256 then f (ix2 n ⟨q.val, h⟩) else g (ix2 n ⟨q.val - 256, by omega⟩) := by
  pointwise

theorem tr_at (q : Fin 512) (j : Fin 256) : transpose S512x256 [1, 0] w transposes_S256x512_S512x256_1_0 (ix2 q j) = w (ix2 j q) := by
  pointwise

theorem bias_at (n : Fin 512) (j : Fin 256) :
    broadcastInDim S512x256 ![0, 1] bcast_S1x256_S512x256_0_1 (broadcastInDim S1x256 ![1] bcast_S256_S1x256_1 b) (ix2 n j) = b (ix1 j) := by
  pointwise

theorem add_i (f g : FVec Ideal S512x256 .f32) (i : S512x256.Idx) : addf f g i = (f i : EReal) + g i := rfl

theorem ref_at (n : Fin 512) (j : Fin 256) : ref x k w b (ix2 n j)
    = (∑ q : Fin 256, fins x k (ix2 n q) * w (ix2 j ⟨q.val, by omega⟩) + ∑ q : Fin 256, sums x k (ix2 n q) * w (ix2 j ⟨256 + q.val, by omega⟩)) + b (ix1 j) := by
  unfold ref
  generalize fins x k = f
  generalize sums x k = g
  rw [add_i, dot_at, bias_at, Fin.sum_univ_two_halves 256 256 rfl]
  congr 2
  · refine Finset.sum_congr rfl fun q _ => ?_
    rw [cat_at, tr_at, dif_pos q.isLt]
  · refine Finset.sum_congr rfl fun q _ => ?_
    rw [cat_at, tr_at, dif_neg (by simp)]
    simp

/-- The largest of a run of rows is the largest over all rows, those outside counting as minus infinity. -/
theorem fold_run (f : Nat → EReal) (p : Nat → Prop) [DecidablePred p] (l h : Nat) (h50 : h ≤ 50000) (hp : ∀ r, r < 50000 → (p r ↔ l ≤ r ∧ r < h)) :
    ((Multiset.Ico l h).map f).fold max ⊥ = Finset.univ.fold max (⊥ : EReal) fun r : Fin 50000 => if p r.val then f r.val else ⊥ := by
  show (Finset.Ico l h).fold max (⊥ : EReal) f = _
  refine le_antisymm ?_ ?_
  · rw [Finset.fold_max_le]
    refine ⟨bot_le, fun r hr => ?_⟩
    obtain ⟨h1, h2⟩ := Finset.mem_Ico.mp hr
    rw [Finset.le_fold_max]
    refine Or.inr ⟨⟨r, by omega⟩, Finset.mem_univ _, ?_⟩
    rw [if_pos ((hp r (by omega)).mpr ⟨h1, h2⟩)]
  · rw [Finset.fold_max_le]
    refine ⟨bot_le, fun r _ => ?_⟩
    by_cases hr : p r.val
    · rw [if_pos hr, Finset.le_fold_max]
      exact Or.inr ⟨r.val, Finset.mem_Ico.mpr ((hp r.val r.isLt).mp hr), le_refl _⟩
    · rw [if_neg hr]
      exact bot_le

instance addComm : Std.Commutative (α := EReal) (· + ·) := ⟨add_comm⟩
instance addAssoc : Std.Associative (α := EReal) (· + ·) := ⟨add_assoc⟩

/-- The sum of a run of rows is the sum over all rows, those outside counting as zero. -/
theorem sum_run (f : Nat → EReal) (p : Nat → Prop) [DecidablePred p] (l h : Nat) (h50 : h ≤ 50000) (hp : ∀ r, r < 50000 → (p r ↔ l ≤ r ∧ r < h)) :
    Multiset.fold (α := EReal) (· + ·) 0 ((Multiset.Ico l h).map f) = ∑ r : Fin 50000, if p r.val then f r.val else (0 : EReal) := by
  rw [Fin.sum_univ_eq_sum_range (fun i => if p i then f i else (0 : EReal)) 50000, ← Finset.sum_filter]
  refine (Finset.sum_eq_fold (Finset.Ico l h) f).symm.trans (Finset.sum_congr ?_ fun _ _ => rfl)
  ext r
  rw [Finset.mem_Ico, Finset.mem_filter, Finset.mem_range]
  constructor
  · intro hr
    exact ⟨by omega, (hp r (by omega)).mpr hr⟩
  · intro hr
    exact (hp r hr.1).mp hr.2

/-- A word is a small number's exactly when it reads as the number, with sign. -/
theorem word_iff (v : BitVec 32) (n : Nat) (hn : n < 512) : v = BitVec.ofNat 32 n ↔ v.toInt = n := by
  have h : (BitVec.ofNat 32 n).toInt = n := by
    have e : (BitVec.ofNat 32 n).toNat = n := by
      rw [BitVec.toNat_ofNat]
      exact Nat.mod_eq_of_lt (by omega)
    rw [BitVec.toInt_eq_toNat_of_lt (by omega), e]
  exact ⟨fun e => e ▸ h, fun e => BitVec.eq_of_toInt_eq (e.trans h.symm)⟩

/-- The precondition, read at a row: the next row's key is no smaller. -/
theorem sorted_of [hp : Cert.Pre_memb_sorted.Facts] (h : Cert.Pre_memb_sorted.fn (F := Ideal) x k w b = fun _ => 1#1) (r : Nat) (hr : r + 1 < 50000) :
    (k (ix1 ⟨r, by omega⟩)).toInt ≤ (k (ix1 ⟨r + 1, hr⟩)).toInt := by
  have h0 := congrFun h ix0
  dsimp only [Cert.Pre_memb_sorted.fn] at h0
  have h1 := Host.reduce_andi_all _ _ _ _ _ h0 (ix1 ⟨r, by omega⟩)
  have h2 := IntOp.cmpi_sge.mp h1
  have e0 : extractStridedSlice Cert.Pre_memb_sorted.S49999 ![0] k hp.slices_S50000_S49999_0 (ix1 ⟨r, by omega⟩) = k (ix1 ⟨r, by omega⟩) := by
    pointwise
  have e1 : extractStridedSlice Cert.Pre_memb_sorted.S49999 ![1] k hp.slices_S50000_S49999_1 (ix1 ⟨r, by omega⟩) = k (ix1 ⟨r + 1, hr⟩) := by
    pointwise
    exact congrArg (fun t => k (ix1 t)) (Fin.ext (Nat.add_comm _ _))
  rw [e0, e1] at h2
  exact h2

instance preFacts : Cert.Pre_memb_sorted.Facts := ⟨by decide, by decide, by decide, by decide⟩

end Cert.Proof.Val
end
-- ==== Proof.Algebra.lean ====
/- The kernel's value at an index, and that it is the reference's. -/
module

public import proofs.«01_k».proof.Proof.Value
public import proofs.«01_k».proof.Proof.RunI

@[expose] public section

noncomputable section

namespace Cert.Proof.KI

open Cert.KernelIdeal Cert.KernelIdeal.Gen Idealize.ShloMosaic
open Cert.Proof.Val (fin1 maxs fins sums ref)

variable (m : (ℓ : Loc nD τ sig) → Buf (Elt Ideal) ℓ) (d : Dev nD)

/-- The arguments. -/
abbrev xA : FVec Ideal S50000x256 .f32 := m (xLoc d)
abbrev kA : IVec S50000 32 := m (kLoc d)
abbrev wA : FVec Ideal S256x512 .f32 := m (wLoc d)
abbrev bA : FVec Ideal S256 .f32 := m (bLoc' d)

theorem tab_i (r : Fin 50000) (c : Fin 256) : tabv m d r.val c.val = xA m d (Idealize.ShloMosaic.ix2 r c) := by
  unfold tabv
  refine congrArg (m (xLoc d)) (funext fun a => ?_)
  match a with
  | ⟨0, _⟩ => exact Fin.ext (Nat.mod_eq_of_lt r.isLt)
  | ⟨1, _⟩ => exact Fin.ext (Nat.mod_eq_of_lt c.isLt)

theorem key_i (r : Fin 50000) : keyv m d r.val = (kA m d (Idealize.ShloMosaic.ix1 r)).toInt := by
  unfold keyv
  refine congrArg (fun i => BitVec.toInt (n := 32) (m (kLoc d) i)) (funext fun a => ?_)
  match a with
  | ⟨0, _⟩ => exact Fin.ext (Nat.mod_eq_of_lt r.isLt)

/-- Sorted keys, as the search takes them. -/
theorem sorted_keys (h : Cert.Pre_memb_sorted.fn (F := Ideal) (xA m d) (kA m d) (wA m d) (bA m d) = fun _ => 1#1) : Sorted (keyv m d) := by
  intro r hr
  have h1 := Cert.Proof.Val.sorted_of (xA m d) (kA m d) (wA m d) (bA m d) h r hr
  rw [← key_i m d ⟨r, by omega⟩, ← key_i m d ⟨r + 1, hr⟩] at h1
  exact h1

/-- The rows between a segment's two bounds are the segment's. -/
theorem run_iff {mv : Nat → Int} (hs : Sorted mv) {n l h : Nat} (hl : Cut mv n l) (hh : Cut mv (n + 1) h) (r : Nat) (hr : r < 50000) :
    mv r = n ↔ l ≤ r ∧ r < h := by
  have h1 := hl.2 hs r hr
  have h2 := hh.2 hs r hr
  omega

/-- The call's first result: the segments' maxima, with zero for an empty segment. -/
theorem max_i (hs : Sorted (keyv m d)) (n : Fin 512) (c : Fin 256) (y : Ideal .f32) (h : GMax (tabv m d) (keyv m d) n.val c.val y) :
    y = fins (xA m d) (kA m d) (Idealize.ShloMosaic.ix2 n c) := by
  obtain ⟨l, h, hl, hh, v, hv, hf⟩ := h
  have e : v = maxs (xA m d) (kA m d) (Idealize.ShloMosaic.ix2 n c) := by
    have hv' : Fold (α := EReal) max ⊥ (fun r => tabv m d r c.val) (Multiset.Ico l h) v := by
      have hv := hv
      rw [show (nInf : Ideal .f32) = (⊥ : EReal) from Cert.Proof.Val.ofBits_ninf] at hv
      exact hv
    rw [hv'.eq (fun a => bot_sup_eq a), Cert.Proof.Val.maxs_at,
      Cert.Proof.Val.fold_run (fun r => tabv m d r c.val) (fun r => keyv m d r = (n.val : Int)) l h hh.1 (fun r hr => run_iff hs hl hh r hr)]
    refine congrArg (fun f => Finset.univ.fold max (⊥ : EReal) f) (funext fun r => ?_)
    rw [Cert.Proof.Val.masked_at, tab_i]
    refine if_congr ?_ rfl rfl
    rw [key_i, Cert.Proof.Val.word_iff _ _ n.isLt]
  rw [Cert.Proof.Val.fins_at, ← e]
  exact hf

/-- The call's second result: the segments' sums. -/
theorem sum_i (hs : Sorted (keyv m d)) (n : Fin 512) (c : Fin 256) (y : Ideal .f32) (h : GSum (tabv m d) (keyv m d) n.val c.val y) :
    y = sums (xA m d) (kA m d) (Idealize.ShloMosaic.ix2 n c) := by
  obtain ⟨l, h, hl, hh, hv⟩ := h
  have hv' : Fold (α := EReal) (· + ·) 0 (fun r => tabv m d r c.val) (Multiset.Ico l h) y := by
    rw [show (zero : Ideal .f32) = (0 : EReal) from Ideal.ofBits_zero_f32] at hv
    exact hv
  rw [hv'.eq (fun a => zero_add a), Cert.Proof.Val.sums_at,
    Cert.Proof.Val.sum_run (fun r => tabv m d r c.val) (fun r => keyv m d r = (n.val : Int)) l h hh.1 (fun r hr => run_iff hs hl hh r hr)]
  refine Finset.sum_congr rfl fun r _ => ?_
  rw [tab_i, key_i]

theorem dense_i (a b : FVec Ideal S512x256 .f32) (u v : FVec Ideal S256x256 .f32) (w : FVec Ideal S1x256 .f32) (n : Fin 512) (j : Fin 256) :
    dense (F := Ideal) a b u v w (Idealize.ShloMosaic.ix2 n j)
      = (∑ q : Fin 256, a (Idealize.ShloMosaic.ix2 n q) * u (Idealize.ShloMosaic.ix2 j q) + ∑ q : Fin 256, b (Idealize.ShloMosaic.ix2 n q) * v (Idealize.ShloMosaic.ix2 j q))
        + w (Idealize.ShloMosaic.ix2 0 j) := by
  pointwise [dense]

theorem V4_u1 (f : Buf (Elt Ideal) (mxLoc d)) (g : Buf (Elt Ideal) (smLoc d)) :
    V4 m d f g u1' = extractStridedSlice S256x256 ![0, 0] (wA m d) slices_S256x512_S256x256_0_0 := by
  rfl

theorem V4_u2 (f : Buf (Elt Ideal) (mxLoc d)) (g : Buf (Elt Ideal) (smLoc d)) :
    V4 m d f g u2' = extractStridedSlice S256x256 ![0, 256] (wA m d) slices_S256x512_S256x256_0_256 := by
  rfl

theorem V4_u3 (f : Buf (Elt Ideal) (mxLoc d)) (g : Buf (Elt Ideal) (smLoc d)) :
    V4 m d f g u3' = shapeCast S1x256 (bA m d) shapeCasts_S256_S1x256 := by
  rfl

theorem V4_mx (f : Buf (Elt Ideal) (mxLoc d)) (g : Buf (Elt Ideal) (smLoc d)) : V4 m d f g mx' = f :=
  (V4_other m d f g mx' (by decide) (by decide) (by decide)).trans (V1_mx m d f g)

theorem V4_sm (f : Buf (Elt Ideal) (mxLoc d)) (g : Buf (Elt Ideal) (smLoc d)) : V4 m d f g sm' = g :=
  (V4_other m d f g sm' (by decide) (by decide) (by decide)).trans (V1_sm m d f g)

theorem u1_i (w : FVec Ideal S256x512 .f32) (j q : Fin 256) :
    extractStridedSlice S256x256 ![0, 0] w slices_S256x512_S256x256_0_0 (Idealize.ShloMosaic.ix2 j q) = w (Idealize.ShloMosaic.ix2 j ⟨q.val, by omega⟩) := by
  pointwise

theorem u2_i (w : FVec Ideal S256x512 .f32) (j q : Fin 256) :
    extractStridedSlice S256x256 ![0, 256] w slices_S256x512_S256x256_0_256 (Idealize.ShloMosaic.ix2 j q) = w (Idealize.ShloMosaic.ix2 j ⟨256 + q.val, by omega⟩) := by
  pointwise

theorem u3_i (b : FVec Ideal S256 .f32) (j : Fin 256) :
    shapeCast S1x256 b shapeCasts_S256_S1x256 (Idealize.ShloMosaic.ix2 0 j) = b (Idealize.ShloMosaic.ix1 j) := by
  pointwise

/-- The dense call on the segments' maxima and sums is the reference's dense product. -/
theorem merge_i (f g : FVec Ideal S512x256 .f32) (x : FVec Ideal S50000x256 .f32) (k : IVec S50000 32) (w : FVec Ideal S256x512 .f32) (b : FVec Ideal S256 .f32)
    (n : Fin 512) (j : Fin 256) (hf : ∀ q : Fin 256, f (Idealize.ShloMosaic.ix2 n q) = fins x k (Idealize.ShloMosaic.ix2 n q))
    (hg : ∀ q : Fin 256, g (Idealize.ShloMosaic.ix2 n q) = sums x k (Idealize.ShloMosaic.ix2 n q)) :
    dense (F := Ideal) f g (extractStridedSlice S256x256 ![0, 0] w slices_S256x512_S256x256_0_0) (extractStridedSlice S256x256 ![0, 256] w slices_S256x512_S256x256_0_256)
      (shapeCast S1x256 b shapeCasts_S256_S1x256) (Idealize.ShloMosaic.ix2 n j) = ref x k w b (Idealize.ShloMosaic.ix2 n j) := by
  rw [dense_i, Cert.Proof.Val.ref_at, u3_i]
  refine congrArg₂ (fun s t : EReal => s + t) (congrArg₂ (fun s t : EReal => s + t) (Finset.sum_congr rfl fun q _ => ?_) (Finset.sum_congr rfl fun q _ => ?_)) rfl
  · rw [u1_i, hf]
  · rw [u2_i, hg]

/-- The kernel's result is the reference's. -/
theorem out_eq (hs : Sorted (keyv m d)) (f : Buf (Elt Ideal) (mxLoc d)) (g : Buf (Elt Ideal) (smLoc d)) (h : Res m d f g) :
    out m d f g = ref (xA m d) (kA m d) (wA m d) (bA m d) := by
  have key : ∀ (n : Fin 512) (j : Fin 256), out m d f g (Idealize.ShloMosaic.ix2 n j) = ref (xA m d) (kA m d) (wA m d) (bA m d) (Idealize.ShloMosaic.ix2 n j) := by
    intro n j
    unfold out den
    rw [V4_mx, V4_sm, V4_u1, V4_u2, V4_u3]
    exact merge_i f g _ _ _ _ n j (fun q => max_i m d hs n q _ (h.1 (Idealize.ShloMosaic.ix2 n q))) (fun q => sum_i m d hs n q _ (h.2 (Idealize.ShloMosaic.ix2 n q)))
  funext i
  exact (congrArg (out m d f g) (Idealize.ShloMosaic.eq_ix2 i)).trans ((key (i 0) (i 1)).trans (congrArg (ref (xA m d) (kA m d) (wA m d) (bA m d)) (Idealize.ShloMosaic.eq_ix2 i).symm))

end Cert.Proof.KI
end
-- ==== Proof.lean ====
/- The certificate's claims, from the runs of the programs. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.RunI
public import proofs.«01_k».proof.Proof.Algebra
public import Idealize.ShloMosaic.Adequacy
public import Idealize.ShloMosaic.Init

@[expose] public section

noncomputable section

namespace Cert.Proof

open Idealize.ShloMosaic Idealize.SL.Sem

/-- The kernel at the machine's floats: it ends, its arguments are as they were and every counter is at zero. -/
theorem frame_k : Cert.quiescent_Kernel := fun m ρ _ =>
  (θ_run Cert.Kernel.defs _ _).mono (fun _ h => ⟨fun c => (h.1 c).1, h.2⟩) (Cert.Proof.K.run_main (F := Bits) m ρ)

/-- The kernel at the extended reals, likewise. -/
theorem frame_ki : Cert.quiescent_KernelIdeal := fun m ρ _ =>
  (θ_run Cert.KernelIdeal.defs _ _).mono (fun _ h => ⟨fun c => (h.1 c).1, h.2⟩) (Cert.Proof.KI.run_main (F := Ideal) m ρ)

/-- The reference, likewise; it declares no semaphore. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- At the extended reals, the keys sorted, the kernel's result is the reference's. -/
theorem algebraic : Cert.algebraic_KernelIdeal_ReferenceIdeal_pre_memb_sorted (hPre_memb_sorted := Val.preFacts) := by
  intro m g m' g' hpre hargs
  refine ⟨fun c => Val.ref (KI.xA m c) (KI.kA m c) (KI.wA m c) (KI.bA m c), ?_, ?_⟩
  · refine (θ_run Cert.KernelIdeal.defs _ _).mono (fun _ h c => ?_) (KI.run_main (F := Ideal) m g)
    obtain ⟨ha, f, g, hr, ho⟩ := h.1 c
    exact ⟨ho.trans (KI.out_eq m c (KI.sorted_keys m c (hpre c)) f g hr), ha⟩
  · refine (θ_run Cert.ReferenceIdeal.defs _ _).mono (fun _ h c => ?_) (Cert.ReferenceIdeal.Value.run (F := Ideal) m' g')
    obtain ⟨h0, h1, h2, h3⟩ := hargs c
    refine ⟨(h c).1.trans ?_, (h c).2⟩
    rw [h0, h1, h2, h3]
    rfl

theorem claim : Cert.Claim := ⟨Cert.Kernel.Gen.facts, Cert.KernelIdeal.Gen.facts, Cert.ReferenceIdeal.Gen.facts, Val.preFacts,
  frame_k, frame_ki, fun m ρ _ => frame_ki m ρ trivial, frame_ri, fun m ρ _ => frame_ri m ρ trivial, trivial, algebraic⟩

end Cert.Proof

end
